-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal [hPre_finite_heads : Cert.Pre_finite_heads.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite_heads.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2))) = (fun _ => 1#1)

def Pre_Kernel25Ideal_none (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Reference25Ideal_finite_heads [hPre_finite_heads : Cert.Pre_finite_heads.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite_heads.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal [hPre_finite_gates : Cert.Pre_finite_gates.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_gates.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))) = (fun _ => 1#1)

def Pre_Kernel27Ideal_none (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Reference27Ideal_finite_gates [hPre_finite_gates : Cert.Pre_finite_gates.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_gates.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] [hPre_finite_heads : Cert.Pre_finite_heads.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Kernel25Ideal_pre_none [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_none m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Reference25Ideal_pre_finite_heads [hReference25Ideal : Cert.Reference25Ideal.Facts] [hPre_finite_heads : Cert.Pre_finite_heads.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite_heads m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] [hPre_finite_gates : Cert.Pre_finite_gates.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_none [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_none m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_finite_gates [hReference27Ideal : Cert.Reference27Ideal.Facts] [hPre_finite_gates : Cert.Pre_finite_gates.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_gates m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)) (v3 : (c : Dev Cert.KernelIdeal.nD) → Buf (Elt Ideal) ((c.tc : Thread Cert.KernelIdeal.nD Cert.KernelIdeal.τ).loc Cert.KernelIdeal.main_v41_3)) (v4 : (c : Dev Cert.KernelIdeal.nD) → Buf (Elt Ideal) ((c.tc : Thread Cert.KernelIdeal.nD Cert.KernelIdeal.τ).loc Cert.KernelIdeal.main_v41_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_v41_3) = v3 c
          ∧ r.2.mem ((c.tc : Thread Cert.KernelIdeal.nD Cert.KernelIdeal.τ).loc Cert.KernelIdeal.main_v41_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v37) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)) (v2 : (c : Dev Cert.Kernel24Ideal.nD) → Buf (Elt Ideal) ((c.tc : Thread Cert.Kernel24Ideal.nD Cert.Kernel24Ideal.τ).loc Cert.Kernel24Ideal.main_v2_2)) (v3 : (c : Dev Cert.Kernel24Ideal.nD) → Buf (Elt Ideal) ((c.tc : Thread Cert.Kernel24Ideal.nD Cert.Kernel24Ideal.τ).loc Cert.Kernel24Ideal.main_v2_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_v2_2) = v2 c
          ∧ r.2.mem ((c.tc : Thread Cert.Kernel24Ideal.nD Cert.Kernel24Ideal.τ).loc Cert.Kernel24Ideal.main_v2_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] [hPre_finite_heads : Cert.Pre_finite_heads.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v14)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v14) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v36) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v5)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v5) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] [hPre_finite_gates : Cert.Pre_finite_gates.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v5_0)) (v1 : (c : Dev Cert.Kernel27Ideal.nD) → Buf (Elt Ideal) ((c.tc : Thread Cert.Kernel27Ideal.nD Cert.Kernel27Ideal.τ).loc Cert.Kernel27Ideal.main_v5_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v5_0) = v0 c
          ∧ r.2.mem ((c.tc : Thread Cert.Kernel27Ideal.nD Cert.Kernel27Ideal.τ).loc Cert.Kernel27Ideal.main_v5_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_v10) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_heads : Cert.Pre_finite_heads.Facts) (hPre_finite_gates : Cert.Pre_finite_gates.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal) (hPre_finite_heads := hPre_finite_heads)
    ∧ quiescent_Kernel25Ideal_pre_none (hKernel25Ideal := hKernel25Ideal)
    ∧ quiescent_Reference25Ideal (hReference25Ideal := hReference25Ideal)
    ∧ quiescent_Reference25Ideal_pre_finite_heads (hReference25Ideal := hReference25Ideal) (hPre_finite_heads := hPre_finite_heads)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal) (hPre_finite_gates := hPre_finite_gates)
    ∧ quiescent_Kernel27Ideal_pre_none (hKernel27Ideal := hKernel27Ideal)
    ∧ quiescent_Reference27Ideal (hReference27Ideal := hReference27Ideal)
    ∧ quiescent_Reference27Ideal_pre_finite_gates (hReference27Ideal := hReference27Ideal) (hPre_finite_gates := hPre_finite_gates)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal) (hPre_finite_heads := hPre_finite_heads)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal) (hPre_finite_gates := hPre_finite_gates)
-- ==== Pre_finite.lean ====
abbrev S4096x512 : Shape := ⟨2, ![4096, 512]⟩
abbrev S8x4096 : Shape := ⟨2, ![8, 4096]⟩
abbrev S4096x1024 : Shape := ⟨2, ![4096, 1024]⟩
abbrev S_ : Shape := ⟨0, ![]⟩
abbrev S1 : Shape := ⟨1, ![1]⟩
abbrev S5 : Shape := ⟨1, ![5]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S5 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S4096x512 .f32) (main_arg1 : FVec F S4096x512 .f32) (main_arg2 : FVec F S4096x512 .f32) (main_arg3 : FVec F S8x4096 .f32) (main_arg4 : FVec F S4096x1024 .f32) : IVec S5 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S8x4096 .f32 := Host.absf main_arg3
  let main_cst_4 : FVec F S_ .f32 := constant S_ .f32 0x7F800000#32
  let main_v13 : FVec F S8x4096 .f32 := broadcastInDim S8x4096 ![] bcast_S_S8x4096 main_cst_4
  let main_v14 : IVec S8x4096 1 := cmpf .olt main_v12 main_v13
  let main_c_5 : IVec S_ 1 := constantI S_ 1 1#1
  let main_v15 : IVec S_ 1 := (fun x v => Host.reduce IntOp.andi x v reducesTo_S8x4096_S_d0_1 h_S_) main_v14 main_c_5
  fn_part1 (F := F) main_arg4 main_v3 main_v7 main_v11 main_v15
-- ==== Pre_finite_gates.lean ====
abbrev S128x4096 : Shape := ⟨2, ![128, 4096]⟩
abbrev S128 : Shape := ⟨1, ![128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel

variable [Facts]

def fn {F : FTy → Type} [FloatOps F] (main_arg0 : FVec F S128x4096 .f32) (main_arg1 : FVec F S128 .f32) (main_arg2 : FVec F S128x4096 .f32) : IVec S_ 1 :=
  let main_cst : FVec F S_ .f32 := constant S_ .f32 0x7F800000#32
  let main_v0 : FVec F S128x4096 .f32 := broadcastInDim S128x4096 ![] bcast_S_S128x4096 main_cst
  let main_v1 : IVec S128x4096 1 := cmpf .olt main_arg2 main_v0
  let main_c : IVec S_ 1 := constantI S_ 1 1#1
  let main_v2 : IVec S_ 1 := (fun x v => Host.reduce IntOp.andi x v reducesTo_S128x4096_S_d0_1 h_S_) main_v1 main_c
  main_v2
-- ==== Pre_finite_heads.lean ====
abbrev S4096x2304 : Shape := ⟨2, ![4096, 2304]⟩
abbrev S64 : Shape := ⟨1, ![64]⟩
abbrev S4096x1024 : Shape := ⟨2, ![4096, 1024]⟩
abbrev S_ : Shape := ⟨0, ![]⟩

class Facts : Prop where
  slices_S4096x2304_S4096x1024_0_0 : S4096x2304.Slices ![0, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x2304 .f32) (main_arg1 : FVec F S64 .f32) (main_arg2 : FVec F S64 .f32) : IVec S_ 1 :=
  let main_v0 : FVec F S4096x1024 .f32 := (extractStridedSlice S4096x1024 ![0, 0] · slices_S4096x2304_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Kernel.lean ====
abbrev S4096x512 : Shape := ⟨2, ![4096, 512]⟩
abbrev S8x4096 : Shape := ⟨2, ![8, 4096]⟩
abbrev S4096x1024 : Shape := ⟨2, ![4096, 1024]⟩
abbrev S4096x8x64 : Shape := ⟨3, ![4096, 8, 64]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S4096x8 : Shape := ⟨2, ![4096, 8]⟩
abbrev S4096x8x1 : Shape := ⟨3, ![4096, 8, 1]⟩
abbrev S4096x1536 : Shape := ⟨2, ![4096, 1536]⟩
abbrev S4x2x4096 : Shape := ⟨3, ![4, 2, 4096]⟩
abbrev S1024x128 : Shape := ⟨2, ![1024, 128]⟩
abbrev S1x2x1024 : Shape := ⟨3, ![1, 2, 1024]⟩
abbrev S4096x128 : Shape := ⟨2, ![4096, 128]⟩
abbrev S128x1024 : Shape := ⟨2, ![128, 1024]⟩
abbrev S2x1x1024 : Shape := ⟨3, ![2, 1, 1024]⟩
abbrev S1x128 : Shape := ⟨2, ![1, 128]⟩
abbrev S128x128 : Shape := ⟨2, ![128, 128]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 58
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x1024, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x4096x4096, .f32⟩
  | .hbm, ⟨13, _⟩ => ⟨S8x4096x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x64x4096, .f32⟩
  | .hbm, ⟨41, _⟩ => ⟨S4096x8x64, .f32⟩
  | .hbm, ⟨42, _⟩ => ⟨S4096x512, .f32⟩
  | .hbm, ⟨43, _⟩ => ⟨S8x4096x1, .f32⟩
  | .hbm, ⟨44, _⟩ => ⟨S8x4096x1, .f32⟩
  | .hbm, ⟨45, _⟩ => ⟨S8x4096, .f32⟩
  | .hbm, ⟨46, _⟩ => ⟨S4096x8, .f32⟩
  | .hbm, ⟨47, _⟩ => ⟨S4096x8x1, .f32⟩
  | .hbm, ⟨48, _⟩ => ⟨S4096x8x64, .f32⟩
  | .hbm, ⟨49, _⟩ => ⟨S4096x512, .f32⟩
  | .hbm, ⟨50, _⟩ => ⟨S4096x1536, .f32⟩
  | .hbm, ⟨51, _⟩ => ⟨S4096x1536, .bf16⟩
  | .hbm, ⟨52, _⟩ => ⟨S4x2x4096, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4x2x4096, .f32⟩
  | .hbm, ⟨57, _⟩ => ⟨S4096x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x2x1024, .f32⟩
  | .local _ .vmem, ⟨7, _⟩ => ⟨S1x2x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S4096x128, .f32⟩
  | .local _ .vmem, ⟨15, _⟩ => ⟨S4096x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x2x1024, .f32⟩
  | .local _ .vmem, ⟨21, _⟩ => ⟨S1x2x1024, .f32⟩
  | .local _ .vmem, ⟨22, _⟩ => ⟨S4096x128, .f32⟩
  | .local _ .vmem, ⟨23, _⟩ => ⟨S4096x128, .f32⟩
  | .local _ .vmem, ⟨24, _⟩ => ⟨S128x1024, .f32⟩
  | .local _ .vmem, ⟨25, _⟩ => ⟨S128x1024, .f32⟩
  | .local _ .vmem, ⟨26, _⟩ => ⟨S2x1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_v41_2 : Ref sig .tc := ⟨.hbm, 55, rfl⟩
abbrev main_v41_3 : Ref sig .tc := ⟨.hbm, 56, rfl⟩
abbrev main_v41_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let arg1 : BitVec 32 := BitVec.ofNat 32 (i 1).val
  let v3 : BitVec 1 := Scalar.cmpi .sgt arg2 arg1
  let v4 : BitVec 32 := Scalar.extui v3
  let c0_i32_0 : BitVec 32 := 0#32
  let v5 : BitVec 1 := Scalar.cmpi .ne v4 c0_i32_0
  v5

def k0_mult1 (i : grid0.Coords) : BitVec 32 :=
  let arg2 : BitVec 32 := BitVec.ofNat 32 (i 2).val
  let c1024_i32 : BitVec 32 := 1024#32
  let v293 : BitVec 32 := Scalar.muli arg2 c1024_i32
  v293
def k0_cond3 (i : grid0.Coords) : BitVec 1 :=
  let arg1 : BitVec 32 := BitVec.ofNat 32 (i 1).val
  let c0_i32_105 : BitVec 32 := 0#32
  let v295 : BitVec 1 := Scalar.cmpi .eq arg1 c0_i32_105
  let v296 : BitVec 32 := Scalar.extui v295
  let c0_i32_106 : BitVec 32 := 0#32
  let v297 : BitVec 1 := Scalar.cmpi .ne v296 c0_i32_106
  v297

def k0_off1 (i : grid0.Coords) : Fin 2 → Nat :=
  let arg2 : BitVec 32 := BitVec.ofNat 32 (i 2).val
  let c1024_i32 : BitVec 32 := 1024#32
  let v293 : BitVec 32 := Scalar.muli arg2 c1024_i32
  let v294 : BitVec 32 := v293
  let v301 : Index := Scalar.indexCast v294
  let c0_109 : Index := 0#32
  ![v301.toNat, 0]
def k0_cond4 (i : grid0.Coords) : BitVec 1 :=
  let arg1 : BitVec 32 := BitVec.ofNat 32 (i 1).val
  let c0_i32_107 : BitVec 32 := 0#32
  let v298 : BitVec 1 := Scalar.cmpi .sgt arg1 c0_i32_107
  let v299 : BitVec 32 := Scalar.extui v298
  let c0_i32_108 : BitVec 32 := 0#32
  let v300 : BitVec 1 := Scalar.cmpi .ne v299 c0_i32_108
  v300

def k0_off2 (i : grid0.Coords) : Fin 2 → Nat :=
  let arg2 : BitVec 32 := BitVec.ofNat 32 (i 2).val
  let c1024_i32 : BitVec 32 := 1024#32
  let v293 : BitVec 32 := Scalar.muli arg2 c1024_i32
  let v294 : BitVec 32 := v293
  let v301 : Index := Scalar.indexCast v294
  let c0_109 : Index := 0#32
  ![v301.toNat, 0]
def k0_cond5 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_1 : BitVec 32 := 0#32
  let v8 : BitVec 1 := Scalar.cmpi .ne v7 c0_i32_1
  v8

def k0_mult2 (i : grid0.Coords) : BitVec 32 :=
  let arg2 : BitVec 32 := BitVec.ofNat 32 (i 2).val
  let c1024_i32_110 : BitVec 32 := 1024#32
  let v315 : BitVec 32 := Scalar.muli arg2 c1024_i32_110
  v315
def k0_cond6 (i : grid0.Coords) : BitVec 1 :=
  let arg1 : BitVec 32 := BitVec.ofNat 32 (i 1).val
  let c0_i32_111 : BitVec 32 := 0#32
  let v317 : BitVec 1 := Scalar.cmpi .eq arg1 c0_i32_111
  let v318 : BitVec 32 := Scalar.extui v317
  let c0_i32_112 : BitVec 32 := 0#32
  let v319 : BitVec 1 := Scalar.cmpi .ne v318 c0_i32_112
  v319

def k0_off3 (i : grid0.Coords) : Fin 2 → Nat :=
  let arg2 : BitVec 32 := BitVec.ofNat 32 (i 2).val
  let c1024_i32_110 : BitVec 32 := 1024#32
  let v315 : BitVec 32 := Scalar.muli arg2 c1024_i32_110
  let v316 : BitVec 32 := v315
  let v323 : Index := Scalar.indexCast v316
  let c0_115 : Index := 0#32
  ![v323.toNat, 0]
def k0_cond7 (i : grid0.Coords) : BitVec 1 :=
  let arg1 : BitVec 32 := BitVec.ofNat 32 (i 1).val
  let c0_i32_113 : BitVec 32 := 0#32
  let v320 : BitVec 1 := Scalar.cmpi .sgt arg1 c0_i32_113
  let v321 : BitVec 32 := Scalar.extui v320
  let c0_i32_114 : BitVec 32 := 0#32
  let v322 : BitVec 1 := Scalar.cmpi .ne v321 c0_i32_114
  v322

def k0_off4 (i : grid0.Coords) : Fin 2 → Nat :=
  let arg2 : BitVec 32 := BitVec.ofNat 32 (i 2).val
  let c1024_i32_110 : BitVec 32 := 1024#32
  let v315 : BitVec 32 := Scalar.muli arg2 c1024_i32_110
  let v316 : BitVec 32 := v315
  let v323 : Index := Scalar.indexCast v316
  let c0_115 : Index := 0#32
  ![v323.toNat, 0]
def k0_cond8 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S8x4096 : Shape := ⟨2, ![8, 4096]⟩
abbrev S4096x1024 : Shape := ⟨2, ![4096, 1024]⟩
abbrev S4096x8x64 : Shape := ⟨3, ![4096, 8, 64]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x64x4096 : Shape := ⟨3, ![8, 64, 4096]⟩
abbrev S8x4096x64 : Shape := ⟨3, ![8, 4096, 64]⟩
abbrev S4096x8 : Shape := ⟨2, ![4096, 8]⟩
abbrev S4096x8x1 : Shape := ⟨3, ![4096, 8, 1]⟩
abbrev S4x2x4096 : Shape := ⟨3, ![4, 2, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x1024, .f32⟩
  | .hbm, ⟨5, _⟩ => ⟨S4096x512, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S4096x8x64, .f32⟩
  | .hbm, ⟨10, _⟩ => ⟨S8x4096x4096, .f32⟩
  | .hbm, ⟨11, _⟩ => ⟨S8x4096x1, .f32⟩
  | .hbm, ⟨12, _⟩ => ⟨S8x4096x4096, .f32⟩
  | .hbm, ⟨13, _⟩ => ⟨S8x4096x4096, .f32⟩
  | .hbm, ⟨14, _⟩ => ⟨S8x1x4096, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x64x4096, .f32⟩
  | .hbm, ⟨70, _⟩ => ⟨S4096x8x64, .f32⟩
  | .hbm, ⟨71, _⟩ => ⟨S8x64x4096, .f32⟩
  | .hbm, ⟨72, _⟩ => ⟨S8x4096x4096, .f32⟩
  | .hbm, ⟨73, _⟩ => ⟨S8x64x4096, .f32⟩
  | .hbm, ⟨74, _⟩ => ⟨S4096x8x64, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096, .f32⟩
  | .hbm, ⟨95, _⟩ => ⟨S8x1x4096, .f32⟩
  | .hbm, ⟨96, _⟩ => ⟨S_, .f32⟩
  | .hbm, ⟨97, _⟩ => ⟨S8x4096, .f32⟩
  | .hbm, ⟨98, _⟩ => ⟨S_, .f32⟩
  | .hbm, ⟨99, _⟩ => ⟨S8x4096, .f32⟩
  | .hbm, ⟨100, _⟩ => ⟨S8x4096x1, .f32⟩
  | .hbm, ⟨101, _⟩ => ⟨S_, .f32⟩
  | .hbm, ⟨102, _⟩ => ⟨S8x4096, .f32⟩
  | .hbm, ⟨103, _⟩ => ⟨S8x4096x64, .f32⟩
  | .hbm, ⟨104, _⟩ => ⟨S4096x8x64, .f32⟩
  | .hbm, ⟨105, _⟩ => ⟨S8x4096x64, .f32⟩
  | .hbm, ⟨106, _⟩ => ⟨S4096x8x64, .f32⟩
  | .hbm, ⟨107, _⟩ => ⟨S4096x8, .f32⟩
  | .hbm, ⟨108, _⟩ => ⟨S4096x8x1, .f32⟩
  | .hbm, ⟨109, _⟩ => ⟨S4096x8x64, .f32⟩
  | .hbm, ⟨110, _⟩ => ⟨S4096x512, .f32⟩
  | .hbm, ⟨111, _⟩ => ⟨S4096x512, .f32⟩
  | .hbm, ⟨112, _⟩ => ⟨S4096x512, .f32⟩
  | .hbm, ⟨113, _⟩ => ⟨S4x2x4096, .f32⟩
  | .hbm, ⟨114, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_v19_1 : Ref sig .tc := ⟨.hbm, 26, rfl⟩
abbrev main_call0_v2 : Ref sig .tc := ⟨.hbm, 27, rfl⟩
abbrev main_v19_0 : Ref sig .tc := ⟨.hbm, 28, rfl⟩
abbrev main_call0_cst : Ref sig .tc := ⟨.hbm, 29, rfl⟩
abbrev main_v19_2 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_cst : Ref sig .tc := ⟨.hbm, 89, rfl⟩
abbrev main_call1_v0 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S1x1024x5632 : Shape := ⟨3, ![1, 1024, 5632]⟩
abbrev S4096x5632 : Shape := ⟨2, ![4096, 5632]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1x1024x5632, .f32⟩
  | .hbm, ⟨4, _⟩ => ⟨S1x1024x5632, .bf16⟩
  | .hbm, ⟨5, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .f32⟩
  | .local _ .vmem, ⟨5, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S1024x5632 : Shape := ⟨2, ![1024, 5632]⟩
abbrev S4096x5632 : Shape := ⟨2, ![4096, 5632]⟩
abbrev S1x1024x5632 : Shape := ⟨3, ![1, 1024, 5632]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x5632, .f32⟩
  | .hbm, ⟨1, _⟩ => ⟨S4096x5632, .f32⟩
  | .hbm, ⟨2, _⟩ => ⟨S4096x5632, .bf16⟩
  | .hbm, ⟨3, _⟩ => ⟨S1x1024x5632, .f32⟩
  | .hbm, ⟨4, _⟩ => ⟨S1x1024x5632, .bf16⟩
  | .hbm, ⟨5, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1x1024x5632, .bf16⟩
  | .local _ .vmem, ⟨3, _⟩ => ⟨S512x1024, .f32⟩
  | .local _ .vmem, ⟨4, _⟩ => ⟨S512x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4096x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S1024x5632, .f32⟩
  | .hbm, ⟨5, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1x2816x1024 : Shape := ⟨3, ![1, 2816, 1024]⟩
abbrev S512x2816 : Shape := ⟨2, ![512, 2816]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S1x2816x1024, .f32⟩
  | .hbm, ⟨5, _⟩ => ⟨S1x2816x1024, .bf16⟩
  | .hbm, ⟨6, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S2816x1024 : Shape := ⟨2, ![2816, 1024]⟩
abbrev S4096x1024 : Shape := ⟨2, ![4096, 1024]⟩
abbrev S1x2816x1024 : Shape := ⟨3, ![1, 2816, 1024]⟩
abbrev S4096x2816 : Shape := ⟨2, ![4096, 2816]⟩
abbrev S512x1024 : Shape := ⟨2, ![512, 1024]⟩
abbrev S1x1408x1024 : Shape := ⟨3, ![1, 1408, 1024]⟩
abbrev S512x1408 : Shape := ⟨2, ![512, 1408]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S1x2816x1024, .f32⟩
  | .hbm, ⟨3, _⟩ => ⟨S1x2816x1024, .bf16⟩
  | .hbm, ⟨4, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S512x1408, .f32⟩
  | .local _ .vmem, ⟨5, _⟩ => ⟨S512x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x2304 : Shape := ⟨2, ![1024, 2304]⟩
abbrev S1x1024x2304 : Shape := ⟨3, ![1, 1024, 2304]⟩
abbrev S4096x2304 : Shape := ⟨2, ![4096, 2304]⟩
abbrev S512x1024 : Shape := ⟨2, ![512, 1024]⟩
abbrev S512x2304 : Shape := ⟨2, ![512, 2304]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x1024, .bf16⟩
  | .hbm, ⟨3, _⟩ => ⟨S1x1024x2304, .f32⟩
  | .hbm, ⟨4, _⟩ => ⟨S1x1024x2304, .bf16⟩
  | .hbm, ⟨5, _⟩ => ⟨S4096x2304, .f32⟩
  | .local _ .vmem, ⟨0, _⟩ => ⟨S512x1024, .bf16⟩
  | .local _ .vmem, ⟨1, _⟩ => ⟨S512x1024, .bf16⟩
  | .local _ .vmem, ⟨2, _⟩ => ⟨S1x1024x2304, .bf16⟩
  | .local _ .vmem, ⟨3, _⟩ => ⟨S512x2304, .f32⟩
  | .local _ .vmem, ⟨4, _⟩ => ⟨S512x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S4096x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S1024x2304 : Shape := ⟨2, ![1024, 2304]⟩
abbrev S4096x2304 : Shape := ⟨2, ![4096, 2304]⟩
abbrev S4096x1024 : Shape := ⟨2, ![4096, 1024]⟩
abbrev S1x1024x2304 : Shape := ⟨3, ![1, 1024, 2304]⟩
abbrev S512x2304 : Shape := ⟨2, ![512, 2304]⟩
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x2304, .f32⟩
  | .hbm, ⟨1, _⟩ => ⟨S4096x2304, .f32⟩
  | .hbm, ⟨2, _⟩ => ⟨S4096x1024, .f32⟩
  | .hbm, ⟨3, _⟩ => ⟨S4096x2304, .bf16⟩
  | .hbm, ⟨4, _⟩ => ⟨S1x1024x2304, .f32⟩
  | .hbm, ⟨5, _⟩ => ⟨S1x1024x2304, .bf16⟩
  | .hbm, ⟨6, _⟩ => ⟨S4096x1024, .f32⟩
  | .local _ .vmem, ⟨0, _⟩ => ⟨S512x2304, .bf16⟩
  | .local _ .vmem, ⟨1, _⟩ => ⟨S512x2304, .bf16⟩
  | .local _ .vmem, ⟨2, _⟩ => ⟨S1x1024x2304, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S1024x2304 : Shape := ⟨2, ![1024, 2304]⟩
abbrev S4096x2304 : Shape := ⟨2, ![4096, 2304]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S4096x2304, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x2304, .f32⟩
  | .hbm, ⟨6, _⟩ => ⟨S4096x1024, .f32⟩
  | .hbm, ⟨7, _⟩ => ⟨S4096x1024, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S4096x2304 : Shape := ⟨2, ![4096, 2304]⟩
abbrev S1024x2304 : Shape := ⟨2, ![1024, 2304]⟩
abbrev S4096x768 : Shape := ⟨2, ![4096, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S4096x1024, .bf16⟩
  | .hbm, ⟨3, _⟩ => ⟨S4096x2304, .bf16⟩
  | .hbm, ⟨4, _⟩ => ⟨S1024x2304, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .f32⟩
  | .local _ .vmem, ⟨4, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2304, .f32⟩
  | .hbm, ⟨2, _⟩ => ⟨S_, .f32⟩
  | .hbm, ⟨3, _⟩ => ⟨S1024x2304, .f32⟩
  | .hbm, ⟨4, _⟩ => ⟨S4096x2304, .f32⟩
  | .hbm, ⟨5, _⟩ => ⟨S2304x1024, .f32⟩
  | .hbm, ⟨6, _⟩ => ⟨S1024x2304, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1x1024x1024, .f32⟩
  | .hbm, ⟨6, _⟩ => ⟨S1x1024x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel12.lean ====
abbrev S1024x1024 : Shape := ⟨2, ![1024, 1024]⟩
abbrev S4096x1024 : Shape := ⟨2, ![4096, 1024]⟩
abbrev S1x1024x1024 : Shape := ⟨3, ![1, 1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1x1024x1024, .f32⟩
  | .hbm, ⟨3, _⟩ => ⟨S1x1024x1024, .bf16⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference13Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x128 : Shape := ⟨2, ![1024, 128]⟩
abbrev S128x1024 : Shape := ⟨2, ![128, 1024]⟩
abbrev S1x128x1024 : Shape := ⟨3, ![1, 128, 1024]⟩
abbrev S128x4096 : Shape := ⟨2, ![128, 4096]⟩
abbrev S512x1024 : Shape := ⟨2, ![512, 1024]⟩
abbrev S128x512 : Shape := ⟨2, ![128, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S128x1024, .f32⟩
  | .hbm, ⟨3, _⟩ => ⟨S1x128x1024, .f32⟩
  | .hbm, ⟨4, _⟩ => ⟨S1x128x1024, .bf16⟩
  | .hbm, ⟨5, _⟩ => ⟨S4096x1024, .bf16⟩
  | .hbm, ⟨6, _⟩ => ⟨S128x4096, .f32⟩
  | .local _ .vmem, ⟨0, _⟩ => ⟨S1x128x1024, .bf16⟩
  | .local _ .vmem, ⟨1, _⟩ => ⟨S512x1024, .bf16⟩
  | .local _ .vmem, ⟨2, _⟩ => ⟨S512x1024, .bf16⟩
  | .local _ .vmem, ⟨3, _⟩ => ⟨S128x512, .f32⟩
  | .local _ .vmem, ⟨4, _⟩ => ⟨S128x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x128 : Shape := ⟨2, ![1024, 128]⟩
abbrev S4096x128 : Shape := ⟨2, ![4096, 128]⟩
abbrev S128x4096 : Shape := ⟨2, ![128, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | .hbm, ⟨3, _⟩ => ⟨S128x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1024 : Shape := ⟨2, ![4096, 1024]⟩
abbrev S128x4096 : Shape := ⟨2, ![128, 4096]⟩
abbrev S128x1024 : Shape := ⟨2, ![128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S128x4096, .f32⟩
  | .hbm, ⟨2, _⟩ => ⟨S4096x1024, .bf16⟩
  | .hbm, ⟨3, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S128x4096 : Shape := ⟨2, ![128, 4096]⟩
abbrev S_ : Shape := ⟨0, ![]⟩
abbrev S1024x128 : Shape := ⟨2, ![1024, 128]⟩
abbrev S4096x128 : Shape := ⟨2, ![4096, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128x4096, .f32⟩
  | .hbm, ⟨2, _⟩ => ⟨S_, .f32⟩
  | .hbm, ⟨3, _⟩ => ⟨S1024x128, .f32⟩
  | .hbm, ⟨4, _⟩ => ⟨S4096x128, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S1024x128 : Shape := ⟨2, ![1024, 128]⟩
abbrev S128x4096 : Shape := ⟨2, ![128, 4096]⟩
abbrev S128x1024 : Shape := ⟨2, ![128, 1024]⟩
abbrev S1x128x1024 : Shape := ⟨3, ![1, 128, 1024]⟩
abbrev S4096x1024 : Shape := ⟨2, ![4096, 1024]⟩
abbrev S128x512 : Shape := ⟨2, ![128, 512]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S128x4096, .f32⟩
  | .hbm, ⟨2, _⟩ => ⟨S128x1024, .f32⟩
  | .hbm, ⟨3, _⟩ => ⟨S1x128x1024, .f32⟩
  | .hbm, ⟨4, _⟩ => ⟨S1x128x1024, .bf16⟩
  | .hbm, ⟨5, _⟩ => ⟨S4096x1024, .f32⟩
  | .local _ .vmem, ⟨0, _⟩ => ⟨S128x512, .f32⟩
  | .local _ .vmem, ⟨1, _⟩ => ⟨S128x512, .f32⟩
  | .local _ .vmem, ⟨2, _⟩ => ⟨S1x128x1024, .bf16⟩
  | .local _ .vmem, ⟨3, _⟩ => ⟨S512x1024, .f32⟩
  | .local _ .vmem, ⟨4, _⟩ => ⟨S512x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S1024x128 : Shape := ⟨2, ![1024, 128]⟩
abbrev S128x4096 : Shape := ⟨2, ![128, 4096]⟩
abbrev S_ : Shape := ⟨0, ![]⟩
abbrev S4096x1024 : Shape := ⟨2, ![4096, 1024]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x4096, .f32⟩
  | .hbm, ⟨2, _⟩ => ⟨S_, .f32⟩
  | .hbm, ⟨3, _⟩ => ⟨S4096x1024, .f32⟩
  | .hbm, ⟨4, _⟩ => ⟨S4096x128, .f32⟩
  | .hbm, ⟨5, _⟩ => ⟨S4096x128, .f32⟩
  | .hbm, ⟨6, _⟩ => ⟨S4096x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference18Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel19.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel20.lean ====
abbrev S768x128 : Shape := ⟨2, ![768, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S768x128, .f32⟩
  | .hbm, ⟨5, _⟩ => ⟨S768x128, .f32⟩
  | .hbm, ⟨6, _⟩ => ⟨S768x128, .f32⟩
  | .hbm, ⟨7, _⟩ => ⟨S768x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S768x128 : Shape := ⟨2, ![768, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x128, .f32⟩
  | .hbm, ⟨1, _⟩ => ⟨S768x128, .f32⟩
  | .hbm, ⟨2, _⟩ => ⟨S768x128, .f32⟩
  | .hbm, ⟨3, _⟩ => ⟨S768x128, .f32⟩
  | .hbm, ⟨4, _⟩ => ⟨S_, .f32⟩
  | .hbm, ⟨5, _⟩ => ⟨S768x128, .f32⟩
  | .hbm, ⟨6, _⟩ => ⟨S768x128, .f32⟩
  | .hbm, ⟨7, _⟩ => ⟨S_, .f32⟩
  | .hbm, ⟨8, _⟩ => ⟨S768x128, .f32⟩
  | .hbm, ⟨9, _⟩ => ⟨S768x128, .f32⟩
  | .hbm, ⟨10, _⟩ => ⟨S768x128, .f32⟩
  | .hbm, ⟨11, _⟩ => ⟨S_, .f32⟩
  | .hbm, ⟨12, _⟩ => ⟨S768x128, .f32⟩
  | .hbm, ⟨13, _⟩ => ⟨S768x128, .f32⟩
  | .hbm, ⟨14, _⟩ => ⟨S768x128, .f32⟩
  | .hbm, ⟨15, _⟩ => ⟨S_, .f32⟩
  | .hbm, ⟨16, _⟩ => ⟨S768x128, .f32⟩
  | .hbm, ⟨17, _⟩ => ⟨S768x128, .f32⟩
  | .hbm, ⟨18, _⟩ => ⟨S768x128, .f32⟩
  | .hbm, ⟨19, _⟩ => ⟨S_, .f32⟩
  | .hbm, ⟨20, _⟩ => ⟨S768x128, .f32⟩
  | .hbm, ⟨21, _⟩ => ⟨S768x128, .f32⟩
  | .hbm, ⟨22, _⟩ => ⟨S_, .f32⟩
  | .hbm, ⟨23, _⟩ => ⟨S768x128, .f32⟩
  | .hbm, ⟨24, _⟩ => ⟨S768x128, .f32⟩
  | .hbm, ⟨25, _⟩ => ⟨S768x128, .f32⟩
  | .hbm, ⟨26, _⟩ => ⟨S_, .f32⟩
  | .hbm, ⟨27, _⟩ => ⟨S768x128, .f32⟩
  | .hbm, ⟨28, _⟩ => ⟨S768x128, .f32⟩
  | .hbm, ⟨29, _⟩ => ⟨S768x128, .f32⟩
  | .hbm, ⟨30, _⟩ => ⟨S_, .f32⟩
  | .hbm, ⟨31, _⟩ => ⟨S768x128, .f32⟩
  | .hbm, ⟨32, _⟩ => ⟨S768x128, .f32⟩
  | .hbm, ⟨33, _⟩ => ⟨S768x128, .f32⟩
  | .hbm, ⟨34, _⟩ => ⟨S_, .f32⟩
  | .hbm, ⟨35, _⟩ => ⟨S768x128, .f32⟩
  | .hbm, ⟨36, _⟩ => ⟨S768x128, .f32⟩
  | _, _ => ⟨S768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel21Ideal.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S2048x1408 : Shape := ⟨2, ![2048, 1408]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S2048x1408, .f32⟩
  | .hbm, ⟨33, _⟩ => ⟨S_, .f32⟩
  | .hbm, ⟨34, _⟩ => ⟨S2048x1408, .f32⟩
  | .hbm, ⟨35, _⟩ => ⟨S2048x1408, .f32⟩
  | .hbm, ⟨36, _⟩ => ⟨S2048x1408, .f32⟩
  | .hbm, ⟨37, _⟩ => ⟨S_, .f32⟩
  | .hbm, ⟨38, _⟩ => ⟨S2048x1408, .f32⟩
  | .hbm, ⟨39, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S1408x1024 : Shape := ⟨2, ![1408, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel22Ideal.lean ====
abbrev S1408x1024 : Shape := ⟨2, ![1408, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S1408x1024 : Shape := ⟨2, ![1408, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S_, .f32⟩
  | .hbm, ⟨15, _⟩ => ⟨S1408x1024, .f32⟩
  | .hbm, ⟨16, _⟩ => ⟨S1408x1024, .f32⟩
  | .hbm, ⟨17, _⟩ => ⟨S1408x1024, .f32⟩
  | .hbm, ⟨18, _⟩ => ⟨S_, .f32⟩
  | .hbm, ⟨19, _⟩ => ⟨S1408x1024, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S1408x1024, .f32⟩
  | .hbm, ⟨29, _⟩ => ⟨S_, .f32⟩
  | .hbm, ⟨30, _⟩ => ⟨S1408x1024, .f32⟩
  | .hbm, ⟨31, _⟩ => ⟨S1408x1024, .f32⟩
  | .hbm, ⟨32, _⟩ => ⟨S1408x1024, .f32⟩
  | .hbm, ⟨33, _⟩ => ⟨S_, .f32⟩
  | .hbm, ⟨34, _⟩ => ⟨S1408x1024, .f32⟩
  | .hbm, ⟨35, _⟩ => ⟨S1408x1024, .f32⟩
  | .hbm, ⟨36, _⟩ => ⟨S1408x1024, .f32⟩
  | .hbm, ⟨37, _⟩ => ⟨S_, .f32⟩
  | .hbm, ⟨38, _⟩ => ⟨S1408x1024, .f32⟩
  | .hbm, ⟨39, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S2048x578 : Shape := ⟨2, ![2048, 578]⟩
abbrev S_ : Shape := ⟨0, ![]⟩
abbrev S2048x640 : Shape := ⟨2, ![2048, 640]⟩
abbrev S256x578 : Shape := ⟨2, ![256, 578]⟩
abbrev S256x640 : Shape := ⟨2, ![256, 640]⟩

abbrev nBuf : Space → Nat
  | .hbm => 15
  | .vmem => 18
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S2048x578, .f32⟩
  | .hbm, ⟨5, _⟩ => ⟨S_, .i32⟩
  | .hbm, ⟨6, _⟩ => ⟨S_, .f32⟩
  | .hbm, ⟨7, _⟩ => ⟨S2048x640, .f32⟩
  | .hbm, ⟨8, _⟩ => ⟨S_, .i32⟩
  | .hbm, ⟨9, _⟩ => ⟨S_, .f32⟩
  | .hbm, ⟨10, _⟩ => ⟨S2048x640, .f32⟩
  | .hbm, ⟨11, _⟩ => ⟨S2048x578, .f32⟩
  | .hbm, ⟨12, _⟩ => ⟨S2048x578, .f32⟩
  | .hbm, ⟨13, _⟩ => ⟨S2048x578, .f32⟩
  | .hbm, ⟨14, _⟩ => ⟨S2048x578, .f32⟩
  | .local _ .vmem, ⟨0, _⟩ => ⟨S256x578, .f32⟩
  | .local _ .vmem, ⟨1, _⟩ => ⟨S256x578, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x578, .f32⟩
  | .local _ .vmem, ⟨7, _⟩ => ⟨S256x578, .f32⟩
  | .local _ .vmem, ⟨8, _⟩ => ⟨S256x578, .f32⟩
  | .local _ .vmem, ⟨9, _⟩ => ⟨S256x578, .f32⟩
  | .local _ .vmem, ⟨10, _⟩ => ⟨S256x578, .f32⟩
  | .local _ .vmem, ⟨11, _⟩ => ⟨S256x578, .f32⟩
  | .local _ .vmem, ⟨12, _⟩ => ⟨S256x578, .f32⟩
  | .local _ .vmem, ⟨13, _⟩ => ⟨S256x578, .f32⟩
  | .local _ .vmem, ⟨14, _⟩ => ⟨S256x578, .f32⟩
  | .local _ .vmem, ⟨15, _⟩ => ⟨S256x578, .f32⟩
  | .local _ .vmem, ⟨16, _⟩ => ⟨S256x578, .f32⟩
  | .local _ .vmem, ⟨17, _⟩ => ⟨S256x578, .f32⟩
  | _, _ => ⟨S2048x578, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x578 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x578 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x578 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x578 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x578 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x578 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x578 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S2048x578 : Shape := ⟨2, ![2048, 578]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x578, .f32⟩
  | .hbm, ⟨1, _⟩ => ⟨S2048x578, .f32⟩
  | .hbm, ⟨2, _⟩ => ⟨S2048x578, .f32⟩
  | .hbm, ⟨3, _⟩ => ⟨S2048x578, .f32⟩
  | .hbm, ⟨4, _⟩ => ⟨S2048x578, .f32⟩
  | .hbm, ⟨5, _⟩ => ⟨S2048x578, .f32⟩
  | .hbm, ⟨6, _⟩ => ⟨S2048x578, .f32⟩
  | .hbm, ⟨7, _⟩ => ⟨S_, .f32⟩
  | .hbm, ⟨8, _⟩ => ⟨S2048x578, .f32⟩
  | .hbm, ⟨9, _⟩ => ⟨S2048x578, .f32⟩
  | .hbm, ⟨10, _⟩ => ⟨S_, .f32⟩
  | .hbm, ⟨11, _⟩ => ⟨S2048x578, .f32⟩
  | .hbm, ⟨12, _⟩ => ⟨S2048x578, .f32⟩
  | .hbm, ⟨13, _⟩ => ⟨S2048x578, .f32⟩
  | .hbm, ⟨14, _⟩ => ⟨S_, .f32⟩
  | .hbm, ⟨15, _⟩ => ⟨S2048x578, .f32⟩
  | .hbm, ⟨16, _⟩ => ⟨S2048x578, .f32⟩
  | .hbm, ⟨17, _⟩ => ⟨S2048x578, .f32⟩
  | .hbm, ⟨18, _⟩ => ⟨S_, .f32⟩
  | .hbm, ⟨19, _⟩ => ⟨S2048x578, .f32⟩
  | .hbm, ⟨20, _⟩ => ⟨S2048x578, .f32⟩
  | .hbm, ⟨21, _⟩ => ⟨S2048x578, .f32⟩
  | .hbm, ⟨22, _⟩ => ⟨S_, .f32⟩
  | .hbm, ⟨23, _⟩ => ⟨S2048x578, .f32⟩
  | .hbm, ⟨24, _⟩ => ⟨S2048x578, .f32⟩
  | .hbm, ⟨25, _⟩ => ⟨S_, .f32⟩
  | .hbm, ⟨26, _⟩ => ⟨S2048x578, .f32⟩
  | .hbm, ⟨27, _⟩ => ⟨S2048x578, .f32⟩
  | .hbm, ⟨28, _⟩ => ⟨S2048x578, .f32⟩
  | .hbm, ⟨29, _⟩ => ⟨S_, .f32⟩
  | .hbm, ⟨30, _⟩ => ⟨S2048x578, .f32⟩
  | .hbm, ⟨31, _⟩ => ⟨S2048x578, .f32⟩
  | .hbm, ⟨32, _⟩ => ⟨S2048x578, .f32⟩
  | .hbm, ⟨33, _⟩ => ⟨S_, .f32⟩
  | .hbm, ⟨34, _⟩ => ⟨S2048x578, .f32⟩
  | .hbm, ⟨35, _⟩ => ⟨S2048x578, .f32⟩
  | .hbm, ⟨36, _⟩ => ⟨S2048x578, .f32⟩
  | .hbm, ⟨37, _⟩ => ⟨S_, .f32⟩
  | .hbm, ⟨38, _⟩ => ⟨S2048x578, .f32⟩
  | .hbm, ⟨39, _⟩ => ⟨S2048x578, .f32⟩
  | _, _ => ⟨S2048x578, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S4096x2304 : Shape := ⟨2, ![4096, 2304]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S128x128 : Shape := ⟨2, ![128, 128]⟩
abbrev S_ : Shape := ⟨0, ![]⟩
abbrev S4096x1536 : Shape := ⟨2, ![4096, 1536]⟩
abbrev S512x512 : Shape := ⟨2, ![512, 512]⟩
abbrev S512x1536 : Shape := ⟨2, ![512, 1536]⟩
abbrev S512x128 : Shape := ⟨2, ![512, 128]⟩

abbrev nBuf : Space → Nat
  | .hbm => 52
  | .vmem => 11
  | .smem => 0
  | _ => 0

abbrev bufTy : (tb : Table) → Fin (tcTables nBuf tb) → BufTy
  | .hbm, ⟨0, _⟩ => ⟨S4096x2304, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S8x64, .f32⟩
  | .hbm, ⟨5, _⟩ => ⟨S512, .f32⟩
  | .hbm, ⟨6, _⟩ => ⟨S1x512, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S128x128, .i32⟩
  | .hbm, ⟨12, _⟩ => ⟨S_, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S128x128, .i1⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S_, .i32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S128x128, .i32⟩
  | .hbm, ⟨40, _⟩ => ⟨S128x128, .i32⟩
  | .hbm, ⟨41, _⟩ => ⟨S_, .i32⟩
  | .hbm, ⟨42, _⟩ => ⟨S128x128, .i32⟩
  | .hbm, ⟨43, _⟩ => ⟨S128x128, .i1⟩
  | .hbm, ⟨44, _⟩ => ⟨S128x128, .i1⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S128x128, .bf16⟩
  | .hbm, ⟨51, _⟩ => ⟨S4096x1536, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S128x128, .bf16⟩
  | .local _ .vmem, ⟨9, _⟩ => ⟨S512x1536, .bf16⟩
  | .local _ .vmem, ⟨10, _⟩ => ⟨S512x1536, .bf16⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4096x2304 : Shape := ⟨2, ![4096, 2304]⟩
abbrev S64 : Shape := ⟨1, ![64]⟩
abbrev S4096x512 : Shape := ⟨2, ![4096, 512]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x1536 : Shape := ⟨2, ![4096, 1536]⟩

abbrev nBuf : Space → Nat
  | .hbm => 47
  | .vmem => 0
  | .smem => 0
  | _ => 0

abbrev bufTy : (tb : Table) → Fin (tcTables nBuf tb) → BufTy
  | .hbm, ⟨0, _⟩ => ⟨S4096x2304, .f32⟩
  | .hbm, ⟨1, _⟩ => ⟨S64, .f32⟩
  | .hbm, ⟨2, _⟩ => ⟨S64, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S4096x8x64, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x64, .f32⟩
  | .hbm, ⟨19, _⟩ => ⟨S4096x8x64, .f32⟩
  | .hbm, ⟨20, _⟩ => ⟨S1x1x64, .f32⟩
  | .hbm, ⟨21, _⟩ => ⟨S4096x8x64, .f32⟩
  | .hbm, ⟨22, _⟩ => ⟨S4096x8x64, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x8x64, .f32⟩
  | .hbm, ⟨28, _⟩ => ⟨S4096x8x64, .f32⟩
  | .hbm, ⟨29, _⟩ => ⟨S_, .f32⟩
  | .hbm, ⟨30, _⟩ => ⟨S4096x8, .f32⟩
  | .hbm, ⟨31, _⟩ => ⟨S4096x8x1, .f32⟩
  | .hbm, ⟨32, _⟩ => ⟨S_, .f32⟩
  | .hbm, ⟨33, _⟩ => ⟨S4096x8x1, .f32⟩
  | .hbm, ⟨34, _⟩ => ⟨S4096x8x1, .f32⟩
  | .hbm, ⟨35, _⟩ => ⟨S_, .f32⟩
  | .hbm, ⟨36, _⟩ => ⟨S4096x8x1, .f32⟩
  | .hbm, ⟨37, _⟩ => ⟨S4096x8x1, .f32⟩
  | .hbm, ⟨38, _⟩ => ⟨S4096x8x1, .f32⟩
  | .hbm, ⟨39, _⟩ => ⟨S4096x8x64, .f32⟩
  | .hbm, ⟨40, _⟩ => ⟨S4096x8x64, .f32⟩
  | .hbm, ⟨41, _⟩ => ⟨S1x1x64, .f32⟩
  | .hbm, ⟨42, _⟩ => ⟨S4096x8x64, .f32⟩
  | .hbm, ⟨43, _⟩ => ⟨S4096x8x64, .f32⟩
  | .hbm, ⟨44, _⟩ => ⟨S4096x512, .f32⟩
  | .hbm, ⟨45, _⟩ => ⟨S4096x1536, .f32⟩
  | .hbm, ⟨46, _⟩ => ⟨S4096x1536, .bf16⟩
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel26.lean ====
abbrev S128x4096 : Shape := ⟨2, ![128, 4096]⟩
abbrev S128 : Shape := ⟨1, ![128]⟩
abbrev S128x1 : Shape := ⟨2, ![128, 1]⟩
abbrev S128x128 : Shape := ⟨2, ![128, 128]⟩

abbrev nBuf : Space → Nat
  | .hbm => 8
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S128, .f32⟩
  | .hbm, ⟨2, _⟩ => ⟨S128x1, .f32⟩
  | .hbm, ⟨3, _⟩ => ⟨S128x128, .i32⟩
  | .hbm, ⟨4, _⟩ => ⟨S128x128, .i32⟩
  | .hbm, ⟨5, _⟩ => ⟨S128x128, .i1⟩
  | .hbm, ⟨6, _⟩ => ⟨S128x128, .bf16⟩
  | .hbm, ⟨7, _⟩ => ⟨S128x4096, .f32⟩
  | .local _ .vmem, ⟨0, _⟩ => ⟨S128x4096, .f32⟩
  | .local _ .vmem, ⟨1, _⟩ => ⟨S128x1, .f32⟩
  | .local _ .vmem, ⟨2, _⟩ => ⟨S128x128, .bf16⟩
  | .local _ .vmem, ⟨3, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference26Ideal.lean ====
abbrev S128x4096 : Shape := ⟨2, ![128, 4096]⟩
abbrev S128 : Shape := ⟨1, ![128]⟩
abbrev S128x1 : Shape := ⟨2, ![128, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128, .f32⟩
  | .hbm, ⟨2, _⟩ => ⟨S128x1, .f32⟩
  | .hbm, ⟨3, _⟩ => ⟨S128x4096, .f32⟩
  | .hbm, ⟨4, _⟩ => ⟨S128x4096, .f32⟩
  | .hbm, ⟨5, _⟩ => ⟨S128x4096, .f32⟩
  | .hbm, ⟨6, _⟩ => ⟨S_, .f32⟩
  | .hbm, ⟨7, _⟩ => ⟨S128x4096, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S128x4096, .i1⟩
  | .hbm, ⟨12, _⟩ => ⟨S128x4096, .f32⟩
  | .hbm, ⟨13, _⟩ => ⟨S128x4096, .f32⟩
  | .hbm, ⟨14, _⟩ => ⟨S128x4096, .f32⟩
  | .hbm, ⟨15, _⟩ => ⟨S128x4096, .f32⟩
  | .hbm, ⟨16, _⟩ => ⟨S128x4096, .f32⟩
  | .hbm, ⟨17, _⟩ => ⟨S128x4096, .f32⟩
  | .hbm, ⟨18, _⟩ => ⟨S128x4096, .f32⟩
  | .hbm, ⟨19, _⟩ => ⟨S128x4096, .f32⟩
  | .hbm, ⟨20, _⟩ => ⟨S128x4096, .f32⟩
  | .hbm, ⟨21, _⟩ => ⟨S_, .f32⟩
  | .hbm, ⟨22, _⟩ => ⟨S_, .f32⟩
  | .hbm, ⟨23, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== Kernel27.lean ====
abbrev S128x4096 : Shape := ⟨2, ![128, 4096]⟩
abbrev S128 : Shape := ⟨1, ![128]⟩
abbrev S128x1 : Shape := ⟨2, ![128, 1]⟩
abbrev S128x128 : Shape := ⟨2, ![128, 128]⟩

abbrev nBuf : Space → Nat
  | .hbm => 10
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S128, .f32⟩
  | .hbm, ⟨2, _⟩ => ⟨S128x4096, .f32⟩
  | .hbm, ⟨3, _⟩ => ⟨S128x1, .f32⟩
  | .hbm, ⟨4, _⟩ => ⟨S128x128, .i32⟩
  | .hbm, ⟨5, _⟩ => ⟨S128x128, .i32⟩
  | .hbm, ⟨6, _⟩ => ⟨S128x128, .i1⟩
  | .hbm, ⟨7, _⟩ => ⟨S128x128, .bf16⟩
  | .hbm, ⟨8, _⟩ => ⟨S128x4096, .f32⟩
  | .hbm, ⟨9, _⟩ => ⟨S128x1, .f32⟩
  | .local _ .vmem, ⟨0, _⟩ => ⟨S128x4096, .f32⟩
  | .local _ .vmem, ⟨1, _⟩ => ⟨S128x1, .f32⟩
  | .local _ .vmem, ⟨2, _⟩ => ⟨S128x4096, .f32⟩
  | .local _ .vmem, ⟨3, _⟩ => ⟨S128x128, .bf16⟩
  | .local _ .vmem, ⟨4, _⟩ => ⟨S128x4096, .f32⟩
  | .local _ .vmem, ⟨5, _⟩ => ⟨S128x1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference27Ideal.lean ====
abbrev S128x4096 : Shape := ⟨2, ![128, 4096]⟩
abbrev S128 : Shape := ⟨1, ![128]⟩
abbrev S128x1 : Shape := ⟨2, ![128, 1]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128, .f32⟩
  | .hbm, ⟨2, _⟩ => ⟨S128x4096, .f32⟩
  | .hbm, ⟨3, _⟩ => ⟨S128x1, .f32⟩
  | .hbm, ⟨4, _⟩ => ⟨S128x4096, .f32⟩
  | .hbm, ⟨5, _⟩ => ⟨S128x4096, .f32⟩
  | .hbm, ⟨6, _⟩ => ⟨S128x4096, .f32⟩
  | .hbm, ⟨7, _⟩ => ⟨S_, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S128x4096, .i1⟩
  | .hbm, ⟨13, _⟩ => ⟨S128x4096, .f32⟩
  | .hbm, ⟨14, _⟩ => ⟨S128x4096, .f32⟩
  | .hbm, ⟨15, _⟩ => ⟨S128x4096, .f32⟩
  | .hbm, ⟨16, _⟩ => ⟨S128x4096, .f32⟩
  | .hbm, ⟨17, _⟩ => ⟨S128x4096, .f32⟩
  | .hbm, ⟨18, _⟩ => ⟨S128x4096, .f32⟩
  | .hbm, ⟨19, _⟩ => ⟨S128x4096, .f32⟩
  | .hbm, ⟨20, _⟩ => ⟨S128x4096, .f32⟩
  | .hbm, ⟨21, _⟩ => ⟨S_, .f32⟩
  | .hbm, ⟨22, _⟩ => ⟨S128x4096, .f32⟩
  | .hbm, ⟨23, _⟩ => ⟨S128x4096, .i1⟩
  | .hbm, ⟨24, _⟩ => ⟨S_, .f32⟩
  | .hbm, ⟨25, _⟩ => ⟨S128x4096, .f32⟩
  | .hbm, ⟨26, _⟩ => ⟨S128x4096, .f32⟩
  | .hbm, ⟨27, _⟩ => ⟨S_, .f32⟩
  | .hbm, ⟨28, _⟩ => ⟨S128x4096, .f32⟩
  | .hbm, ⟨29, _⟩ => ⟨S128x4096, .i1⟩
  | .hbm, ⟨30, _⟩ => ⟨S_, .f32⟩
  | .hbm, ⟨31, _⟩ => ⟨S128x4096, .f32⟩
  | .hbm, ⟨32, _⟩ => ⟨S128x4096, .f32⟩
  | .hbm, ⟨33, _⟩ => ⟨S128x4096, .f32⟩
  | .hbm, ⟨34, _⟩ => ⟨S128x4096, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S128x4096, .f32⟩
  | .hbm, ⟨43, _⟩ => ⟨S128x4096, .i1⟩
  | .hbm, ⟨44, _⟩ => ⟨S_, .f32⟩
  | .hbm, ⟨45, _⟩ => ⟨S128x4096, .f32⟩
  | .hbm, ⟨46, _⟩ => ⟨S128x4096, .f32⟩
  | .hbm, ⟨47, _⟩ => ⟨S128x4096, .f32⟩
  | .hbm, ⟨48, _⟩ => ⟨S128x4096, .f32⟩
  | .hbm, ⟨49, _⟩ => ⟨S128x4096, .f32⟩
  | .hbm, ⟨50, _⟩ => ⟨S_, .f32⟩
  | .hbm, ⟨51, _⟩ => ⟨S128x4096, .f32⟩
  | .hbm, ⟨52, _⟩ => ⟨S128x4096, .f32⟩
  | .hbm, ⟨53, _⟩ => ⟨S128x4096, .f32⟩
  | .hbm, ⟨54, _⟩ => ⟨S_, .f32⟩
  | .hbm, ⟨55, _⟩ => ⟨S_, .f32⟩
  | .hbm, ⟨56, _⟩ => ⟨S128x4096, .f32⟩
  | .hbm, ⟨57, _⟩ => ⟨S_, .f32⟩
  | .hbm, ⟨58, _⟩ => ⟨S_, .f32⟩
  | .hbm, ⟨59, _⟩ => ⟨S128x4096, .f32⟩
  | .hbm, ⟨60, _⟩ => ⟨S128x4096, .f32⟩
  | .hbm, ⟨61, _⟩ => ⟨S128x4096, .f32⟩
  | .hbm, ⟨62, _⟩ => ⟨S128x4096, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S_, .f32⟩
  | .hbm, ⟨67, _⟩ => ⟨S128, .f32⟩
  | .hbm, ⟨68, _⟩ => ⟨S128x1, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_v10 : Ref sig .tc := ⟨.hbm, 68, rfl⟩

abbrev nD : Nat := 1
abbrev τ : Topo := Topo.v7x

variable {F : FTy → Type} [FloatOps F]
-- ==== Proof.Word.Step.lean ====
/- The body of the gradient kernel as printed, at any arithmetic: at every grid point it runs, from any contents to some contents. -/
module

public import proofs.«01_k».proof.Proof.Word.A
public import proofs.«01_k».proof.Proof.Word.B
public import proofs.«01_k».proof.Proof.Word.C
public import proofs.«01_k».proof.Proof.Word.D
public import proofs.«01_k».proof.Proof.Word.E
public import proofs.«01_k».proof.Proof.Word.F
public import proofs.«01_k».proof.Proof.Word.G
public import proofs.«01_k».proof.Proof.Word.H

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The seven input blocks of one grid point. -/
structure Ins (F : FTy → Type) where
  q : Vec F S1024x128 .bf16
  k : Vec F S1024x128 .bf16
  v : Vec F S1024x128 .bf16
  f : Vec F S1x2x1024 .f32
  o : Vec F S1024x128 .f32
  l : Vec F S1024x128 .f32
  g : Vec F S1024x128 .f32

/-- The body at point t runs from the contents x, y, z and leaves the outputs and the scratch at O. -/
def Runs (c : Dev nD) (t : Fin cfg0.N) (x : Ins F) (y7 : Vec F S4096x128 .f32) (y8 y9 : Vec F S1024x128 .f32)
    (y10 : Vec F S1x2x1024 .f32) (y11 : Vec F S4096x128 .f32) (z0 z1 : Vec F S128x1024 .f32) (z2 : Vec F S2x1x1024 .f32) (O : Left F) : Prop :=
  ∀ (E : Set ℕ) (K : PUnit → sProp 𝕄),
    iprop(owns (c : Thread nD τ) (st0_0 t) fullShare x.q ∗ owns (c : Thread nD τ) (st0_1 t) fullShare x.k ∗ owns (c : Thread nD τ) (st0_2 t) fullShare x.v ∗ owns (c : Thread nD τ) (st0_3 t) fullShare x.f ∗ owns (c : Thread nD τ) (st0_4 t) fullShare x.o ∗ owns (c : Thread nD τ) (st0_5 t) fullShare x.l ∗ owns (c : Thread nD τ) (st0_6 t) fullShare x.g ∗ owns (c : Thread nD τ) (st0_7 t) fullShare y7 ∗ owns (c : Thread nD τ) (st0_8 t) fullShare y8 ∗ owns (c : Thread nD τ) (st0_9 t) fullShare y9 ∗ owns (c : Thread nD τ) (st0_10 t) fullShare y10 ∗ owns (c : Thread nD τ) (st0_11 t) fullShare y11 ∗ owns (c : Thread nD τ) (Memref.whole cc0_scratch0) fullShare z0 ∗ owns (c : Thread nD τ) (Memref.whole cc0_scratch1) fullShare z1 ∗ owns (c : Thread nD τ) (Memref.whole cc0_scratch2) fullShare z2
        ∗ (iprop(owns (c : Thread nD τ) (st0_0 t) fullShare x.q ∗ owns (c : Thread nD τ) (st0_1 t) fullShare x.k ∗ owns (c : Thread nD τ) (st0_2 t) fullShare x.v ∗ owns (c : Thread nD τ) (st0_3 t) fullShare x.f ∗ owns (c : Thread nD τ) (st0_4 t) fullShare x.o ∗ owns (c : Thread nD τ) (st0_5 t) fullShare x.l ∗ owns (c : Thread nD τ) (st0_6 t) fullShare x.g ∗ owns (c : Thread nD τ) (st0_7 t) fullShare O.dq ∗ owns (c : Thread nD τ) (st0_8 t) fullShare O.dk ∗ owns (c : Thread nD τ) (st0_9 t) fullShare O.dv ∗ owns (c : Thread nD τ) (st0_10 t) fullShare O.df ∗ owns (c : Thread nD τ) (st0_11 t) fullShare O.dr ∗ owns (c : Thread nD τ) (Memref.whole cc0_scratch0) fullShare O.sk ∗ owns (c : Thread nD τ) (Memref.whole cc0_scratch1) fullShare O.sv ∗ owns (c : Thread nD τ) (Memref.whole cc0_scratch2) fullShare O.sf) -∗ K ⟨⟩))
      ⊢ wp frame (wpE (defs₀ (F := F)) Variants.none c none) E (bodyAt0 t) K

variable (c : Dev nD) (t : Fin cfg0.N) (x : Ins F) (y7 : Vec F S4096x128 .f32) (y8 y9 : Vec F S1024x128 .f32)
  (y10 : Vec F S1x2x1024 .f32) (y11 : Vec F S4096x128 .f32) (z0 z1 : Vec F S128x1024 .f32) (z2 : Vec F S2x1x1024 .f32)

theorem stepA (ht : t.val / 4 % 4 = t.val % 4 ∧ t.val / 4 % 4 = 0) : ∃ O, Runs c t x y7 y8 y9 y10 y11 z0 z1 z2 O :=
  ⟨_, (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) ((cond3_iff t).mpr (by omega)) (fun h => by have := (cond4_iff t).mp h; omega) (fun h => by have := (cond5_iff t).mp h; omega) x.q x.k x.v x.f x.o x.l x.g y7 y8 y9 y10 y11 z0 z1 z2).2⟩

theorem stepB (ht : t.val / 4 % 4 < t.val % 4 ∧ t.val / 4 % 4 = 0 ∧ t.val % 4 ≠ 3) : ∃ O, Runs c t x y7 y8 y9 y10 y11 z0 z1 z2 O :=
  ⟨_, (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) ((cond6_iff t).mpr (by omega)) (fun h => by have := (cond7_iff t).mp h; omega) x.q x.k x.v x.f x.o x.l x.g y7 y8 y9 y10 y11 z0 z1 z2).2⟩

theorem stepC (ht : t.val / 4 % 4 < t.val % 4 ∧ t.val / 4 % 4 = 0 ∧ t.val % 4 = 3) : ∃ O, Runs c t x y7 y8 y9 y10 y11 z0 z1 z2 O :=
  ⟨_, (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) ((cond6_iff t).mpr (by omega)) (fun h => by have := (cond7_iff t).mp h; omega) x.q x.k x.v x.f x.o x.l x.g y7 y8 y9 y10 y11 z0 z1 z2).2⟩

theorem stepD (ht : t.val % 4 < t.val / 4 % 4) : ∃ O, Runs c t x y7 y8 y9 y10 y11 z0 z1 z2 O :=
  ⟨_, (runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) (fun h => by have := (cond1_iff t).mp h; omega) (fun h => by have := (cond2_iff t).mp h; omega) (fun h => by have := (cond5_iff t).mp h; omega) x.q x.k x.v x.f x.o x.l x.g y7 y8 y9 y10 y11 z0 z1 z2).2⟩

theorem stepE (ht : t.val / 4 % 4 = t.val % 4 ∧ 1 ≤ t.val / 4 % 4 ∧ t.val % 4 ≠ 3) : ∃ O, Runs c t x y7 y8 y9 y10 y11 z0 z1 z2 O :=
  ⟨_, (runE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) (fun h => by have := (cond5_iff t).mp h; omega) x.q x.k x.v x.f x.o x.l x.g y7 y8 y9 y10 y11 z0 z1 z2).2⟩

theorem stepF (ht : t.val / 4 % 4 < t.val % 4 ∧ 1 ≤ t.val / 4 % 4 ∧ t.val % 4 ≠ 3) : ∃ O, Runs c t x y7 y8 y9 y10 y11 z0 z1 z2 O :=
  ⟨_, (runF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) (fun h => by have := (cond6_iff t).mp h; omega) ((cond7_iff t).mpr (by omega)) x.q x.k x.v x.f x.o x.l x.g y7 y8 y9 y10 y11 z0 z1 z2).2⟩

theorem stepG (ht : t.val / 4 % 4 < t.val % 4 ∧ 1 ≤ t.val / 4 % 4 ∧ t.val % 4 = 3) : ∃ O, Runs c t x y7 y8 y9 y10 y11 z0 z1 z2 O :=
  ⟨_, (runG c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) (fun h => by have := (cond6_iff t).mp h; omega) ((cond7_iff t).mpr (by omega)) x.q x.k x.v x.f x.o x.l x.g y7 y8 y9 y10 y11 z0 z1 z2).2⟩

theorem stepH (ht : t.val / 4 % 4 = t.val % 4 ∧ 1 ≤ t.val / 4 % 4 ∧ t.val % 4 = 3) : ∃ O, Runs c t x y7 y8 y9 y10 y11 z0 z1 z2 O :=
  ⟨_, (runH c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) ((cond5_iff t).mpr (by omega)) x.q x.k x.v x.f x.o x.l x.g y7 y8 y9 y10 y11 z0 z1 z2).2⟩

theorem step : ∃ O, Runs c t x y7 y8 y9 y10 y11 z0 z1 z2 O := by
  by_cases hd : t.val / 4 % 4 = t.val % 4
  · by_cases h0 : t.val / 4 % 4 = 0
    · exact stepA c t x y7 y8 y9 y10 y11 z0 z1 z2 ⟨hd, h0⟩
    · by_cases h3 : t.val % 4 = 3
      · exact stepH c t x y7 y8 y9 y10 y11 z0 z1 z2 ⟨hd, by omega, h3⟩
      · exact stepE c t x y7 y8 y9 y10 y11 z0 z1 z2 ⟨hd, by omega, h3⟩
  · by_cases hb : t.val / 4 % 4 < t.val % 4
    · by_cases h0 : t.val / 4 % 4 = 0
      · by_cases h3 : t.val % 4 = 3
        · exact stepC c t x y7 y8 y9 y10 y11 z0 z1 z2 ⟨hb, h0, h3⟩
        · exact stepB c t x y7 y8 y9 y10 y11 z0 z1 z2 ⟨hb, h0, h3⟩
      · by_cases h3 : t.val % 4 = 3
        · exact stepG c t x y7 y8 y9 y10 y11 z0 z1 z2 ⟨hb, by omega, h3⟩
        · exact stepF c t x y7 y8 y9 y10 y11 z0 z1 z2 ⟨hb, by omega, h3⟩
    · exact stepD c t x y7 y8 y9 y10 y11 z0 z1 z2 (by omega)

end Cert.Kernel.Hand
end
-- ==== Proof.Word.Frame.lean ====
/- The gradient kernel as printed, at any arithmetic, run from any memory: nothing faults, the arguments end unchanged and the counters at zero.
   Of what its buffers hold nothing is said. -/
module

public import proofs.«01_k».proof.Proof.Word.Step
public import Idealize.ShloMosaic.Lib.Pipeline.DatRel
public import Idealize.ShloMosaic.Lib.Pipeline.ArrRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligation BodyObligationRel cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows. -/
def outs : Fin 12 → Bool := fun w => w.val == 7 || w.val == 8 || w.val == 9 || w.val == 10 || w.val == 11

/-- Nothing is said of what the outputs' buffers hold. -/
def Rl (F : FTy → Type) [FloatOps F] (c : Dev nD) (w : Fin cfg0.W) (t : Fin cfg0.N) : ((cfg0.win w).block.Idx → Elt F (cfg0.win w).elt) → Prop := fun _ => True

/-- The invariant between points: the scratch buffers, and the generator's register. -/
def PhiS (F : FTy → Type) [FloatOps F] (c : Dev nD) : sProp (MT nD τ sig Unit (Elt F) ℕ (UR sig nD τ) ℕ) :=
  iprop((∃ (z0 : Vec F S128x1024 .f32) (z1 : Vec F S128x1024 .f32) (z2 : Vec F S2x1x1024 .f32), owns (c : Thread nD τ) (Memref.whole cc0_scratch0) fullShare z0
    ∗ owns (c : Thread nD τ) (Memref.whole cc0_scratch1) fullShare z1 ∗ owns (c : Thread nD τ) (Memref.whole cc0_scratch2) fullShare z2) ∗ (∃ r, prngReg c r))

/-- The proof data of the pipeline on core c. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS F c
  q w := Pipeline.shareOf spec0 w
  owed _ := 0

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

/-- The relational data. -/
abbrev rdat (c : Dev nD) := (dat m c).toRRel outs (Rl F c)

/-- The blocks the body finds in its operands' buffers. -/
def ins (c : Dev nD) (t : Fin cfg0.N) : Ins F := ⟨iblk m c 0 t, iblk m c 1 t, iblk m c 2 t, iblk m c 3 t, iblk m c 4 t, iblk m c 5 t, iblk m c 6 t⟩

/-- What the body is called with at point t, the windows one by one. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y))

/-- What it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ (∃ X, ⌜Rl F c 7 t X⌝ ∗ owns (c : Thread nD τ) (st0_7 t) fullShare X)
    ∗ (∃ X, ⌜Rl F c 8 t X⌝ ∗ owns (c : Thread nD τ) (st0_8 t) fullShare X)
    ∗ (∃ X, ⌜Rl F c 9 t X⌝ ∗ owns (c : Thread nD τ) (st0_9 t) fullShare X)
    ∗ (∃ X, ⌜Rl F c 10 t X⌝ ∗ owns (c : Thread nD τ) (st0_10 t) fullShare X)
    ∗ (∃ X, ⌜Rl F c 11 t X⌝ ∗ owns (c : Thread nD τ) (st0_11 t) fullShare X))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, after_0, after_1, after_2, after_3, after_4, after_5, after_6]
  rw [show (dat m c).owesAt () t.succ = (dat m c).owesAt () t.castSucc from rfl]
  rw [show (dat m c).Φ t.castSucc = PhiS F c from rfl, show (dat m c).Φ t.succ = PhiS F c from rfl]
  unfold PhiS
  iintro ⟨⟨⟨%z0, %z1, %z2, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%y7, %_, H7⟩, ⟨%y8, %_, H8⟩, ⟨%y9, %_, H9⟩, ⟨%y10, %_, H10⟩, ⟨%y11, %_, H11⟩⟩
  obtain ⟨O, hrun⟩ := step c t (ins m c t) y7 y8 y9 y10 y11 z0 z1 z2
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · iexists O.sk, O.sv, O.sf
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists O.dq
    isplitr
    · ipureintro; exact trivial
    iexact H7
  isplitl [H8]
  · iexists O.dk
    isplitr
    · ipureintro; exact trivial
    iexact H8
  isplitl [H9]
  · iexists O.dv
    isplitr
    · ipureintro; exact trivial
    iexact H9
  isplitl [H10]
  · iexists O.df
    isplitr
    · ipureintro; exact trivial
    iexact H10
  iexists O.dr
  isplitr
  · ipureintro; exact trivial
  iexact H11

/-- The body table's row at point t's slots is the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligationRel (dat m c) (defs₀ (F := F)) Variants.none () Set.univ outs (Rl F c) := fun t => by
  rw [bigSep_W0, bigSep_W0, defs₀_row]
  exact triple_restated (sound_body m c t) rfl .rfl fun _ => .rfl

/-- What the launch hands the region, buffer by buffer. -/
theorem PhiA_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA
  rw [scopedRest0_eq]
  simp only [owns_whole]
  try rfl

theorem hin (c : Dev nD) : Pipeline.ΦA spec0 c ⊢ (dat m c).Φ 0 := by
  rw [show (dat m c).Φ 0 = PhiS F c from rfl, PhiA_eq]
  unfold PhiS
  iintro ⟨⟨⟨%d0, HS0⟩, ⟨%d1, HS1⟩, ⟨%d2, HS2⟩⟩, Hg⟩
  isplitl [HS0 HS1 HS2]
  · iexists d0, d1, d2
    isplitl [HS0]; · iexact HS0
    isplitl [HS1]; · iexact HS1
    iexact HS2
  iexact Hg

theorem hout (c : Dev nD) : (dat m c).Φ (Fin.last cfg0.N) ⊢ Pipeline.ΦA spec0 c := by
  rw [show (dat m c).Φ (Fin.last cfg0.N) = PhiS F c from rfl, PhiA_eq]
  unfold PhiS
  iintro ⟨⟨%d0, %d1, %d2, HS0, HS1, HS2⟩, Hg⟩
  isplitl [HS0 HS1 HS2]
  · isplitl [HS0]; · iexists _; iexact HS0
    isplitl [HS1]; · iexists _; iexact HS1
    iexists _; iexact HS2
  iexact Hg

/-- What a run ends in: the arguments as they were. -/
abbrev Ends (r : PUnit × MemSt nD τ sig (Elt F)) : Prop := RDat.FramePost cfg0 (rdat m) (V m) r

set_option backward.isDefEq.respectTransparency.types false in
theorem run : θ_run defs (onTc (τ := τ) (main (F := F))) ⟨m, fun _ => 0, ρ⟩ (fun r => Ends m r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The arguments end as they began. -/
theorem args_kept {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 6 rfl).trans ((A_eq m c 6).trans (V_main_arg4 m c))⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m h.1 c, h.2⟩) (run m ρ)

end Cert.Kernel.Hand
end
-- ==== Proof.Conds.lean ====
/- The gradient kernel's branch conditions at a grid point, in closed form, and the record of what its body leaves. A grid point is
   t = 16 h + 4 j + i: the pair of heads h, the column tile j (keys), the row tile i (queries). -/
module

public import proofs.«01_k».proof.Proof.Gen.KernelIdeal.Frame
public import proofs.«01_k».proof.Proof.Gen.KernelIdeal.Skeleton
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The tile is on the diagonal (the scratch is zeroed). -/
abbrev cond0 (i : grid0.Coords) : Prop := (Scalar.cmpi .ne (Scalar.extui (Scalar.cmpi .eq (BitVec.ofNat 32 (i 2).val) (BitVec.ofNat 32 (i 1).val))) 0#32) = 1#1
theorem cond0_iff : ∀ t : Fin grid0.N, cond0 (grid0.coords t) ↔ t.val / 4 % 4 = t.val % 4 := by decide +kernel

/-- The tile is below the diagonal. -/
abbrev cond1 (i : grid0.Coords) : Prop := k0_cond2 i = 1#1
theorem cond1_iff : ∀ t : Fin grid0.N, cond1 (grid0.coords t) ↔ t.val / 4 % 4 + 1 ≤ t.val % 4 := by decide +kernel

/-- The tile is on the diagonal (the masked step). -/
abbrev cond2 (i : grid0.Coords) : Prop := k0_cond5 i = 1#1
theorem cond2_iff : ∀ t : Fin grid0.N, cond2 (grid0.coords t) ↔ t.val / 4 % 4 = t.val % 4 := by decide +kernel

/-- The first column of tiles (the masked step). -/
abbrev cond3 (i : grid0.Coords) : Prop := k0_cond6 i = 1#1
theorem cond3_iff : ∀ t : Fin grid0.N, cond3 (grid0.coords t) ↔ t.val / 4 % 4 = 0 := fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond3, k0_cond6, e0, e1, e2]
    word_cmp

/-- A later column of tiles (the masked step). -/
abbrev cond4 (i : grid0.Coords) : Prop := k0_cond7 i = 1#1
theorem cond4_iff : ∀ t : Fin grid0.N, cond4 (grid0.coords t) ↔ 1 ≤ t.val / 4 % 4 := by decide +kernel

/-- The last row of tiles. -/
abbrev cond5 (i : grid0.Coords) : Prop := k0_cond8 i = 1#1
theorem cond5_iff : ∀ t : Fin grid0.N, cond5 (grid0.coords t) ↔ t.val % 4 = 3 := fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond5, k0_cond8, e0, e1, e2]
    word_cmp

/-- The first column of tiles (the unmasked step). -/
abbrev cond6 (i : grid0.Coords) : Prop := k0_cond3 i = 1#1
theorem cond6_iff : ∀ t : Fin grid0.N, cond6 (grid0.coords t) ↔ t.val / 4 % 4 = 0 := fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond6, k0_cond3, e0, e1, e2]
    word_cmp

/-- A later column of tiles (the unmasked step). -/
abbrev cond7 (i : grid0.Coords) : Prop := k0_cond4 i = 1#1
theorem cond7_iff : ∀ t : Fin grid0.N, cond7 (grid0.coords t) ↔ 1 ≤ t.val / 4 % 4 := by decide +kernel

/-- What the body leaves in the five outputs' buffers and the three scratch buffers. -/
structure Left (F : FTy → Type) where
  dq : Vec F S4096x128 .f32
  dk : Vec F S1024x128 .f32
  dv : Vec F S1024x128 .f32
  df : Vec F S1x2x1024 .f32
  dr : Vec F S4096x128 .f32
  sk : Vec F S128x1024 .f32
  sv : Vec F S128x1024 .f32
  sf : Vec F S2x1x1024 .f32

end Cert.KernelIdeal.Hand

end
-- ==== Proof.Words.lean ====
/- The words that the body of the gradient kernel leaves, as functions of the blocks it found. -/
module

public import proofs.«01_k».proof.Proof.Conds
public import Idealize.ShloMosaic.Lib.Pointwise
public import Idealize.ShloMosaic.Lib.VecWindow

@[expose] public section

set_option maxRecDepth 16384

noncomputable section

namespace Cert.KernelIdeal.Hand

open Idealize.ShloMosaic
open Cert.KernelIdeal Cert.KernelIdeal.Gen

variable {F : FTy → Type} [FloatOps F] [Named F]

/-- The contents of the seven input blocks at one grid point: the rows of q, the columns' k and v, the two heads'
    cumulative sums, the forward output, the row log-sums and the cotangent. -/
structure Ins (F : FTy → Type) where
  q : Vec F S1024x128 .bf16
  k : Vec F S1024x128 .bf16
  v : Vec F S1024x128 .bf16
  f : Vec F S1x2x1024 .f32
  o : Vec F S1024x128 .f32
  l : Vec F S1024x128 .f32
  g : Vec F S1024x128 .f32

/-- The lane numbers. -/
def lanes : IVec S1x128 32 := iota .tc S1x128 32 [1] iota_S1x128_d1_w32

/-- One head's row of a block of cumulative sums. -/
def frow (f : Vec F S1x2x1024 .f32) : Fin 2 → Vec F S1x1x1024 .f32
  | 0 => View.ld f (Rect.unit ![0, 0, 0] ![1, 1, 1024] inb_S1x2x1024_S1x1x1024_0_0_0)
  | 1 => View.ld f (Rect.unit ![0, 1, 0] ![1, 1, 1024] inb_S1x2x1024_S1x1x1024_0_1_0)

/-- One head's row of the running column sums. -/
def srow (f : Vec F S2x1x1024 .f32) : Fin 2 → Vec F S1x1x1024 .f32
  | 0 => View.ld f (Rect.unit ![0, 0, 0] ![1, 1, 1024] inb_S2x1x1024_S1x1x1024_0_0_0)
  | 1 => View.ld f (Rect.unit ![1, 0, 0] ![1, 1, 1024] inb_S2x1x1024_S1x1x1024_1_0_0)

/-- Two heads' rows put side by side as running column sums. -/
def stack (a b : Vec F S1x1x1024 .f32) : Vec F S2x1x1024 .f32 :=
  fun y => if (y 0).val = 0 then a (ix3 0 0 (y 2)) else b (ix3 0 0 (y 2))

/-- Two heads' rows put side by side as a block of the result. -/
def pairRows (a b : Vec F S1x1x1024 .f32) : Vec F S1x2x1024 .f32 :=
  fun y => if (y 1).val = 0 then a (ix3 0 0 (y 2)) else b (ix3 0 0 (y 2))

/-- The block's rows of a column of a result. -/
def getRows (i : grid0.Coords) (y : Vec F S4096x128 .f32) : Vec F S1024x128 .f32 :=
  fun x => y (ix2 ⟨1024 * (i 2).val + (x 0).val, by
    have h0 : (i 2).val < 4 := (i 2).isLt
    have h1 : (x 0).val < 1024 := (x 0).isLt
    omega⟩ (x 1))

/-- A column of a result with the block's rows replaced. -/
def putRows (i : grid0.Coords) (y : Vec F S4096x128 .f32) (w : Vec F S1024x128 .f32) : Vec F S4096x128 .f32 :=
  fun x => if h : 1024 * (i 2).val ≤ (x 0).val ∧ (x 0).val < 1024 * (i 2).val + 1024 then
    w (ix2 ⟨(x 0).val - 1024 * (i 2).val, by omega⟩ (x 1)) else y x

/-! ## A tile strictly below the diagonal -/
namespace Below

variable (x : Ins F)

def q : FVec F S1024x128 .bf16 := k0_pay17 x.q
def k : FVec F S1024x128 .bf16 := k0_pay18 x.k
def v : FVec F S1024x128 .bf16 := k0_pay19 x.v
def l : FVec F S1024x128 .f32 := k0_pay20 x.l
def l' : FVec F S1024x128 .f32 := k0_pay21 x.l
/-- The row sums of output times cotangent, one per head, on each of the head's lanes. -/
def e : FVec F S1024x128 .f32 := k0_pay26 (k0_pay22 x.g x.o) k0_pay23 k0_pay24 k0_pay25
def e' : FVec F S1024x128 .f32 := k0_pay27 (k0_pay22 x.g x.o) k0_pay23 k0_pay24 k0_pay25
def qm0 : FVec F S1024x128 .bf16 := k0_pay32 (q x) lanes 64#32
def km0 : FVec F S1024x128 .bf16 := k0_pay33 (k x) lanes 64#32
def gm0 : Vec F S1024x128 .f32 := k0_pay34 x.g lanes 64#32
def gb0 : FVec F S1024x128 .bf16 := k0_pay35 x.g lanes 64#32
def s0 : FVec F S1024x1024 .f32 := k0_pay36 (q x) (k x) lanes 64#32
def f0 : FVec F S1024x1024 .f32 := k0_pay37 (frow x.f 0)
/-- The first head's weights. -/
def p0 : FVec F S1024x1024 .f32 := k0_pay38 (l x) (l' x) (k0_pay31 lanes) (s0 x) (f0 x)
/-- The first head's gradient of the logits. -/
def ds0 : FVec F S1024x1024 .f32 := k0_pay39 (v x) (l x) (l' x) (e x) (e' x) (k0_pay31 lanes) (gb0 x) (s0 x) (f0 x)
def dv0 (z : Vec F S128x1024 .f32) : FVec F S128x1024 .f32 :=
  k0_pay41 (l x) (l' x) (k0_pay31 lanes) (gm0 x) (s0 x) (f0 x) z
def dk0 (z : Vec F S128x1024 .f32) : FVec F S128x1024 .f32 :=
  k0_pay42 (v x) (l x) (l' x) (e x) (e' x) (k0_pay31 lanes) (qm0 x) (gb0 x) (s0 x) (f0 x) z
def dq0 : FVec F S1024x128 .f32 :=
  k0_pay43 (v x) (l x) (l' x) (e x) (e' x) k0_pay28 (k0_pay31 lanes) (km0 x) (gb0 x) (s0 x) (f0 x)
def df0 (w : Vec F S1x1x1024 .f32) : FVec F S1x1x1024 .f32 :=
  k0_pay45 (k0_pay44 (v x) (l x) (l' x) (e x) (e' x) (k0_pay31 lanes) (gb0 x) (s0 x) (f0 x) w)
def dr0 : FVec F S1024x128 .f32 := k0_pay46 k0_pay29 (k0_pay30 lanes 64#32) (ds0 x)
def qm1 : FVec F S1024x128 .bf16 := k0_pay49 (q x)
def km1 : FVec F S1024x128 .bf16 := k0_pay50 (k x) k0_pay47 (FloatOps.ofBits FTy.bf16 0#16)
/-- The second head's weights. -/
def p1 : FVec F S1024x1024 .f32 := k0_pay52 (k x) (l x) (l' x) (k0_pay48 lanes) (qm1 x) (frow x.f 1)
/-- The second head's gradient of the logits. -/
def ds1 : FVec F S1024x1024 .f32 :=
  k0_pay53 (k x) (v x) x.g (l x) (l' x) (e x) (e' x) k0_pay47 (k0_pay48 lanes) (qm1 x) (frow x.f 1)
def db1 : FVec F S1024x1024 .bf16 :=
  k0_pay54 (k x) (v x) x.g (l x) (l' x) (e x) (e' x) k0_pay47 (k0_pay48 lanes) (qm1 x) (frow x.f 1)

/-- What the tile leaves of the running gradient of v, from what it found. -/
def dv (z : Vec F S128x1024 .f32) : Vec F S128x1024 .f32 :=
  k0_pay55 (k x) x.g (l x) (l' x) k0_pay47 (k0_pay48 lanes) (qm1 x) (frow x.f 1) (dv0 x z)
/-- What the tile leaves of the running gradient of k, from what it found. -/
def dk (z : Vec F S128x1024 .f32) : Vec F S128x1024 .f32 :=
  k0_pay4 (k0_pay56 (k x) (v x) x.g (l x) (l' x) (e x) (e' x) k0_pay47 (k0_pay48 lanes) (qm1 x) (frow x.f 1) (dk0 x z))
/-- What the tile leaves of the running column sums, from what it found. -/
def df (z : Vec F S2x1x1024 .f32) : Vec F S2x1x1024 .f32 :=
  stack (df0 x (srow z 0)) (k0_pay6 (ds1 x) (srow z 1))
/-- The tile's part of the gradient of q. -/
def dq : Vec F S1024x128 .f32 := k0_pay5 (dq0 x) (km1 x) (db1 x)
/-- The tile's part of the row sums. -/
def dr : Vec F S1024x128 .f32 := k0_pay7 (dr0 x) k0_pay47 (ds1 x)
/-- The gradient of q with the tile's part added to what it found. -/
def dqAdd (w : Vec F S1024x128 .f32) : Vec F S1024x128 .f32 := k0_pay8 (dq0 x) (km1 x) (db1 x) w
/-- The row sums with the tile's part added to what it found. -/
def drAdd (w : Vec F S1024x128 .f32) : Vec F S1024x128 .f32 := k0_pay9 (dr0 x) k0_pay47 (ds1 x) w

end Below

/-! ## A tile on the diagonal -/
namespace Diag

variable (i : grid0.Coords) (x : Ins F)

/-- The tile's column number as a word. -/
def a : BitVec 32 := BitVec.ofNat 32 (i 1).val
/-- The tile's row number as a word. -/
def b : BitVec 32 := BitVec.ofNat 32 (i 2).val
def q : FVec F S1024x128 .bf16 := k0_pay57 x.q
def k : FVec F S1024x128 .bf16 := k0_pay58 x.k
def v : FVec F S1024x128 .bf16 := k0_pay59 x.v
def l : FVec F S1024x128 .f32 := k0_pay60 x.l
def l' : FVec F S1024x128 .f32 := k0_pay61 x.l
/-- The row sums of output times cotangent, one per head, on each of the head's lanes. -/
def e : FVec F S1024x128 .f32 := k0_pay66 (k0_pay62 x.g x.o) k0_pay63 k0_pay64 k0_pay65
def e' : FVec F S1024x128 .f32 := k0_pay67 (k0_pay62 x.g x.o) k0_pay63 k0_pay64 k0_pay65
def qm0 : FVec F S1024x128 .bf16 := k0_pay72 (q x) lanes 64#32
def km0 : FVec F S1024x128 .bf16 := k0_pay73 (k x) lanes 64#32
def gm0 : Vec F S1024x128 .f32 := k0_pay74 x.g lanes 64#32
def gb0 : FVec F S1024x128 .bf16 := k0_pay75 x.g lanes 64#32
def s0 : FVec F S1024x1024 .f32 := k0_pay76 (q x) (k x) lanes 64#32
def f0 : FVec F S1024x1024 .f32 := k0_pay77 (frow x.f 0)
/-- The first head's weights. -/
def p0 : FVec F S1024x1024 .f32 := k0_pay78 (a i) (b i) (l x) (l' x) (k0_pay71 lanes) (s0 x) (f0 x)
/-- The first head's gradient of the logits. -/
def ds0 : FVec F S1024x1024 .f32 :=
  k0_pay79 (a i) (b i) (v x) (l x) (l' x) (e x) (e' x) (k0_pay71 lanes) (gb0 x) (s0 x) (f0 x)
def db0 : FVec F S1024x1024 .bf16 :=
  k0_pay80 (a i) (b i) (v x) (l x) (l' x) (e x) (e' x) (k0_pay71 lanes) (gb0 x) (s0 x) (f0 x)
def dv0 (z : Vec F S128x1024 .f32) : FVec F S128x1024 .f32 :=
  k0_pay81 (a i) (b i) (l x) (l' x) (k0_pay71 lanes) (gm0 x) (s0 x) (f0 x) z
def dk0 (z : Vec F S128x1024 .f32) : FVec F S128x1024 .f32 :=
  k0_pay82 (a i) (b i) (v x) (l x) (l' x) (e x) (e' x) (k0_pay71 lanes) (qm0 x) (gb0 x) (s0 x) (f0 x) z
def dq0 : FVec F S1024x128 .f32 := k0_pay83 k0_pay68 (km0 x) (db0 i x)
def df0 (w : Vec F S1x1x1024 .f32) : FVec F S1x1x1024 .f32 := k0_pay84 (ds0 i x) w
def dr0 : FVec F S1024x128 .f32 := k0_pay85 k0_pay69 (k0_pay70 lanes 64#32) (ds0 i x)
def qm1 : FVec F S1024x128 .bf16 := k0_pay91 (q x) k0_pay86 k0_pay87 k0_pay88
def km1 : FVec F S1024x128 .bf16 := k0_pay92 (k x) k0_pay86 k0_pay87 k0_pay88
def gm1 : Vec F S1024x128 .f32 := k0_pay93 x.g k0_pay86 k0_pay87 k0_pay88
/-- The second head's weights. -/
def p1 : FVec F S1024x1024 .f32 :=
  k0_pay94 (a i) (b i) (q x) (k x) (l x) lanes (l' x) k0_pay86 k0_pay87 k0_pay88 (frow x.f 1)
/-- The second head's factor of the gradient of the logits. -/
def u1 : FVec F S1024x1024 .f32 := k0_pay95 (v x) x.g lanes (e x) (e' x) k0_pay86 k0_pay87 k0_pay88

/-- What the tile leaves of the running gradient of v, from what it found. -/
def dv (z : Vec F S128x1024 .f32) : Vec F S128x1024 .f32 := k0_pay98 (gm1 x) (p1 i x) (dv0 i x z)
/-- What the tile leaves of the running gradient of k, from what it found. -/
def dk (z : Vec F S128x1024 .f32) : Vec F S128x1024 .f32 := k0_pay99 (qm1 x) (p1 i x) (u1 x) (dk0 i x z)
/-- What the tile leaves of the running column sums, from what it found. -/
def df (z : Vec F S2x1x1024 .f32) : Vec F S2x1x1024 .f32 :=
  stack (df0 i x (srow z 0)) (k0_pay101 (p1 i x) (u1 x) (srow z 1))
/-- The tile's part of the gradient of q. -/
def dq : Vec F S1024x128 .f32 := k0_pay100 (dq0 i x) (km1 x) (p1 i x) (u1 x)
/-- The tile's part of the row sums. -/
def dr : Vec F S1024x128 .f32 :=
  k0_pay10 (dr0 i x) (k0_pay102 (k0_pay89 k0_pay86 k0_pay87 k0_pay88)) (k0_pay103 (p1 i x) (u1 x)) k0_pay104
/-- The gradient of q with the tile's part added to what it found. -/
def dqAdd (w : Vec F S1024x128 .f32) : Vec F S1024x128 .f32 := k0_pay11 (dq i x) w
/-- The row sums with the tile's part added to what it found. -/
def drAdd (w : Vec F S1024x128 .f32) : Vec F S1024x128 .f32 :=
  k0_pay12 (dr0 i x) (k0_pay102 (k0_pay89 k0_pay86 k0_pay87 k0_pay88)) (k0_pay103 (p1 i x) (u1 x)) k0_pay104 w

end Diag

/-- The finished gradient of k or v of a column tile. -/
def flipK (z : Vec F S128x1024 .f32) : Vec F S1024x128 .f32 := k0_pay13 z
/-- The finished gradient of v of a column tile. -/
def flipV (z : Vec F S128x1024 .f32) : Vec F S1024x128 .f32 := k0_pay14 z
/-- The finished column sums of a column tile. -/
def flipF (z : Vec F S2x1x1024 .f32) : Vec F S1x2x1024 .f32 := pairRows (k0_pay15 (srow z 0)) (k0_pay16 (srow z 1))

end Cert.KernelIdeal.Hand
end
-- ==== Proof.Tile.lean ====
/- One tile over the real numbers: the blocks as real functions, and the sums that the tile adds to each running result. -/
module

public import proofs.«01_k».proof.Proof.Words

@[expose] public section

set_option maxRecDepth 16384

noncomputable section

namespace Cert.KernelIdeal.Hand

open Idealize.ShloMosaic
open Cert.KernelIdeal Cert.KernelIdeal.Gen

/-- A sum of real numbers, each read as an extended real, is the real sum. -/
theorem sum_up {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem ite_up {P : Prop} [Decidable P] (a b : ℝ) : (if P then (a : EReal) else (b : EReal)) = ((if P then a else b : ℝ) : EReal) := by
  split <;> rfl

theorem sel_ite {α : Type} {P : Prop} [Decidable P] (a b : α) : Scalar.select (if P then 1#1 else 0#1) a b = if P then a else b := by
  by_cases h : P <;> simp [h, Scalar.select]

/-- The blocks of one tile as real functions: rows t, columns u, lanes d. -/
structure Tl where
  q : Fin 1024 → Fin 128 → ℝ
  k : Fin 1024 → Fin 128 → ℝ
  v : Fin 1024 → Fin 128 → ℝ
  o : Fin 1024 → Fin 128 → ℝ
  l : Fin 1024 → Fin 128 → ℝ
  g : Fin 1024 → Fin 128 → ℝ
  f : Fin 2 → Fin 1024 → ℝ

/-- A real function of two indices as a block of extended reals. -/
def up2 {a b : ℕ} (f : Fin a → Fin b → ℝ) : (⟨2, ![a, b]⟩ : Shape).Idx → EReal := fun y => ((f (y 0) (y 1) : ℝ) : EReal)

/-- Two rows of real numbers as running column sums. -/
def upS (f : Fin 2 → Fin 1024 → ℝ) : Vec Ideal S2x1x1024 .f32 := fun y => ((f (y 0) (y 2) : ℝ) : EReal)

/-- Two rows of real numbers as a block of column sums. -/
def upF (f : Fin 2 → Fin 1024 → ℝ) : Vec Ideal S1x2x1024 .f32 := fun y => ((f (y 1) (y 2) : ℝ) : EReal)

theorem up2_at {a b : ℕ} (f : Fin a → Fin b → ℝ) (i : Fin a) (j : Fin b) : up2 f (ix2 i j) = ((f i j : ℝ) : EReal) := rfl

/-- Two blocks that agree at every pair of coordinates are equal. -/
theorem eta2 {α : Type} {a b : ℕ} {f g : (⟨2, ![a, b]⟩ : Shape).Idx → α} (h : ∀ (i : Fin a) (j : Fin b), f (ix2 i j) = g (ix2 i j)) : f = g := by
  funext y
  have e : y = ix2 (y 0) (y 1) := by funext k; match k with | 0 => rfl | 1 => rfl
  rw [e]; exact h _ _

theorem etaS {α : Type} {f g : S2x1x1024.Idx → α} (h : ∀ (i : Fin 2) (j : Fin 1024), f (ix3 i 0 j) = g (ix3 i 0 j)) : f = g := by
  funext y
  have e : y = ix3 (y 0) 0 (y 2) := by
    funext k
    match k with
    | 0 => rfl
    | 1 => exact Subsingleton.elim (α := Fin 1) _ _
    | 2 => rfl
  rw [e]; exact h _ _

theorem etaF {α : Type} {f g : S1x2x1024.Idx → α} (h : ∀ (i : Fin 2) (j : Fin 1024), f (ix3 0 i j) = g (ix3 0 i j)) : f = g := by
  funext y
  have e : y = ix3 0 (y 1) (y 2) := by
    funext k
    match k with
    | 0 => exact Subsingleton.elim (α := Fin 1) _ _
    | 1 => rfl
    | 2 => rfl
  rw [e]; exact h _ _

theorem srow_up (z : Fin 2 → Fin 1024 → ℝ) (h : Fin 2) (u : Fin 1024) : srow (upS z) h (ix3 0 0 u) = ((z h u : ℝ) : EReal) := by
  match h with
  | 0 =>
    refine congrArg (fun u => ((z 0 u : ℝ) : EReal)) (Fin.ext ?_)
    simp
  | 1 =>
    refine congrArg (fun u => ((z 1 u : ℝ) : EReal)) (Fin.ext ?_)
    simp

namespace Tl

/-- The tile's blocks as extended reals. -/
def up (R : Tl) : Ins Ideal := ⟨up2 R.q, up2 R.k, up2 R.v, upF R.f, up2 R.o, up2 R.l, up2 R.g⟩

variable (R : Tl) (M : Fin 1024 → Fin 1024 → Prop) [∀ t u, Decidable (M t u)]

/-- The lane belongs to the head. -/
abbrev Hd (h : Fin 2) (d : Fin 128) : Prop := d.val / 64 = h.val

/-- The head's lane that stands at the column's place within a head. -/
def lane (h : Fin 2) (u : Fin 1024) : Fin 128 := ⟨64 * h.val + u.val % 64, by omega⟩

/-- The logits. -/
def s (h : Fin 2) (t u : Fin 1024) : ℝ := (∑ d, (if Hd h d then R.q t d else 0) * R.k u d) - R.f h u
/-- The weights; `M` says which columns the row sees. -/
def p (h : Fin 2) (t u : Fin 1024) : ℝ := if M t u then Real.exp (R.s h t u - R.l t (lane h u)) else 0
/-- The row sums of output times cotangent. -/
def dl (h : Fin 2) (t : Fin 1024) : ℝ := ∑ d, if Hd h d then R.g t d * R.o t d else 0
/-- The gradient of the weights. -/
def dp (h : Fin 2) (t u : Fin 1024) : ℝ := ∑ d, (if Hd h d then R.g t d else 0) * R.v u d
/-- The gradient of the logits. -/
def ds (h : Fin 2) (t u : Fin 1024) : ℝ := R.p M h t u * (R.dp h t u - R.dl h t)
/-- The tile's part of the gradient of v. -/
def dv (d : Fin 128) (u : Fin 1024) : ℝ := ∑ h : Fin 2, ∑ t, (if Hd h d then R.g t d else 0) * R.p M h t u
/-- The tile's part of the gradient of k. -/
def dk (d : Fin 128) (u : Fin 1024) : ℝ := ∑ h : Fin 2, ∑ t, (if Hd h d then R.q t d else 0) * R.ds M h t u
/-- The tile's part of the gradient of q. -/
def dq (t : Fin 1024) (d : Fin 128) : ℝ := ∑ h : Fin 2, ∑ u, R.ds M h t u * (if Hd h d then R.k u d else 0)
/-- The tile's part of the column sums. -/
def df (h : Fin 2) (u : Fin 1024) : ℝ := ∑ t, R.ds M h t u
/-- The tile's part of the row sums. -/
def dr (t : Fin 1024) (d : Fin 128) : ℝ := ∑ h : Fin 2, if Hd h d then ∑ u, R.ds M h t u else 0

end Tl

end Cert.KernelIdeal.Hand
end
-- ==== Proof.TileBelow.lean ====
/- What a tile strictly below the diagonal leaves, over the real numbers. -/
module

public import proofs.«01_k».proof.Proof.Tile

@[expose] public section

set_option maxRecDepth 16384

noncomputable section

namespace Cert.KernelIdeal.Hand

open Idealize.ShloMosaic
open Cert.KernelIdeal Cert.KernelIdeal.Gen

/-- Which lanes the first head owns, as the body's words. -/
theorem pay30_at (d : Fin 128) : k0_pay30 lanes 64#32 (ix2 0 d) = if d.val / 64 = 0 then 1#1 else 0#1 := by
  pointwise [k0_pay30, lanes]
  revert d; decide +kernel
theorem pay31_at (d : Fin 128) : k0_pay31 lanes (ix2 0 d) = if d.val / 64 = 0 then 1#1 else 0#1 := by
  pointwise [k0_pay31, lanes]
  revert d; decide +kernel
theorem pay47_at (d : Fin 128) : k0_pay47 (ix2 0 d) = if d.val / 64 = 1 then 1#1 else 0#1 := by
  pointwise [k0_pay47, lanes]
  revert d; decide +kernel
theorem pay48_at (d : Fin 128) : k0_pay48 lanes (ix2 0 d) = if d.val / 64 = 1 then 1#1 else 0#1 := by
  pointwise [k0_pay48, lanes]
  revert d; decide +kernel

/-- A column's place within a lane tile. -/
def lane128 (u : Fin 1024) : Fin 128 := ⟨u.val % 128, by omega⟩

/-- Eight copies side by side, read at a column. -/
theorem eight {α : Type*} (g : Fin 128 → α) (u : Fin 1024) :
    (if h : u.val < 128 then g ⟨u.val, h⟩ else
      if h : u.val - 128 < 128 then g ⟨u.val - 128, h⟩ else
      if h : u.val - 128 - 128 < 128 then g ⟨u.val - 128 - 128, h⟩ else
      if h : u.val - 128 - 128 - 128 < 128 then g ⟨u.val - 128 - 128 - 128, h⟩ else
      if h : u.val - 128 - 128 - 128 - 128 < 128 then g ⟨u.val - 128 - 128 - 128 - 128, h⟩ else
      if h : u.val - 128 - 128 - 128 - 128 - 128 < 128 then g ⟨u.val - 128 - 128 - 128 - 128 - 128, h⟩ else
      if h : u.val - 128 - 128 - 128 - 128 - 128 - 128 < 128 then g ⟨u.val - 128 - 128 - 128 - 128 - 128 - 128, h⟩ else
        g ⟨u.val - 128 - 128 - 128 - 128 - 128 - 128 - 128, by omega⟩) = g (lane128 u) := by
  unfold lane128
  split_ifs <;> (congr 1; apply Fin.ext; simp only; omega)

namespace Below

variable (x : Ins Ideal) (R : Tl)

theorem q_at (t : Fin 1024) (d : Fin 128) : q x (ix2 t d) = x.q (ix2 t d) := by pointwise [q, k0_pay17]
theorem k_at (t : Fin 1024) (d : Fin 128) : k x (ix2 t d) = x.k (ix2 t d) := by pointwise [k, k0_pay18]
theorem v_at (t : Fin 1024) (d : Fin 128) : v x (ix2 t d) = x.v (ix2 t d) := by pointwise [v, k0_pay19]
theorem l_at (t : Fin 1024) (d : Fin 128) : l x (ix2 t d) = x.l (ix2 t d) := by pointwise [l, k0_pay20]
theorem l'_at (t : Fin 1024) (d : Fin 128) : l' x (ix2 t d) = x.l (ix2 t ⟨(d.val + 128 - 64) % 128, by omega⟩) := by
  pointwise [l', k0_pay21, k0_pay20]
theorem e'_at (t : Fin 1024) (d : Fin 128) : e' x (ix2 t d) = e x (ix2 t ⟨(d.val + 128 - 64) % 128, by omega⟩) := by
  unfold e' k0_pay27 e
  pointwise
theorem qm0_at (t : Fin 1024) (d : Fin 128) : qm0 x (ix2 t d) = if d.val / 64 = 0 then x.q (ix2 t d) else 0 := by
  pointwise [qm0, k0_pay32]
  rw [pay30_at, sel_ite, q_at]
theorem km0_at (t : Fin 1024) (d : Fin 128) : km0 x (ix2 t d) = if d.val / 64 = 0 then x.k (ix2 t d) else 0 := by
  pointwise [km0, k0_pay33]
  rw [pay30_at, sel_ite, k_at]
theorem gm0_at (t : Fin 1024) (d : Fin 128) : gm0 x (ix2 t d) = if d.val / 64 = 0 then x.g (ix2 t d) else 0 := by
  pointwise [gm0, k0_pay34]
  rw [pay30_at, sel_ite]
theorem gb0_at (t : Fin 1024) (d : Fin 128) : gb0 x (ix2 t d) = gm0 x (ix2 t d) := by
  pointwise [gb0, gm0, k0_pay35]
theorem s0_at (t u : Fin 1024) : s0 x (ix2 t u) = ∑ d, qm0 x (ix2 t d) * k x (ix2 u d) := by
  unfold s0 k0_pay36 qm0
  pointwise
theorem f0_at (t u : Fin 1024) : f0 x (ix2 t u) = frow x.f 0 (ix3 0 0 u) := by
  pointwise [f0, k0_pay37]
theorem p0_at (t u : Fin 1024) : p0 x (ix2 t u) = Ideal.exp (s0 x (ix2 t u) - f0 x (ix2 t u) -
    if (lane128 u).val / 64 = 0 then l x (ix2 t (lane128 u)) else l' x (ix2 t (lane128 u))) := by
  pointwise [p0, k0_pay38]
  simp only [pay31_at, sel_ite]
  rw [eight (fun d => if d.val / 64 = 0 then l x (ix2 t d) else l' x (ix2 t d)) u]
theorem ds0_at (t u : Fin 1024) : ds0 x (ix2 t u) = p0 x (ix2 t u) * (∑ d, gb0 x (ix2 t d) * v x (ix2 u d) -
    if (lane128 u).val / 64 = 0 then e x (ix2 t (lane128 u)) else e' x (ix2 t (lane128 u))) := by
  unfold ds0 k0_pay39 p0
  pointwise
  simp only [pay31_at, sel_ite]
  rw [eight (fun d => if d.val / 64 = 0 then e x (ix2 t d) else e' x (ix2 t d)) u]
theorem dv0_at (z : Vec Ideal S128x1024 .f32) (d : Fin 128) (u : Fin 1024) :
    dv0 x z (ix2 d u) = z (ix2 d u) + ∑ t, gm0 x (ix2 t d) * p0 x (ix2 t u) := by
  unfold dv0 k0_pay41 p0
  pointwise
theorem dk0_at (z : Vec Ideal S128x1024 .f32) (d : Fin 128) (u : Fin 1024) :
    dk0 x z (ix2 d u) = z (ix2 d u) + ∑ t, qm0 x (ix2 t d) * ds0 x (ix2 t u) := by
  unfold dk0 k0_pay42 k0_pay40 ds0
  pointwise
theorem dq0_at (t : Fin 1024) (d : Fin 128) : dq0 x (ix2 t d) = ∑ u, ds0 x (ix2 t u) * km0 x (ix2 u d) := by
  unfold dq0 k0_pay43 k0_pay40 ds0
  pointwise [k0_pay28]
theorem df0_at (w : Vec Ideal S1x1x1024 .f32) (u : Fin 1024) :
    df0 x w (ix3 0 0 u) = w (ix3 0 0 u) - ∑ t, ds0 x (ix2 t u) := by
  unfold df0 k0_pay45 k0_pay44 ds0
  pointwise
theorem dr0_at (t : Fin 1024) (d : Fin 128) : dr0 x (ix2 t d) = if d.val / 64 = 0 then ∑ u, ds0 x (ix2 t u) else 0 := by
  unfold dr0 k0_pay46
  pointwise [k0_pay29]
  rw [pay30_at, sel_ite]
theorem qm1_at (t : Fin 1024) (d : Fin 128) : qm1 x (ix2 t d) = if d.val / 64 = 1 then x.q (ix2 t d) else 0 := by
  pointwise [qm1, k0_pay49]
  rw [pay47_at, sel_ite, q_at]
theorem km1_at (t : Fin 1024) (d : Fin 128) : km1 x (ix2 t d) = if d.val / 64 = 1 then x.k (ix2 t d) else 0 := by
  pointwise [km1, k0_pay50]
  rw [pay47_at, sel_ite, k_at]
theorem gm1_at (t : Fin 1024) (d : Fin 128) : k0_pay51 x.g k0_pay47 (ix2 t d) = if d.val / 64 = 1 then x.g (ix2 t d) else 0 := by
  pointwise [k0_pay51]
  rw [pay47_at, sel_ite]
theorem p1_at (t u : Fin 1024) : p1 x (ix2 t u) = Ideal.exp (∑ d, qm1 x (ix2 t d) * k x (ix2 u d) - frow x.f 1 (ix3 0 0 u) -
    if (lane128 u).val / 64 = 1 then l x (ix2 t (lane128 u)) else l' x (ix2 t (lane128 u))) := by
  pointwise [p1, k0_pay52]
  simp only [pay48_at, sel_ite]
  rw [eight (fun d => if d.val / 64 = 1 then l x (ix2 t d) else l' x (ix2 t d)) u]
theorem ds1_at (t u : Fin 1024) : ds1 x (ix2 t u) =
    p1 x (ix2 t u) * (∑ d, k0_pay51 x.g k0_pay47 (ix2 t d) * v x (ix2 u d) -
    if (lane128 u).val / 64 = 1 then e x (ix2 t (lane128 u)) else e' x (ix2 t (lane128 u))) := by
  unfold ds1 k0_pay53 p1
  pointwise
  simp only [pay48_at, sel_ite]
  rw [eight (fun d => if d.val / 64 = 1 then e x (ix2 t d) else e' x (ix2 t d)) u]
theorem db1_at (t u : Fin 1024) : db1 x (ix2 t u) = ds1 x (ix2 t u) := by
  unfold db1 k0_pay54 ds1
  pointwise
theorem dv_at (z : Vec Ideal S128x1024 .f32) (d : Fin 128) (u : Fin 1024) :
    dv x z (ix2 d u) = dv0 x z (ix2 d u) + ∑ t, k0_pay51 x.g k0_pay47 (ix2 t d) * p1 x (ix2 t u) := by
  unfold dv k0_pay55 p1
  pointwise
theorem dk_at (z : Vec Ideal S128x1024 .f32) (d : Fin 128) (u : Fin 1024) :
    dk x z (ix2 d u) = dk0 x z (ix2 d u) + ∑ t, qm1 x (ix2 t d) * db1 x (ix2 t u) := by
  unfold dk k0_pay4 k0_pay56 db1
  pointwise
theorem df1_at (w : Vec Ideal S1x1x1024 .f32) (u : Fin 1024) :
    k0_pay6 (ds1 x) w (ix3 0 0 u) = w (ix3 0 0 u) - ∑ t, ds1 x (ix2 t u) := by
  pointwise [k0_pay6]
theorem dq_at (t : Fin 1024) (d : Fin 128) : dq x (ix2 t d) = dq0 x (ix2 t d) + ∑ u, db1 x (ix2 t u) * km1 x (ix2 u d) := by
  pointwise [dq, k0_pay5]
theorem dr_at (t : Fin 1024) (d : Fin 128) :
    dr x (ix2 t d) = dr0 x (ix2 t d) + if d.val / 64 = 1 then ∑ u, ds1 x (ix2 t u) else 0 := by
  pointwise [dr, k0_pay7]
  rw [pay47_at, sel_ite]
theorem dqAdd_at (w : Vec Ideal S1024x128 .f32) (t : Fin 1024) (d : Fin 128) :
    dqAdd x w (ix2 t d) = w (ix2 t d) + dq x (ix2 t d) := by
  unfold dqAdd k0_pay8 dq
  pointwise
theorem drAdd_at (w : Vec Ideal S1024x128 .f32) (t : Fin 1024) (d : Fin 128) :
    drAdd x w (ix2 t d) = w (ix2 t d) + dr x (ix2 t d) := by
  unfold drAdd k0_pay9 dr
  pointwise

theorem pay22_at (g o : Vec Ideal S1024x128 .f32) (t : Fin 1024) (d : Fin 128) : k0_pay22 g o (ix2 t d) = g (ix2 t d) * o (ix2 t d) := by
  pointwise [k0_pay22]
theorem row_head (a b : Fin 128) : Scalar.select (k0_pay24 (ix2 a b)) (k0_pay25 (ix2 a b)) (k0_pay23 (ix2 a b)) = BitVec.ofNat 32 (a.val / 64) := by
  pointwise [k0_pay24, k0_pay25, k0_pay23]
  revert a; decide +kernel
theorem col_head (u : Fin 128) : Scalar.select
      (IntOp.andi
        (IntOp.cmpi CmpIPredicate.ne
          (IntOp.subi (BitVec.setWidth 32 (IntOp.cmpi CmpIPredicate.sgt (BitVec.ofNat 32 u.val) 0#32))
            (BitVec.setWidth 32 (IntOp.cmpi CmpIPredicate.slt (BitVec.ofNat 32 u.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 u.val) 64#32) 0#32))
      (IntOp.subi (IntOp.divsi ArithUnit.vector (BitVec.ofNat 32 u.val) 64#32) 1#32)
      (IntOp.divsi ArithUnit.vector (BitVec.ofNat 32 u.val) 64#32) = BitVec.ofNat 32 (u.val / 64) := by
  revert u; decide +kernel
theorem pair_one (a b : Fin 128) : FloatOps.sitofp (F := Ideal) FTy.f32
    (BitVec.setWidth 32 (IntOp.cmpi CmpIPredicate.eq (BitVec.ofNat 32 (a.val / 64)) (BitVec.ofNat 32 (b.val / 64)))) =
    ((if a.val / 64 = b.val / 64 then 1 else 0 : ℝ) : EReal) := by
  have ha : a.val / 64 = 0 ∨ a.val / 64 = 1 := by omega
  have hb : b.val / 64 = 0 ∨ b.val / 64 = 1 := by omega
  show (((BitVec.toInt _ : ℤ) : ℝ) : EReal) = _
  rcases ha with ha | ha <;> rcases hb with hb | hb <;> rw [ha, hb]
  · rw [show (BitVec.setWidth 32 (IntOp.cmpi CmpIPredicate.eq (BitVec.ofNat 32 0) (BitVec.ofNat 32 0))).toInt = 1 from by decide]; simp
  · rw [show (BitVec.setWidth 32 (IntOp.cmpi CmpIPredicate.eq (BitVec.ofNat 32 0) (BitVec.ofNat 32 1))).toInt = 0 from by decide]; simp
  · rw [show (BitVec.setWidth 32 (IntOp.cmpi CmpIPredicate.eq (BitVec.ofNat 32 1) (BitVec.ofNat 32 0))).toInt = 0 from by decide]; simp
  · rw [show (BitVec.setWidth 32 (IntOp.cmpi CmpIPredicate.eq (BitVec.ofNat 32 1) (BitVec.ofNat 32 1))).toInt = 1 from by decide]; simp

theorem e_up (t : Fin 1024) (d : Fin 128) :
    e R.up (ix2 t d) = ((∑ c, if c.val / 64 = d.val / 64 then R.g t c * R.o t c else 0 : ℝ) : EReal) := by
  unfold e
  pointwise [k0_pay26]
  simp only [row_head, col_head, pair_one, pay22_at]
  have hw : ∀ c, R.up.g (ix2 t c) * R.up.o (ix2 t c) = ((R.g t c * R.o t c : ℝ) : EReal) := fun c => rfl
  simp only [hw, ← EReal.coe_sub, ← EReal.coe_mul, sum_up, ← EReal.coe_add]
  refine congrArg _ ?_
  simp

/-- The row sums, read at either head's place. -/
theorem e0_up (t u : Fin 1024) : (if (lane128 u).val / 64 = 0 then e R.up (ix2 t (lane128 u)) else e' R.up (ix2 t (lane128 u))) =
    ((R.dl 0 t : ℝ) : EReal) := by
  rw [e'_at, e_up, e_up]
  have h1 : (lane128 u).val < 128 := (lane128 u).isLt
  split_ifs with h
  · rw [h]; rfl
  · rw [show ((lane128 u).val + 128 - 64) % 128 / 64 = 0 by omega]; rfl
theorem e1_up (t u : Fin 1024) : (if (lane128 u).val / 64 = 1 then e R.up (ix2 t (lane128 u)) else e' R.up (ix2 t (lane128 u))) =
    ((R.dl 1 t : ℝ) : EReal) := by
  rw [e'_at, e_up, e_up]
  have h1 : (lane128 u).val < 128 := (lane128 u).isLt
  split_ifs with h
  · rw [h]; rfl
  · rw [show ((lane128 u).val + 128 - 64) % 128 / 64 = 1 by omega]; rfl
theorem l0_up (t u : Fin 1024) : (if (lane128 u).val / 64 = 0 then l R.up (ix2 t (lane128 u)) else l' R.up (ix2 t (lane128 u))) =
    ((R.l t (Tl.lane 0 u) : ℝ) : EReal) := by
  rw [l'_at, l_at]
  split_ifs with h
  · refine congrArg (fun d => ((R.l t d : ℝ) : EReal)) (Fin.ext ?_)
    simp only [lane128, Tl.lane] at h ⊢; simp; omega
  · refine congrArg (fun d => ((R.l t d : ℝ) : EReal)) (Fin.ext ?_)
    simp only [lane128, Tl.lane] at h ⊢; simp; omega
theorem l1_up (t u : Fin 1024) : (if (lane128 u).val / 64 = 1 then l R.up (ix2 t (lane128 u)) else l' R.up (ix2 t (lane128 u))) =
    ((R.l t (Tl.lane 1 u) : ℝ) : EReal) := by
  rw [l'_at, l_at]
  split_ifs with h
  · refine congrArg (fun d => ((R.l t d : ℝ) : EReal)) (Fin.ext ?_)
    simp only [lane128, Tl.lane] at h ⊢; simp; omega
  · refine congrArg (fun d => ((R.l t d : ℝ) : EReal)) (Fin.ext ?_)
    simp only [lane128, Tl.lane] at h ⊢; simp; omega

theorem zero_up : (0 : EReal) = ((0 : ℝ) : EReal) := rfl

theorem qm0_up (t : Fin 1024) (d : Fin 128) : qm0 R.up (ix2 t d) = ((if Tl.Hd 0 d then R.q t d else 0 : ℝ) : EReal) := by
  rw [qm0_at, ← ite_up]; rfl
theorem km0_up (t : Fin 1024) (d : Fin 128) : km0 R.up (ix2 t d) = ((if Tl.Hd 0 d then R.k t d else 0 : ℝ) : EReal) := by
  rw [km0_at, ← ite_up]; rfl
theorem gm0_up (t : Fin 1024) (d : Fin 128) : gm0 R.up (ix2 t d) = ((if Tl.Hd 0 d then R.g t d else 0 : ℝ) : EReal) := by
  rw [gm0_at, ← ite_up]; rfl
theorem qm1_up (t : Fin 1024) (d : Fin 128) : qm1 R.up (ix2 t d) = ((if Tl.Hd 1 d then R.q t d else 0 : ℝ) : EReal) := by
  rw [qm1_at, ← ite_up]; rfl
theorem km1_up (t : Fin 1024) (d : Fin 128) : km1 R.up (ix2 t d) = ((if Tl.Hd 1 d then R.k t d else 0 : ℝ) : EReal) := by
  rw [km1_at, ← ite_up]; rfl
theorem gm1_up (t : Fin 1024) (d : Fin 128) : k0_pay51 R.up.g k0_pay47 (ix2 t d) = ((if Tl.Hd 1 d then R.g t d else 0 : ℝ) : EReal) := by
  rw [gm1_at, ← ite_up]; rfl
theorem k_up (t : Fin 1024) (d : Fin 128) : k R.up (ix2 t d) = ((R.k t d : ℝ) : EReal) := by rw [k_at]; rfl
theorem v_up (t : Fin 1024) (d : Fin 128) : v R.up (ix2 t d) = ((R.v t d : ℝ) : EReal) := by rw [v_at]; rfl
theorem frow_up (u : Fin 1024) (h : Fin 2) : frow R.up.f h (ix3 0 0 u) = ((R.f h u : ℝ) : EReal) := by
  match h with
  | 0 =>
    refine congrArg (fun u => ((R.f 0 u : ℝ) : EReal)) (Fin.ext ?_)
    simp
  | 1 =>
    refine congrArg (fun u => ((R.f 1 u : ℝ) : EReal)) (Fin.ext ?_)
    simp

/-- Every row sees every column. -/
abbrev all : Fin 1024 → Fin 1024 → Prop := fun _ _ => True

theorem p0_up (t u : Fin 1024) : p0 R.up (ix2 t u) = ((R.p all 0 t u : ℝ) : EReal) := by
  rw [p0_at, l0_up, s0_at, f0_at, frow_up]
  simp only [qm0_up, k_up, ← EReal.coe_mul, sum_up, ← EReal.coe_sub, Ideal.exp_coe]
  simp [Tl.p, Tl.s]
theorem p1_up (t u : Fin 1024) : p1 R.up (ix2 t u) = ((R.p all 1 t u : ℝ) : EReal) := by
  rw [p1_at, l1_up, frow_up]
  simp only [qm1_up, k_up, ← EReal.coe_mul, sum_up, ← EReal.coe_sub, Ideal.exp_coe]
  simp [Tl.p, Tl.s]
theorem ds0_up (t u : Fin 1024) : ds0 R.up (ix2 t u) = ((R.ds all 0 t u : ℝ) : EReal) := by
  rw [ds0_at, e0_up, p0_up]
  simp only [gb0_at, gm0_up, v_up, ← EReal.coe_mul, sum_up, ← EReal.coe_sub]
  rfl
theorem ds1_up (t u : Fin 1024) : ds1 R.up (ix2 t u) = ((R.ds all 1 t u : ℝ) : EReal) := by
  rw [ds1_at, e1_up, p1_up]
  simp only [gm1_up, v_up, ← EReal.coe_mul, sum_up, ← EReal.coe_sub]
  rfl

/-- The tile adds its part to the running gradient of v. -/
theorem dv_up (z : Fin 128 → Fin 1024 → ℝ) : dv R.up (up2 z) = up2 fun d u => z d u + R.dv all d u := by
  refine eta2 fun d u => ?_
  rw [dv_at, dv0_at]
  simp only [gm0_up, gm1_up, p0_up, p1_up, up2_at, ← EReal.coe_mul, sum_up, ← EReal.coe_add]
  simp only [Tl.dv, Fin.sum_univ_two, add_assoc]
theorem dk_up (z : Fin 128 → Fin 1024 → ℝ) : dk R.up (up2 z) = up2 fun d u => z d u + R.dk all d u := by
  refine eta2 fun d u => ?_
  rw [dk_at, dk0_at]
  simp only [qm0_up, qm1_up, ds0_up, db1_at, ds1_up, up2_at, ← EReal.coe_mul, sum_up, ← EReal.coe_add]
  simp only [Tl.dk, Fin.sum_univ_two, add_assoc]
theorem dq_up : dq R.up = up2 (R.dq all) := by
  refine eta2 fun t d => ?_
  rw [dq_at, dq0_at]
  simp only [km0_up, km1_up, ds0_up, db1_at, ds1_up, up2_at, ← EReal.coe_mul, sum_up, ← EReal.coe_add]
  simp only [Tl.dq, Fin.sum_univ_two]
theorem dr_up : dr R.up = up2 (R.dr all) := by
  refine eta2 fun t d => ?_
  rw [dr_at, dr0_at]
  simp only [ds0_up, ds1_up, up2_at, sum_up, zero_up, ite_up, ← EReal.coe_add]
  simp only [Tl.dr, Fin.sum_univ_two]; rfl
theorem dqAdd_up (z : Fin 1024 → Fin 128 → ℝ) : dqAdd R.up (up2 z) = up2 fun t d => z t d + R.dq all t d := by
  refine eta2 fun t d => ?_
  rw [dqAdd_at, dq_up]; rfl
theorem drAdd_up (z : Fin 1024 → Fin 128 → ℝ) : drAdd R.up (up2 z) = up2 fun t d => z t d + R.dr all t d := by
  refine eta2 fun t d => ?_
  rw [drAdd_at, dr_up]; rfl
theorem df_up (z : Fin 2 → Fin 1024 → ℝ) : df R.up (upS z) = upS fun h u => z h u - R.df all h u := by
  refine etaS fun h u => ?_
  match h with
  | 0 =>
    show df0 R.up (srow (upS z) 0) (ix3 0 0 u) = _
    rw [df0_at, srow_up]
    simp only [ds0_up, sum_up, ← EReal.coe_sub]; rfl
  | 1 =>
    show k0_pay6 (ds1 R.up) (srow (upS z) 1) (ix3 0 0 u) = _
    rw [df1_at, srow_up]
    simp only [ds1_up, sum_up, ← EReal.coe_sub]; rfl

end Below
end Cert.KernelIdeal.Hand
end
-- ==== Proof.TileDiag.lean ====
/- What a tile on the diagonal leaves, over the real numbers: a row sees the columns up to its own. -/
module

public import proofs.«01_k».proof.Proof.TileBelow

@[expose] public section

set_option maxRecDepth 16384

noncomputable section

namespace Cert.KernelIdeal.Hand

open Idealize.ShloMosaic
open Cert.KernelIdeal Cert.KernelIdeal.Gen

/-- A row of a diagonal tile sees the columns up to its own. -/
abbrev upto : Fin 1024 → Fin 1024 → Prop := fun t u => u.val ≤ t.val

namespace Diag

variable (i : grid0.Coords) (x : Ins Ideal) (R : Tl)

theorem q_eq : q x = Below.q x := rfl
theorem k_eq : k x = Below.k x := rfl
theorem v_eq : v x = Below.v x := rfl
theorem l_eq : l x = Below.l x := rfl
theorem l'_eq : l' x = Below.l' x := rfl
theorem e_eq : e x = Below.e x := rfl
theorem e'_eq : e' x = Below.e' x := rfl
theorem qm0_eq : qm0 x = Below.qm0 x := rfl
theorem km0_eq : km0 x = Below.km0 x := rfl
theorem gm0_eq : gm0 x = Below.gm0 x := rfl
theorem gb0_eq : gb0 x = Below.gb0 x := rfl
theorem s0_eq : s0 x = Below.s0 x := rfl
theorem f0_eq : f0 x = Below.f0 x := rfl
theorem qm1_eq : qm1 x = Below.qm1 x := rfl
theorem km1_eq : km1 x = Below.km1 x := rfl
theorem gm1_eq : gm1 x = k0_pay51 x.g k0_pay47 := rfl
theorem pay71_eq : k0_pay71 lanes = k0_pay31 lanes := rfl
theorem pay70_eq : k0_pay70 lanes 64#32 = k0_pay30 lanes 64#32 := rfl
theorem pay89_eq : k0_pay89 k0_pay86 k0_pay87 k0_pay88 = k0_pay47 := rfl
theorem pay90_eq : k0_pay90 lanes = k0_pay48 lanes := rfl

/-- The mask's number is minus infinity. -/
theorem mask_bot : (Named.named κ "mask" 0xF149F2CA#32 : Ideal .f32) = ⊥ := rfl

/-- The words' comparison of column and row. -/
theorem seen (h : (i 1).val = (i 2).val) (t u : Fin 1024) :
    IntOp.cmpi CmpIPredicate.sle (IntOp.addi (IntOp.muli (a i) 1024#32) (BitVec.ofNat 32 u.val))
      (IntOp.addi (IntOp.muli (b i) 1024#32) (BitVec.ofNat 32 t.val)) = if u.val ≤ t.val then 1#1 else 0#1 := by
  have h2 : (i 2).val < 4 := (i 2).isLt
  have ht := t.isLt
  have hu := u.isLt
  unfold a b
  rw [h]
  generalize (i 2).val = n at *
  generalize t.val = t at *
  generalize u.val = u at *
  have e1 : IntOp.addi (IntOp.muli (BitVec.ofNat 32 n) 1024#32) (BitVec.ofNat 32 u) = BitVec.ofNat 32 (n * 1024 + u) := by
    show BitVec.ofNat 32 n * BitVec.ofNat 32 1024 + BitVec.ofNat 32 u = _
    rw [← BitVec.ofNat_mul, ← BitVec.ofNat_add]
  have e2 : IntOp.addi (IntOp.muli (BitVec.ofNat 32 n) 1024#32) (BitVec.ofNat 32 t) = BitVec.ofNat 32 (n * 1024 + t) := by
    show BitVec.ofNat 32 n * BitVec.ofNat 32 1024 + BitVec.ofNat 32 t = _
    rw [← BitVec.ofNat_mul, ← BitVec.ofNat_add]
  rw [e1, e2]
  by_cases hh : u ≤ t
  · rw [if_pos hh]
    word_cmp
  · rw [if_neg hh]
    word_cmp

theorem p0_at (t u : Fin 1024) : p0 i x (ix2 t u) = Ideal.exp (Scalar.select
      (IntOp.cmpi CmpIPredicate.sle (IntOp.addi (IntOp.muli (a i) 1024#32) (BitVec.ofNat 32 u.val))
      (IntOp.addi (IntOp.muli (b i) 1024#32) (BitVec.ofNat 32 t.val))) (s0 x (ix2 t u) - f0 x (ix2 t u)) ⊥ -
    if (lane128 u).val / 64 = 0 then l x (ix2 t (lane128 u)) else l' x (ix2 t (lane128 u))) := by
  pointwise [p0, k0_pay78]
  simp only [pay71_eq, pay31_at, sel_ite]
  rw [eight (fun d => if d.val / 64 = 0 then l x (ix2 t d) else l' x (ix2 t d)) u]
  rfl
theorem p1_at (t u : Fin 1024) : p1 i x (ix2 t u) = Ideal.exp (Scalar.select
      (IntOp.cmpi CmpIPredicate.sle (IntOp.addi (IntOp.muli (a i) 1024#32) (BitVec.ofNat 32 u.val))
      (IntOp.addi (IntOp.muli (b i) 1024#32) (BitVec.ofNat 32 t.val))) (∑ d, qm1 x (ix2 t d) * k x (ix2 u d) - frow x.f 1 (ix3 0 0 u)) ⊥ -
    if (lane128 u).val / 64 = 1 then l x (ix2 t (lane128 u)) else l' x (ix2 t (lane128 u))) := by
  unfold p1 k0_pay94 qm1
  pointwise
  simp only [pay90_eq, pay48_at, sel_ite]
  rw [eight (fun d => if d.val / 64 = 1 then l x (ix2 t d) else l' x (ix2 t d)) u]
  rfl
theorem ds0_at (t u : Fin 1024) : ds0 i x (ix2 t u) = p0 i x (ix2 t u) * (∑ d, gb0 x (ix2 t d) * v x (ix2 u d) -
    if (lane128 u).val / 64 = 0 then e x (ix2 t (lane128 u)) else e' x (ix2 t (lane128 u))) := by
  unfold ds0 k0_pay79 p0
  pointwise
  simp only [pay71_eq, pay31_at, sel_ite]
  rw [eight (fun d => if d.val / 64 = 0 then e x (ix2 t d) else e' x (ix2 t d)) u]
theorem u1_at (t u : Fin 1024) : u1 x (ix2 t u) = ∑ d, gm1 x (ix2 t d) * v x (ix2 u d) -
    if (lane128 u).val / 64 = 1 then e x (ix2 t (lane128 u)) else e' x (ix2 t (lane128 u)) := by
  unfold u1 k0_pay95 gm1
  pointwise
  simp only [pay90_eq, pay48_at, sel_ite]
  rw [eight (fun d => if d.val / 64 = 1 then e x (ix2 t d) else e' x (ix2 t d)) u]
/-- The second head's gradient of the logits. -/
def ds1 : FVec Ideal S1024x1024 .f32 := k0_pay96 (p1 i x) (u1 x)
theorem ds1_at (t u : Fin 1024) : ds1 i x (ix2 t u) = p1 i x (ix2 t u) * u1 x (ix2 t u) := by
  unfold ds1 k0_pay96
  pointwise
theorem db0_at (t u : Fin 1024) : db0 i x (ix2 t u) = ds0 i x (ix2 t u) := by
  unfold db0 k0_pay80 ds0
  pointwise
theorem dv0_at (z : Vec Ideal S128x1024 .f32) (d : Fin 128) (u : Fin 1024) :
    dv0 i x z (ix2 d u) = z (ix2 d u) + ∑ t, gm0 x (ix2 t d) * p0 i x (ix2 t u) := by
  unfold dv0 k0_pay81 p0
  pointwise
theorem dk0_at (z : Vec Ideal S128x1024 .f32) (d : Fin 128) (u : Fin 1024) :
    dk0 i x z (ix2 d u) = z (ix2 d u) + ∑ t, qm0 x (ix2 t d) * db0 i x (ix2 t u) := by
  unfold dk0 k0_pay82 db0
  pointwise
theorem dq0_at (t : Fin 1024) (d : Fin 128) : dq0 i x (ix2 t d) = ∑ u, db0 i x (ix2 t u) * km0 x (ix2 u d) := by
  unfold dq0 k0_pay83
  pointwise [k0_pay68]
theorem df0_at (w : Vec Ideal S1x1x1024 .f32) (u : Fin 1024) :
    df0 i x w (ix3 0 0 u) = w (ix3 0 0 u) - ∑ t, ds0 i x (ix2 t u) := by
  unfold df0 k0_pay84
  pointwise
theorem dr0_at (t : Fin 1024) (d : Fin 128) : dr0 i x (ix2 t d) = if d.val / 64 = 0 then ∑ u, ds0 i x (ix2 t u) else 0 := by
  unfold dr0 k0_pay85
  pointwise [k0_pay69]
  rw [pay70_eq, pay30_at, sel_ite]
theorem dv_at (z : Vec Ideal S128x1024 .f32) (d : Fin 128) (u : Fin 1024) :
    dv i x z (ix2 d u) = dv0 i x z (ix2 d u) + ∑ t, gm1 x (ix2 t d) * p1 i x (ix2 t u) := by
  unfold dv k0_pay98
  pointwise
theorem dk_at (z : Vec Ideal S128x1024 .f32) (d : Fin 128) (u : Fin 1024) :
    dk i x z (ix2 d u) = dk0 i x z (ix2 d u) + ∑ t, qm1 x (ix2 t d) * ds1 i x (ix2 t u) := by
  unfold dk k0_pay99 k0_pay97 ds1
  pointwise
theorem df1_at (w : Vec Ideal S1x1x1024 .f32) (u : Fin 1024) :
    k0_pay101 (p1 i x) (u1 x) w (ix3 0 0 u) = w (ix3 0 0 u) - ∑ t, ds1 i x (ix2 t u) := by
  unfold k0_pay101 ds1
  pointwise
theorem dq_at (t : Fin 1024) (d : Fin 128) : dq i x (ix2 t d) = dq0 i x (ix2 t d) + ∑ u, ds1 i x (ix2 t u) * km1 x (ix2 u d) := by
  unfold dq k0_pay100 k0_pay97 ds1
  pointwise
theorem dr_at (t : Fin 1024) (d : Fin 128) :
    dr i x (ix2 t d) = dr0 i x (ix2 t d) + if d.val / 64 = 1 then ∑ u, ds1 i x (ix2 t u) else 0 := by
  unfold dr k0_pay10 k0_pay102 k0_pay103 ds1
  pointwise [k0_pay104]
  rw [pay89_eq, pay47_at, sel_ite]
theorem dqAdd_at (w : Vec Ideal S1024x128 .f32) (t : Fin 1024) (d : Fin 128) :
    dqAdd i x w (ix2 t d) = w (ix2 t d) + dq i x (ix2 t d) := by
  unfold dqAdd k0_pay11
  pointwise
theorem drAdd_at (w : Vec Ideal S1024x128 .f32) (t : Fin 1024) (d : Fin 128) :
    drAdd i x w (ix2 t d) = w (ix2 t d) + dr i x (ix2 t d) := by
  unfold drAdd k0_pay12 dr
  pointwise

variable (h : (i 1).val = (i 2).val)
include h

theorem p0_up (t u : Fin 1024) : p0 i R.up (ix2 t u) = ((R.p upto 0 t u : ℝ) : EReal) := by
  rw [p0_at, seen i h, sel_ite, l_eq, l'_eq, Below.l0_up, s0_eq, f0_eq, Below.s0_at, Below.f0_at, Below.frow_up]
  simp only [Below.qm0_up, Below.k_up, ← EReal.coe_mul, sum_up, ← EReal.coe_sub]
  unfold Tl.p
  split_ifs
  · rfl
  · simp
theorem p1_up (t u : Fin 1024) : p1 i R.up (ix2 t u) = ((R.p upto 1 t u : ℝ) : EReal) := by
  rw [p1_at, seen i h, sel_ite, l_eq, l'_eq, Below.l1_up, qm1_eq, k_eq, Below.frow_up]
  simp only [Below.qm1_up, Below.k_up, ← EReal.coe_mul, sum_up, ← EReal.coe_sub]
  unfold Tl.p
  split_ifs
  · rfl
  · simp
theorem ds0_up (t u : Fin 1024) : ds0 i R.up (ix2 t u) = ((R.ds upto 0 t u : ℝ) : EReal) := by
  rw [ds0_at, e_eq, e'_eq, Below.e0_up, p0_up i R h, gb0_eq, v_eq]
  simp only [Below.gb0_at, Below.gm0_up, Below.v_up, ← EReal.coe_mul, sum_up, ← EReal.coe_sub]
  rfl
theorem ds1_up (t u : Fin 1024) : ds1 i R.up (ix2 t u) = ((R.ds upto 1 t u : ℝ) : EReal) := by
  rw [ds1_at, u1_at, e_eq, e'_eq, Below.e1_up, p1_up i R h, gm1_eq, v_eq]
  simp only [Below.gm1_up, Below.v_up, ← EReal.coe_mul, sum_up, ← EReal.coe_sub]
  rfl

/-- The tile adds its part to the running gradient of v. -/
theorem dv_up (z : Fin 128 → Fin 1024 → ℝ) : dv i R.up (up2 z) = up2 fun d u => z d u + R.dv upto d u := by
  refine eta2 fun d u => ?_
  rw [dv_at, dv0_at, gm0_eq, gm1_eq]
  simp only [Below.gm0_up, Below.gm1_up, p0_up i R h, p1_up i R h, up2_at, ← EReal.coe_mul, sum_up, ← EReal.coe_add]
  simp only [Tl.dv, Fin.sum_univ_two, add_assoc]
theorem dk_up (z : Fin 128 → Fin 1024 → ℝ) : dk i R.up (up2 z) = up2 fun d u => z d u + R.dk upto d u := by
  refine eta2 fun d u => ?_
  rw [dk_at, dk0_at, qm0_eq, qm1_eq]
  simp only [Below.qm0_up, Below.qm1_up, ds0_up i R h, db0_at, ds1_up i R h, up2_at, ← EReal.coe_mul, sum_up, ← EReal.coe_add]
  simp only [Tl.dk, Fin.sum_univ_two, add_assoc]
theorem dq_up : dq i R.up = up2 (R.dq upto) := by
  refine eta2 fun t d => ?_
  rw [dq_at, dq0_at, km0_eq, km1_eq]
  simp only [Below.km0_up, Below.km1_up, ds0_up i R h, db0_at, ds1_up i R h, up2_at, ← EReal.coe_mul, sum_up, ← EReal.coe_add]
  simp only [Tl.dq, Fin.sum_univ_two]
theorem dr_up : dr i R.up = up2 (R.dr upto) := by
  refine eta2 fun t d => ?_
  rw [dr_at, dr0_at]
  simp only [ds0_up i R h, ds1_up i R h, up2_at, sum_up, Below.zero_up, ite_up, ← EReal.coe_add]
  simp only [Tl.dr, Fin.sum_univ_two]; rfl
theorem dqAdd_up (z : Fin 1024 → Fin 128 → ℝ) : dqAdd i R.up (up2 z) = up2 fun t d => z t d + R.dq upto t d := by
  refine eta2 fun t d => ?_
  rw [dqAdd_at, dq_up i R h]; rfl
theorem drAdd_up (z : Fin 1024 → Fin 128 → ℝ) : drAdd i R.up (up2 z) = up2 fun t d => z t d + R.dr upto t d := by
  refine eta2 fun t d => ?_
  rw [drAdd_at, dr_up i R h]; rfl
theorem df_up (z : Fin 2 → Fin 1024 → ℝ) : df i R.up (upS z) = upS fun h u => z h u - R.df upto h u := by
  refine etaS fun hh u => ?_
  match hh with
  | 0 =>
    show df0 i R.up (srow (upS z) 0) (ix3 0 0 u) = _
    rw [df0_at, srow_up]
    simp only [ds0_up i R h, sum_up, ← EReal.coe_sub]; rfl
  | 1 =>
    show k0_pay101 (p1 i R.up) (u1 R.up) (srow (upS z) 1) (ix3 0 0 u) = _
    rw [df1_at, srow_up]
    simp only [ds1_up i R h, sum_up, ← EReal.coe_sub]; rfl

end Diag

/-- The zeros the running sums start from. -/
theorem zeroK_up : (k0_pay1 : FVec Ideal S128x1024 .f32) = up2 fun _ _ => 0 := by
  refine eta2 fun d u => ?_
  pointwise [k0_pay1]
  rfl
theorem zeroV_up : (k0_pay2 : FVec Ideal S128x1024 .f32) = up2 fun _ _ => 0 := by
  refine eta2 fun d u => ?_
  pointwise [k0_pay2]
  rfl
theorem zeroF_up : (k0_pay3 : FVec Ideal S2x1x1024 .f32) = upS fun _ _ => 0 := by
  refine etaS fun d u => ?_
  pointwise [k0_pay3]
  rfl

/-- The finished sums, turned over. -/
theorem flipK_up (z : Fin 128 → Fin 1024 → ℝ) : flipK (F := Ideal) (up2 z) = up2 fun u d => z d u := by
  refine eta2 fun u d => ?_
  pointwise [flipK, k0_pay13]
  rfl
theorem flipV_up (z : Fin 128 → Fin 1024 → ℝ) : flipV (F := Ideal) (up2 z) = up2 fun u d => z d u := by
  refine eta2 fun u d => ?_
  pointwise [flipV, k0_pay14]
  rfl
theorem flipF_up (z : Fin 2 → Fin 1024 → ℝ) : flipF (F := Ideal) (upS z) = upF z := by
  refine etaF fun h u => ?_
  match h with
  | 0 =>
    show k0_pay15 (srow (upS z) 0) (ix3 0 0 u) = _
    pointwise [k0_pay15]
    exact srow_up z 0 u
  | 1 =>
    show k0_pay16 (srow (upS z) 1) (ix3 0 0 u) = _
    pointwise [k0_pay16]
    exact srow_up z 1 u

end Cert.KernelIdeal.Hand
end
-- ==== Proof.Glob.lean ====
/- The whole arrays over the real numbers, the sums the kernel has formed after each grid point, and how one tile advances them.
   A grid point is t = 16 h + 4 j + i: the pair of heads h, the column tile j, the row tile i. -/
module

public import proofs.«01_k».proof.Proof.TileDiag

@[expose] public section

set_option maxRecDepth 16384

noncomputable section

namespace Cert.KernelIdeal.Hand

open Idealize.ShloMosaic
open Cert.KernelIdeal Cert.KernelIdeal.Gen

namespace Tl
variable (R : Tl) {M N : Fin 1024 → Fin 1024 → Prop} [∀ t u, Decidable (M t u)] [∀ t u, Decidable (N t u)] (h : ∀ t u, M t u ↔ N t u)
include h
theorem p_congr (k : Fin 2) (t u : Fin 1024) : R.p M k t u = R.p N k t u := by simp only [p, h]
theorem ds_congr (k : Fin 2) (t u : Fin 1024) : R.ds M k t u = R.ds N k t u := by simp only [ds, R.p_congr h]
theorem dv_congr : R.dv M = R.dv N := by funext d u; simp only [dv, R.p_congr h]
theorem dk_congr : R.dk M = R.dk N := by funext d u; simp only [dk, R.ds_congr h]
theorem dq_congr : R.dq M = R.dq N := by funext d u; simp only [dq, R.ds_congr h]
theorem df_congr : R.df M = R.df N := by funext d u; simp only [df, R.ds_congr h]
theorem dr_congr : R.dr M = R.dr N := by funext d u; simp only [dr, R.ds_congr h]
end Tl

/-- The kernel's five operands as real functions of their row and column numbers: q, k and v side by side; the heads'
    cumulative sums, by pair and head; the forward output; the row log-sums; the cotangent. -/
structure Glob where
  x : ℕ → ℕ → ℝ
  f : ℕ → ℕ → ℕ → ℝ
  o : ℕ → ℕ → ℝ
  l : ℕ → ℕ → ℝ
  g : ℕ → ℕ → ℝ

/-- A row of row tile b sees a column of column tile j. -/
abbrev see (j b : ℕ) : Fin 1024 → Fin 1024 → Prop := fun t u => 1024 * j + u.val ≤ 1024 * b + t.val

namespace Glob

variable (D : Glob)

/-- The blocks of the tile of row tile b and column tile j of the pair h. -/
def tl (h j b : ℕ) : Tl where
  q t d := D.x (1024 * b + t.val) (128 * h + d.val)
  k u d := D.x (1024 * j + u.val) (512 + 128 * h + d.val)
  v u d := D.x (1024 * j + u.val) (1024 + 128 * h + d.val)
  o t d := D.o (1024 * b + t.val) (128 * h + d.val)
  l t d := D.l (1024 * b + t.val) (128 * h + d.val)
  g t d := D.g (1024 * b + t.val) (128 * h + d.val)
  f a u := D.f h a.val (1024 * j + u.val)

/-- The gradient of k of column tile j summed over the first n row tiles. -/
def kS (h j n : ℕ) (d : Fin 128) (u : Fin 1024) : ℝ := ∑ b ∈ Finset.range n, if j ≤ b then (D.tl h j b).dk (see j b) d u else 0
/-- The gradient of v likewise. -/
def vS (h j n : ℕ) (d : Fin 128) (u : Fin 1024) : ℝ := ∑ b ∈ Finset.range n, if j ≤ b then (D.tl h j b).dv (see j b) d u else 0
/-- The column sums of the gradient of the logits likewise, negated. -/
def fS (h j n : ℕ) (a : Fin 2) (u : Fin 1024) : ℝ := -∑ b ∈ Finset.range n, if j ≤ b then (D.tl h j b).df (see j b) a u else 0
/-- The gradient of q of row tile b summed over the first n column tiles. -/
def qS (h b n : ℕ) (t : Fin 1024) (d : Fin 128) : ℝ := ∑ j ∈ Finset.range n, if j ≤ b then (D.tl h j b).dq (see j b) t d else 0
/-- The row sums of the gradient of the logits likewise. -/
def rS (h b n : ℕ) (t : Fin 1024) (d : Fin 128) : ℝ := ∑ j ∈ Finset.range n, if j ≤ b then (D.tl h j b).dr (see j b) t d else 0

theorem zero_before (j : ℕ) (f : ℕ → ℝ) : (∑ b ∈ Finset.range j, if j ≤ b then f b else 0) = 0 :=
  Finset.sum_eq_zero fun b hb => if_neg (by have := Finset.mem_range.mp hb; omega)

theorem sum_diag (j : ℕ) (f : ℕ → ℝ) : (∑ b ∈ Finset.range (j + 1), if j ≤ b then f b else 0) = f j := by
  rw [Finset.sum_range_succ, zero_before, if_pos (le_refl j), zero_add]

theorem see_below {j b : ℕ} (h : j < b) : ∀ t u, see j b t u ↔ Below.all t u := fun t u => by
  have := u.isLt
  simp only [see, Below.all, iff_true]; omega
theorem see_diag {j b : ℕ} (h : j = b) : ∀ t u, see j b t u ↔ upto t u := fun t u => by
  subst h; simp only [see, upto]; omega

end Glob

/-- Every row tile's rows of a result's column hold what is summed there after point t. -/
def Rows (S : ℕ → ℕ → Fin 1024 → Fin 128 → ℝ) (t : ℕ) (X : Vec Ideal S4096x128 .f32) : Prop :=
  ∀ (b : ℕ) (hb : b < 4) (r : Fin 1024) (d : Fin 128), 0 < (if b ≤ t % 4 then t / 4 % 4 + 1 else t / 4 % 4) →
    X (ix2 ⟨1024 * b + r.val, by omega⟩ d) = ((S b (if b ≤ t % 4 then t / 4 % 4 + 1 else t / 4 % 4) r d : ℝ) : EReal)

section
variable {S : ℕ → ℕ → Fin 1024 → Fin 128 → ℝ} {t : ℕ} {i : grid0.Coords} (hi : (i 2).val = t % 4)
include hi

/-- Writing the row tile's sum advances the rows. -/
theorem rows_put {y : Vec Ideal S4096x128 .f32} (hy : t % 16 ≠ 0 → Rows S (t - 1) y) :
    Rows S t (putRows i y (up2 (S (t % 4) (t / 4 % 4 + 1)))) := by
  intro b hb r d hn
  unfold putRows
  by_cases hbi : b = t % 4
  · subst hbi
    rw [dif_pos (by simp only [hi]; show 1024 * (t % 4) ≤ 1024 * (t % 4) + r.val ∧ 1024 * (t % 4) + r.val < _; omega)]
    rw [if_pos (le_refl _)]
    refine congrArg (fun r => ((S (t % 4) (t / 4 % 4 + 1) r d : ℝ) : EReal)) (Fin.ext ?_)
    simp only [hi]
    show 1024 * (t % 4) + r.val - 1024 * (t % 4) = r.val
    omega
  · rw [dif_neg (by simp only [hi]; show ¬(1024 * (t % 4) ≤ 1024 * b + r.val ∧ 1024 * b + r.val < _); omega)]
    have ht : t % 16 ≠ 0 := fun h0 => by
      have h1 : t % 4 = 0 := by omega
      have h2 : t / 4 % 4 = 0 := by omega
      rw [h1, h2] at hn
      rw [if_neg (by omega)] at hn
      omega
    have e : (if b ≤ (t - 1) % 4 then (t - 1) / 4 % 4 + 1 else (t - 1) / 4 % 4) = (if b ≤ t % 4 then t / 4 % 4 + 1 else t / 4 % 4) := by
      split_ifs <;> omega
    have := hy ht b hb r d (by rw [e]; exact hn)
    rw [e] at this
    exact this

/-- What a later column tile finds in its row tile's rows. -/
theorem rows_get {y : Vec Ideal S4096x128 .f32} (hj : 1 ≤ t / 4 % 4) (hy : Rows S (t - 1) y) :
    getRows i y = up2 (S (t % 4) (t / 4 % 4)) := by
  refine eta2 fun r d => ?_
  have e : (if t % 4 ≤ (t - 1) % 4 then (t - 1) / 4 % 4 + 1 else (t - 1) / 4 % 4) = t / 4 % 4 := by
    split_ifs <;> omega
  have := hy (t % 4) (by omega) r d (by rw [e]; omega)
  rw [e] at this
  refine Eq.trans ?_ this
  unfold getRows
  refine congrArg y ?_
  congr 1
  simp only [hi]; rfl

omit hi in
/-- A tile above the diagonal leaves the rows. -/
theorem rows_keep {y : Vec Ideal S4096x128 .f32} (hj : t % 4 < t / 4 % 4) (hS : ∀ r d, S (t % 4) (t / 4 % 4 + 1) r d = S (t % 4) (t / 4 % 4) r d)
    (hy : Rows S (t - 1) y) : Rows S t y := by
  intro b hb r d hn
  by_cases hbi : b = t % 4
  · subst hbi
    have e : (if t % 4 ≤ (t - 1) % 4 then (t - 1) / 4 % 4 + 1 else (t - 1) / 4 % 4) = t / 4 % 4 := by
      split_ifs <;> omega
    have := hy (t % 4) hb r d (by rw [e]; omega)
    rw [e] at this
    rw [if_pos (le_refl _), hS]
    exact this
  · have e : (if b ≤ (t - 1) % 4 then (t - 1) / 4 % 4 + 1 else (t - 1) / 4 % 4) = (if b ≤ t % 4 then t / 4 % 4 + 1 else t / 4 % 4) := by
      split_ifs <;> omega
    have := hy b hb r d (by rw [e]; exact hn)
    rw [e] at this
    exact this
end

/-- The running sums of the column tile after point t. -/
def Scr (D : Glob) (t : ℕ) (s0 s1 : Vec Ideal S128x1024 .f32) (s2 : Vec Ideal S2x1x1024 .f32) : Prop :=
  s0 = up2 (D.kS (t / 16 % 4) (t / 4 % 4) (t % 4 + 1)) ∧ s1 = up2 (D.vS (t / 16 % 4) (t / 4 % 4) (t % 4 + 1)) ∧
    s2 = upS (D.fS (t / 16 % 4) (t / 4 % 4) (t % 4 + 1))

/-- What the body may find at point t of the two resident results and the running sums. -/
structure Found (D : Glob) (t : ℕ) (y7 y11 : Vec Ideal S4096x128 .f32) (z0 z1 : Vec Ideal S128x1024 .f32) (z2 : Vec Ideal S2x1x1024 .f32) : Prop where
  q : t % 16 ≠ 0 → Rows (D.qS (t / 16 % 4)) (t - 1) y7
  r : t % 16 ≠ 0 → Rows (D.rS (t / 16 % 4)) (t - 1) y11
  s : t / 4 % 4 < t % 4 → Scr D (t - 1) z0 z1 z2

/-- What the body has made at point t. -/
structure Made (D : Glob) (t : ℕ) (O : Left Ideal) : Prop where
  q : Rows (D.qS (t / 16 % 4)) t O.dq
  r : Rows (D.rS (t / 16 % 4)) t O.dr
  s : t / 4 % 4 ≤ t % 4 → Scr D t O.sk O.sv O.sf
  k : t % 4 = 3 → O.dk = up2 fun u d => D.kS (t / 16 % 4) (t / 4 % 4) 4 d u
  v : t % 4 = 3 → O.dv = up2 fun u d => D.vS (t / 16 % 4) (t / 4 % 4) 4 d u
  f : t % 4 = 3 → O.df = upF (D.fS (t / 16 % 4) (t / 4 % 4) 4)

section
variable {D : Glob} {t : ℕ} {i : grid0.Coords} (h1 : (i 1).val = t / 4 % 4) (h2 : (i 2).val = t % 4)
  {x : Ins Ideal} (hx : x = (D.tl (t / 16 % 4) (t / 4 % 4) (t % 4)).up)

include h1 h2 hx in
theorem scr_diag (hd : t / 4 % 4 = t % 4) : Scr D t (Diag.dk i x (k0_pay1 (F := Ideal))) (Diag.dv i x (k0_pay2 (F := Ideal))) (Diag.df i x (k0_pay3 (F := Ideal))) := by
  have hi : (i 1).val = (i 2).val := by omega
  have hm := Glob.see_diag hd
  subst hx
  rw [zeroK_up, zeroV_up, zeroF_up, Diag.dk_up i _ hi, Diag.dv_up i _ hi, Diag.df_up i _ hi]
  rw [← hd] at hm ⊢
  refine ⟨congrArg up2 ?_, congrArg up2 ?_, congrArg upS ?_⟩ <;> funext d u
  · rw [Glob.kS, ← hd, Glob.sum_diag, zero_add, ← Tl.dk_congr _ hm]
  · rw [Glob.vS, ← hd, Glob.sum_diag, zero_add, ← Tl.dv_congr _ hm]
  · rw [Glob.fS, ← hd, Glob.sum_diag, zero_sub, ← Tl.df_congr _ hm]

include hx in
theorem scr_below (hb : t / 4 % 4 < t % 4) {z0 z1 : Vec Ideal S128x1024 .f32} {z2 : Vec Ideal S2x1x1024 .f32}
    (hz : Scr D (t - 1) z0 z1 z2) : Scr D t (Below.dk x z0) (Below.dv x z1) (Below.df x z2) := by
  have hm := Glob.see_below hb
  obtain ⟨e0, e1, e2⟩ := hz
  rw [show (t - 1) / 16 % 4 = t / 16 % 4 by omega, show (t - 1) / 4 % 4 = t / 4 % 4 by omega, show (t - 1) % 4 + 1 = t % 4 by omega] at e0 e1 e2
  subst hx e0 e1 e2
  rw [Below.dk_up, Below.dv_up, Below.df_up]
  refine ⟨congrArg up2 ?_, congrArg up2 ?_, congrArg upS ?_⟩ <;> funext d u
  · rw [Glob.kS, Glob.kS, Finset.sum_range_succ, if_pos hb.le, Tl.dk_congr _ hm]
  · rw [Glob.vS, Glob.vS, Finset.sum_range_succ, if_pos hb.le, Tl.dv_congr _ hm]
  · rw [Glob.fS, Glob.fS, Finset.sum_range_succ, if_pos hb.le, Tl.df_congr _ hm, neg_add, sub_eq_add_neg]

theorem outK {s0 s1 : Vec Ideal S128x1024 .f32} {s2 : Vec Ideal S2x1x1024 .f32} (hs : Scr D t s0 s1 s2) (h3 : t % 4 = 3) :
    flipK s0 = up2 fun u d => D.kS (t / 16 % 4) (t / 4 % 4) 4 d u := by
  rw [hs.1, flipK_up, h3]
theorem outV {s0 s1 : Vec Ideal S128x1024 .f32} {s2 : Vec Ideal S2x1x1024 .f32} (hs : Scr D t s0 s1 s2) (h3 : t % 4 = 3) :
    flipV s1 = up2 fun u d => D.vS (t / 16 % 4) (t / 4 % 4) 4 d u := by
  rw [hs.2.1, flipV_up, h3]
theorem outF {s0 s1 : Vec Ideal S128x1024 .f32} {s2 : Vec Ideal S2x1x1024 .f32} (hs : Scr D t s0 s1 s2) (h3 : t % 4 = 3) :
    flipF s2 = upF (D.fS (t / 16 % 4) (t / 4 % 4) 4) := by
  rw [hs.2.2, flipF_up, h3]

include h1 h2 hx in
theorem rows_diag_first (hd : t / 4 % 4 = t % 4) (h0 : t / 4 % 4 = 0) {y7 y11 : Vec Ideal S4096x128 .f32} {z0 z1 z2} (hf : Found D t y7 y11 z0 z1 z2) :
    Rows (D.qS (t / 16 % 4)) t (putRows i y7 (Diag.dq i x)) ∧ Rows (D.rS (t / 16 % 4)) t (putRows i y11 (Diag.dr i x)) := by
  have hi : (i 1).val = (i 2).val := by omega
  have hm := Glob.see_diag hd
  subst hx
  rw [Diag.dq_up i _ hi, Diag.dr_up i _ hi, ← Tl.dq_congr _ hm, ← Tl.dr_congr _ hm]
  constructor
  · convert rows_put h2 hf.q using 3
    funext r d; rw [Glob.qS, Finset.sum_range_succ, if_pos hd.le, h0, Finset.range_zero, Finset.sum_empty, zero_add]
  · convert rows_put h2 hf.r using 3
    funext r d; rw [Glob.rS, Finset.sum_range_succ, if_pos hd.le, h0, Finset.range_zero, Finset.sum_empty, zero_add]

include h1 h2 hx in
theorem rows_diag_later (hd : t / 4 % 4 = t % 4) (h0 : 1 ≤ t / 4 % 4) {y7 y11 : Vec Ideal S4096x128 .f32} {z0 z1 z2} (hf : Found D t y7 y11 z0 z1 z2) :
    Rows (D.qS (t / 16 % 4)) t (putRows i y7 (Diag.dqAdd i x (getRows i y7))) ∧
      Rows (D.rS (t / 16 % 4)) t (putRows i y11 (Diag.drAdd i x (getRows i y11))) := by
  have hi : (i 1).val = (i 2).val := by omega
  have hm := Glob.see_diag hd
  subst hx
  rw [rows_get h2 h0 (hf.q (by omega)), rows_get h2 h0 (hf.r (by omega))]
  rw [Diag.dqAdd_up i _ hi, Diag.drAdd_up i _ hi, ← Tl.dq_congr _ hm, ← Tl.dr_congr _ hm]
  constructor
  · convert rows_put h2 hf.q using 3
    funext r d; rw [Glob.qS, Glob.qS, Finset.sum_range_succ, if_pos hd.le]
  · convert rows_put h2 hf.r using 3
    funext r d; rw [Glob.rS, Glob.rS, Finset.sum_range_succ, if_pos hd.le]

include h2 hx in
theorem rows_below_first (hb : t / 4 % 4 < t % 4) (h0 : t / 4 % 4 = 0) {y7 y11 : Vec Ideal S4096x128 .f32} {z0 z1 z2} (hf : Found D t y7 y11 z0 z1 z2) :
    Rows (D.qS (t / 16 % 4)) t (putRows i y7 (Below.dq x)) ∧ Rows (D.rS (t / 16 % 4)) t (putRows i y11 (Below.dr x)) := by
  have hm := Glob.see_below hb
  subst hx
  rw [Below.dq_up, Below.dr_up, ← Tl.dq_congr _ hm, ← Tl.dr_congr _ hm]
  constructor
  · convert rows_put h2 hf.q using 3
    funext r d; rw [Glob.qS, Finset.sum_range_succ, if_pos hb.le, h0, Finset.range_zero, Finset.sum_empty, zero_add]
  · convert rows_put h2 hf.r using 3
    funext r d; rw [Glob.rS, Finset.sum_range_succ, if_pos hb.le, h0, Finset.range_zero, Finset.sum_empty, zero_add]

include h2 hx in
theorem rows_below_later (hb : t / 4 % 4 < t % 4) (h0 : 1 ≤ t / 4 % 4) {y7 y11 : Vec Ideal S4096x128 .f32} {z0 z1 z2} (hf : Found D t y7 y11 z0 z1 z2) :
    Rows (D.qS (t / 16 % 4)) t (putRows i y7 (Below.dqAdd x (getRows i y7))) ∧
      Rows (D.rS (t / 16 % 4)) t (putRows i y11 (Below.drAdd x (getRows i y11))) := by
  have hm := Glob.see_below hb
  subst hx
  rw [rows_get h2 h0 (hf.q (by omega)), rows_get h2 h0 (hf.r (by omega))]
  rw [Below.dqAdd_up, Below.drAdd_up, ← Tl.dq_congr _ hm, ← Tl.dr_congr _ hm]
  constructor
  · convert rows_put h2 hf.q using 3
    funext r d; rw [Glob.qS, Glob.qS, Finset.sum_range_succ, if_pos hb.le]
  · convert rows_put h2 hf.r using 3
    funext r d; rw [Glob.rS, Glob.rS, Finset.sum_range_succ, if_pos hb.le]

theorem rows_above (hb : t % 4 < t / 4 % 4) {y7 y11 : Vec Ideal S4096x128 .f32} {z0 z1 z2} (hf : Found D t y7 y11 z0 z1 z2) :
    Rows (D.qS (t / 16 % 4)) t y7 ∧ Rows (D.rS (t / 16 % 4)) t y11 := by
  constructor
  · refine rows_keep hb (fun r d => ?_) (hf.q (by omega))
    rw [Glob.qS, Glob.qS, Finset.sum_range_succ, if_neg (by omega), add_zero]
  · refine rows_keep hb (fun r d => ?_) (hf.r (by omega))
    rw [Glob.rS, Glob.rS, Finset.sum_range_succ, if_neg (by omega), add_zero]
end

end Cert.KernelIdeal.Hand
end
-- ==== Proof.Blocks.lean ====
/- The input blocks at a grid point, where the arrays hold real numbers. -/
module

public import proofs.«01_k».proof.Proof.Glob
public import Idealize.ShloMosaic.Lib.Pipeline.ValueKit

@[expose] public section

set_option maxRecDepth 16384

noncomputable section

namespace Cert.KernelIdeal.Hand

open Idealize.ShloMosaic
open Idealize.ShloMosaic.TcCoe
open Cert.KernelIdeal Cert.KernelIdeal.Gen

section
variable {F : FTy → Type} [FloatOps F] [Named F] (m : (ℓ : Loc nD τ sig) → Buf (Elt F) ℓ) (c : Dev nD)

/-- The seven blocks at a grid point. -/
def ins (t : Fin cfg0.N) : Ins F := ⟨iblk m c 0 t, iblk m c 1 t, iblk m c 2 t, iblk m c 3 t, iblk m c 4 t, iblk m c 5 t, iblk m c 6 t⟩
end

variable (m : (ℓ : Loc nD τ sig) → Buf (Elt Ideal) ℓ) (c : Dev nD)

/-- The kernel's operands hold the real numbers of D. -/
structure IsGlob (D : Glob) : Prop where
  x : ∀ (a : Fin 4096) (b : Fin 1536), (V m c main_v39 : FVec Ideal S4096x1536 .bf16) (ix2 a b) = ((D.x a.val b.val : ℝ) : EReal)
  f : ∀ (h : Fin 4) (a : Fin 2) (u : Fin 4096), (V m c main_v40 : FVec Ideal S4x2x4096 .f32) (ix3 h a u) = ((D.f h.val a.val u.val : ℝ) : EReal)
  o : ∀ (a : Fin 4096) (b : Fin 512), (V m c main_v30 : FVec Ideal S4096x512 .f32) (ix2 a b) = ((D.o a.val b.val : ℝ) : EReal)
  l : ∀ (a : Fin 4096) (b : Fin 512), (V m c main_v37 : FVec Ideal S4096x512 .f32) (ix2 a b) = ((D.l a.val b.val : ℝ) : EReal)
  g : ∀ (a : Fin 4096) (b : Fin 1024), (V m c main_arg4 : FVec Ideal S4096x1024 .f32) (ix2 a b) = ((D.g a.val b.val : ℝ) : EReal)

/-- The blocks' places. -/
theorem idx_in : ∀ t : Fin cfg0.N,
    win0_0.index t = ![max (t.val / 4 % 4) (t.val % 4), t.val / 16 % 4] ∧ win0_1.index t = ![t.val / 4 % 4, 4 + t.val / 16 % 4]
      ∧ win0_2.index t = ![t.val / 4 % 4, 8 + t.val / 16 % 4] ∧ win0_3.index t = ![t.val / 16 % 4, 0, t.val / 4 % 4]
      ∧ win0_4.index t = ![max (t.val / 4 % 4) (t.val % 4), t.val / 16 % 4] ∧ win0_5.index t = ![max (t.val / 4 % 4) (t.val % 4), t.val / 16 % 4]
      ∧ win0_6.index t = ![max (t.val / 4 % 4) (t.val % 4), t.val / 16 % 4] :=
  by decide +kernel

theorem idx_out : ∀ t : Fin cfg0.N,
    win0_7.index t = ![0, t.val / 16 % 4] ∧ win0_8.index t = ![t.val / 4 % 4, t.val / 16 % 4]
      ∧ win0_9.index t = ![t.val / 4 % 4, t.val / 16 % 4] ∧ win0_10.index t = ![t.val / 16 % 4, 0, t.val / 4 % 4]
      ∧ win0_11.index t = ![0, t.val / 16 % 4] :=
  by decide +kernel

/-- The grid point's coordinates. -/
theorem coords_val : ∀ t : Fin cfg0.N, ((grid0.coords t) 0).val = t.val / 16 % 4 ∧ ((grid0.coords t) 1).val = t.val / 4 % 4 ∧ ((grid0.coords t) 2).val = t.val % 4 :=
  by decide +kernel

theorem rd0 (A : Buf (Elt Ideal) ((c : Thread nD τ).loc main_v39)) (t : Fin cfg0.N) (r : Fin 1024) (d : Fin 128) :
    (((cfg0.win 0).blk t).view.read (Elt Ideal) A : FVec Ideal S1024x128 .bf16) (ix2 r d) = (A : FVec Ideal S4096x1536 .bf16) (ix2 ⟨1024 * (max (t.val / 4 % 4) (t.val % 4)) + r.val, by omega⟩ ⟨128 * (t.val / 16 % 4) + d.val, by omega⟩) := by
  obtain ⟨i0, i1, i2, i3, i4, i5, i6⟩ := idx_in t
  blk_ext [i0]
theorem rd1 (A : Buf (Elt Ideal) ((c : Thread nD τ).loc main_v39)) (t : Fin cfg0.N) (r : Fin 1024) (d : Fin 128) :
    (((cfg0.win 1).blk t).view.read (Elt Ideal) A : FVec Ideal S1024x128 .bf16) (ix2 r d) = (A : FVec Ideal S4096x1536 .bf16) (ix2 ⟨1024 * (t.val / 4 % 4) + r.val, by omega⟩ ⟨512 + 128 * (t.val / 16 % 4) + d.val, by omega⟩) := by
  obtain ⟨i0, i1, i2, i3, i4, i5, i6⟩ := idx_in t
  blk_ext [i1]
theorem rd2 (A : Buf (Elt Ideal) ((c : Thread nD τ).loc main_v39)) (t : Fin cfg0.N) (r : Fin 1024) (d : Fin 128) :
    (((cfg0.win 2).blk t).view.read (Elt Ideal) A : FVec Ideal S1024x128 .bf16) (ix2 r d) = (A : FVec Ideal S4096x1536 .bf16) (ix2 ⟨1024 * (t.val / 4 % 4) + r.val, by omega⟩ ⟨1024 + 128 * (t.val / 16 % 4) + d.val, by omega⟩) := by
  obtain ⟨i0, i1, i2, i3, i4, i5, i6⟩ := idx_in t
  blk_ext [i2]
theorem rd3 (A : Buf (Elt Ideal) ((c : Thread nD τ).loc main_v40)) (t : Fin cfg0.N) (a : Fin 2) (u : Fin 1024) :
    (((cfg0.win 3).blk t).view.read (Elt Ideal) A : FVec Ideal S1x2x1024 .f32) (ix3 0 a u) = (A : FVec Ideal S4x2x4096 .f32) (ix3 ⟨(t.val / 16 % 4), by omega⟩ a ⟨1024 * (t.val / 4 % 4) + u.val, by omega⟩) := by
  obtain ⟨i0, i1, i2, i3, i4, i5, i6⟩ := idx_in t
  blk_ext [i3]
theorem rd4 (A : Buf (Elt Ideal) ((c : Thread nD τ).loc main_v30)) (t : Fin cfg0.N) (r : Fin 1024) (d : Fin 128) :
    (((cfg0.win 4).blk t).view.read (Elt Ideal) A : FVec Ideal S1024x128 .f32) (ix2 r d) = (A : FVec Ideal S4096x512 .f32) (ix2 ⟨1024 * (max (t.val / 4 % 4) (t.val % 4)) + r.val, by omega⟩ ⟨128 * (t.val / 16 % 4) + d.val, by omega⟩) := by
  obtain ⟨i0, i1, i2, i3, i4, i5, i6⟩ := idx_in t
  blk_ext [i4]
theorem rd5 (A : Buf (Elt Ideal) ((c : Thread nD τ).loc main_v37)) (t : Fin cfg0.N) (r : Fin 1024) (d : Fin 128) :
    (((cfg0.win 5).blk t).view.read (Elt Ideal) A : FVec Ideal S1024x128 .f32) (ix2 r d) = (A : FVec Ideal S4096x512 .f32) (ix2 ⟨1024 * (max (t.val / 4 % 4) (t.val % 4)) + r.val, by omega⟩ ⟨128 * (t.val / 16 % 4) + d.val, by omega⟩) := by
  obtain ⟨i0, i1, i2, i3, i4, i5, i6⟩ := idx_in t
  blk_ext [i5]
theorem rd6 (A : Buf (Elt Ideal) ((c : Thread nD τ).loc main_arg4)) (t : Fin cfg0.N) (r : Fin 1024) (d : Fin 128) :
    (((cfg0.win 6).blk t).view.read (Elt Ideal) A : FVec Ideal S1024x128 .f32) (ix2 r d) = (A : FVec Ideal S4096x1024 .f32) (ix2 ⟨1024 * (max (t.val / 4 % 4) (t.val % 4)) + r.val, by omega⟩ ⟨128 * (t.val / 16 % 4) + d.val, by omega⟩) := by
  obtain ⟨i0, i1, i2, i3, i4, i5, i6⟩ := idx_in t
  blk_ext [i6]
theorem in0_up {D : Glob} (hD : IsGlob m c D) (t : Fin cfg0.N) (hle : (t.val / 4 % 4) ≤ (t.val % 4)) : (iblk m c 0 t : FVec Ideal S1024x128 .bf16) = up2 (D.tl (t.val / 16 % 4) (t.val / 4 % 4) (t.val % 4)).q := by
  unfold iblk
  refine eta2 fun r d => (rd0 c _ t r d).trans ((hD.x _ _).trans ?_)
  have e : max (t.val / 4 % 4) (t.val % 4) = (t.val % 4) := max_eq_right hle
  simp only [e]
  rfl
theorem in1_up {D : Glob} (hD : IsGlob m c D) (t : Fin cfg0.N) : (iblk m c 1 t : FVec Ideal S1024x128 .bf16) = up2 (D.tl (t.val / 16 % 4) (t.val / 4 % 4) (t.val % 4)).k := by
  unfold iblk
  refine eta2 fun r d => (rd1 c _ t r d).trans ((hD.x _ _).trans ?_)
  rfl
theorem in2_up {D : Glob} (hD : IsGlob m c D) (t : Fin cfg0.N) : (iblk m c 2 t : FVec Ideal S1024x128 .bf16) = up2 (D.tl (t.val / 16 % 4) (t.val / 4 % 4) (t.val % 4)).v := by
  unfold iblk
  refine eta2 fun r d => (rd2 c _ t r d).trans ((hD.x _ _).trans ?_)
  rfl
theorem in3_up {D : Glob} (hD : IsGlob m c D) (t : Fin cfg0.N) : (iblk m c 3 t : FVec Ideal S1x2x1024 .f32) = upF (D.tl (t.val / 16 % 4) (t.val / 4 % 4) (t.val % 4)).f := by
  unfold iblk
  exact etaF fun a u => (rd3 c _ t a u).trans (hD.f _ _ _)
theorem in4_up {D : Glob} (hD : IsGlob m c D) (t : Fin cfg0.N) (hle : (t.val / 4 % 4) ≤ (t.val % 4)) : (iblk m c 4 t : FVec Ideal S1024x128 .f32) = up2 (D.tl (t.val / 16 % 4) (t.val / 4 % 4) (t.val % 4)).o := by
  unfold iblk
  refine eta2 fun r d => (rd4 c _ t r d).trans ((hD.o _ _).trans ?_)
  have e : max (t.val / 4 % 4) (t.val % 4) = (t.val % 4) := max_eq_right hle
  simp only [e]
  rfl
theorem in5_up {D : Glob} (hD : IsGlob m c D) (t : Fin cfg0.N) (hle : (t.val / 4 % 4) ≤ (t.val % 4)) : (iblk m c 5 t : FVec Ideal S1024x128 .f32) = up2 (D.tl (t.val / 16 % 4) (t.val / 4 % 4) (t.val % 4)).l := by
  unfold iblk
  refine eta2 fun r d => (rd5 c _ t r d).trans ((hD.l _ _).trans ?_)
  have e : max (t.val / 4 % 4) (t.val % 4) = (t.val % 4) := max_eq_right hle
  simp only [e]
  rfl
theorem in6_up {D : Glob} (hD : IsGlob m c D) (t : Fin cfg0.N) (hle : (t.val / 4 % 4) ≤ (t.val % 4)) : (iblk m c 6 t : FVec Ideal S1024x128 .f32) = up2 (D.tl (t.val / 16 % 4) (t.val / 4 % 4) (t.val % 4)).g := by
  unfold iblk
  refine eta2 fun r d => (rd6 c _ t r d).trans ((hD.g _ _).trans ?_)
  have e : max (t.val / 4 % 4) (t.val % 4) = (t.val % 4) := max_eq_right hle
  simp only [e]
  rfl

theorem ins_up {D : Glob} (hD : IsGlob m c D) (t : Fin cfg0.N) (hle : (t.val / 4 % 4) ≤ (t.val % 4)) :
    ins m c t = (D.tl (t.val / 16 % 4) (t.val / 4 % 4) (t.val % 4)).up := by
  unfold ins Tl.up
  rw [in0_up m c hD t hle, in1_up m c hD t, in2_up m c hD t, in3_up m c hD t, in4_up m c hD t hle, in5_up m c hD t hle, in6_up m c hD t hle]

end Cert.KernelIdeal.Hand
end
-- ==== Proof.ReadKit.lean ====
/- Reading back the stores of the gradient kernel's body: the rows of a column replaced, two heads' rows side by side. -/
module

public import proofs.«01_k».proof.Proof.Words
public import Idealize.ShloMosaic.Lib.WholeRead
public import Idealize.ShloMosaic.Lib.WritesUnit
public import Idealize.ShloMosaic.Lib.Pipeline.ValueKit.Acc
public import Idealize.ShloMosaic.Lib.Pipeline.ReadBack

@[expose] public section

set_option maxRecDepth 16384

noncomputable section

namespace Cert.KernelIdeal.Hand

open Idealize.ShloMosaic
open Cert.KernelIdeal Cert.KernelIdeal.Gen

variable {F : FTy → Type} [FloatOps F] [Named F]

/-- The row offset of the block's rows in a column of a result. -/
theorem off_eq (n : ℕ) (hn : n < 4) :
    (Scalar.indexCast (Scalar.muli (BitVec.ofNat 32 n) 1024#32)).toNat = 1024 * n := by
  interval_cases n <;> rfl

theorem off1_eq (i : grid0.Coords) : k0_off1 i = ![1024 * (i 2).val, 0] := by
  have h := off_eq (i 2).val (i 2).isLt
  funext a
  fin_cases a
  · exact h
  · rfl
theorem off2_eq (i : grid0.Coords) : k0_off2 i = ![1024 * (i 2).val, 0] := off1_eq i
theorem off3_eq (i : grid0.Coords) : k0_off3 i = ![1024 * (i 2).val, 0] := off1_eq i
theorem off4_eq (i : grid0.Coords) : k0_off4 i = ![1024 * (i 2).val, 0] := off1_eq i

/-- A store of the block's rows replaces them. -/
theorem read_putRows (i : grid0.Coords) {m : Memref sig .tc .vmem S4096x128 .f32} (h : m.IsWhole) {off : Fin 2 → ℕ}
    (inb : ∀ a, off a + (![1024, 128] : Fin 2 → ℕ) a ≤ S4096x128.size a) (y : Vec F S4096x128 .f32)
    (w : Vec F S1024x128 .f32) (ho : off = ![1024 * (i 2).val, 0]) :
    View.read (Elt F) m.view (m.view.writes (Elt F) (h.unread y)
      [⟨Rect.unit (s := S4096x128) off ![1024, 128] inb, w⟩]) = putRows i y w := by
  funext x
  refine (View.read_writes_cons_rows (d := ![4096, 128]) m.view (h.unread y) (size := ![1024, 128]) (W := 1024) inb w [] x ho rfl rfl).trans ?_
  unfold putRows
  split
  · refine congrArg w (funext fun a => ?_)
    fin_cases a
    · rfl
    · rfl
  · exact congrFun (h.read_unread y) x

/-- A load of the block's rows. -/
theorem ld_getRows (i : grid0.Coords) {off : Fin 2 → ℕ}
    (inb : ∀ a, off a + (![1024, 128] : Fin 2 → ℕ) a ≤ S4096x128.size a) (y : Vec F S4096x128 .f32)
    (ho : off = ![1024 * (i 2).val, 0]) :
    View.ld y (Rect.unit (s := S4096x128) off ![1024, 128] inb) = getRows i y := by
  subst ho
  funext x
  refine congrArg y (funext fun a => Fin.ext ?_)
  fin_cases a
  · show 1024 * (i 2).val + 1 * (x 0).val = 1024 * (i 2).val + (x 0).val
    omega
  · show 0 + 1 * (x 1).val = (x 1).val
    omega

/-- The two heads' rows, stored one after the other, side by side. -/
theorem read_stack (v : View sig .tc .vmem S2x1x1024 .f32) (f : v.ty.Contents (Elt F)) (a b : Vec F S1x1x1024 .f32)
    (L : List (View.Piece (Elt F) S2x1x1024 .f32)) :
    View.read (Elt F) v (v.writes (Elt F) f
      (⟨Rect.unit ![1, 0, 0] ![1, 1, 1024] inb_S2x1x1024_S1x1x1024_1_0_0, b⟩
        :: ⟨Rect.unit ![0, 0, 0] ![1, 1, 1024] inb_S2x1x1024_S1x1x1024_0_0_0, a⟩ :: L)) = stack a b := by
  funext y
  idx_vars y
  obtain rfl : y1 = 0 := Subsingleton.elim _ _
  by_cases h : y0.val = 0
  · obtain rfl : y0 = 0 := Fin.ext h
    refine (View.read_writes_cons_unit_of_not_mem v f inb_S2x1x1024_S1x1x1024_1_0_0 b _ (ix3 0 0 y2) rfl (0 : Fin 3) (Or.inl Nat.zero_lt_one)).trans ?_
    refine (View.read_writes_cons_unit_of_mem v f inb_S2x1x1024_S1x1x1024_0_0_0 a L (ix3 0 0 y2) (ix3 0 0 y2) rfl fun a => ?_).trans ?_
    · exact (Nat.zero_add _).symm.trans (by fin_cases a <;> rfl)
    · rfl
  · obtain rfl : y0 = 1 := Fin.ext (by have := y0.isLt; show y0.val = 1; omega)
    refine (View.read_writes_cons_unit_of_mem v f inb_S2x1x1024_S1x1x1024_1_0_0 b _ (ix3 1 0 y2) (ix3 0 0 y2) rfl fun a => ?_).trans ?_
    · fin_cases a
      · rfl
      · rfl
      · exact (Nat.zero_add _).symm
    · rfl

/-- The two heads' rows, stored one after the other, side by side in a block of the result. -/
theorem read_pairRows (v : View sig .tc .vmem S1x2x1024 .f32) (f : v.ty.Contents (Elt F)) (a b : Vec F S1x1x1024 .f32)
    (L : List (View.Piece (Elt F) S1x2x1024 .f32)) :
    View.read (Elt F) v (v.writes (Elt F) f
      (⟨Rect.unit ![0, 1, 0] ![1, 1, 1024] inb_S1x2x1024_S1x1x1024_0_1_0, b⟩
        :: ⟨Rect.unit ![0, 0, 0] ![1, 1, 1024] inb_S1x2x1024_S1x1x1024_0_0_0, a⟩ :: L)) = pairRows a b := by
  funext y
  idx_vars y
  obtain rfl : y0 = 0 := Subsingleton.elim _ _
  by_cases h : y1.val = 0
  · obtain rfl : y1 = 0 := Fin.ext h
    refine (View.read_writes_cons_unit_of_not_mem v f inb_S1x2x1024_S1x1x1024_0_1_0 b _ (ix3 0 0 y2) rfl (1 : Fin 3) (Or.inl Nat.zero_lt_one)).trans ?_
    refine (View.read_writes_cons_unit_of_mem v f inb_S1x2x1024_S1x1x1024_0_0_0 a L (ix3 0 0 y2) (ix3 0 0 y2) rfl fun a => ?_).trans ?_
    · exact (Nat.zero_add _).symm.trans (by fin_cases a <;> rfl)
    · rfl
  · obtain rfl : y1 = 1 := Fin.ext (by have := y1.isLt; show y1.val = 1; omega)
    refine (View.read_writes_cons_unit_of_mem v f inb_S1x2x1024_S1x1x1024_0_1_0 b _ (ix3 0 1 y2) (ix3 0 0 y2) rfl fun a => ?_).trans ?_
    · fin_cases a
      · rfl
      · rfl
      · exact (Nat.zero_add _).symm
    · rfl

/-- A load of the first head's row after both rows were stored. -/
theorem cov_stack0 (v : View sig .tc .vmem S2x1x1024 .f32) (a b : Vec F S1x1x1024 .f32)
    (L : List (View.Piece (Elt F) S2x1x1024 .f32)) :
    v.readCov (⟨Rect.unit ![1, 0, 0] ![1, 1, 1024] inb_S2x1x1024_S1x1x1024_1_0_0, b⟩
        :: ⟨Rect.unit ![0, 0, 0] ![1, 1, 1024] inb_S2x1x1024_S1x1x1024_0_0_0, a⟩ :: L)
      (Rect.unit ![0, 0, 0] ![1, 1, 1024] inb_S2x1x1024_S1x1x1024_0_0_0).toLoadRect = srow (stack a b) 0 := by
  funext x
  exact congrFun (read_stack v v.junk a b L) _

/-- A load of the second head's row after both rows were stored. -/
theorem cov_stack1 (v : View sig .tc .vmem S2x1x1024 .f32) (a b : Vec F S1x1x1024 .f32)
    (L : List (View.Piece (Elt F) S2x1x1024 .f32)) :
    v.readCov (⟨Rect.unit ![1, 0, 0] ![1, 1, 1024] inb_S2x1x1024_S1x1x1024_1_0_0, b⟩
        :: ⟨Rect.unit ![0, 0, 0] ![1, 1, 1024] inb_S2x1x1024_S1x1x1024_0_0_0, a⟩ :: L)
      (Rect.unit ![1, 0, 0] ![1, 1, 1024] inb_S2x1x1024_S1x1x1024_1_0_0).toLoadRect = srow (stack a b) 1 := by
  funext x
  exact congrFun (read_stack v v.junk a b L) _

end Cert.KernelIdeal.Hand
end
-- ==== Proof.Run.A.lean ====
/- The body of the gradient kernel run at one kind of grid point: the diagonal tile of the first column of tiles.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At the diagonal tile of the first column of tiles: from any named contents, the body runs and leaves the inputs as they were and
    the outputs and the scratch at `O`. -/
def runA (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : cond0 i) (hc1 : ¬cond1 i) (hc2 : cond2 i) (hc3 : cond3 i) (hc4 : ¬cond4 i) (hc5 : ¬cond5 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc3 | sl_exact hc4 | sl_exact hc5)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.A.lean ====
/- What the body leaves at the diagonal tile of the first column, in named words. -/
module

public import proofs.«01_k».proof.Proof.ReadKit
public import proofs.«01_k».proof.Proof.Run.A

@[expose] public section

set_option maxRecDepth 16384

noncomputable section

namespace Cert.KernelIdeal.Hand

open Idealize.ShloMosaic
open Cert.KernelIdeal Cert.KernelIdeal.Gen

variable {F : FTy → Type} [FloatOps F] [Named F]

theorem dq_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dq = putRows i y7 (Diag.dq i ⟨x0, x1, x2, x3, x4, x5, x6⟩) := by
  unfold runA
  dsimp only
  refine (read_putRows i h10 _ y7 _ (off3_eq i)).trans ?_
  refine congrArg (putRows i _) ?_
  frame_out [Memref.IsWhole.read_unread, ↓View.readCov_skip, ↓cov_stack0, ↓cov_stack1, ↓View.readCov_fill]
  rfl

theorem dk_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dk = y8 := by
  unfold runA
  dsimp only
  exact h11.read_unread _

theorem dv_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dv = y9 := by
  unfold runA
  dsimp only
  exact h12.read_unread _

theorem df_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.df = y10 := by
  unfold runA
  dsimp only
  exact h13.read_unread _

theorem dr_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dr = putRows i y11 (Diag.dr i ⟨x0, x1, x2, x3, x4, x5, x6⟩) := by
  unfold runA
  dsimp only
  refine (read_putRows i h14 _ y11 _ (off3_eq i)).trans ?_
  refine congrArg (putRows i _) ?_
  frame_out [Memref.IsWhole.read_unread, ↓View.readCov_skip, ↓cov_stack0, ↓cov_stack1, ↓View.readCov_fill]
  rfl

theorem sk_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sk = Diag.dk i ⟨x0, x1, x2, x3, x4, x5, x6⟩ k0_pay1 := by
  unfold runA
  dsimp only
  refine (View.read_writes_full _ _ _ _ _).trans ?_
  frame_out [Memref.IsWhole.read_unread, ↓View.readCov_skip, ↓cov_stack0, ↓cov_stack1, ↓View.readCov_fill]
  rfl

theorem sv_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sv = Diag.dv i ⟨x0, x1, x2, x3, x4, x5, x6⟩ k0_pay2 := by
  unfold runA
  dsimp only
  refine (View.read_writes_full _ _ _ _ _).trans ?_
  frame_out [Memref.IsWhole.read_unread, ↓View.readCov_skip, ↓cov_stack0, ↓cov_stack1, ↓View.readCov_fill]
  rfl

theorem sf_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sf = Diag.df i ⟨x0, x1, x2, x3, x4, x5, x6⟩ k0_pay3 := by
  unfold runA
  dsimp only
  refine (read_stack _ _ _ _ _).trans ?_
  frame_out [Memref.IsWhole.read_unread, ↓View.readCov_skip, ↓cov_stack0, ↓cov_stack1, ↓View.readCov_fill]
  rfl

/-- What the body leaves at the diagonal tile of the first column. -/
theorem left_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runA (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1 = ⟨putRows i y7 (Diag.dq i ⟨x0, x1, x2, x3, x4, x5, x6⟩), y8, y9, y10, putRows i y11 (Diag.dr i ⟨x0, x1, x2, x3, x4, x5, x6⟩), Diag.dk i ⟨x0, x1, x2, x3, x4, x5, x6⟩ k0_pay1, Diag.dv i ⟨x0, x1, x2, x3, x4, x5, x6⟩ k0_pay2, Diag.df i ⟨x0, x1, x2, x3, x4, x5, x6⟩ k0_pay3⟩ :=
  (Left.mk.injEq ..).mpr ⟨dq_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dk_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dv_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, df_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dr_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sk_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sv_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sf_A c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2⟩

end Cert.KernelIdeal.Hand
end
-- ==== Proof.Run.B.lean ====
/- The body of the gradient kernel run at one kind of grid point: a tile below the diagonal in the first column, not the last row.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At a tile below the diagonal in the first column, not the last row: from any named contents, the body runs and leaves the inputs as they were and
    the outputs and the scratch at `O`. -/
def runB (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : ¬cond0 i) (hc1 : cond1 i) (hc2 : ¬cond2 i) (hc5 : ¬cond5 i) (hc6 : cond6 i) (hc7 : ¬cond7 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc5 | sl_exact hc6 | sl_exact hc7)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.B.lean ====
/- What the body leaves at a tile below the diagonal in the first column, not the last row, in named words. -/
module

public import proofs.«01_k».proof.Proof.ReadKit
public import proofs.«01_k».proof.Proof.Run.B

@[expose] public section

set_option maxRecDepth 16384

noncomputable section

namespace Cert.KernelIdeal.Hand

open Idealize.ShloMosaic
open Cert.KernelIdeal Cert.KernelIdeal.Gen

variable {F : FTy → Type} [FloatOps F] [Named F]

theorem dq_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dq = putRows i y7 (Below.dq ⟨x0, x1, x2, x3, x4, x5, x6⟩) := by
  unfold runB
  dsimp only
  refine (read_putRows i h10 _ y7 _ (off1_eq i)).trans ?_
  refine congrArg (putRows i _) ?_
  frame_out [Memref.IsWhole.read_unread, ↓View.readCov_skip, ↓cov_stack0, ↓cov_stack1, ↓View.readCov_fill]
  rfl

theorem dk_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dk = y8 := by
  unfold runB
  dsimp only
  exact h11.read_unread _

theorem dv_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dv = y9 := by
  unfold runB
  dsimp only
  exact h12.read_unread _

theorem df_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.df = y10 := by
  unfold runB
  dsimp only
  exact h13.read_unread _

theorem dr_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dr = putRows i y11 (Below.dr ⟨x0, x1, x2, x3, x4, x5, x6⟩) := by
  unfold runB
  dsimp only
  refine (read_putRows i h14 _ y11 _ (off1_eq i)).trans ?_
  refine congrArg (putRows i _) ?_
  frame_out [Memref.IsWhole.read_unread, ↓View.readCov_skip, ↓cov_stack0, ↓cov_stack1, ↓View.readCov_fill]
  rfl

theorem sk_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sk = Below.dk ⟨x0, x1, x2, x3, x4, x5, x6⟩ z0 := by
  unfold runB
  dsimp only
  refine (View.read_writes_full _ _ _ _ _).trans ?_
  frame_out [Memref.IsWhole.read_unread, ↓View.readCov_skip, ↓cov_stack0, ↓cov_stack1, ↓View.readCov_fill]
  rfl

theorem sv_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sv = Below.dv ⟨x0, x1, x2, x3, x4, x5, x6⟩ z1 := by
  unfold runB
  dsimp only
  refine (View.read_writes_full _ _ _ _ _).trans ?_
  frame_out [Memref.IsWhole.read_unread, ↓View.readCov_skip, ↓cov_stack0, ↓cov_stack1, ↓View.readCov_fill]
  rfl

theorem sf_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sf = Below.df ⟨x0, x1, x2, x3, x4, x5, x6⟩ z2 := by
  unfold runB
  dsimp only
  refine (read_stack _ _ _ _ _).trans ?_
  frame_out [Memref.IsWhole.read_unread, ↓View.readCov_skip, ↓cov_stack0, ↓cov_stack1, ↓View.readCov_fill]
  rfl

/-- What the body leaves at a tile below the diagonal in the first column, not the last row. -/
theorem left_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runB (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1 = ⟨putRows i y7 (Below.dq ⟨x0, x1, x2, x3, x4, x5, x6⟩), y8, y9, y10, putRows i y11 (Below.dr ⟨x0, x1, x2, x3, x4, x5, x6⟩), Below.dk ⟨x0, x1, x2, x3, x4, x5, x6⟩ z0, Below.dv ⟨x0, x1, x2, x3, x4, x5, x6⟩ z1, Below.df ⟨x0, x1, x2, x3, x4, x5, x6⟩ z2⟩ :=
  (Left.mk.injEq ..).mpr ⟨dq_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dk_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dv_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, df_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dr_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sk_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sv_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sf_B c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2⟩

end Cert.KernelIdeal.Hand
end
-- ==== Proof.Run.C.lean ====
/- The body of the gradient kernel run at one kind of grid point: the last row's tile in the first column.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At the last row's tile in the first column: from any named contents, the body runs and leaves the inputs as they were and
    the outputs and the scratch at `O`. -/
def runC (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : ¬cond0 i) (hc1 : cond1 i) (hc2 : ¬cond2 i) (hc5 : cond5 i) (hc6 : cond6 i) (hc7 : ¬cond7 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc5 | sl_exact hc6 | sl_exact hc7)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.C.lean ====
/- What the body leaves at the last row of the first column, in named words. -/
module

public import proofs.«01_k».proof.Proof.ReadKit
public import proofs.«01_k».proof.Proof.Run.C

@[expose] public section

set_option maxRecDepth 16384

noncomputable section

namespace Cert.KernelIdeal.Hand

open Idealize.ShloMosaic
open Cert.KernelIdeal Cert.KernelIdeal.Gen

variable {F : FTy → Type} [FloatOps F] [Named F]

theorem dq_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dq = putRows i y7 (Below.dq ⟨x0, x1, x2, x3, x4, x5, x6⟩) := by
  unfold runC
  dsimp only
  refine (read_putRows i h10 _ y7 _ (off1_eq i)).trans ?_
  refine congrArg (putRows i _) ?_
  frame_out [Memref.IsWhole.read_unread, ↓View.readCov_skip, ↓cov_stack0, ↓cov_stack1, ↓View.readCov_fill]
  rfl

theorem dk_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dk = flipK (Below.dk ⟨x0, x1, x2, x3, x4, x5, x6⟩ z0) := by
  unfold runC
  dsimp only
  refine (View.read_writes_full _ _ _ _ _).trans ?_
  frame_out [Memref.IsWhole.read_unread, ↓View.readCov_skip, ↓cov_stack0, ↓cov_stack1, ↓View.readCov_fill]
  rfl

theorem dv_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dv = flipV (Below.dv ⟨x0, x1, x2, x3, x4, x5, x6⟩ z1) := by
  unfold runC
  dsimp only
  refine (View.read_writes_full _ _ _ _ _).trans ?_
  frame_out [Memref.IsWhole.read_unread, ↓View.readCov_skip, ↓cov_stack0, ↓cov_stack1, ↓View.readCov_fill]
  rfl

theorem df_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.df = flipF (Below.df ⟨x0, x1, x2, x3, x4, x5, x6⟩ z2) := by
  unfold runC
  dsimp only
  refine (read_pairRows _ _ _ _ _).trans ?_
  frame_out [Memref.IsWhole.read_unread, cov_stack0, cov_stack1]
  rfl

theorem dr_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dr = putRows i y11 (Below.dr ⟨x0, x1, x2, x3, x4, x5, x6⟩) := by
  unfold runC
  dsimp only
  refine (read_putRows i h14 _ y11 _ (off1_eq i)).trans ?_
  refine congrArg (putRows i _) ?_
  frame_out [Memref.IsWhole.read_unread, ↓View.readCov_skip, ↓cov_stack0, ↓cov_stack1, ↓View.readCov_fill]
  rfl

theorem sk_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sk = Below.dk ⟨x0, x1, x2, x3, x4, x5, x6⟩ z0 := by
  unfold runC
  dsimp only
  refine (View.read_writes_full _ _ _ _ _).trans ?_
  frame_out [Memref.IsWhole.read_unread, ↓View.readCov_skip, ↓cov_stack0, ↓cov_stack1, ↓View.readCov_fill]
  rfl

theorem sv_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sv = Below.dv ⟨x0, x1, x2, x3, x4, x5, x6⟩ z1 := by
  unfold runC
  dsimp only
  refine (View.read_writes_full _ _ _ _ _).trans ?_
  frame_out [Memref.IsWhole.read_unread, ↓View.readCov_skip, ↓cov_stack0, ↓cov_stack1, ↓View.readCov_fill]
  rfl

theorem sf_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sf = Below.df ⟨x0, x1, x2, x3, x4, x5, x6⟩ z2 := by
  unfold runC
  dsimp only
  refine (read_stack _ _ _ _ _).trans ?_
  frame_out [Memref.IsWhole.read_unread, ↓View.readCov_skip, ↓cov_stack0, ↓cov_stack1, ↓View.readCov_fill]
  rfl

/-- What the body leaves at the last row of the first column. -/
theorem left_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runC (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1 = ⟨putRows i y7 (Below.dq ⟨x0, x1, x2, x3, x4, x5, x6⟩), flipK (Below.dk ⟨x0, x1, x2, x3, x4, x5, x6⟩ z0), flipV (Below.dv ⟨x0, x1, x2, x3, x4, x5, x6⟩ z1), flipF (Below.df ⟨x0, x1, x2, x3, x4, x5, x6⟩ z2), putRows i y11 (Below.dr ⟨x0, x1, x2, x3, x4, x5, x6⟩), Below.dk ⟨x0, x1, x2, x3, x4, x5, x6⟩ z0, Below.dv ⟨x0, x1, x2, x3, x4, x5, x6⟩ z1, Below.df ⟨x0, x1, x2, x3, x4, x5, x6⟩ z2⟩ :=
  (Left.mk.injEq ..).mpr ⟨dq_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dk_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dv_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, df_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dr_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sk_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sv_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sf_C c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2⟩

end Cert.KernelIdeal.Hand
end
-- ==== Proof.Run.D.lean ====
/- The body of the gradient kernel run at one kind of grid point: a tile above the diagonal: nothing runs.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At a tile above the diagonal: nothing runs: from any named contents, the body runs and leaves the inputs as they were and
    the outputs and the scratch at `O`. -/
def runD (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : ¬cond0 i) (hc1 : ¬cond1 i) (hc2 : ¬cond2 i) (hc5 : ¬cond5 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc5)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.D.lean ====
/- What the body leaves at a tile above the diagonal, in named words. -/
module

public import proofs.«01_k».proof.Proof.ReadKit
public import proofs.«01_k».proof.Proof.Run.D

@[expose] public section

set_option maxRecDepth 16384

noncomputable section

namespace Cert.KernelIdeal.Hand

open Idealize.ShloMosaic
open Cert.KernelIdeal Cert.KernelIdeal.Gen

variable {F : FTy → Type} [FloatOps F] [Named F]

theorem dq_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.dq = y7 := by
  unfold runD
  dsimp only
  exact h10.read_unread _

theorem dk_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.dk = y8 := by
  unfold runD
  dsimp only
  exact h11.read_unread _

theorem dv_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.dv = y9 := by
  unfold runD
  dsimp only
  exact h12.read_unread _

theorem df_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.df = y10 := by
  unfold runD
  dsimp only
  exact h13.read_unread _

theorem dr_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.dr = y11 := by
  unfold runD
  dsimp only
  exact h14.read_unread _

theorem sk_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.sk = z0 := by
  unfold runD
  dsimp only
  exact h15.read_unread _

theorem sv_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.sv = z1 := by
  unfold runD
  dsimp only
  exact h16.read_unread _

theorem sf_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1.sf = z2 := by
  unfold runD
  dsimp only
  exact h17.read_unread _

/-- What the body leaves at a tile above the diagonal. -/
theorem left_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2 :
    (runD (F := F) c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2).1 = ⟨y7, y8, y9, y10, y11, z0, z1, z2⟩ :=
  (Left.mk.injEq ..).mpr ⟨dq_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, dk_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, dv_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, df_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, dr_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, sk_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, sv_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2, sf_D c i a3 h3 a4 h4 a5 h5 a6 h6 a7 h7 a8 h8 a9 h9 a10 h10 a11 h11 a12 h12 a13 h13 a14 h14 a15 h15 a16 h16 a17 h17 c0 c1 c2 c5 x0 x1 x2 x3 x4 x5 x6 y7 y8 y9 y10 y11 z0 z1 z2⟩

end Cert.KernelIdeal.Hand
end
-- ==== Proof.Run.E.lean ====
/- The body of the gradient kernel run at one kind of grid point: a diagonal tile of a later column, not the last row.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At a diagonal tile of a later column, not the last row: from any named contents, the body runs and leaves the inputs as they were and
    the outputs and the scratch at `O`. -/
def runE (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : cond0 i) (hc1 : ¬cond1 i) (hc2 : cond2 i) (hc3 : ¬cond3 i) (hc4 : cond4 i) (hc5 : ¬cond5 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc3 | sl_exact hc4 | sl_exact hc5)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.E.lean ====
/- What the body leaves at a diagonal tile of a later column, not the last row, in named words. -/
module

public import proofs.«01_k».proof.Proof.ReadKit
public import proofs.«01_k».proof.Proof.Run.E

@[expose] public section

set_option maxRecDepth 16384

noncomputable section

namespace Cert.KernelIdeal.Hand

open Idealize.ShloMosaic
open Cert.KernelIdeal Cert.KernelIdeal.Gen

variable {F : FTy → Type} [FloatOps F] [Named F]

theorem dq_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dq = putRows i y7 (Diag.dqAdd i ⟨x0, x1, x2, x3, x4, x5, x6⟩ (getRows i y7)) := by
  unfold runE
  dsimp only
  refine (read_putRows i h10 _ y7 _ (off4_eq i)).trans ?_
  refine congrArg (putRows i _) ?_
  frame_out [Memref.IsWhole.read_unread, ↓View.readCov_skip, ↓cov_stack0, ↓cov_stack1, ↓View.readCov_fill]
  rw [ld_getRows i _ _ (off4_eq i)]
  rfl

theorem dk_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dk = y8 := by
  unfold runE
  dsimp only
  exact h11.read_unread _

theorem dv_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dv = y9 := by
  unfold runE
  dsimp only
  exact h12.read_unread _

theorem df_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.df = y10 := by
  unfold runE
  dsimp only
  exact h13.read_unread _

theorem dr_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dr = putRows i y11 (Diag.drAdd i ⟨x0, x1, x2, x3, x4, x5, x6⟩ (getRows i y11)) := by
  unfold runE
  dsimp only
  refine (read_putRows i h14 _ y11 _ (off4_eq i)).trans ?_
  refine congrArg (putRows i _) ?_
  frame_out [Memref.IsWhole.read_unread, ↓View.readCov_skip, ↓cov_stack0, ↓cov_stack1, ↓View.readCov_fill]
  rw [ld_getRows i _ _ (off4_eq i)]
  rfl

theorem sk_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sk = Diag.dk i ⟨x0, x1, x2, x3, x4, x5, x6⟩ k0_pay1 := by
  unfold runE
  dsimp only
  refine (View.read_writes_full _ _ _ _ _).trans ?_
  frame_out [Memref.IsWhole.read_unread, ↓View.readCov_skip, ↓cov_stack0, ↓cov_stack1, ↓View.readCov_fill]
  rfl

theorem sv_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sv = Diag.dv i ⟨x0, x1, x2, x3, x4, x5, x6⟩ k0_pay2 := by
  unfold runE
  dsimp only
  refine (View.read_writes_full _ _ _ _ _).trans ?_
  frame_out [Memref.IsWhole.read_unread, ↓View.readCov_skip, ↓cov_stack0, ↓cov_stack1, ↓View.readCov_fill]
  rfl

theorem sf_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sf = Diag.df i ⟨x0, x1, x2, x3, x4, x5, x6⟩ k0_pay3 := by
  unfold runE
  dsimp only
  refine (read_stack _ _ _ _ _).trans ?_
  frame_out [Memref.IsWhole.read_unread, ↓View.readCov_skip, ↓cov_stack0, ↓cov_stack1, ↓View.readCov_fill]
  rfl

/-- What the body leaves at a diagonal tile of a later column, not the last row. -/
theorem left_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runE (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1 = ⟨putRows i y7 (Diag.dqAdd i ⟨x0, x1, x2, x3, x4, x5, x6⟩ (getRows i y7)), y8, y9, y10, putRows i y11 (Diag.drAdd i ⟨x0, x1, x2, x3, x4, x5, x6⟩ (getRows i y11)), Diag.dk i ⟨x0, x1, x2, x3, x4, x5, x6⟩ k0_pay1, Diag.dv i ⟨x0, x1, x2, x3, x4, x5, x6⟩ k0_pay2, Diag.df i ⟨x0, x1, x2, x3, x4, x5, x6⟩ k0_pay3⟩ :=
  (Left.mk.injEq ..).mpr ⟨dq_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dk_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dv_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, df_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dr_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sk_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sv_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sf_E c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2⟩

end Cert.KernelIdeal.Hand
end
-- ==== Proof.Run.F.lean ====
/- The body of the gradient kernel run at one kind of grid point: a tile below the diagonal in a later column, not the last row.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At a tile below the diagonal in a later column, not the last row: from any named contents, the body runs and leaves the inputs as they were and
    the outputs and the scratch at `O`. -/
def runF (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : ¬cond0 i) (hc1 : cond1 i) (hc2 : ¬cond2 i) (hc5 : ¬cond5 i) (hc6 : ¬cond6 i) (hc7 : cond7 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc5 | sl_exact hc6 | sl_exact hc7)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.F.lean ====
/- What the body leaves at a tile below the diagonal in a later column, not the last row, in named words. -/
module

public import proofs.«01_k».proof.Proof.ReadKit
public import proofs.«01_k».proof.Proof.Run.F

@[expose] public section

set_option maxRecDepth 16384

noncomputable section

namespace Cert.KernelIdeal.Hand

open Idealize.ShloMosaic
open Cert.KernelIdeal Cert.KernelIdeal.Gen

variable {F : FTy → Type} [FloatOps F] [Named F]

theorem dq_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dq = putRows i y7 (Below.dqAdd ⟨x0, x1, x2, x3, x4, x5, x6⟩ (getRows i y7)) := by
  unfold runF
  dsimp only
  refine (read_putRows i h10 _ y7 _ (off2_eq i)).trans ?_
  refine congrArg (putRows i _) ?_
  frame_out [Memref.IsWhole.read_unread, ↓View.readCov_skip, ↓cov_stack0, ↓cov_stack1, ↓View.readCov_fill]
  rw [ld_getRows i _ _ (off2_eq i)]
  rfl

theorem dk_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dk = y8 := by
  unfold runF
  dsimp only
  exact h11.read_unread _

theorem dv_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dv = y9 := by
  unfold runF
  dsimp only
  exact h12.read_unread _

theorem df_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.df = y10 := by
  unfold runF
  dsimp only
  exact h13.read_unread _

theorem dr_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dr = putRows i y11 (Below.drAdd ⟨x0, x1, x2, x3, x4, x5, x6⟩ (getRows i y11)) := by
  unfold runF
  dsimp only
  refine (read_putRows i h14 _ y11 _ (off2_eq i)).trans ?_
  refine congrArg (putRows i _) ?_
  frame_out [Memref.IsWhole.read_unread, ↓View.readCov_skip, ↓cov_stack0, ↓cov_stack1, ↓View.readCov_fill]
  rw [ld_getRows i _ _ (off2_eq i)]
  rfl

theorem sk_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sk = Below.dk ⟨x0, x1, x2, x3, x4, x5, x6⟩ z0 := by
  unfold runF
  dsimp only
  refine (View.read_writes_full _ _ _ _ _).trans ?_
  frame_out [Memref.IsWhole.read_unread, ↓View.readCov_skip, ↓cov_stack0, ↓cov_stack1, ↓View.readCov_fill]
  rfl

theorem sv_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sv = Below.dv ⟨x0, x1, x2, x3, x4, x5, x6⟩ z1 := by
  unfold runF
  dsimp only
  refine (View.read_writes_full _ _ _ _ _).trans ?_
  frame_out [Memref.IsWhole.read_unread, ↓View.readCov_skip, ↓cov_stack0, ↓cov_stack1, ↓View.readCov_fill]
  rfl

theorem sf_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sf = Below.df ⟨x0, x1, x2, x3, x4, x5, x6⟩ z2 := by
  unfold runF
  dsimp only
  refine (read_stack _ _ _ _ _).trans ?_
  frame_out [Memref.IsWhole.read_unread, ↓View.readCov_skip, ↓cov_stack0, ↓cov_stack1, ↓View.readCov_fill]
  rfl

/-- What the body leaves at a tile below the diagonal in a later column, not the last row. -/
theorem left_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runF (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1 = ⟨putRows i y7 (Below.dqAdd ⟨x0, x1, x2, x3, x4, x5, x6⟩ (getRows i y7)), y8, y9, y10, putRows i y11 (Below.drAdd ⟨x0, x1, x2, x3, x4, x5, x6⟩ (getRows i y11)), Below.dk ⟨x0, x1, x2, x3, x4, x5, x6⟩ z0, Below.dv ⟨x0, x1, x2, x3, x4, x5, x6⟩ z1, Below.df ⟨x0, x1, x2, x3, x4, x5, x6⟩ z2⟩ :=
  (Left.mk.injEq ..).mpr ⟨dq_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dk_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dv_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, df_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dr_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sk_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sv_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sf_F c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2⟩

end Cert.KernelIdeal.Hand
end
-- ==== Proof.Run.G.lean ====
/- The body of the gradient kernel run at one kind of grid point: the last row's tile in a later column.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At the last row's tile in a later column: from any named contents, the body runs and leaves the inputs as they were and
    the outputs and the scratch at `O`. -/
def runG (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : ¬cond0 i) (hc1 : cond1 i) (hc2 : ¬cond2 i) (hc5 : cond5 i) (hc6 : ¬cond6 i) (hc7 : cond7 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc5 | sl_exact hc6 | sl_exact hc7)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.G.lean ====
/- What the body leaves at the last row of a later column, below the diagonal, in named words. -/
module

public import proofs.«01_k».proof.Proof.ReadKit
public import proofs.«01_k».proof.Proof.Run.G

@[expose] public section

set_option maxRecDepth 16384

noncomputable section

namespace Cert.KernelIdeal.Hand

open Idealize.ShloMosaic
open Cert.KernelIdeal Cert.KernelIdeal.Gen

variable {F : FTy → Type} [FloatOps F] [Named F]

theorem dq_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dq = putRows i y7 (Below.dqAdd ⟨x0, x1, x2, x3, x4, x5, x6⟩ (getRows i y7)) := by
  unfold runG
  dsimp only
  refine (read_putRows i h10 _ y7 _ (off2_eq i)).trans ?_
  refine congrArg (putRows i _) ?_
  frame_out [Memref.IsWhole.read_unread, ↓View.readCov_skip, ↓cov_stack0, ↓cov_stack1, ↓View.readCov_fill]
  rw [ld_getRows i _ _ (off2_eq i)]
  rfl

theorem dk_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dk = flipK (Below.dk ⟨x0, x1, x2, x3, x4, x5, x6⟩ z0) := by
  unfold runG
  dsimp only
  refine (View.read_writes_full _ _ _ _ _).trans ?_
  frame_out [Memref.IsWhole.read_unread, ↓View.readCov_skip, ↓cov_stack0, ↓cov_stack1, ↓View.readCov_fill]
  rfl

theorem dv_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dv = flipV (Below.dv ⟨x0, x1, x2, x3, x4, x5, x6⟩ z1) := by
  unfold runG
  dsimp only
  refine (View.read_writes_full _ _ _ _ _).trans ?_
  frame_out [Memref.IsWhole.read_unread, ↓View.readCov_skip, ↓cov_stack0, ↓cov_stack1, ↓View.readCov_fill]
  rfl

theorem df_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.df = flipF (Below.df ⟨x0, x1, x2, x3, x4, x5, x6⟩ z2) := by
  unfold runG
  dsimp only
  refine (read_pairRows _ _ _ _ _).trans ?_
  frame_out [Memref.IsWhole.read_unread, cov_stack0, cov_stack1]
  rfl

theorem dr_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.dr = putRows i y11 (Below.drAdd ⟨x0, x1, x2, x3, x4, x5, x6⟩ (getRows i y11)) := by
  unfold runG
  dsimp only
  refine (read_putRows i h14 _ y11 _ (off2_eq i)).trans ?_
  refine congrArg (putRows i _) ?_
  frame_out [Memref.IsWhole.read_unread, ↓View.readCov_skip, ↓cov_stack0, ↓cov_stack1, ↓View.readCov_fill]
  rw [ld_getRows i _ _ (off2_eq i)]
  rfl

theorem sk_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sk = Below.dk ⟨x0, x1, x2, x3, x4, x5, x6⟩ z0 := by
  unfold runG
  dsimp only
  refine (View.read_writes_full _ _ _ _ _).trans ?_
  frame_out [Memref.IsWhole.read_unread, ↓View.readCov_skip, ↓cov_stack0, ↓cov_stack1, ↓View.readCov_fill]
  rfl

theorem sv_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sv = Below.dv ⟨x0, x1, x2, x3, x4, x5, x6⟩ z1 := by
  unfold runG
  dsimp only
  refine (View.read_writes_full _ _ _ _ _).trans ?_
  frame_out [Memref.IsWhole.read_unread, ↓View.readCov_skip, ↓cov_stack0, ↓cov_stack1, ↓View.readCov_fill]
  rfl

theorem sf_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1.sf = Below.df ⟨x0, x1, x2, x3, x4, x5, x6⟩ z2 := by
  unfold runG
  dsimp only
  refine (read_stack _ _ _ _ _).trans ?_
  frame_out [Memref.IsWhole.read_unread, ↓View.readCov_skip, ↓cov_stack0, ↓cov_stack1, ↓View.readCov_fill]
  rfl

/-- What the body leaves at the last row of a later column, below the diagonal. -/
theorem left_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2 :
    (runG (F := F) c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2).1 = ⟨putRows i y7 (Below.dqAdd ⟨x0, x1, x2, x3, x4, x5, x6⟩ (getRows i y7)), flipK (Below.dk ⟨x0, x1, x2, x3, x4, x5, x6⟩ z0), flipV (Below.dv ⟨x0, x1, x2, x3, x4, x5, x6⟩ z1), flipF (Below.df ⟨x0, x1, x2, x3, x4, x5, x6⟩ z2), putRows i y11 (Below.drAdd ⟨x0, x1, x2, x3, x4, x5, x6⟩ (getRows i y11)), Below.dk ⟨x0, x1, x2, x3, x4, x5, x6⟩ z0, Below.dv ⟨x0, x1, x2, x3, x4, x5, x6⟩ z1, Below.df ⟨x0, x1, x2, x3, x4, x5, x6⟩ z2⟩ :=
  (Left.mk.injEq ..).mpr ⟨dq_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dk_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dv_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, df_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, dr_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sk_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sv_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2, sf_G c i a3 h3 a4 h4 a5 h5 a6 h6 a7 h7 a8 h8 a9 h9 a10 h10 a11 h11 a12 h12 a13 h13 a14 h14 a15 h15 a16 h16 a17 h17 c0 c1 c2 c5 c6 c7 x0 x1 x2 x3 x4 x5 x6 y7 y8 y9 y10 y11 z0 z1 z2⟩

end Cert.KernelIdeal.Hand
end
-- ==== Proof.Run.H.lean ====
/- The body of the gradient kernel run at one kind of grid point: the last diagonal tile.
   Every buffer's contents are named, and so is what the body leaves in each. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 2000000 in
/-- At the last diagonal tile: from any named contents, the body runs and leaves the inputs as they were and
    the outputs and the scratch at `O`. -/
def runH (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x2x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x2x1024 .f32) (harg13 : arg13.IsWhole) (arg14 : Memref sig .tc .vmem S4096x128 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S2x1x1024 .f32) (harg17 : arg17.IsWhole)
    (hc0 : cond0 i) (hc1 : ¬cond1 i) (hc2 : cond2 i) (hc3 : ¬cond3 i) (hc4 : cond4 i) (hc5 : cond5 i)
    (x0 x1 x2 : Vec F S1024x128 .bf16) (x3 : Vec F S1x2x1024 .f32) (x4 x5 x6 : Vec F S1024x128 .f32) (y7 : Vec F S4096x128 .f32) (y8 y9 : Vec F S1024x128 .f32) (y10 : Vec F S1x2x1024 .f32) (y11 : Vec F S4096x128 .f32) (z0 z1 : Vec F S128x1024 .f32) (z2 : Vec F S2x1x1024 .f32) :
    { O : Left F // ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare z0 ∗ owns (c : Thread nD τ) arg16 fullShare z1 ∗ owns (c : Thread nD τ) arg17 fullShare z2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare O.dq ∗ owns (c : Thread nD τ) arg11 fullShare O.dk ∗ owns (c : Thread nD τ) arg12 fullShare O.dv ∗ owns (c : Thread nD τ) arg13 fullShare O.df ∗ owns (c : Thread nD τ) arg14 fullShare O.dr ∗ owns (c : Thread nD τ) arg15 fullShare O.sk ∗ owns (c : Thread nD τ) arg16 fullShare O.sv ∗ owns (c : Thread nD τ) arg17 fullShare O.sf) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_, ?_, ?_, ?_, ?_, ?_, ?_⟩, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0
    obtain rfl := harg4.eq_unread hf1
    obtain rfl := harg5.eq_unread hf2
    obtain rfl := harg6.eq_unread hf3
    obtain rfl := harg7.eq_unread hf4
    obtain rfl := harg8.eq_unread hf5
    obtain rfl := harg9.eq_unread hf6
    obtain rfl := harg10.eq_unread hf7
    obtain rfl := harg11.eq_unread hf8
    obtain rfl := harg12.eq_unread hf9
    obtain rfl := harg13.eq_unread hf10
    obtain rfl := harg14.eq_unread hf11
    obtain rfl := harg15.eq_unread hf12
    obtain rfl := harg16.eq_unread hf13
    obtain rfl := harg17.eq_unread hf14
    sl_exec (disch := first | sl_exact hc0 | sl_exact hc1 | sl_exact hc2 | sl_exact hc3 | sl_exact hc4 | sl_exact hc5)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap
    all_goals (iexists _; isplitr; swap; iassumption; ipureintro; first | exact rfl | exact Memref.IsWhole.read_unread ‹_› _)

end Cert.KernelIdeal.Hand

end
-- ==== Proof.Read.H.lean ====
/- What the body leaves at the diagonal tile of the last row, in named words. -/
module

public import proofs.«01_k».proof.Proof.ReadKit
public import proofs.«01_k».proof.Proof.Run.H

@[expose] public section

set_option maxRecDepth 16384

noncomputable section

namespace Cert.KernelIdeal.Hand

open Idealize.ShloMosaic
open Cert.KernelIdeal Cert.KernelIdeal.Gen

variable {F : FTy → Type} [FloatOps F] [Named F]

theorem dq_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dq = putRows i y7 (Diag.dqAdd i ⟨x0, x1, x2, x3, x4, x5, x6⟩ (getRows i y7)) := by
  unfold runH
  dsimp only
  refine (read_putRows i h10 _ y7 _ (off4_eq i)).trans ?_
  refine congrArg (putRows i _) ?_
  frame_out [Memref.IsWhole.read_unread, ↓View.readCov_skip, ↓cov_stack0, ↓cov_stack1, ↓View.readCov_fill]
  rw [ld_getRows i _ _ (off4_eq i)]
  rfl

theorem dk_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dk = flipK (Diag.dk i ⟨x0, x1, x2, x3, x4, x5, x6⟩ k0_pay1) := by
  unfold runH
  dsimp only
  refine (View.read_writes_full _ _ _ _ _).trans ?_
  frame_out [Memref.IsWhole.read_unread, ↓View.readCov_skip, ↓cov_stack0, ↓cov_stack1, ↓View.readCov_fill]
  rfl

theorem dv_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dv = flipV (Diag.dv i ⟨x0, x1, x2, x3, x4, x5, x6⟩ k0_pay2) := by
  unfold runH
  dsimp only
  refine (View.read_writes_full _ _ _ _ _).trans ?_
  frame_out [Memref.IsWhole.read_unread, ↓View.readCov_skip, ↓cov_stack0, ↓cov_stack1, ↓View.readCov_fill]
  rfl

theorem df_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.df = flipF (Diag.df i ⟨x0, x1, x2, x3, x4, x5, x6⟩ k0_pay3) := by
  unfold runH
  dsimp only
  refine (read_pairRows _ _ _ _ _).trans ?_
  frame_out [Memref.IsWhole.read_unread, cov_stack0, cov_stack1]
  simp (disch := decide) only [↓View.readCov_skip, ↓View.readCov_fill]
  rfl

theorem dr_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.dr = putRows i y11 (Diag.drAdd i ⟨x0, x1, x2, x3, x4, x5, x6⟩ (getRows i y11)) := by
  unfold runH
  dsimp only
  refine (read_putRows i h14 _ y11 _ (off4_eq i)).trans ?_
  refine congrArg (putRows i _) ?_
  frame_out [Memref.IsWhole.read_unread, ↓View.readCov_skip, ↓cov_stack0, ↓cov_stack1, ↓View.readCov_fill]
  rw [ld_getRows i _ _ (off4_eq i)]
  rfl

theorem sk_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sk = Diag.dk i ⟨x0, x1, x2, x3, x4, x5, x6⟩ k0_pay1 := by
  unfold runH
  dsimp only
  refine (View.read_writes_full _ _ _ _ _).trans ?_
  frame_out [Memref.IsWhole.read_unread, ↓View.readCov_skip, ↓cov_stack0, ↓cov_stack1, ↓View.readCov_fill]
  rfl

theorem sv_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sv = Diag.dv i ⟨x0, x1, x2, x3, x4, x5, x6⟩ k0_pay2 := by
  unfold runH
  dsimp only
  refine (View.read_writes_full _ _ _ _ _).trans ?_
  frame_out [Memref.IsWhole.read_unread, ↓View.readCov_skip, ↓cov_stack0, ↓cov_stack1, ↓View.readCov_fill]
  rfl

theorem sf_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1.sf = Diag.df i ⟨x0, x1, x2, x3, x4, x5, x6⟩ k0_pay3 := by
  unfold runH
  dsimp only
  refine (read_stack _ _ _ _ _).trans ?_
  frame_out [Memref.IsWhole.read_unread, ↓View.readCov_skip, ↓cov_stack0, ↓cov_stack1, ↓View.readCov_fill]
  rfl

/-- What the body leaves at the diagonal tile of the last row. -/
theorem left_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2 :
    (runH (F := F) c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2).1 = ⟨putRows i y7 (Diag.dqAdd i ⟨x0, x1, x2, x3, x4, x5, x6⟩ (getRows i y7)), flipK (Diag.dk i ⟨x0, x1, x2, x3, x4, x5, x6⟩ k0_pay1), flipV (Diag.dv i ⟨x0, x1, x2, x3, x4, x5, x6⟩ k0_pay2), flipF (Diag.df i ⟨x0, x1, x2, x3, x4, x5, x6⟩ k0_pay3), putRows i y11 (Diag.drAdd i ⟨x0, x1, x2, x3, x4, x5, x6⟩ (getRows i y11)), Diag.dk i ⟨x0, x1, x2, x3, x4, x5, x6⟩ k0_pay1, Diag.dv i ⟨x0, x1, x2, x3, x4, x5, x6⟩ k0_pay2, Diag.df i ⟨x0, x1, x2, x3, x4, x5, x6⟩ k0_pay3⟩ :=
  (Left.mk.injEq ..).mpr ⟨dq_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dk_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dv_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, df_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, dr_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sk_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sv_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2, sf_H c i a3 h3 a4 h4 a5 h5 a6 h6 a7 h7 a8 h8 a9 h9 a10 h10 a11 h11 a12 h12 a13 h13 a14 h14 a15 h15 a16 h16 a17 h17 c0 c1 c2 c3 c4 c5 x0 x1 x2 x3 x4 x5 x6 y7 y8 y9 y10 y11 z0 z1 z2⟩

end Cert.KernelIdeal.Hand
end
-- ==== Proof.Reads.lean ====
/- The eight readings of the body, together. -/
module

public import proofs.«01_k».proof.Proof.Read.A
public import proofs.«01_k».proof.Proof.Read.B
public import proofs.«01_k».proof.Proof.Read.C
public import proofs.«01_k».proof.Proof.Read.D
public import proofs.«01_k».proof.Proof.Read.E
public import proofs.«01_k».proof.Proof.Read.F
public import proofs.«01_k».proof.Proof.Read.G
public import proofs.«01_k».proof.Proof.Read.H
-- ==== Proof.Step.lean ====
/- One grid point of the gradient kernel: the body runs from any contents, and where the blocks it finds hold the real numbers of the
   whole arrays it advances the sums by this point's tile. -/
module

public import proofs.«01_k».proof.Proof.Blocks
public import proofs.«01_k».proof.Proof.Reads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- The body at point t runs from the contents x, y, z and leaves the outputs and the scratch at O. -/
def Runs (c : Dev nD) (t : Fin cfg0.N) (x : Ins Ideal) (y7 : Vec Ideal S4096x128 .f32) (y8 y9 : Vec Ideal S1024x128 .f32)
    (y10 : Vec Ideal S1x2x1024 .f32) (y11 : Vec Ideal S4096x128 .f32) (z0 z1 : Vec Ideal S128x1024 .f32) (z2 : Vec Ideal S2x1x1024 .f32) (O : Left Ideal) : Prop :=
  ∀ (E : Set ℕ) (K : PUnit → sProp 𝕄),
    iprop(owns (c : Thread nD τ) (st0_0 t) fullShare x.q ∗ owns (c : Thread nD τ) (st0_1 t) fullShare x.k ∗ owns (c : Thread nD τ) (st0_2 t) fullShare x.v ∗ owns (c : Thread nD τ) (st0_3 t) fullShare x.f ∗ owns (c : Thread nD τ) (st0_4 t) fullShare x.o ∗ owns (c : Thread nD τ) (st0_5 t) fullShare x.l ∗ owns (c : Thread nD τ) (st0_6 t) fullShare x.g ∗ owns (c : Thread nD τ) (st0_7 t) fullShare y7 ∗ owns (c : Thread nD τ) (st0_8 t) fullShare y8 ∗ owns (c : Thread nD τ) (st0_9 t) fullShare y9 ∗ owns (c : Thread nD τ) (st0_10 t) fullShare y10 ∗ owns (c : Thread nD τ) (st0_11 t) fullShare y11 ∗ owns (c : Thread nD τ) (Memref.whole cc0_scratch0) fullShare z0 ∗ owns (c : Thread nD τ) (Memref.whole cc0_scratch1) fullShare z1 ∗ owns (c : Thread nD τ) (Memref.whole cc0_scratch2) fullShare z2
        ∗ (iprop(owns (c : Thread nD τ) (st0_0 t) fullShare x.q ∗ owns (c : Thread nD τ) (st0_1 t) fullShare x.k ∗ owns (c : Thread nD τ) (st0_2 t) fullShare x.v ∗ owns (c : Thread nD τ) (st0_3 t) fullShare x.f ∗ owns (c : Thread nD τ) (st0_4 t) fullShare x.o ∗ owns (c : Thread nD τ) (st0_5 t) fullShare x.l ∗ owns (c : Thread nD τ) (st0_6 t) fullShare x.g ∗ owns (c : Thread nD τ) (st0_7 t) fullShare O.dq ∗ owns (c : Thread nD τ) (st0_8 t) fullShare O.dk ∗ owns (c : Thread nD τ) (st0_9 t) fullShare O.dv ∗ owns (c : Thread nD τ) (st0_10 t) fullShare O.df ∗ owns (c : Thread nD τ) (st0_11 t) fullShare O.dr ∗ owns (c : Thread nD τ) (Memref.whole cc0_scratch0) fullShare O.sk ∗ owns (c : Thread nD τ) (Memref.whole cc0_scratch1) fullShare O.sv ∗ owns (c : Thread nD τ) (Memref.whole cc0_scratch2) fullShare O.sf) -∗ K ⟨⟩))
      ⊢ wp frame (wpE (defs₀ (F := Ideal)) Variants.none c none) E (bodyAt0 t) K

/-- Where the blocks and the sums found are those of the whole arrays D, so are the sums left. -/
def Steps (t : Fin cfg0.N) (x : Ins Ideal) (y7 : Vec Ideal S4096x128 .f32) (y11 : Vec Ideal S4096x128 .f32) (z0 z1 : Vec Ideal S128x1024 .f32) (z2 : Vec Ideal S2x1x1024 .f32) (O : Left Ideal) : Prop :=
  ∀ D : Glob, (t.val / 4 % 4 ≤ t.val % 4 → x = (D.tl (t.val / 16 % 4) (t.val / 4 % 4) (t.val % 4)).up) →
    Found D t.val y7 y11 z0 z1 z2 → Made D t.val O

variable (c : Dev nD) (t : Fin cfg0.N) (x : Ins Ideal) (y7 : Vec Ideal S4096x128 .f32) (y8 y9 : Vec Ideal S1024x128 .f32)
  (y10 : Vec Ideal S1x2x1024 .f32) (y11 : Vec Ideal S4096x128 .f32) (z0 z1 : Vec Ideal S128x1024 .f32) (z2 : Vec Ideal S2x1x1024 .f32)

theorem stepA (ht : t.val / 4 % 4 = t.val % 4 ∧ t.val / 4 % 4 = 0) : ∃ O, Runs c t x y7 y8 y9 y10 y11 z0 z1 z2 O ∧ Steps t x y7 y11 z0 z1 z2 O := by
  refine ⟨(runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) ((cond3_iff t).mpr (by omega)) (fun h => by have := (cond4_iff t).mp h; omega) (fun h => by have := (cond5_iff t).mp h; omega) x.q x.k x.v x.f x.o x.l x.g y7 y8 y9 y10 y11 z0 z1 z2).1,
    (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) ((cond3_iff t).mpr (by omega)) (fun h => by have := (cond4_iff t).mp h; omega) (fun h => by have := (cond5_iff t).mp h; omega) x.q x.k x.v x.f x.o x.l x.g y7 y8 y9 y10 y11 z0 z1 z2).2, fun D hx hf => ?_⟩
  rw [left_A]
  obtain ⟨e0, e1, e2⟩ := coords_val t
  have hs := scr_diag e1 e2 (hx (by omega)) ht.1
  obtain ⟨hq, hr⟩ := rows_diag_first e1 e2 (hx (by omega)) ht.1 ht.2 hf
  exact ⟨hq, hr, fun _ => hs, fun h => by omega, fun h => by omega, fun h => by omega⟩

theorem stepB (ht : t.val / 4 % 4 < t.val % 4 ∧ t.val / 4 % 4 = 0 ∧ t.val % 4 ≠ 3) : ∃ O, Runs c t x y7 y8 y9 y10 y11 z0 z1 z2 O ∧ Steps t x y7 y11 z0 z1 z2 O := by
  refine ⟨(runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) ((cond6_iff t).mpr (by omega)) (fun h => by have := (cond7_iff t).mp h; omega) x.q x.k x.v x.f x.o x.l x.g y7 y8 y9 y10 y11 z0 z1 z2).1,
    (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) ((cond6_iff t).mpr (by omega)) (fun h => by have := (cond7_iff t).mp h; omega) x.q x.k x.v x.f x.o x.l x.g y7 y8 y9 y10 y11 z0 z1 z2).2, fun D hx hf => ?_⟩
  rw [left_B]
  obtain ⟨e0, e1, e2⟩ := coords_val t
  have hs := scr_below (hx (by omega)) ht.1 (hf.s ht.1)
  obtain ⟨hq, hr⟩ := rows_below_first e2 (hx (by omega)) ht.1 ht.2.1 hf
  exact ⟨hq, hr, fun _ => hs, fun h => by omega, fun h => by omega, fun h => by omega⟩

theorem stepC (ht : t.val / 4 % 4 < t.val % 4 ∧ t.val / 4 % 4 = 0 ∧ t.val % 4 = 3) : ∃ O, Runs c t x y7 y8 y9 y10 y11 z0 z1 z2 O ∧ Steps t x y7 y11 z0 z1 z2 O := by
  refine ⟨(runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) ((cond6_iff t).mpr (by omega)) (fun h => by have := (cond7_iff t).mp h; omega) x.q x.k x.v x.f x.o x.l x.g y7 y8 y9 y10 y11 z0 z1 z2).1,
    (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) ((cond6_iff t).mpr (by omega)) (fun h => by have := (cond7_iff t).mp h; omega) x.q x.k x.v x.f x.o x.l x.g y7 y8 y9 y10 y11 z0 z1 z2).2, fun D hx hf => ?_⟩
  rw [left_C]
  obtain ⟨e0, e1, e2⟩ := coords_val t
  have hs := scr_below (hx (by omega)) ht.1 (hf.s ht.1)
  obtain ⟨hq, hr⟩ := rows_below_first e2 (hx (by omega)) ht.1 ht.2.1 hf
  exact ⟨hq, hr, fun _ => hs, fun h => outK hs h, fun h => outV hs h, fun h => outF hs h⟩

theorem stepD (ht : t.val % 4 < t.val / 4 % 4) : ∃ O, Runs c t x y7 y8 y9 y10 y11 z0 z1 z2 O ∧ Steps t x y7 y11 z0 z1 z2 O := by
  refine ⟨(runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) (fun h => by have := (cond1_iff t).mp h; omega) (fun h => by have := (cond2_iff t).mp h; omega) (fun h => by have := (cond5_iff t).mp h; omega) x.q x.k x.v x.f x.o x.l x.g y7 y8 y9 y10 y11 z0 z1 z2).1,
    (runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) (fun h => by have := (cond1_iff t).mp h; omega) (fun h => by have := (cond2_iff t).mp h; omega) (fun h => by have := (cond5_iff t).mp h; omega) x.q x.k x.v x.f x.o x.l x.g y7 y8 y9 y10 y11 z0 z1 z2).2, fun D hx hf => ?_⟩
  rw [left_D]
  obtain ⟨e0, e1, e2⟩ := coords_val t
  obtain ⟨hq, hr⟩ := rows_above ht hf
  exact ⟨hq, hr, fun h => by omega, fun h => by omega, fun h => by omega, fun h => by omega⟩

theorem stepE (ht : t.val / 4 % 4 = t.val % 4 ∧ 1 ≤ t.val / 4 % 4 ∧ t.val % 4 ≠ 3) : ∃ O, Runs c t x y7 y8 y9 y10 y11 z0 z1 z2 O ∧ Steps t x y7 y11 z0 z1 z2 O := by
  refine ⟨(runE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) (fun h => by have := (cond5_iff t).mp h; omega) x.q x.k x.v x.f x.o x.l x.g y7 y8 y9 y10 y11 z0 z1 z2).1,
    (runE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) (fun h => by have := (cond5_iff t).mp h; omega) x.q x.k x.v x.f x.o x.l x.g y7 y8 y9 y10 y11 z0 z1 z2).2, fun D hx hf => ?_⟩
  rw [left_E]
  obtain ⟨e0, e1, e2⟩ := coords_val t
  have hs := scr_diag e1 e2 (hx (by omega)) ht.1
  obtain ⟨hq, hr⟩ := rows_diag_later e1 e2 (hx (by omega)) ht.1 ht.2.1 hf
  exact ⟨hq, hr, fun _ => hs, fun h => by omega, fun h => by omega, fun h => by omega⟩

theorem stepF (ht : t.val / 4 % 4 < t.val % 4 ∧ 1 ≤ t.val / 4 % 4 ∧ t.val % 4 ≠ 3) : ∃ O, Runs c t x y7 y8 y9 y10 y11 z0 z1 z2 O ∧ Steps t x y7 y11 z0 z1 z2 O := by
  refine ⟨(runF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) (fun h => by have := (cond6_iff t).mp h; omega) ((cond7_iff t).mpr (by omega)) x.q x.k x.v x.f x.o x.l x.g y7 y8 y9 y10 y11 z0 z1 z2).1,
    (runF c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) (fun h => by have := (cond5_iff t).mp h; omega) (fun h => by have := (cond6_iff t).mp h; omega) ((cond7_iff t).mpr (by omega)) x.q x.k x.v x.f x.o x.l x.g y7 y8 y9 y10 y11 z0 z1 z2).2, fun D hx hf => ?_⟩
  rw [left_F]
  obtain ⟨e0, e1, e2⟩ := coords_val t
  have hs := scr_below (hx (by omega)) ht.1 (hf.s ht.1)
  obtain ⟨hq, hr⟩ := rows_below_later e2 (hx (by omega)) ht.1 ht.2.1 hf
  exact ⟨hq, hr, fun _ => hs, fun h => by omega, fun h => by omega, fun h => by omega⟩

theorem stepG (ht : t.val / 4 % 4 < t.val % 4 ∧ 1 ≤ t.val / 4 % 4 ∧ t.val % 4 = 3) : ∃ O, Runs c t x y7 y8 y9 y10 y11 z0 z1 z2 O ∧ Steps t x y7 y11 z0 z1 z2 O := by
  refine ⟨(runG c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) (fun h => by have := (cond6_iff t).mp h; omega) ((cond7_iff t).mpr (by omega)) x.q x.k x.v x.f x.o x.l x.g y7 y8 y9 y10 y11 z0 z1 z2).1,
    (runG c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (fun h => by have := (cond0_iff t).mp h; omega) ((cond1_iff t).mpr (by omega)) (fun h => by have := (cond2_iff t).mp h; omega) ((cond5_iff t).mpr (by omega)) (fun h => by have := (cond6_iff t).mp h; omega) ((cond7_iff t).mpr (by omega)) x.q x.k x.v x.f x.o x.l x.g y7 y8 y9 y10 y11 z0 z1 z2).2, fun D hx hf => ?_⟩
  rw [left_G]
  obtain ⟨e0, e1, e2⟩ := coords_val t
  have hs := scr_below (hx (by omega)) ht.1 (hf.s ht.1)
  obtain ⟨hq, hr⟩ := rows_below_later e2 (hx (by omega)) ht.1 ht.2.1 hf
  exact ⟨hq, hr, fun _ => hs, fun h => outK hs h, fun h => outV hs h, fun h => outF hs h⟩

theorem stepH (ht : t.val / 4 % 4 = t.val % 4 ∧ 1 ≤ t.val / 4 % 4 ∧ t.val % 4 = 3) : ∃ O, Runs c t x y7 y8 y9 y10 y11 z0 z1 z2 O ∧ Steps t x y7 y11 z0 z1 z2 O := by
  refine ⟨(runH c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) ((cond5_iff t).mpr (by omega)) x.q x.k x.v x.f x.o x.l x.g y7 y8 y9 y10 y11 z0 z1 z2).1,
    (runH c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) ((cond0_iff t).mpr (by omega)) (fun h => by have := (cond1_iff t).mp h; omega) ((cond2_iff t).mpr (by omega)) (fun h => by have := (cond3_iff t).mp h; omega) ((cond4_iff t).mpr (by omega)) ((cond5_iff t).mpr (by omega)) x.q x.k x.v x.f x.o x.l x.g y7 y8 y9 y10 y11 z0 z1 z2).2, fun D hx hf => ?_⟩
  rw [left_H]
  obtain ⟨e0, e1, e2⟩ := coords_val t
  have hs := scr_diag e1 e2 (hx (by omega)) ht.1
  obtain ⟨hq, hr⟩ := rows_diag_later e1 e2 (hx (by omega)) ht.1 ht.2.1 hf
  exact ⟨hq, hr, fun _ => hs, fun h => outK hs h, fun h => outV hs h, fun h => outF hs h⟩

theorem step : ∃ O, Runs c t x y7 y8 y9 y10 y11 z0 z1 z2 O ∧ Steps t x y7 y11 z0 z1 z2 O := by
  by_cases hd : t.val / 4 % 4 = t.val % 4
  · by_cases h0 : t.val / 4 % 4 = 0
    · exact stepA c t x y7 y8 y9 y10 y11 z0 z1 z2 ⟨hd, h0⟩
    · by_cases h3 : t.val % 4 = 3
      · exact stepH c t x y7 y8 y9 y10 y11 z0 z1 z2 ⟨hd, by omega, h3⟩
      · exact stepE c t x y7 y8 y9 y10 y11 z0 z1 z2 ⟨hd, by omega, h3⟩
  · by_cases hb : t.val / 4 % 4 < t.val % 4
    · by_cases h0 : t.val / 4 % 4 = 0
      · by_cases h3 : t.val % 4 = 3
        · exact stepC c t x y7 y8 y9 y10 y11 z0 z1 z2 ⟨hb, h0, h3⟩
        · exact stepB c t x y7 y8 y9 y10 y11 z0 z1 z2 ⟨hb, h0, h3⟩
      · by_cases h3 : t.val % 4 = 3
        · exact stepG c t x y7 y8 y9 y10 y11 z0 z1 z2 ⟨hb, by omega, h3⟩
        · exact stepF c t x y7 y8 y9 y10 y11 z0 z1 z2 ⟨hb, by omega, h3⟩
    · exact stepD c t x y7 y8 y9 y10 y11 z0 z1 z2 (by omega)

end Cert.KernelIdeal.Hand
end
-- ==== Proof.Oblige.lean ====
/- The gradient kernel's pipeline: what its buffers may hold after each grid point, and the body's obligation at every point. -/
module

public import proofs.«01_k».proof.Proof.Step
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.KernelIdeal Cert.KernelIdeal.Gen

local notation "𝕄" => MT nD τ sig Unit (Elt Ideal) ℕ (UR sig nD τ) ℕ

variable (m : (ℓ : Loc nD τ sig) → Buf (Elt Ideal) ℓ)

/-- The output windows. -/
def outs : Fin 12 → Bool := fun w => w.val == 7 || w.val == 8 || w.val == 9 || w.val == 10 || w.val == 11

/-- The windows' relations: what each output's buffer holds after the body at point t, where the operands are real. -/
def Rl (c : Dev nD) (w : Fin cfg0.W) (t : Fin cfg0.N) : ((cfg0.win w).block.Idx → Elt Ideal (cfg0.win w).elt) → Prop :=
  match w with
  | ⟨7, _⟩ => fun X => ∀ D, IsGlob m c D → Rows (D.qS (t.val / 16 % 4)) t.val X
  | ⟨8, _⟩ => fun X => ∀ D, IsGlob m c D → t.val % 4 = 3 → (X : Vec Ideal S1024x128 .f32) = up2 fun u d => D.kS (t.val / 16 % 4) (t.val / 4 % 4) 4 d u
  | ⟨9, _⟩ => fun X => ∀ D, IsGlob m c D → t.val % 4 = 3 → (X : Vec Ideal S1024x128 .f32) = up2 fun u d => D.vS (t.val / 16 % 4) (t.val / 4 % 4) 4 d u
  | ⟨10, _⟩ => fun X => ∀ D, IsGlob m c D → t.val % 4 = 3 → (X : Vec Ideal S1x2x1024 .f32) = upF (D.fS (t.val / 16 % 4) (t.val / 4 % 4) 4)
  | ⟨11, _⟩ => fun X => ∀ D, IsGlob m c D → Rows (D.rS (t.val / 16 % 4)) t.val X
  | _ => fun _ => True

/-- The running sums before point n. -/
def Keeps (c : Dev nD) (n : ℕ) (z0 z1 : Vec Ideal S128x1024 .f32) (z2 : Vec Ideal S2x1x1024 .f32) : Prop :=
  ∀ D, IsGlob m c D → n ≠ 0 → (n - 1) / 4 % 4 ≤ (n - 1) % 4 → Scr D (n - 1) z0 z1 z2

/-- The invariant before point n: the scratch buffers at the running sums, and the generator's register. -/
def PhiS (c : Dev nD) (n : ℕ) : sProp 𝕄 :=
  iprop((∃ (z0 : Vec Ideal S128x1024 .f32) (z1 : Vec Ideal S128x1024 .f32) (z2 : Vec Ideal S2x1x1024 .f32), ⌜Keeps m c n z0 z1 z2⌝ ∗ owns (c : Thread nD τ) (Memref.whole cc0_scratch0) fullShare z0
    ∗ owns (c : Thread nD τ) (Memref.whole cc0_scratch1) fullShare z1 ∗ owns (c : Thread nD τ) (Memref.whole cc0_scratch2) fullShare z2) ∗ (∃ r, prngReg c r))

/-- The proof data of the pipeline on core c. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val
  q w := Pipeline.shareOf spec0 w
  owed _ := 0

theorem A_eq (c : Dev nD) (w : Fin cfg0.W) : (dat m c).A w = V m c (Pipeline.arrRef spec0 w) := by dsimp only [dat]
theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem before_0 (c : Dev nD) (t : Fin cfg0.N) (d) : (dat m c).before 0 t d = iblk m c 0 t :=
  before0_0_of m (dat m c) (A_eq m c 0) (after_0 m c) t d
theorem before_1 (c : Dev nD) (t : Fin cfg0.N) (d) : (dat m c).before 1 t d = iblk m c 1 t :=
  before0_1_of m (dat m c) (A_eq m c 1) (after_1 m c) t d
theorem before_2 (c : Dev nD) (t : Fin cfg0.N) (d) : (dat m c).before 2 t d = iblk m c 2 t :=
  before0_2_of m (dat m c) (A_eq m c 2) (after_2 m c) t d
theorem before_3 (c : Dev nD) (t : Fin cfg0.N) (d) : (dat m c).before 3 t d = iblk m c 3 t :=
  before0_3_of m (dat m c) (A_eq m c 3) (after_3 m c) t d
theorem before_4 (c : Dev nD) (t : Fin cfg0.N) (d) : (dat m c).before 4 t d = iblk m c 4 t :=
  before0_4_of m (dat m c) (A_eq m c 4) (after_4 m c) t d
theorem before_5 (c : Dev nD) (t : Fin cfg0.N) (d) : (dat m c).before 5 t d = iblk m c 5 t :=
  before0_5_of m (dat m c) (A_eq m c 5) (after_5 m c) t d
theorem before_6 (c : Dev nD) (t : Fin cfg0.N) (d) : (dat m c).before 6 t d = iblk m c 6 t :=
  before0_6_of m (dat m c) (A_eq m c 6) (after_6 m c) t d

/-- The relational data. -/
abbrev rdat (c : Dev nD) := (dat m c).toRRel outs (Rl m c)

/-- What the body finds in a resident result's buffer. -/
theorem finds_7 (c : Dev nD) (t : Fin cfg0.N) (Y : Vec Ideal S4096x128 .f32) (h : (rdat m c).Finds 7 t Y) (D : Glob) (hD : IsGlob m c D)
    (ht : t.val % 16 ≠ 0) : Rows (D.qS (t.val / 16 % 4)) (t.val - 1) Y := by
  have hN : t.val < 64 := lt_of_lt_of_eq t.isLt (show cfg0.N = 64 from N_0)
  have hf : (cfg0.win 7).fetch t = false := (by decide +kernel : ∀ t : Fin grid0.N, (win0_7).fetch t = false) t
  rcases ((rdat m c).finds_of_pos hf (by omega) Y).mp h with h | h
  · rw [flush0_7] at h
    simp only at h
    omega
  · have := (dat m c).toRRel_leaves (fgt := outs) (Rl := Rl m c) (w := 7) rfl h D hD
    simp only at this
    rw [show (t.val - 1) / 16 % 4 = t.val / 16 % 4 by omega] at this
    exact this

/-- What the body finds in a resident result's buffer. -/
theorem finds_11 (c : Dev nD) (t : Fin cfg0.N) (Y : Vec Ideal S4096x128 .f32) (h : (rdat m c).Finds 11 t Y) (D : Glob) (hD : IsGlob m c D)
    (ht : t.val % 16 ≠ 0) : Rows (D.rS (t.val / 16 % 4)) (t.val - 1) Y := by
  have hN : t.val < 64 := lt_of_lt_of_eq t.isLt (show cfg0.N = 64 from N_0)
  have hf : (cfg0.win 11).fetch t = false := (by decide +kernel : ∀ t : Fin grid0.N, (win0_11).fetch t = false) t
  rcases ((rdat m c).finds_of_pos hf (by omega) Y).mp h with h | h
  · rw [flush0_11] at h
    simp only at h
    omega
  · have := (dat m c).toRRel_leaves (fgt := outs) (Rl := Rl m c) (w := 11) rfl h D hD
    simp only at this
    rw [show (t.val - 1) / 16 % 4 = t.val / 16 % 4 by omega] at this
    exact this

/-- What the body is called with at point t, the windows one by one. -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y))

/-- What it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ (∃ X, ⌜Rl m c 7 t X⌝ ∗ owns (c : Thread nD τ) (st0_7 t) fullShare X)
    ∗ (∃ X, ⌜Rl m c 8 t X⌝ ∗ owns (c : Thread nD τ) (st0_8 t) fullShare X)
    ∗ (∃ X, ⌜Rl m c 9 t X⌝ ∗ owns (c : Thread nD τ) (st0_9 t) fullShare X)
    ∗ (∃ X, ⌜Rl m c 10 t X⌝ ∗ owns (c : Thread nD τ) (st0_10 t) fullShare X)
    ∗ (∃ X, ⌜Rl m c 11 t X⌝ ∗ owns (c : Thread nD τ) (st0_11 t) fullShare X))

set_option maxHeartbeats 6400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, after_0, after_1, after_2, after_3, after_4, after_5, after_6]
  rw [show (dat m c).owesAt () t.succ = (dat m c).owesAt () t.castSucc from rfl]
  rw [show (dat m c).Φ t.castSucc = PhiS m c t.val from rfl, show (dat m c).Φ t.succ = PhiS m c (t.val + 1) from rfl]
  unfold PhiS
  iintro ⟨⟨⟨%z0, %z1, %z2, %hz, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩⟩
  obtain ⟨O, hrun, hstep⟩ := step c t (ins m c t) y7 y8 y9 y10 y11 z0 z1 z2
  have made : ∀ D, IsGlob m c D → Made D t.val O := fun D hD =>
    hstep D (ins_up m c hD t) ⟨finds_7 m c t y7 hy7 D hD, finds_11 m c t y11 hy11 D hD, fun h => hz D hD (by omega) (by omega)⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H0, H1, H2, H3, H4, H5, H6, H7, H8, H9, H10, H11, HS0, HS1, HS2⟩
  isplitl [HS0 HS1 HS2 Hg]
  · isplitl [HS0 HS1 HS2]
    · iexists O.sk, O.sv, O.sf
      isplitr
      · ipureintro
        intro D hD _ hle
        exact (made D hD).s hle
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists O.dq
    isplitr
    · ipureintro; exact fun D hD => (made D hD).q
    iexact H7
  isplitl [H8]
  · iexists O.dk
    isplitr
    · ipureintro; exact fun D hD => (made D hD).k
    iexact H8
  isplitl [H9]
  · iexists O.dv
    isplitr
    · ipureintro; exact fun D hD => (made D hD).v
    iexact H9
  isplitl [H10]
  · iexists O.df
    isplitr
    · ipureintro; exact fun D hD => (made D hD).f
    iexact H10
  iexists O.dr
  isplitr
  · ipureintro; exact fun D hD => (made D hD).r
  iexact H11

/-- The body table's row at point t's slots is the body. -/
theorem defs₀_row (t : Fin cfg0.N) : defs₀ (F := Ideal) .tc cfg0.body (cfg0.bodyArgs t (cfg0.slots t)) = bodyAt0 t := by
  unfold defs₀; rw [Defs.onTc_tc]

/-- The body's obligation at every point. -/
theorem body_obligation (c : Dev nD) : BodyObligationRel (dat m c) (defs₀ (F := Ideal)) Variants.none () Set.univ outs (Rl m c) := fun t => by
  rw [bigSep_W0, bigSep_W0, defs₀_row]
  exact triple_restated (sound_body m c t) rfl .rfl fun _ => .rfl

/-- What the launch hands the region, buffer by buffer. -/
theorem PhiA_eq (c : Dev nD) : (Pipeline.ΦA spec0 c : sProp 𝕄) = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA
  rw [scopedRest0_eq]
  simp only [owns_whole]
  try rfl

theorem hin (c : Dev nD) : Pipeline.ΦA spec0 c ⊢ (dat m c).Φ 0 := by
  rw [show (dat m c).Φ 0 = PhiS m c 0 from rfl, PhiA_eq]
  unfold PhiS
  iintro ⟨⟨⟨%d0, HS0⟩, ⟨%d1, HS1⟩, ⟨%d2, HS2⟩⟩, Hg⟩
  isplitl [HS0 HS1 HS2]
  · iexists d0, d1, d2
    isplitr
    · ipureintro; exact fun _ _ h => absurd rfl h
    isplitl [HS0]; · iexact HS0
    isplitl [HS1]; · iexact HS1
    iexact HS2
  iexact Hg

theorem hout (c : Dev nD) : (dat m c).Φ (Fin.last cfg0.N) ⊢ Pipeline.ΦA spec0 c := by
  rw [show (dat m c).Φ (Fin.last cfg0.N) = PhiS m c (Fin.last cfg0.N).val from rfl, PhiA_eq]
  unfold PhiS
  iintro ⟨⟨%d0, %d1, %d2, %_, HS0, HS1, HS2⟩, Hg⟩
  isplitl [HS0 HS1 HS2]
  · isplitl [HS0]; · iexists _; iexact HS0
    isplitl [HS1]; · iexists _; iexact HS1
    iexists _; iexact HS2
  iexact Hg

end Cert.KernelIdeal.Hand
end
-- ==== Proof.KRun.lean ====
/- The gradient kernel run from any memory: the arguments end unchanged, the counters at zero, and where the operands are real
   numbers the five results hold the sums over all tiles. -/
module

public import proofs.«01_k».proof.Proof.Oblige
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat)
open Cert.KernelIdeal Cert.KernelIdeal.Gen

variable (m : (ℓ : Loc nD τ sig) → Buf (Elt Ideal) ℓ) (ρ : Dev nD → PrngReg)

/-- What a run ends in: the arrays as the relations say, the counters at zero. -/
abbrev Ends (r : PUnit × MemSt nD τ sig (Elt Ideal)) : Prop := RDat.FramePost cfg0 (rdat m) (V m) r

set_option backward.isDefEq.respectTransparency.types false in
theorem run : θ_run defs (onTc (τ := τ) (main (F := Ideal))) ⟨m, fun _ => 0, ρ⟩ (fun r => Ends m r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The arguments end as they began. -/
theorem args_kept {r : PUnit × MemSt nD τ sig (Elt Ideal)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 6 rfl).trans ((A_eq m c 6).trans (V_main_arg4 m c))⟩

/-- The frame of the idealised kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m h.1 c, h.2⟩) (run m ρ)

namespace Glob
variable (D : Glob)
/-- The gradient of q, whole. -/
def dq : FVec Ideal S4096x512 .f32 := fun y => ((D.qS ((y 1).val / 128) ((y 0).val / 1024) 4 ⟨(y 0).val % 1024, Nat.mod_lt _ (by decide)⟩ ⟨(y 1).val % 128, Nat.mod_lt _ (by decide)⟩ : ℝ) : EReal)
/-- The gradient of k, whole. -/
def dk : FVec Ideal S4096x512 .f32 := fun y => ((D.kS ((y 1).val / 128) ((y 0).val / 1024) 4 ⟨(y 1).val % 128, Nat.mod_lt _ (by decide)⟩ ⟨(y 0).val % 1024, Nat.mod_lt _ (by decide)⟩ : ℝ) : EReal)
/-- The gradient of v, whole. -/
def dv : FVec Ideal S4096x512 .f32 := fun y => ((D.vS ((y 1).val / 128) ((y 0).val / 1024) 4 ⟨(y 1).val % 128, Nat.mod_lt _ (by decide)⟩ ⟨(y 0).val % 1024, Nat.mod_lt _ (by decide)⟩ : ℝ) : EReal)
/-- The column sums of the gradient of the logits, negated, whole. -/
def df : FVec Ideal S4x2x4096 .f32 := fun y => ((D.fS (y 0).val ((y 2).val / 1024) 4 (y 1) ⟨(y 2).val % 1024, Nat.mod_lt _ (by decide)⟩ : ℝ) : EReal)
/-- The row sums of the gradient of the logits, whole. -/
def dr : FVec Ideal S4096x512 .f32 := fun y => ((D.rS ((y 1).val / 128) ((y 0).val / 1024) 4 ⟨(y 0).val % 1024, Nat.mod_lt _ (by decide)⟩ ⟨(y 1).val % 128, Nat.mod_lt _ (by decide)⟩ : ℝ) : EReal)
end Glob

/-- The rows of a result's column after a pair's last point. -/
theorem Rows.at_end {S : ℕ → ℕ → Fin 1024 → Fin 128 → ℝ} {t : ℕ} (ht : t % 16 = 15) {X : Vec Ideal S4096x128 .f32} (hX : Rows S t X) (a : Fin 4096) (b : Fin 128) :
    X (ix2 a b) = ((S (a.val / 1024) 4 ⟨a.val % 1024, Nat.mod_lt _ (by decide)⟩ b : ℝ) : EReal) := by
  have h := hX (a.val / 1024) (by omega) ⟨a.val % 1024, Nat.mod_lt _ (by decide)⟩ b
  rw [if_pos (by omega), show t / 4 % 4 + 1 = 4 by omega] at h
  rw [← h (by omega)]
  refine congrArg X ?_
  congr 1
  exact Fin.ext (show a.val = 1024 * (a.val / 1024) + a.val % 1024 by omega)

theorem place7 (D : Glob) (t : Fin cfg0.N) (ht : t.val % 16 = 15) (X : Vec Ideal S4096x128 .f32) (hX : Rows (D.qS (t.val / 16 % 4)) t.val X)
    (a : Fin 4096) (b : Fin 128) : X (ix2 a b) = D.dq (((cfg0.win 7).blk t).view.emb (ix2 a b)) := by
  obtain ⟨i7, i8, i9, i10, i11⟩ := idx_out t
  have e : (((cfg0.win 7).blk t).view.emb (ix2 a b) : S4096x512.Idx) = ix2 a ⟨128 * (t.val / 16 % 4) + b.val, by omega⟩ := by
    blk_ext [i7]
  rw [e, hX.at_end ht]
  unfold Glob.dq
  have e1 : (128 * (t.val / 16 % 4) + b.val) / 128 = t.val / 16 % 4 := by omega
  have e2 : (128 * (t.val / 16 % 4) + b.val) % 128 = b.val := by omega
  simp only [ix2_0, ix2_1, e1, e2]

theorem place11 (D : Glob) (t : Fin cfg0.N) (ht : t.val % 16 = 15) (X : Vec Ideal S4096x128 .f32) (hX : Rows (D.rS (t.val / 16 % 4)) t.val X)
    (a : Fin 4096) (b : Fin 128) : X (ix2 a b) = D.dr (((cfg0.win 11).blk t).view.emb (ix2 a b)) := by
  obtain ⟨i7, i8, i9, i10, i11⟩ := idx_out t
  have e : (((cfg0.win 11).blk t).view.emb (ix2 a b) : S4096x512.Idx) = ix2 a ⟨128 * (t.val / 16 % 4) + b.val, by omega⟩ := by
    blk_ext [i11]
  rw [e, hX.at_end ht]
  unfold Glob.dr
  have e1 : (128 * (t.val / 16 % 4) + b.val) / 128 = t.val / 16 % 4 := by omega
  have e2 : (128 * (t.val / 16 % 4) + b.val) % 128 = b.val := by omega
  simp only [ix2_0, ix2_1, e1, e2]

theorem place8 (D : Glob) (t : Fin cfg0.N) (X : Vec Ideal S1024x128 .f32) (hX : X = up2 fun u d => D.kS (t.val / 16 % 4) (t.val / 4 % 4) 4 d u)
    (a : Fin 1024) (b : Fin 128) : X (ix2 a b) = D.dk (((cfg0.win 8).blk t).view.emb (ix2 a b)) := by
  obtain ⟨i7, i8, i9, i10, i11⟩ := idx_out t
  have e : (((cfg0.win 8).blk t).view.emb (ix2 a b) : S4096x512.Idx) = ix2 ⟨1024 * (t.val / 4 % 4) + a.val, by omega⟩ ⟨128 * (t.val / 16 % 4) + b.val, by omega⟩ := by
    blk_ext [i8]
  rw [e, hX]
  unfold Glob.dk up2
  have e1 : (128 * (t.val / 16 % 4) + b.val) / 128 = t.val / 16 % 4 := by omega
  have e2 : (128 * (t.val / 16 % 4) + b.val) % 128 = b.val := by omega
  have e3 : (1024 * (t.val / 4 % 4) + a.val) / 1024 = t.val / 4 % 4 := by omega
  have e4 : (1024 * (t.val / 4 % 4) + a.val) % 1024 = a.val := by omega
  simp only [ix2_0, ix2_1, e1, e2, e3, e4]

theorem place9 (D : Glob) (t : Fin cfg0.N) (X : Vec Ideal S1024x128 .f32) (hX : X = up2 fun u d => D.vS (t.val / 16 % 4) (t.val / 4 % 4) 4 d u)
    (a : Fin 1024) (b : Fin 128) : X (ix2 a b) = D.dv (((cfg0.win 9).blk t).view.emb (ix2 a b)) := by
  obtain ⟨i7, i8, i9, i10, i11⟩ := idx_out t
  have e : (((cfg0.win 9).blk t).view.emb (ix2 a b) : S4096x512.Idx) = ix2 ⟨1024 * (t.val / 4 % 4) + a.val, by omega⟩ ⟨128 * (t.val / 16 % 4) + b.val, by omega⟩ := by
    blk_ext [i9]
  rw [e, hX]
  unfold Glob.dv up2
  have e1 : (128 * (t.val / 16 % 4) + b.val) / 128 = t.val / 16 % 4 := by omega
  have e2 : (128 * (t.val / 16 % 4) + b.val) % 128 = b.val := by omega
  have e3 : (1024 * (t.val / 4 % 4) + a.val) / 1024 = t.val / 4 % 4 := by omega
  have e4 : (1024 * (t.val / 4 % 4) + a.val) % 1024 = a.val := by omega
  simp only [ix2_0, ix2_1, e1, e2, e3, e4]

theorem place10 (D : Glob) (t : Fin cfg0.N) (X : Vec Ideal S1x2x1024 .f32) (hX : X = upF (D.fS (t.val / 16 % 4) (t.val / 4 % 4) 4))
    (a : Fin 2) (b : Fin 1024) : X (ix3 0 a b) = D.df (((cfg0.win 10).blk t).view.emb (ix3 0 a b)) := by
  obtain ⟨i7, i8, i9, i10, i11⟩ := idx_out t
  have e : (((cfg0.win 10).blk t).view.emb (ix3 0 a b) : S4x2x4096.Idx) = ix3 ⟨t.val / 16 % 4, by omega⟩ a ⟨1024 * (t.val / 4 % 4) + b.val, by omega⟩ := by
    blk_ext [i10]
  rw [e, hX]
  unfold Glob.df upF
  have e3 : (1024 * (t.val / 4 % 4) + b.val) / 1024 = t.val / 4 % 4 := by omega
  have e4 : (1024 * (t.val / 4 % 4) + b.val) % 1024 = b.val := by omega
  simp only [ix3_0, ix3_1, ix3_2, e3, e4]

theorem place10_at (D : Glob) (t : Fin cfg0.N) (X : Vec Ideal S1x2x1024 .f32) (hX : X = upF (D.fS (t.val / 16 % 4) (t.val / 4 % 4) 4))
    (y : S1x2x1024.Idx) : X y = D.df (((cfg0.win 10).blk t).view.emb y) := by
  have e : y = ix3 0 (y 1) (y 2) := by
    funext k
    match k with
    | 0 => exact Subsingleton.elim (α := Fin 1) _ _
    | 1 => rfl
    | 2 => rfl
  rw [e]
  exact place10 D t X hX _ _

/-- The five results where the operands are the real numbers of D. -/
theorem results {r : PUnit × MemSt nD τ sig (Elt Ideal)} (h : Ends m r) (c : Dev nD) (D : Glob) (hD : IsGlob m c D) :
    r.2.mem ((c.tc : Thread nD τ).loc main_v41_0) = D.dq
      ∧ r.2.mem ((c.tc : Thread nD τ).loc main_v41_1) = D.dk
      ∧ r.2.mem ((c.tc : Thread nD τ).loc main_v41_2) = D.dv
      ∧ r.2.mem ((c.tc : Thread nD τ).loc main_v41_3) = D.df
      ∧ r.2.mem ((c.tc : Thread nD τ).loc main_v41_4) = D.dr := by
  obtain ⟨after, hL, hA⟩ := RDat.FramePost.exists_exact h c
  refine ⟨(hA 7).trans ?_, (hA 8).trans ?_, (hA 9).trans ?_, (hA 10).trans ?_, (hA 11).trans ?_⟩
  · refine ((rdat m c).withAfter after).arrAt_eq_of_covers 7 D.dq (by decide +kernel) fun t hf y => ?_
    have hr : Rl m c 7 t (after 7 t) := (dat m c).toRRel_leaves (fgt := outs) (Rl := Rl m c) (w := 7) rfl (hL 7 t hf)
    have ht := (flush0_7 t).mp hf
    rw [RDat.withAfter_after]
    rw [eq_ix2 (n0 := 4096) (n1 := 128) y]
    exact place7 D t ht _ (hr D hD) _ _
  · refine ((rdat m c).withAfter after).arrAt_eq_of_covers 8 D.dk (by decide +kernel) fun t hf y => ?_
    have hr : Rl m c 8 t (after 8 t) := (dat m c).toRRel_leaves (fgt := outs) (Rl := Rl m c) (w := 8) rfl (hL 8 t hf)
    have ht := (flush0_8 t).mp hf
    rw [RDat.withAfter_after]
    rw [eq_ix2 (n0 := 1024) (n1 := 128) y]
    exact place8 D t _ (hr D hD ht) _ _
  · refine ((rdat m c).withAfter after).arrAt_eq_of_covers 9 D.dv (by decide +kernel) fun t hf y => ?_
    have hr : Rl m c 9 t (after 9 t) := (dat m c).toRRel_leaves (fgt := outs) (Rl := Rl m c) (w := 9) rfl (hL 9 t hf)
    have ht := (flush0_9 t).mp hf
    rw [RDat.withAfter_after]
    rw [eq_ix2 (n0 := 1024) (n1 := 128) y]
    exact place9 D t _ (hr D hD ht) _ _
  · refine ((rdat m c).withAfter after).arrAt_eq_of_covers 10 D.df (by decide +kernel) fun t hf y => ?_
    have hr : Rl m c 10 t (after 10 t) := (dat m c).toRRel_leaves (fgt := outs) (Rl := Rl m c) (w := 10) rfl (hL 10 t hf)
    have ht := (flush0_10 t).mp hf
    rw [RDat.withAfter_after]
    exact place10_at D t _ (hr D hD ht) y
  · refine ((rdat m c).withAfter after).arrAt_eq_of_covers 11 D.dr (by decide +kernel) fun t hf y => ?_
    have hr : Rl m c 11 t (after 11 t) := (dat m c).toRRel_leaves (fgt := outs) (Rl := Rl m c) (w := 11) rfl (hL 11 t hf)
    have ht := (flush0_11 t).mp hf
    rw [RDat.withAfter_after]
    rw [eq_ix2 (n0 := 4096) (n1 := 128) y]
    exact place11 D t ht _ (hr D hD) _ _

end Cert.KernelIdeal.Hand
end
-- ==== Proof.Spec.lean ====
/- Causal attention with forget gates and its gradients over the real numbers, and the steps on extended reals by which the two
   programs reach them: the masked exponential, the row's greatest entry, the quotient by the row's sum. -/
module

public import Idealize.ShloMosaic.Lib.Pointwise
public import Idealize.ShloMosaic.Lib.ValueIdx
public import Idealize.ShloMosaic.Lib.WordCmp
public import Idealize.ShloMosaic.PureOps.Ideal.Laws

@[expose] public section

set_option maxRecDepth 16384

noncomputable section

namespace Cert.Attn

open Idealize.ShloMosaic

/-- The operands as real functions: the rows of q, k, v and of the cotangent by token and feature, the cumulative sums of the forget
    gate's logarithms by head and token. -/
structure Inp where
  q : ℕ → ℕ → ℝ
  k : ℕ → ℕ → ℝ
  v : ℕ → ℕ → ℝ
  c : ℕ → ℕ → ℝ
  g : ℕ → ℕ → ℝ

namespace Inp

variable (I : Inp)

/-- The logit of token t to token u in head h, without the term that a row shares. -/
def A (h t u : ℕ) : ℝ := (∑ d : Fin 64, I.q t (h * 64 + d.val) * I.k u (h * 64 + d.val)) - I.c h u
/-- Its masked exponential. -/
def X (h t u : ℕ) : ℝ := if u ≤ t then Real.exp (I.A h t u) else 0
/-- The row's sum. -/
def W (h t : ℕ) : ℝ := ∑ u : Fin 4096, I.X h t u.val
/-- The attention weight. -/
def p (h t u : ℕ) : ℝ := I.X h t u / I.W h t
/-- The attention's output. -/
def o (t b : ℕ) : ℝ := ∑ u : Fin 4096, I.v u.val b * I.p (b / 64) t u.val
/-- The cotangent of a weight. -/
def dp (h t u : ℕ) : ℝ := ∑ d : Fin 64, I.g t (h * 64 + d.val) * I.v u (h * 64 + d.val)
/-- The mean of the weights' cotangents along a row. -/
def dl (h t : ℕ) : ℝ := ∑ u : Fin 4096, I.p h t u.val * I.dp h t u.val
/-- The cotangent of a logit. -/
def ds (h t u : ℕ) : ℝ := I.p h t u * (I.dp h t u - I.dl h t)
/-- The gradients of q, k and v, and the sums of the logits' cotangents down a column, negated, and along a row. -/
def gq (a b : ℕ) : ℝ := ∑ u : Fin 4096, I.ds (b / 64) a u.val * I.k u.val b
def gk (a b : ℕ) : ℝ := ∑ t : Fin 4096, I.ds (b / 64) t.val a * I.q t.val b
def gv (a b : ℕ) : ℝ := ∑ t : Fin 4096, I.g t.val b * I.p (b / 64) t.val a
def gc (h u : ℕ) : ℝ := -∑ t : Fin 4096, I.ds h t.val u
def gr (h t : ℕ) : ℝ := ∑ u : Fin 4096, I.ds h t u.val

theorem X_nonneg (h t u : ℕ) : 0 ≤ I.X h t u := by
  unfold X; split
  · exact (Real.exp_pos _).le
  · exact le_refl _

theorem W_pos (h : ℕ) (t : Fin 4096) : 0 < I.W h t.val := by
  unfold W
  refine Finset.sum_pos' (fun _ _ => I.X_nonneg _ _ _) ⟨t, Finset.mem_univ _, ?_⟩
  simp only [X, le_refl, if_true]
  exact Real.exp_pos _

/-- Above the diagonal a weight is zero. -/
theorem p_above {h t u : ℕ} (hu : ¬u ≤ t) : I.p h t u = 0 := by simp only [p, X, if_neg hu, zero_div]
theorem ds_above {h t u : ℕ} (hu : ¬u ≤ t) : I.ds h t u = 0 := by simp only [ds, I.p_above hu, zero_mul]

end Inp

/-! ## Extended reals -/

/-- A sum of real numbers, each read as an extended real, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many extended reals, none of them +∞ and one of them real, is real. -/
theorem fold_max_real {ι : Type*} [Fintype ι] (x : ι → EReal) (hx : ∀ i, x i ≠ ⊤) {i : ι} {r : ℝ} (hi : x i = (r : EReal)) :
    ∃ M : ℝ, (Finset.univ : Finset ι).fold max ⊥ x = (M : EReal) := by
  classical
  have top : ∀ s : Finset ι, s.fold max ⊥ x ≠ ⊤ := by
    intro s
    induction s using Finset.induction_on with
    | empty => simp
    | insert a s ha ih =>
      rw [Finset.fold_insert ha]
      rcases max_choice (x a) (s.fold max ⊥ x) with e | e <;> rw [e]
      · exact hx a
      · exact ih
  have bot : (Finset.univ : Finset ι).fold max ⊥ x ≠ ⊥ := by
    intro e
    have : x i ≤ (Finset.univ : Finset ι).fold max ⊥ x := Finset.le_fold_max _ |>.mpr (Or.inr ⟨i, Finset.mem_univ _, le_refl _⟩)
    rw [e, hi] at this
    exact absurd this (not_le.mpr (EReal.bot_lt_coe r))
  exact ⟨_, (EReal.coe_toReal (top _) bot).symm⟩

/-- The masked exponential of a logit shifted by the row's term r less the row's greatest M. -/
theorem exp_shift (P : Prop) [Decidable P] (a r M : ℝ) :
    Ideal.exp ((if P then ((a + r : ℝ) : EReal) else ⊥) - (M : EReal)) = (((if P then Real.exp a else 0) * Real.exp (r - M) : ℝ) : EReal) := by
  by_cases h : P
  · rw [if_pos h, if_pos h, ← EReal.coe_sub, Ideal.exp_coe, ← Real.exp_add]
    congr 2; ring
  · rw [if_neg h, if_neg h, EReal.bot_sub, Ideal.exp_bot, zero_mul, EReal.coe_zero]

theorem div_real (x : ℝ) {y : ℝ} (hy : y ≠ 0) : Ideal.div (x : EReal) (y : EReal) = ((x / y : ℝ) : EReal) := by
  rw [Ideal.div_coe hy, ← EReal.coe_mul]; congr 1; ring

theorem log_real {y : ℝ} (hy : 0 < y) : Ideal.log (y : EReal) = ((Real.log y : ℝ) : EReal) := by
  rw [Ideal.log_coe, if_neg (not_le.mpr hy)]

theorem negInf : Ideal.ofBits FTy.f32 0xFF800000#32 = ⊥ := by simp [Ideal.ofBits, Ideal.ieee]

/-- Reading the mask's comparison of two token numbers. -/
theorem sle_tokens (t u : Fin 4096) : IntOp.cmpi CmpIPredicate.sle (BitVec.ofNat 32 u.val) (BitVec.ofNat 32 t.val) = if u.val ≤ t.val then 1#1 else 0#1 := by
  have ht := t.isLt
  have hu := u.isLt
  generalize t.val = t at *
  generalize u.val = u at *
  by_cases hh : u ≤ t
  · rw [if_pos hh]
    word_cmp
  · rw [if_neg hh]
    word_cmp

theorem select_if {α : Type} {P : Prop} [Decidable P] (a b : α) : Scalar.select (if P then 1#1 else 0#1) a b = if P then a else b := by
  by_cases h : P <;> simp [h, Scalar.select]

end Cert.Attn
-- ==== Proof.HostRead.lean ====
/- What the host's lines leave in the gradient kernel's operands: the forward output and the row log-sums of the attention, where the
   arguments are real numbers. -/
module

public import proofs.«01_k».proof.Proof.Blocks
public import proofs.«01_k».proof.Proof.Spec
public import Idealize.ShloMosaic.Lib.StableHlo.ReadAt

@[expose] public section

set_option maxRecDepth 16384

noncomputable section

namespace Cert.KernelIdeal.Hand

open Idealize.ShloMosaic Idealize.ShloMosaic.TcCoe
open Cert.KernelIdeal Cert.KernelIdeal.Gen
open Cert.Attn

/-- The masked logits. -/
def hS (q k : FVec Ideal S4096x512 .f32) (cu : FVec Ideal S8x4096 .f32) : FVec Ideal S8x4096x4096 .f32 :=
  select (broadcastInDim S8x4096x4096 ![1, 2] bcast_S4096x4096_S8x4096x4096_1_2
      (cmpi CmpIPredicate.sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (subf (addf (Host.dotGeneral dot_S4096x8x64_S4096x8x64_S8x4096x4096_2_2_0_0_1_1 none (shapeCast S4096x8x64 q shapeCasts_S4096x512_S4096x8x64) (shapeCast S4096x8x64 k shapeCasts_S4096x512_S4096x8x64))
        (broadcastInDim S8x4096x4096 ![0, 1, 2] bcast_S8x4096x1_S8x4096x4096_0_1_2 (broadcastInDim S8x4096x1 ![0, 1] bcast_S8x4096_S8x4096x1_0_1 (broadcastInDim S8x4096 ![] bcast_S_S8x4096 (constant S_ FTy.f32 0#32)))))
      (broadcastInDim S8x4096x4096 ![0, 1, 2] bcast_S8x1x4096_S8x4096x4096_0_1_2 (broadcastInDim S8x1x4096 ![0, 2] bcast_S8x4096_S8x1x4096_0_2 cu)))
    (broadcastInDim S8x4096x4096 ![] bcast_S_S8x4096x4096 (id (constant S_ FTy.f32 0xFF800000#32)))
/-- The rows' greatest logits. -/
def hM (s : FVec Ideal S8x4096x4096 .f32) : FVec Ideal S8x4096x1 .f32 :=
  broadcastInDim S8x4096x1 ![0, 1] bcast_S8x4096_S8x4096x1_0_1
    (Host.reduce FloatOps.maximumf s (constant S_ FTy.f32 0xFF800000#32) reducesTo_S8x4096x4096_S8x4096_d2 h_S_)
/-- The exponentials. -/
def hE (s : FVec Ideal S8x4096x4096 .f32) (M : FVec Ideal S8x4096x1 .f32) : FVec Ideal S8x4096x4096 .f32 :=
  Host.exp (subf s (broadcastInDim S8x4096x4096 ![0, 1, 2] bcast_S8x4096x1_S8x4096x4096_0_1_2 M))
/-- The rows' sums. -/
def hL (e : FVec Ideal S8x4096x4096 .f32) : FVec Ideal S8x4096x1 .f32 :=
  broadcastInDim S8x4096x1 ![0, 1] bcast_S8x4096_S8x4096x1_0_1
    (Host.reduceAdd e (constant S_ FTy.f32 0#32) reducesTo_S8x4096x4096_S8x4096_d2 h_S_)
/-- The attention weights. -/
def hP (e : FVec Ideal S8x4096x4096 .f32) (L : FVec Ideal S8x4096x1 .f32) : FVec Ideal S8x4096x4096 .f32 :=
  Host.divf e (broadcastInDim S8x4096x4096 ![0, 1, 2] bcast_S8x4096x1_S8x4096x4096_0_1_2 L)
/-- The attention's output. -/
def hO (v : FVec Ideal S4096x512 .f32) (p : FVec Ideal S8x4096x4096 .f32) : FVec Ideal S4096x512 .f32 :=
  shapeCast S4096x512 (transpose S4096x8x64 [2, 0, 1] (Host.dotGeneral dot_S4096x8x64_S8x4096x4096_S8x64x4096_0_2_2_1_1_0 none (shapeCast S4096x8x64 v shapeCasts_S4096x512_S4096x8x64) p) transposes_S8x64x4096_S4096x8x64_2_0_1) shapeCasts_S4096x8x64_S4096x512
/-- The rows' log-sums, repeated over each head's features. -/
def hR (M L : FVec Ideal S8x4096x1 .f32) : FVec Ideal S4096x512 .f32 :=
  shapeCast S4096x512 (broadcastInDim S4096x8x64 ![0, 1, 2] bcast_S4096x8x1_S4096x8x64_0_1_2 (broadcastInDim S4096x8x1 ![0, 1] bcast_S4096x8_S4096x8x1_0_1
    (transpose S4096x8 [1, 0] (shapeCast S8x4096 (addf M (Host.log L)) shapeCasts_S8x4096x1_S8x4096) transposes_S8x4096_S4096x8_1_0))) shapeCasts_S4096x8x64_S4096x512

variable (m : (ℓ : Loc nD τ sig) → Buf (Elt Ideal) ℓ) (c : Dev nD)
abbrev aq : FVec Ideal S4096x512 .f32 := m ((c.tc : Thread nD τ).loc main_arg0)
abbrev ak : FVec Ideal S4096x512 .f32 := m ((c.tc : Thread nD τ).loc main_arg1)
abbrev av : FVec Ideal S4096x512 .f32 := m ((c.tc : Thread nD τ).loc main_arg2)
abbrev ac : FVec Ideal S8x4096 .f32 := m ((c.tc : Thread nD τ).loc main_arg3)
abbrev ag : FVec Ideal S4096x1024 .f32 := m ((c.tc : Thread nD τ).loc main_arg4)

set_option maxHeartbeats 1000000 in
theorem read_o : (V m c main_v30 : FVec Ideal S4096x512 .f32) =
   hO (av m c) (hP (hE (hS (aq m c) (ak m c) (ac m c)) (hM (hS (aq m c) (ak m c) (ac m c)))) (hL (hE (hS (aq m c) (ak m c) (ac m c)) (hM (hS (aq m c) (ak m c) (ac m c)))))) := by
  unfold V
  simp only [hostOps0, hostOps0_1, hostOps0_2, List.flatten_cons, List.flatten_nil, List.cons_append, List.nil_append, List.append_nil]
  after_reads_simp
  rfl
set_option maxHeartbeats 1000000 in
theorem read_l : (V m c main_v37 : FVec Ideal S4096x512 .f32) =
   hR (hM (hS (aq m c) (ak m c) (ac m c))) (hL (hE (hS (aq m c) (ak m c) (ac m c)) (hM (hS (aq m c) (ak m c) (ac m c))))) := by
  unfold V
  simp only [hostOps0, hostOps0_1, hostOps0_2, List.flatten_cons, List.flatten_nil, List.cons_append, List.nil_append, List.append_nil]
  after_reads_simp
  rfl
set_option maxHeartbeats 1000000 in
theorem read_f : (V m c main_v40 : FVec Ideal S4x2x4096 .f32) = shapeCast S4x2x4096 (ac m c) shapeCasts_S8x4096_S4x2x4096 := by
  unfold V
  simp only [hostOps0, hostOps0_1, hostOps0_2, List.flatten_cons, List.flatten_nil, List.cons_append, List.nil_append, List.append_nil]
  after_reads_simp
  rfl
/-- What the host's lines before the operand's packing write. -/
def written : List (Ref sig .tc) := [main_v0, main_v1, main_v2, main_cst, main_v3, main_v4, main_v5, main_v6, main_v7, main_v8, main_v9, main_v10, main_v11, main_v12, main_v13, main_v14, main_v15, main_v16, main_v17, main_cst_0, main_call0_v0, main_call0_v1, main_call0_v2, main_v18, main_cst_1, main_v19, main_v20, main_v21, main_v22, main_v23, main_cst_2, main_v24, main_v25, main_v26, main_v27, main_v28, main_v29, main_v30, main_v31, main_v32, main_v33, main_v34, main_v35, main_v36, main_v37]

/-- They leave the arguments. -/
theorem kept {r : Ref sig .tc} (hr : r ∉ written) :
    StableHlo.upto ([hostOps0, hostOps0_1, hostOps0_2].flatten : List (HloOp τ sig (Elt Ideal))) (fun b => m (c, b)) 45 (Proc.devRef .tc r) = m (c, Proc.devRef .tc r) :=
  StableHlo.upto_unwritten written rfl hr _

/-- q, k and v side by side. -/
def pack (a b c : FVec Ideal S4096x512 .f32) : FVec Ideal S4096x1536 .bf16 :=
  truncf .bf16 (concatenate S4096x1536 1 [⟨S4096x512, a⟩, ⟨S4096x512, b⟩, ⟨S4096x512, c⟩] concatenates_S4096x512_S4096x512_S4096x512_S4096x1536_d1) bitsLt_bf16_f32

set_option maxHeartbeats 1000000 in
theorem read_x : (V m c main_v39 : FVec Ideal S4096x1536 .bf16) = pack (aq m c) (ak m c) (av m c) := by
  rw [show pack (aq m c) (ak m c) (av m c) = pack _ _ _ from
    congr (congr (congrArg pack (kept m c (r := main_arg0) (by decide)).symm) (kept m c (r := main_arg1) (by decide)).symm)
      (kept m c (r := main_arg2) (by decide)).symm]
  unfold V
  simp only [hostOps0, hostOps0_1, hostOps0_2, List.flatten_cons, List.flatten_nil, List.cons_append, List.nil_append, List.append_nil]
  after_reads_simp
  rfl

/-! ## Over real numbers -/

section
variable {I : Inp} {q k v : FVec Ideal S4096x512 .f32} {cu : FVec Ideal S8x4096 .f32}
  (hq : ∀ (a : Fin 4096) (b : Fin 512), q (ix2 a b) = ((I.q a.val b.val : ℝ) : EReal))
  (hk : ∀ (a : Fin 4096) (b : Fin 512), k (ix2 a b) = ((I.k a.val b.val : ℝ) : EReal))
  (hv : ∀ (a : Fin 4096) (b : Fin 512), v (ix2 a b) = ((I.v a.val b.val : ℝ) : EReal))
  (hc : ∀ (a : Fin 8) (b : Fin 4096), cu (ix2 a b) = ((I.c a.val b.val : ℝ) : EReal))

include hq hk hc in
theorem hS_at (h : Fin 8) (t u : Fin 4096) :
    hS q k cu (ix3 h t u) = if u.val ≤ t.val then ((I.A h.val t.val u.val + 0 : ℝ) : EReal) else ⊥ := by
  pointwise [hS]
  simp only [ix3_0, ix3_1, ix3_2, hq, hk, hc, sle_tokens, select_if, ← EReal.coe_mul, sum_coe, ← EReal.coe_sub, add_zero]
  congr 1

theorem hM_at {s : FVec Ideal S8x4096x4096 .f32} {r : ℕ → ℕ → ℕ → ℝ}
    (hs : ∀ (h : Fin 8) (t u : Fin 4096), s (ix3 h t u) = if u.val ≤ t.val then ((r h.val t.val u.val : ℝ) : EReal) else ⊥) :
    ∃ M : ℕ → ℕ → ℝ, ∀ (h : Fin 8) (t : Fin 4096), hM s (ix3 h t 0) = ((M h.val t.val : ℝ) : EReal) := by
  have key : ∀ (h : Fin 8) (t : Fin 4096), ∃ M : ℝ, hM s (ix3 h t 0) = (M : EReal) := by
    intro h t
    pointwise [hM, Host.reduce_eq_fold]
    simp only [ix3_0, ix3_1, negInf]
    refine fold_max_real _ (fun u => ?_) (i := t) (r := r h.val t.val t.val) ?_
    · rw [hs]; split
      · exact EReal.coe_ne_top _
      · exact bot_ne_top
    · rw [hs, if_pos (le_refl _)]
  choose M hM using key
  exact ⟨fun h t => if hh : h < 8 ∧ t < 4096 then M ⟨h, hh.1⟩ ⟨t, hh.2⟩ else 0, fun h t => by
    rw [hM h t]; simp only [dif_pos (And.intro h.isLt t.isLt)]⟩

variable {M : ℕ → ℕ → ℝ} {s e p : FVec Ideal S8x4096x4096 .f32} {mx l : FVec Ideal S8x4096x1 .f32}

theorem hE_at (hs : ∀ (h : Fin 8) (t u : Fin 4096), s (ix3 h t u) = if u.val ≤ t.val then ((I.A h.val t.val u.val + 0 : ℝ) : EReal) else ⊥)
    (hm : ∀ (h : Fin 8) (t : Fin 4096), mx (ix3 h t 0) = ((M h.val t.val : ℝ) : EReal)) (h : Fin 8) (t u : Fin 4096) :
    hE s mx (ix3 h t u) = ((I.X h.val t.val u.val * Real.exp (0 - M h.val t.val) : ℝ) : EReal) := by
  pointwise [hE]
  simp only [ix3_0, ix3_1, ix3_2, hs, hm, exp_shift]
  rfl

theorem hL_at (he : ∀ (h : Fin 8) (t u : Fin 4096), e (ix3 h t u) = ((I.X h.val t.val u.val * Real.exp (0 - M h.val t.val) : ℝ) : EReal))
    (h : Fin 8) (t : Fin 4096) : hL e (ix3 h t 0) = ((I.W h.val t.val * Real.exp (0 - M h.val t.val) : ℝ) : EReal) := by
  pointwise [hL]
  simp only [ix3_0, ix3_1, ix3_2, he, sum_coe, ← Finset.sum_mul]
  rfl

theorem hP_at (he : ∀ (h : Fin 8) (t u : Fin 4096), e (ix3 h t u) = ((I.X h.val t.val u.val * Real.exp (0 - M h.val t.val) : ℝ) : EReal))
    (hl : ∀ (h : Fin 8) (t : Fin 4096), l (ix3 h t 0) = ((I.W h.val t.val * Real.exp (0 - M h.val t.val) : ℝ) : EReal))
    (h : Fin 8) (t u : Fin 4096) : hP e l (ix3 h t u) = ((I.p h.val t.val u.val : ℝ) : EReal) := by
  have hz := Real.exp_pos (0 - M h.val t.val)
  pointwise [hP]
  simp only [ix3_0, ix3_1, ix3_2, he, hl]
  rw [div_real _ (mul_pos (I.W_pos _ t) hz).ne', mul_div_mul_right _ _ hz.ne']
  rfl

include hv in
theorem hO_at (hp : ∀ (h : Fin 8) (t u : Fin 4096), p (ix3 h t u) = ((I.p h.val t.val u.val : ℝ) : EReal)) (t : Fin 4096) (b : Fin 512) :
    hO v p (ix2 t b) = ((I.o t.val b.val : ℝ) : EReal) := by
  pointwise [hO]
  simp only [ix2_0, ix2_1, hv, hp, ← EReal.coe_mul, sum_coe]
  rfl

theorem hR_at (hm : ∀ (h : Fin 8) (t : Fin 4096), mx (ix3 h t 0) = ((M h.val t.val : ℝ) : EReal))
    (hl : ∀ (h : Fin 8) (t : Fin 4096), l (ix3 h t 0) = ((I.W h.val t.val * Real.exp (0 - M h.val t.val) : ℝ) : EReal))
    (t : Fin 4096) (b : Fin 512) : hR mx l (ix2 t b) = ((Real.log (I.W (b.val / 64) t.val) : ℝ) : EReal) := by
  have hz := Real.exp_pos (0 - M (b.val / 64) t.val)
  have hw := I.W_pos (b.val / 64) t
  pointwise [hR]
  simp only [ix2_0, ix2_1, hm, hl]
  rw [log_real (mul_pos hw hz), ← EReal.coe_add, Real.log_mul hw.ne' hz.ne', Real.log_exp]
  congr 1; ring
end

/-- The kernel's operands as real functions, from the arguments. -/
def glob (I : Inp) : Glob where
  x := fun a b => if b < 512 then I.q a b else if b - 512 < 512 then I.k a (b - 512) else I.v a (b - 512 - 512)
  f := fun h a u => I.c (2 * h + a) u
  o := I.o
  l := fun t b => Real.log (I.W (b / 64) t)
  g := I.g

/-- The arguments hold the real numbers of I. -/
structure Args (I : Inp) : Prop where
  q : ∀ (a : Fin 4096) (b : Fin 512), aq m c (ix2 a b) = ((I.q a.val b.val : ℝ) : EReal)
  k : ∀ (a : Fin 4096) (b : Fin 512), ak m c (ix2 a b) = ((I.k a.val b.val : ℝ) : EReal)
  v : ∀ (a : Fin 4096) (b : Fin 512), av m c (ix2 a b) = ((I.v a.val b.val : ℝ) : EReal)
  f : ∀ (a : Fin 8) (b : Fin 4096), ac m c (ix2 a b) = ((I.c a.val b.val : ℝ) : EReal)
  g : ∀ (a : Fin 4096) (b : Fin 1024), ag m c (ix2 a b) = ((I.g a.val b.val : ℝ) : EReal)

variable {m c}

theorem isGlob {I : Inp} (h : Args m c I) : IsGlob m c (glob I) := by
  obtain ⟨M, hM⟩ := hM_at (r := fun h t u => I.A h t u + 0) (hS_at h.q h.k h.f)
  have he := hE_at (hS_at h.q h.k h.f) hM
  have hl := hL_at he
  refine ⟨fun a b => ?_, fun h' a u => ?_, fun a b => ?_, fun a b => ?_, fun a b => ?_⟩
  · rw [read_x]
    pointwise [pack]
    simp only [h.q, h.k, h.v]
    unfold glob
    simp only [dite_eq_ite, ite_up]
  · rw [read_f]
    pointwise
    rw [h.f]
    simp only [glob, mul_comm]
  · rw [read_o]
    exact hO_at h.v (hP_at he hl) a b
  · rw [read_l]
    exact hR_at hM hl a b
  · rw [V_main_arg4]
    exact h.g a b

end Cert.KernelIdeal.Hand
-- ==== Proof.Math.lean ====
/- The sums over all tiles are the gradients of the attention. -/
module

public import proofs.«01_k».proof.Proof.KRun
public import proofs.«01_k».proof.Proof.HostRead

@[expose] public section

set_option maxRecDepth 16384

noncomputable section

namespace Cert.KernelIdeal.Hand

open Idealize.ShloMosaic
open Cert.Attn

/-- A sum over the lanes of one head of a pair is a sum over the head's features. -/
theorem sum_head (k : Fin 2) (F : ℕ → ℝ) : (∑ d : Fin 128, if Tl.Hd k d then F d.val else 0) = ∑ e : Fin 64, F (64 * k.val + e.val) := by
  rw [← Finset.sum_filter]
  symm
  refine Finset.sum_bij (fun (e : Fin 64) _ => (⟨64 * k.val + e.val, by omega⟩ : Fin 128)) ?_ ?_ ?_ ?_
  · intro e _
    simp only [Finset.mem_filter, Finset.mem_univ, true_and]
    show (64 * k.val + e.val) / 64 = k.val
    omega
  · intro a _ b _ h
    have := congrArg Fin.val h
    exact Fin.ext (by simpa using this)
  · intro d hd
    simp only [Finset.mem_filter, Finset.mem_univ, true_and] at hd
    refine ⟨⟨d.val % 64, by omega⟩, Finset.mem_univ _, Fin.ext ?_⟩
    show 64 * k.val + d.val % 64 = d.val
    omega
  · intro e _; rfl

/-- Of the two heads of a pair a lane belongs to one. -/
theorem sum_pick (d : Fin 128) (F : Fin 2 → ℝ) (G : ℕ → ℝ) (hF : ∀ k, F k = if Tl.Hd k d then G k.val else 0) : ∑ k, F k = G (d.val / 64) := by
  rw [Fin.sum_univ_two, hF, hF]
  rcases (show d.val / 64 = 0 ∨ d.val / 64 = 1 by omega) with h | h
  · rw [if_pos (show Tl.Hd 0 d from h), if_neg (show ¬Tl.Hd 1 d from fun e => by rw [Tl.Hd, h] at e; exact absurd e (by decide)), h, add_zero]; rfl
  · rw [if_neg (show ¬Tl.Hd 0 d from fun e => by rw [Tl.Hd, h] at e; exact absurd e (by decide)), if_pos (show Tl.Hd 1 d from h), h, zero_add]; rfl

/-- A sum over four blocks of 1024 is a sum over 4096. -/
theorem sum_blocks (F : ℕ → ℝ) : (∑ j ∈ Finset.range 4, ∑ u : Fin 1024, F (1024 * j + u.val)) = ∑ u : Fin 4096, F u.val := by
  rw [Fin.sum_univ_eq_sum_range (fun n => F n) 4096]
  simp only [fun j => Fin.sum_univ_eq_sum_range (fun n => F (1024 * j + n)) 1024]
  rw [show (4096 : ℕ) = 1024 + 1024 + 1024 + 1024 from rfl, Finset.sum_range_add, Finset.sum_range_add, Finset.sum_range_add]
  simp only [Finset.sum_range_succ, Finset.sum_range_zero, zero_add, Nat.reduceMul, Nat.reduceAdd]

section
variable (I : Inp) {h j b : ℕ} (hh : h < 4) (hj : j < 4) (hb : b < 4)

/-- The pair's columns of the packed operand. -/
theorem x_q (t d : ℕ) (hd : 128 * h + d < 512) : (glob I).x t (128 * h + d) = I.q t (128 * h + d) := by
  simp only [glob, if_pos hd]
theorem x_k (t d : ℕ) (hd : 128 * h + d < 512) : (glob I).x t (512 + 128 * h + d) = I.k t (128 * h + d) := by
  simp only [glob]
  rw [if_neg (by omega), if_pos (by omega)]; congr 1; omega
theorem x_v (t d : ℕ) (hd : 128 * h + d < 512) : (glob I).x t (1024 + 128 * h + d) = I.v t (128 * h + d) := by
  simp only [glob]
  rw [if_neg (by omega), if_neg (by omega)]; congr 1; omega

include hh in
theorem tl_q (t : Fin 1024) (d : Fin 128) : ((glob I).tl h j b).q t d = I.q (1024 * b + t.val) (128 * h + d.val) := x_q I _ _ (by omega)
include hh in
theorem tl_k (u : Fin 1024) (d : Fin 128) : ((glob I).tl h j b).k u d = I.k (1024 * j + u.val) (128 * h + d.val) := x_k I _ _ (by omega)
include hh in
theorem tl_v (u : Fin 1024) (d : Fin 128) : ((glob I).tl h j b).v u d = I.v (1024 * j + u.val) (128 * h + d.val) := x_v I _ _ (by omega)

/-- A pair's lane as a feature of a head. -/
theorem feat (k : Fin 2) (e : Fin 64) : 128 * h + (64 * k.val + e.val) = (2 * h + k.val) * 64 + e.val := by omega

include hh in
theorem tl_s (k : Fin 2) (t u : Fin 1024) : ((glob I).tl h j b).s k t u = I.A (2 * h + k.val) (1024 * b + t.val) (1024 * j + u.val) := by
  unfold Tl.s Inp.A
  simp only [tl_q I hh, tl_k I hh, ite_mul, zero_mul]
  rw [sum_head k fun n => I.q (1024 * b + t.val) (128 * h + n) * I.k (1024 * j + u.val) (128 * h + n)]
  simp only [feat]
  rfl

include hh in
theorem tl_dp (k : Fin 2) (t u : Fin 1024) : ((glob I).tl h j b).dp k t u = I.dp (2 * h + k.val) (1024 * b + t.val) (1024 * j + u.val) := by
  unfold Tl.dp Inp.dp
  simp only [tl_v I hh, ite_mul, zero_mul, show ∀ d : Fin 128, ((glob I).tl h j b).g t d = I.g (1024 * b + t.val) (128 * h + d.val) from fun _ => rfl]
  rw [sum_head k fun n => I.g (1024 * b + t.val) (128 * h + n) * I.v (1024 * j + u.val) (128 * h + n)]
  simp only [feat]

theorem tl_dl (k : Fin 2) (t : Fin 1024) : ((glob I).tl h j b).dl k t = I.dl (2 * h + k.val) (1024 * b + t.val) := by
  unfold Tl.dl
  rw [show (∑ d, if Tl.Hd k d then ((glob I).tl h j b).g t d * ((glob I).tl h j b).o t d else 0)
      = ∑ e : Fin 64, I.g (1024 * b + t.val) (128 * h + (64 * k.val + e.val)) * I.o (1024 * b + t.val) (128 * h + (64 * k.val + e.val)) from
    sum_head k fun n => I.g (1024 * b + t.val) (128 * h + n) * I.o (1024 * b + t.val) (128 * h + n)]
  simp only [feat]
  unfold Inp.o Inp.dl Inp.dp
  simp only [Finset.mul_sum]
  rw [Finset.sum_comm]
  refine Finset.sum_congr rfl fun u _ => Finset.sum_congr rfl fun e _ => ?_
  rw [show ((2 * h + k.val) * 64 + e.val) / 64 = 2 * h + k.val by omega]
  ring

include hh hb in
theorem tl_p (k : Fin 2) (t u : Fin 1024) :
    ((glob I).tl h j b).p (see j b) k t u = I.p (2 * h + k.val) (1024 * b + t.val) (1024 * j + u.val) := by
  unfold Tl.p
  rw [tl_s I hh]
  show (if 1024 * j + u.val ≤ 1024 * b + t.val then Real.exp (_ - Real.log (I.W ((128 * h + (64 * k.val + u.val % 64)) / 64) (1024 * b + t.val))) else 0) = _
  rw [show (128 * h + (64 * k.val + u.val % 64)) / 64 = 2 * h + k.val by omega]
  unfold Inp.p Inp.X
  split
  · rw [Real.exp_sub, Real.exp_log (I.W_pos _ (⟨1024 * b + t.val, by omega⟩ : Fin 4096))]
  · rw [zero_div]

include hh hb in
theorem tl_ds (k : Fin 2) (t u : Fin 1024) :
    ((glob I).tl h j b).ds (see j b) k t u = I.ds (2 * h + k.val) (1024 * b + t.val) (1024 * j + u.val) := by
  unfold Tl.ds Inp.ds
  rw [tl_p I hh hb, tl_dp I hh, tl_dl]

include hh hb in
theorem tl_dq (t : Fin 1024) (d : Fin 128) : ((glob I).tl h j b).dq (see j b) t d
    = ∑ u : Fin 1024, I.ds (2 * h + d.val / 64) (1024 * b + t.val) (1024 * j + u.val) * I.k (1024 * j + u.val) (128 * h + d.val) := by
  unfold Tl.dq
  refine sum_pick d _ (fun k => ∑ u : Fin 1024, I.ds (2 * h + k) (1024 * b + t.val) (1024 * j + u.val) * I.k (1024 * j + u.val) (128 * h + d.val)) fun k => ?_
  simp only [tl_ds I hh hb, tl_k I hh, mul_ite, mul_zero]
  split
  · rfl
  · exact Finset.sum_const_zero

include hh hb in
theorem tl_dk (d : Fin 128) (u : Fin 1024) : ((glob I).tl h j b).dk (see j b) d u
    = ∑ t : Fin 1024, I.ds (2 * h + d.val / 64) (1024 * b + t.val) (1024 * j + u.val) * I.q (1024 * b + t.val) (128 * h + d.val) := by
  unfold Tl.dk
  refine sum_pick d _ (fun k => ∑ t : Fin 1024, I.ds (2 * h + k) (1024 * b + t.val) (1024 * j + u.val) * I.q (1024 * b + t.val) (128 * h + d.val)) fun k => ?_
  simp only [tl_ds I hh hb, tl_q I hh, ite_mul, zero_mul]
  split
  · exact Finset.sum_congr rfl fun _ _ => mul_comm _ _
  · exact Finset.sum_const_zero

include hh hb in
theorem tl_dv (d : Fin 128) (u : Fin 1024) : ((glob I).tl h j b).dv (see j b) d u
    = ∑ t : Fin 1024, I.g (1024 * b + t.val) (128 * h + d.val) * I.p (2 * h + d.val / 64) (1024 * b + t.val) (1024 * j + u.val) := by
  unfold Tl.dv
  refine sum_pick d _ (fun k => ∑ t : Fin 1024, I.g (1024 * b + t.val) (128 * h + d.val) * I.p (2 * h + k) (1024 * b + t.val) (1024 * j + u.val)) fun k => ?_
  simp only [tl_p I hh hb, ite_mul, zero_mul]
  split
  · rfl
  · exact Finset.sum_const_zero

include hh hb in
theorem tl_df (k : Fin 2) (u : Fin 1024) : ((glob I).tl h j b).df (see j b) k u
    = ∑ t : Fin 1024, I.ds (2 * h + k.val) (1024 * b + t.val) (1024 * j + u.val) := by
  unfold Tl.df
  simp only [tl_ds I hh hb]

include hh hb in
theorem tl_dr (t : Fin 1024) (d : Fin 128) : ((glob I).tl h j b).dr (see j b) t d
    = ∑ u : Fin 1024, I.ds (2 * h + d.val / 64) (1024 * b + t.val) (1024 * j + u.val) := by
  unfold Tl.dr
  refine sum_pick d _ (fun k => ∑ u : Fin 1024, I.ds (2 * h + k) (1024 * b + t.val) (1024 * j + u.val)) fun k => ?_
  simp only [tl_ds I hh hb]

/-- A tile above the diagonal adds nothing. -/
theorem fill {P : Prop} [Decidable P] (x y : ℝ) (h : P → x = y) (h' : ¬P → y = 0) : (if P then x else 0) = y := by
  split
  · exact h ‹_›
  · exact (h' ‹_›).symm

include hh hb in
theorem qS_eq (t : Fin 1024) (d : Fin 128) : (glob I).qS h b 4 t d = I.gq (1024 * b + t.val) (128 * h + d.val) := by
  unfold Glob.qS Inp.gq
  rw [← sum_blocks fun n => I.ds ((128 * h + d.val) / 64) (1024 * b + t.val) n * I.k n (128 * h + d.val), show (128 * h + d.val) / 64 = 2 * h + d.val / 64 by omega]
  refine Finset.sum_congr rfl fun j hj => fill _ _ (fun _ => tl_dq I hh hb t d) fun hn => Finset.sum_eq_zero fun u _ => ?_
  rw [I.ds_above (by omega), zero_mul]

include hh hb in
theorem rS_eq (t : Fin 1024) (d : Fin 128) : (glob I).rS h b 4 t d = I.gr ((128 * h + d.val) / 64) (1024 * b + t.val) := by
  unfold Glob.rS Inp.gr
  rw [← sum_blocks fun n => I.ds ((128 * h + d.val) / 64) (1024 * b + t.val) n, show (128 * h + d.val) / 64 = 2 * h + d.val / 64 by omega]
  refine Finset.sum_congr rfl fun j hj => fill _ _ (fun _ => tl_dr I hh hb t d) fun hn => Finset.sum_eq_zero fun u _ => ?_
  rw [I.ds_above (by omega)]

include hh in
theorem kS_eq (d : Fin 128) (u : Fin 1024) : (glob I).kS h j 4 d u = I.gk (1024 * j + u.val) (128 * h + d.val) := by
  unfold Glob.kS Inp.gk
  rw [← sum_blocks fun n => I.ds ((128 * h + d.val) / 64) n (1024 * j + u.val) * I.q n (128 * h + d.val), show (128 * h + d.val) / 64 = 2 * h + d.val / 64 by omega]
  refine Finset.sum_congr rfl fun b hb => fill _ _ (fun _ => tl_dk I hh (Finset.mem_range.mp hb) d u) fun hn => Finset.sum_eq_zero fun t _ => ?_
  rw [I.ds_above (by omega), zero_mul]

include hh in
theorem vS_eq (d : Fin 128) (u : Fin 1024) : (glob I).vS h j 4 d u = I.gv (1024 * j + u.val) (128 * h + d.val) := by
  unfold Glob.vS Inp.gv
  rw [← sum_blocks fun n => I.g n (128 * h + d.val) * I.p ((128 * h + d.val) / 64) n (1024 * j + u.val), show (128 * h + d.val) / 64 = 2 * h + d.val / 64 by omega]
  refine Finset.sum_congr rfl fun b hb => fill _ _ (fun _ => tl_dv I hh (Finset.mem_range.mp hb) d u) fun hn => Finset.sum_eq_zero fun t _ => ?_
  rw [I.p_above (by omega), mul_zero]

include hh in
theorem fS_eq (k : Fin 2) (u : Fin 1024) : (glob I).fS h j 4 k u = I.gc (2 * h + k.val) (1024 * j + u.val) := by
  unfold Glob.fS Inp.gc
  rw [← sum_blocks fun n => I.ds (2 * h + k.val) n (1024 * j + u.val)]
  congr 1
  refine Finset.sum_congr rfl fun b hb => fill _ _ (fun _ => tl_df I hh (Finset.mem_range.mp hb) k u) fun hn => Finset.sum_eq_zero fun t _ => ?_
  rw [I.ds_above (by omega)]
end

/-! ## The whole results -/
section
variable (I : Inp)

theorem dq_eq (a : Fin 4096) (b : Fin 512) : (glob I).dq (ix2 a b) = ((I.gq a.val b.val : ℝ) : EReal) := by
  have ha := a.isLt
  have hb := b.isLt
  rw [show (glob I).dq (ix2 a b) = (((glob I).qS (b.val / 128) (a.val / 1024) 4 ⟨a.val % 1024, Nat.mod_lt _ (by decide)⟩ ⟨b.val % 128, Nat.mod_lt _ (by decide)⟩ : ℝ) : EReal) from rfl,
    qS_eq I (by omega) (by omega)]
  rw [show 1024 * (a.val / 1024) + a.val % 1024 = a.val by omega, show 128 * (b.val / 128) + b.val % 128 = b.val by omega]

theorem dr_eq (a : Fin 4096) (b : Fin 512) : (glob I).dr (ix2 a b) = ((I.gr (b.val / 64) a.val : ℝ) : EReal) := by
  have ha := a.isLt
  have hb := b.isLt
  rw [show (glob I).dr (ix2 a b) = (((glob I).rS (b.val / 128) (a.val / 1024) 4 ⟨a.val % 1024, Nat.mod_lt _ (by decide)⟩ ⟨b.val % 128, Nat.mod_lt _ (by decide)⟩ : ℝ) : EReal) from rfl,
    rS_eq I (by omega) (by omega)]
  rw [show 1024 * (a.val / 1024) + a.val % 1024 = a.val by omega, show 128 * (b.val / 128) + b.val % 128 = b.val by omega]

theorem dk_eq (a : Fin 4096) (b : Fin 512) : (glob I).dk (ix2 a b) = ((I.gk a.val b.val : ℝ) : EReal) := by
  have hb := b.isLt
  rw [show (glob I).dk (ix2 a b) = (((glob I).kS (b.val / 128) (a.val / 1024) 4 ⟨b.val % 128, Nat.mod_lt _ (by decide)⟩ ⟨a.val % 1024, Nat.mod_lt _ (by decide)⟩ : ℝ) : EReal) from rfl,
    kS_eq I (by omega)]
  rw [show 1024 * (a.val / 1024) + a.val % 1024 = a.val by omega, show 128 * (b.val / 128) + b.val % 128 = b.val by omega]

theorem dv_eq (a : Fin 4096) (b : Fin 512) : (glob I).dv (ix2 a b) = ((I.gv a.val b.val : ℝ) : EReal) := by
  have hb := b.isLt
  rw [show (glob I).dv (ix2 a b) = (((glob I).vS (b.val / 128) (a.val / 1024) 4 ⟨b.val % 128, Nat.mod_lt _ (by decide)⟩ ⟨a.val % 1024, Nat.mod_lt _ (by decide)⟩ : ℝ) : EReal) from rfl,
    vS_eq I (by omega)]
  rw [show 1024 * (a.val / 1024) + a.val % 1024 = a.val by omega, show 128 * (b.val / 128) + b.val % 128 = b.val by omega]

theorem df_eq (h : Fin 4) (a : Fin 2) (u : Fin 4096) : (glob I).df (ix3 h a u) = ((I.gc (2 * h.val + a.val) u.val : ℝ) : EReal) := by
  rw [show (glob I).df (ix3 h a u) = (((glob I).fS h.val (u.val / 1024) 4 a ⟨u.val % 1024, Nat.mod_lt _ (by decide)⟩ : ℝ) : EReal) from rfl,
    fS_eq I h.isLt]
  rw [show 1024 * (u.val / 1024) + u.val % 1024 = u.val by omega]
end

end Cert.KernelIdeal.Hand
-- ==== Proof.RefRead.lean ====
/- The reference's five results where the arguments are real numbers: the gradients of the attention. -/
module

public import proofs.«01_k».proof.Proof.Gen.ReferenceIdeal.Run
public import proofs.«01_k».proof.Proof.Spec

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Value
open Cert.Attn

abbrev Rows := FVec Ideal S4096x512 .f32
abbrev Sq := FVec Ideal S8x4096x4096 .f32

/-! ## The stages of the computation -/

/-- Heads apart. -/
def heads (a : Rows) : FVec Ideal S4096x8x64 .f32 := shapeCast S4096x8x64 a shapeCasts_S4096x512_S4096x8x64

/-- Which token sees which. -/
def mask : S8x4096x4096.Idx → BitVec 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The masked logits. -/
def logits (q k : Rows) (cu : FVec Ideal S8x4096 .f32) : Sq :=
  select mask
    (subf (addf (Host.dotGeneral dot_S4096x8x64_S4096x8x64_S8x4096x4096_2_2_0_0_1_1 none (heads q) (heads k))
        (broadcastInDim S8x4096x4096 ![0, 1, 2] bcast_S8x4096x1_S8x4096x4096_0_1_2 (broadcastInDim S8x4096x1 ![0, 1] bcast_S8x4096_S8x4096x1_0_1 cu)))
      (broadcastInDim S8x4096x4096 ![0, 1, 2] bcast_S8x1x4096_S8x4096x4096_0_1_2 (broadcastInDim S8x1x4096 ![0, 2] bcast_S8x4096_S8x1x4096_0_2 cu)))
    (broadcastInDim S8x4096x4096 ![] bcast_S_S8x4096x4096 (id (constant S_ .f32 0xFF800000#32)))

/-- The rows' greatest logits. -/
def greatest (s : Sq) : FVec Ideal S8x4096 .f32 :=
  Host.reduce FloatOps.maximumf s (constant S_ .f32 0xFF800000#32) reducesTo_S8x4096x4096_S8x4096_d2 h_S_
def most (s : Sq) : FVec Ideal S8x4096 .f32 :=
  maximumf (broadcastInDim S8x4096 ![] bcast_S_S8x4096 (constant S_ .f32 0xFF800000#32)) (greatest s)

/-- The exponentials. -/
def exps (s : Sq) (M : FVec Ideal S8x4096 .f32) : Sq :=
  Host.exp (subf s (broadcastInDim S8x4096x4096 ![0, 1, 2] bcast_S8x4096x1_S8x4096x4096_0_1_2 (broadcastInDim S8x4096x1 ![0, 1] bcast_S8x4096_S8x4096x1_0_1 M)))

/-- The rows' sums. -/
def sums (e : Sq) : FVec Ideal S8x4096x1 .f32 :=
  broadcastInDim S8x4096x1 ![0, 1] bcast_S8x4096_S8x4096x1_0_1
    (Host.reduceAdd e (constant S_ .f32 0x00000000#32) reducesTo_S8x4096x4096_S8x4096_d2 h_S_)

/-- The attention weights. -/
def weights (e : Sq) (l : FVec Ideal S8x4096x1 .f32) : Sq :=
  Host.divf e (broadcastInDim S8x4096x4096 ![0, 1, 2] bcast_S8x4096x1_S8x4096x4096_0_1_2 l)

/-- The cotangent by head, feature and token. -/
def cot (d : FVec Ideal S4096x1024 .f32) : FVec Ideal S8x64x4096 .f32 :=
  transpose S8x64x4096 [1, 2, 0] (heads (extractStridedSlice S4096x512 ![0, 0] d slices_S4096x1024_S4096x512_0_0)) transposes_S4096x8x64_S8x64x4096_1_2_0

/-- The weights' cotangents. -/
def dweights (d : FVec Ideal S4096x1024 .f32) (v : Rows) : Sq :=
  Host.dotGeneral dot_S8x64x4096_S4096x8x64_S8x4096x4096_1_2_2_0_0_1 none (cot d) (heads v)

/-- The cotangents of the rows' sums. -/
def dsums (dp e : Sq) (l : FVec Ideal S8x4096x1 .f32) : FVec Ideal S8x4096 .f32 :=
  Host.reduceAdd (Host.negf (shapeCast S8x4096x1 (Host.reduceAdd (mulf (mulf dp (broadcastInDim S8x4096x4096 ![0, 1, 2] bcast_S8x4096x1_S8x4096x4096_0_1_2
      (Host.divf (broadcastInDim S8x4096x1 ![] bcast_S_S8x4096x1 (constant S_ .f32 0x3F800000#32)) (mulf l l)))) e)
      (constant S_ .f32 0x00000000#32) reducesTo_S8x4096x4096_S8x4096_d2 h_S_) shapeCasts_S8x4096_S8x4096x1))
    (constant S_ .f32 0x00000000#32) reducesTo_S8x4096x1_S8x4096_d2 h_S_

/-- The logits' cotangents. -/
def dlogits (dp e : Sq) (l : FVec Ideal S8x4096x1 .f32) (y : FVec Ideal S8x4096 .f32) : Sq :=
  select mask
    (mulf (addf (Host.divf dp (broadcastInDim S8x4096x4096 ![0, 1, 2] bcast_S8x4096x1_S8x4096x4096_0_1_2 l))
      (broadcastInDim S8x4096x4096 ![0, 1] bcast_S8x4096_S8x4096x4096_0_1 y)) e)
    (broadcastInDim S8x4096x4096 ![] bcast_S_S8x4096x4096 (constant S_ .f32 0x00000000#32))

/-- Heads together again. -/
def rows (a : FVec Ideal S4096x8x64 .f32) : Rows := shapeCast S4096x512 a shapeCasts_S4096x8x64_S4096x512

def outQ (ds : Sq) (k : Rows) : Rows :=
  rows (transpose S4096x8x64 [1, 0, 2] (Host.dotGeneral dot_S8x4096x4096_S4096x8x64_S8x4096x64_2_0_1_2_0_1 none ds (heads k)) transposes_S8x4096x64_S4096x8x64_1_0_2)
def outK (ds : Sq) (q : Rows) : Rows :=
  rows (transpose S4096x8x64 [1, 0, 2] (Host.dotGeneral dot_S8x4096x4096_S4096x8x64_S8x4096x64_1_0_2_2_0_1 none ds (heads q)) transposes_S8x4096x64_S4096x8x64_1_0_2)
def outV (d : FVec Ideal S4096x1024 .f32) (p : Sq) : Rows :=
  rows (transpose S4096x8x64 [2, 0, 1] (Host.dotGeneral dot_S8x64x4096_S8x4096x4096_S8x64x4096_2_1_1_2_0_0 none (cot d) p) transposes_S8x64x4096_S4096x8x64_2_0_1)
def outC (ds : Sq) : FVec Ideal S4x2x4096 .f32 :=
  shapeCast S4x2x4096 (Host.reduceAdd (shapeCast S8x1x4096 (Host.reduceAdd (Host.negf ds)
    (constant S_ .f32 0x00000000#32) reducesTo_S8x4096x4096_S8x4096_d1 h_S_) shapeCasts_S8x4096_S8x1x4096)
    (constant S_ .f32 0x00000000#32) reducesTo_S8x1x4096_S8x4096_d1 h_S_) shapeCasts_S8x4096_S4x2x4096
def outR (ds : Sq) : Rows :=
  rows (broadcastInDim S4096x8x64 ![0, 1, 2] bcast_S4096x8x1_S4096x8x64_0_1_2 (broadcastInDim S4096x8x1 ![0, 1] bcast_S4096x8_S4096x8x1_0_1
    (transpose S4096x8 [1, 0] (Host.reduceAdd (shapeCast S8x4096x1 (Host.reduceAdd ds
      (constant S_ .f32 0x00000000#32) reducesTo_S8x4096x4096_S8x4096_d2 h_S_) shapeCasts_S8x4096_S8x4096x1)
      (constant S_ .f32 0x00000000#32) reducesTo_S8x4096x1_S8x4096_d2 h_S_) transposes_S8x4096_S4096x8_1_0)))

section
variable (m : (ℓ : Loc nD τ sig) → Buf (Elt Ideal) ℓ) (c : Dev nD)
abbrev aq : Rows := m ((c.tc : Thread nD τ).loc main_arg0)
abbrev ak : Rows := m ((c.tc : Thread nD τ).loc main_arg1)
abbrev av : Rows := m ((c.tc : Thread nD τ).loc main_arg2)
abbrev ac : FVec Ideal S8x4096 .f32 := m ((c.tc : Thread nD τ).loc main_arg3)
abbrev ag : FVec Ideal S4096x1024 .f32 := m ((c.tc : Thread nD τ).loc main_arg4)

def lg : Sq := logits (aq m c) (ak m c) (ac m c)
def ex : Sq := exps (lg m c) (most (lg m c))
def su : FVec Ideal S8x4096x1 .f32 := sums (ex m c)
def dw : Sq := dweights (ag m c) (av m c)
def dl : Sq := dlogits (dw m c) (ex m c) (su m c) (dsums (dw m c) (ex m c) (su m c))

theorem res_q : (res_main_v81 m c : Rows) = outQ (dl m c) (ak m c) := rfl
theorem res_k : (res_main_v82 m c : Rows) = outK (dl m c) (aq m c) := rfl
theorem res_v : (res_main_v83 m c : Rows) = outV (ag m c) (weights (ex m c) (su m c)) := rfl
theorem res_c : (res_main_v84 m c : FVec Ideal S4x2x4096 .f32) = outC (dl m c) := rfl
theorem res_r : (res_main_v85 m c : Rows) = outR (dl m c) := rfl
end

/-! ## Over real numbers -/

section
variable {I : Inp} {q k v : Rows} {cu : FVec Ideal S8x4096 .f32} {d : FVec Ideal S4096x1024 .f32}
  (hq : ∀ (a : Fin 4096) (b : Fin 512), q (ix2 a b) = ((I.q a.val b.val : ℝ) : EReal))
  (hk : ∀ (a : Fin 4096) (b : Fin 512), k (ix2 a b) = ((I.k a.val b.val : ℝ) : EReal))
  (hv : ∀ (a : Fin 4096) (b : Fin 512), v (ix2 a b) = ((I.v a.val b.val : ℝ) : EReal))
  (hc : ∀ (a : Fin 8) (b : Fin 4096), cu (ix2 a b) = ((I.c a.val b.val : ℝ) : EReal))
  (hg : ∀ (a : Fin 4096) (b : Fin 1024), d (ix2 a b) = ((I.g a.val b.val : ℝ) : EReal))

theorem mask_at (h : Fin 8) (t u : Fin 4096) : mask (ix3 h t u) = if u.val ≤ t.val then 1#1 else 0#1 := by
  pointwise [mask]
  simp only [ix3_1, ix3_2, sle_tokens]

include hq hk hc in
theorem logits_at (h : Fin 8) (t u : Fin 4096) :
    logits q k cu (ix3 h t u) = if u.val ≤ t.val then ((I.A h.val t.val u.val + I.c h.val t.val : ℝ) : EReal) else ⊥ := by
  pointwise [logits, heads]
  simp only [ix3_0, ix3_1, ix3_2, hq, hk, hc, mask_at, select_if, ← EReal.coe_mul, sum_coe, ← EReal.coe_add, ← EReal.coe_sub]
  congr 1
  unfold Inp.A
  congr 1; ring

/-- The greatest of −∞ and a number is that number. -/
theorem over_bot (x : FVec Ideal S8x4096 .f32) (j : S8x4096.Idx) :
    maximumf (broadcastInDim S8x4096 ![] bcast_S_S8x4096 (constant S_ .f32 0xFF800000#32)) x j = x j := by
  pointwise
  rw [negInf]
  exact max_eq_right bot_le

theorem most_at {s : Sq} {r : ℕ → ℕ → ℕ → ℝ}
    (hs : ∀ (h : Fin 8) (t u : Fin 4096), s (ix3 h t u) = if u.val ≤ t.val then ((r h.val t.val u.val : ℝ) : EReal) else ⊥) :
    ∃ M : ℕ → ℕ → ℝ, ∀ (h : Fin 8) (t : Fin 4096), most s (ix2 h t) = ((M h.val t.val : ℝ) : EReal) := by
  have key : ∀ (h : Fin 8) (t : Fin 4096), ∃ M : ℝ, greatest s (ix2 h t) = (M : EReal) := by
    intro h t
    pointwise [greatest, Host.reduce_eq_fold]
    simp only [negInf]
    refine fold_max_real _ (fun u => ?_) (i := t) (r := r h.val t.val t.val) ?_
    · rw [hs]; split
      · exact EReal.coe_ne_top _
      · exact bot_ne_top
    · rw [hs, if_pos (le_refl _)]
  choose M hM using key
  exact ⟨fun h t => if hh : h < 8 ∧ t < 4096 then M ⟨h, hh.1⟩ ⟨t, hh.2⟩ else 0, fun h t => by
    refine (over_bot (greatest s) (ix2 h t)).trans ((hM h t).trans ?_); simp only [dif_pos (And.intro h.isLt t.isLt)]⟩

variable {z : ℕ → ℕ → ℝ} {s e p dp ds : Sq} {mx y : FVec Ideal S8x4096 .f32} {l : FVec Ideal S8x4096x1 .f32}

theorem exps_at {M : ℕ → ℕ → ℝ}
    (hs : ∀ (h : Fin 8) (t u : Fin 4096), s (ix3 h t u) = if u.val ≤ t.val then ((I.A h.val t.val u.val + I.c h.val t.val : ℝ) : EReal) else ⊥)
    (hm : ∀ (h : Fin 8) (t : Fin 4096), mx (ix2 h t) = ((M h.val t.val : ℝ) : EReal)) (h : Fin 8) (t u : Fin 4096) :
    exps s mx (ix3 h t u) = ((I.X h.val t.val u.val * Real.exp (I.c h.val t.val - M h.val t.val) : ℝ) : EReal) := by
  pointwise [exps]
  simp only [ix3_0, ix3_1, ix3_2, hs, hm, exp_shift]
  rfl

variable (hz : ∀ h t, 0 < z h t)
  (he : ∀ (h : Fin 8) (t u : Fin 4096), e (ix3 h t u) = ((I.X h.val t.val u.val * z h.val t.val : ℝ) : EReal))
  (hl : ∀ (h : Fin 8) (t : Fin 4096), l (ix3 h t 0) = ((I.W h.val t.val * z h.val t.val : ℝ) : EReal))
  (hdp : ∀ (h : Fin 8) (t u : Fin 4096), dp (ix3 h t u) = ((I.dp h.val t.val u.val : ℝ) : EReal))

include he in
theorem sums_at (h : Fin 8) (t : Fin 4096) : sums e (ix3 h t 0) = ((I.W h.val t.val * z h.val t.val : ℝ) : EReal) := by
  pointwise [sums]
  simp only [ix3_0, ix3_1, ix3_2, he, sum_coe, ← Finset.sum_mul]
  rfl

include hz he hl in
theorem weights_at (h : Fin 8) (t u : Fin 4096) : weights e l (ix3 h t u) = ((I.p h.val t.val u.val : ℝ) : EReal) := by
  pointwise [weights]
  simp only [ix3_0, ix3_1, ix3_2, he, hl]
  rw [div_real _ (mul_pos (I.W_pos _ t) (hz _ _)).ne', mul_div_mul_right _ _ (hz _ _).ne']
  rfl

include hg hv in
theorem dweights_at (h : Fin 8) (t u : Fin 4096) : dweights d v (ix3 h t u) = ((I.dp h.val t.val u.val : ℝ) : EReal) := by
  pointwise [dweights, cot, heads]
  simp only [ix3_0, ix3_1, ix3_2, hg, hv, ← EReal.coe_mul, sum_coe]
  rfl

include hz he hl hdp in
theorem dsums_at (h : Fin 8) (t : Fin 4096) : dsums dp e l (ix2 h t) = ((-(I.dl h.val t.val / (I.W h.val t.val * z h.val t.val)) : ℝ) : EReal) := by
  have hw := (mul_pos (I.W_pos h.val t) (hz h.val t.val)).ne'
  pointwise [dsums]
  simp only [ix2_0, ix2_1, Finset.univ_unique, Finset.sum_const, Finset.card_singleton, one_smul, he, hl, hdp, ← EReal.coe_mul]
  rw [← EReal.coe_one, div_real _ (mul_ne_zero hw hw)]
  simp only [← EReal.coe_mul, sum_coe, ← EReal.coe_neg]
  congr 2
  unfold Inp.dl Inp.p
  rw [Finset.sum_div]
  refine Finset.sum_congr rfl fun u _ => ?_
  have := (I.W_pos h.val t).ne'
  have := (hz h.val t.val).ne'
  field_simp

include hz he hl hdp in
theorem dlogits_at (hy : ∀ (h : Fin 8) (t : Fin 4096), y (ix2 h t) = ((-(I.dl h.val t.val / (I.W h.val t.val * z h.val t.val)) : ℝ) : EReal))
    (h : Fin 8) (t u : Fin 4096) : dlogits dp e l y (ix3 h t u) = ((I.ds h.val t.val u.val : ℝ) : EReal) := by
  have hw := (mul_pos (I.W_pos h.val t) (hz h.val t.val)).ne'
  pointwise [dlogits]
  simp only [ix3_0, ix3_1, ix3_2, he, hl, hdp, hy, mask_at, select_if]
  by_cases hu : u.val ≤ t.val
  · rw [if_pos hu, div_real _ hw, ← EReal.coe_add, ← EReal.coe_mul]
    congr 1
    have := (I.W_pos h.val t).ne'
    have := (hz h.val t.val).ne'
    unfold Inp.ds Inp.p
    field_simp
    ring
  · rw [if_neg hu, I.ds_above hu]; simp

variable (hds : ∀ (h : Fin 8) (t u : Fin 4096), ds (ix3 h t u) = ((I.ds h.val t.val u.val : ℝ) : EReal))
  (hp : ∀ (h : Fin 8) (t u : Fin 4096), p (ix3 h t u) = ((I.p h.val t.val u.val : ℝ) : EReal))

include hds hk in
theorem outQ_at (a : Fin 4096) (b : Fin 512) : outQ ds k (ix2 a b) = ((I.gq a.val b.val : ℝ) : EReal) := by
  pointwise [outQ, rows, heads]
  simp only [ix2_0, ix2_1, hds, hk, ← EReal.coe_mul, sum_coe]
  rfl

include hds hq in
theorem outK_at (a : Fin 4096) (b : Fin 512) : outK ds q (ix2 a b) = ((I.gk a.val b.val : ℝ) : EReal) := by
  pointwise [outK, rows, heads]
  simp only [ix2_0, ix2_1, hds, hq, ← EReal.coe_mul, sum_coe]
  rfl

include hp hg in
theorem outV_at (a : Fin 4096) (b : Fin 512) : outV d p (ix2 a b) = ((I.gv a.val b.val : ℝ) : EReal) := by
  pointwise [outV, rows, heads, cot]
  simp only [ix2_0, ix2_1, hp, hg, ← EReal.coe_mul, sum_coe]
  rfl

include hds in
theorem outC_at (h : Fin 4) (a : Fin 2) (u : Fin 4096) : outC ds (ix3 h a u) = ((I.gc (2 * h.val + a.val) u.val : ℝ) : EReal) := by
  pointwise [outC]
  simp only [Finset.univ_unique, Finset.sum_const, Finset.card_singleton, one_smul, ix3_0, ix3_1, ix3_2, hds, ← EReal.coe_neg, sum_coe, Finset.sum_neg_distrib,
    mul_comm]
  rfl

include hds in
theorem outR_at (a : Fin 4096) (b : Fin 512) : outR ds (ix2 a b) = ((I.gr (b.val / 64) a.val : ℝ) : EReal) := by
  pointwise [outR, rows]
  simp only [Finset.univ_unique, Finset.sum_const, Finset.card_singleton, one_smul, ix2_0, ix2_1, hds, sum_coe]
  rfl
end

/-! ## The results, where the arguments are real numbers -/

section
variable (m : (ℓ : Loc nD τ sig) → Buf (Elt Ideal) ℓ) (c : Dev nD) {I : Inp}
  (hq : ∀ (a : Fin 4096) (b : Fin 512), aq m c (ix2 a b) = ((I.q a.val b.val : ℝ) : EReal))
  (hk : ∀ (a : Fin 4096) (b : Fin 512), ak m c (ix2 a b) = ((I.k a.val b.val : ℝ) : EReal))
  (hv : ∀ (a : Fin 4096) (b : Fin 512), av m c (ix2 a b) = ((I.v a.val b.val : ℝ) : EReal))
  (hc : ∀ (a : Fin 8) (b : Fin 4096), ac m c (ix2 a b) = ((I.c a.val b.val : ℝ) : EReal))
  (hg : ∀ (a : Fin 4096) (b : Fin 1024), ag m c (ix2 a b) = ((I.g a.val b.val : ℝ) : EReal))

include hq hk hc in
/-- The exponentials and their sums, up to one positive factor a row. -/
theorem scaled : ∃ z : ℕ → ℕ → ℝ, (∀ h t, 0 < z h t)
    ∧ (∀ (h : Fin 8) (t u : Fin 4096), ex m c (ix3 h t u) = ((I.X h.val t.val u.val * z h.val t.val : ℝ) : EReal))
    ∧ (∀ (h : Fin 8) (t : Fin 4096), su m c (ix3 h t 0) = ((I.W h.val t.val * z h.val t.val : ℝ) : EReal)) := by
  have hs := logits_at (I := I) hq hk hc
  obtain ⟨M, hM⟩ := most_at hs (r := fun h t u => I.A h t u + I.c h t)
  have he := exps_at hs hM
  exact ⟨fun h t => Real.exp (I.c h t - M h t), fun h t => Real.exp_pos _, he, sums_at (z := fun h t => Real.exp (I.c h t - M h t)) (e := ex m c) he⟩

include hq hk hc in
theorem weights_real (h : Fin 8) (t u : Fin 4096) : weights (ex m c) (su m c) (ix3 h t u) = ((I.p h.val t.val u.val : ℝ) : EReal) := by
  obtain ⟨z, hz, he, hl⟩ := scaled m c hq hk hc
  exact weights_at hz he hl h t u

include hq hk hv hc hg in
theorem dlogits_real (h : Fin 8) (t u : Fin 4096) : dl m c (ix3 h t u) = ((I.ds h.val t.val u.val : ℝ) : EReal) := by
  obtain ⟨z, hz, he, hl⟩ := scaled m c hq hk hc
  have hdp : ∀ (h : Fin 8) (t u : Fin 4096), dw m c (ix3 h t u) = _ := dweights_at (I := I) hv hg
  exact dlogits_at hz he hl hdp (dsums_at hz he hl hdp) h t u

include hq hk hv hc hg in
/-- The five results are the gradients. -/
theorem gradients :
    (∀ (a : Fin 4096) (b : Fin 512), (res_main_v81 m c : Rows) (ix2 a b) = ((I.gq a.val b.val : ℝ) : EReal))
    ∧ (∀ (a : Fin 4096) (b : Fin 512), (res_main_v82 m c : Rows) (ix2 a b) = ((I.gk a.val b.val : ℝ) : EReal))
    ∧ (∀ (a : Fin 4096) (b : Fin 512), (res_main_v83 m c : Rows) (ix2 a b) = ((I.gv a.val b.val : ℝ) : EReal))
    ∧ (∀ (h : Fin 4) (a : Fin 2) (u : Fin 4096), (res_main_v84 m c : FVec Ideal S4x2x4096 .f32) (ix3 h a u) = ((I.gc (2 * h.val + a.val) u.val : ℝ) : EReal))
    ∧ (∀ (a : Fin 4096) (b : Fin 512), (res_main_v85 m c : Rows) (ix2 a b) = ((I.gr (b.val / 64) a.val : ℝ) : EReal)) := by
  have hds := dlogits_real m c hq hk hv hc hg
  refine ⟨fun a b => ?_, fun a b => ?_, fun a b => ?_, fun h a u => ?_, fun a b => ?_⟩
  · rw [res_q]; exact outQ_at hk hds a b
  · rw [res_k]; exact outK_at hq hds a b
  · rw [res_v]; exact outV_at hg (weights_real m c hq hk hc) a b
  · rw [res_c]; exact outC_at hds h a u
  · rw [res_r]; exact outR_at hds a b
end

end Cert.ReferenceIdeal.Hand
-- ==== Proof.Finite.lean ====
/- The precondition says that every element of the five arguments is a real number. -/
module

public import proofs.«01_k».proof.Pre_finite
public import proofs.«01_k».proof.Proof.Gen.Pre_finite
public import proofs.«01_k».proof.Proof.Spec
public import Idealize.ShloMosaic.Lib.ReduceAll
public import Idealize.ShloMosaic.Lib.Pointwise
public import Idealize.ShloMosaic.Lib.ValueIdx

@[expose] public section

noncomputable section

namespace Cert.Pre_finite.Hand

open Idealize.ShloMosaic
open Cert.Pre_finite Cert.Pre_finite.Facts
open Cert.Attn

/-- The pattern of positive infinity. -/
theorem posInf : Ideal.ofBits .f32 0x7F800000#32 = ⊤ := by simp [Ideal.ofBits, Ideal.ieee]

/-- A magnitude below infinity is that of a real number. -/
theorem real_of_below {x : EReal} (h : FloatOps.cmpf (F := Ideal) (φ := .f32) .olt (FloatOps.absf (F := Ideal) (φ := .f32) x) (FloatOps.ofBits (F := Ideal) .f32 0x7F800000#32) = 1#1) :
    x = ((x.toReal : ℝ) : EReal) := by
  change Ideal.cmp .olt (max x (-x)) (Ideal.ofBits .f32 0x7F800000#32) = 1#1 at h
  rw [posInf] at h
  induction x with
  | bot => simp [Ideal.cmp] at h
  | top => simp [Ideal.cmp] at h
  | coe r => rfl

instance : Subsingleton S_.Idx := ⟨fun a b => funext fun i => i.elim0⟩

/-- One argument's test. -/
theorem real_of_all {s : Shape} (x : FVec Ideal s .f32) (hb : S_.BroadcastsInDim s (![] : Fin 0 → Fin s.rank)) {ax : List (Fin s.rank)}
    (hr : s.ReducesTo ax S_) (hn : 0 < S_.numel) (j : S_.Idx)
    (h : Host.reduce IntOp.andi (cmpf .olt (Host.absf x) (broadcastInDim s ![] hb (constant S_ .f32 0x7F800000#32))) (constantI S_ 1 1#1) hr hn j = 1#1) (i : s.Idx) :
    x i = ((x i).toReal : EReal) :=
  real_of_below (Host.reduce_andi_all _ _ _ _ j h i)

/-- Five tests joined into one array. -/
theorem five (x0 x1 x2 x3 x4 : IVec S_ 1)
    (h : concatenate S5 0 [⟨S1, broadcastInDim S1 ![] bcast_S_S1 x0⟩, ⟨S1, broadcastInDim S1 ![] bcast_S_S1 x1⟩, ⟨S1, broadcastInDim S1 ![] bcast_S_S1 x2⟩,
      ⟨S1, broadcastInDim S1 ![] bcast_S_S1 x3⟩, ⟨S1, broadcastInDim S1 ![] bcast_S_S1 x4⟩] concatenates_S1_S1_S1_S1_S1_S5_d0 = fun _ => 1#1) :
    x0 ix0 = 1#1 ∧ x1 ix0 = 1#1 ∧ x2 ix0 = 1#1 ∧ x3 ix0 = 1#1 ∧ x4 ix0 = 1#1 := by
  have h0 := congrFun h (ix1 0)
  have h1 := congrFun h (ix1 1)
  have h2 := congrFun h (ix1 2)
  have h3 := congrFun h (ix1 3)
  have h4 := congrFun h (ix1 4)
  pointwise at h0
  pointwise at h1
  pointwise at h2
  pointwise at h3
  pointwise at h4
  exact ⟨h0, h1, h2, h3, h4⟩

variable (q k v : FVec Ideal S4096x512 .f32) (c : FVec Ideal S8x4096 .f32) (g : FVec Ideal S4096x1024 .f32)

theorem reals (h : fn (F := Ideal) q k v c g = fun _ => 1#1) :
    (∀ i, q i = ((q i).toReal : EReal)) ∧ (∀ i, k i = ((k i).toReal : EReal)) ∧ (∀ i, v i = ((v i).toReal : EReal))
      ∧ (∀ i, c i = ((c i).toReal : EReal)) ∧ (∀ i, g i = ((g i).toReal : EReal)) := by
  obtain ⟨h0, h1, h2, h3, h4⟩ := five _ _ _ _ _ h
  exact ⟨real_of_all q _ _ _ _ h0, real_of_all k _ _ _ _ h1, real_of_all v _ _ _ _ h2, real_of_all c _ _ _ _ h3, real_of_all g _ _ _ _ h4⟩

end Cert.Pre_finite.Hand
-- ==== Proof.Close.lean ====
/- The five claims about the attention's gradient, from the runs of the two programs and the formulas of their results. -/
module

public import proofs.«01_k».proof.Defs
public import proofs.«01_k».proof.Proof.Word.Frame
public import proofs.«01_k».proof.Proof.Math
public import proofs.«01_k».proof.Proof.RefRead
public import proofs.«01_k».proof.Proof.Finite
public import Idealize.ShloMosaic.PureOps.IdealRules
public import Idealize.ShloMosaic.Lib.Quiescent

@[expose] public section

noncomputable section

namespace Cert.AttnClaims

open Idealize.ShloMosaic Idealize.ShloMosaic.TcCoe Idealize.SL.Sem
open Cert.Attn
open Cert.KernelIdeal.Hand (Args glob)

/-- A table of extended reals as a function of two numbers, zero outside the table. -/
def table {n0 n1 : Nat} (x : FVec Ideal ⟨2, ![n0, n1]⟩ .f32) (a b : ℕ) : ℝ :=
  if h : a < n0 ∧ b < n1 then (x (ix2 ⟨a, h.1⟩ ⟨b, h.2⟩)).toReal else 0

theorem table_at {n0 n1 : Nat} (x : FVec Ideal ⟨2, ![n0, n1]⟩ .f32) (h : ∀ i, x i = ((x i).toReal : EReal)) (a : Fin n0) (b : Fin n1) :
    x (ix2 a b) = ((table x a.val b.val : ℝ) : EReal) := by
  unfold table
  rw [dif_pos ⟨a.isLt, b.isLt⟩]
  exact h _

section
variable (m : (ℓ : Loc Cert.KernelIdeal.nD Cert.KernelIdeal.τ Cert.KernelIdeal.sig) → Buf (Elt Ideal) ℓ) (c : Dev Cert.KernelIdeal.nD)

/-- The five arguments as real functions. -/
def inp : Inp where
  q := table (Cert.KernelIdeal.Hand.aq m c)
  k := table (Cert.KernelIdeal.Hand.ak m c)
  v := table (Cert.KernelIdeal.Hand.av m c)
  c := table (Cert.KernelIdeal.Hand.ac m c)
  g := table (Cert.KernelIdeal.Hand.ag m c)

theorem args (h : Cert.Pre_KernelIdeal m) : Args m c (inp m c) := by
  obtain ⟨hq, hk, hv, hc, hg⟩ := Cert.Pre_finite.Hand.reals _ _ _ _ _ (h c)
  exact ⟨table_at _ hq, table_at _ hk, table_at _ hv, table_at _ hc, table_at _ hg⟩
end

theorem frame_p : Cert.quiescent_Kernel := fun m ρ _ => Cert.Kernel.Hand.frame m ρ
theorem frame_pi : Cert.quiescent_KernelIdeal := fun m ρ _ => Cert.KernelIdeal.Hand.frame m ρ
theorem frame_pi_any : Cert.quiescent_KernelIdeal_pre_none := fun m ρ _ => Cert.KernelIdeal.Hand.frame m ρ

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => And.intro (fun c => (h c).2.2.2.2.2) (Idealize.ShloMosaic.sem_eq_zero_of_no_sems (by decide) r.2))
    (Cert.ReferenceIdeal.Value.run (F := Ideal) m ρ)

theorem frame_ri : Cert.quiescent_ReferenceIdeal := fun m ρ _ => frame_reference m ρ
theorem frame_ri_finite : Cert.quiescent_ReferenceIdeal_pre_finite := fun m ρ _ => frame_reference m ρ

theorem preserves : Cert.preserves_Kernel_KernelIdeal :=
  IdealRules.named_const.statement Cert.KernelIdeal.κ "mask" .f32 0xF149F2CA#32 ⊥ rfl

/-- The reference's results are the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) (I : Inp) (h : Args m c I)
    (h0 : Cert.ReferenceIdeal.Hand.aq m' c = Cert.KernelIdeal.Hand.aq m c) (h1 : Cert.ReferenceIdeal.Hand.ak m' c = Cert.KernelIdeal.Hand.ak m c)
    (h2 : Cert.ReferenceIdeal.Hand.av m' c = Cert.KernelIdeal.Hand.av m c) (h3 : Cert.ReferenceIdeal.Hand.ac m' c = Cert.KernelIdeal.Hand.ac m c)
    (h4 : Cert.ReferenceIdeal.Hand.ag m' c = Cert.KernelIdeal.Hand.ag m c) :
    Cert.ReferenceIdeal.Value.res_main_v81 m' c = (glob I).dq ∧ Cert.ReferenceIdeal.Value.res_main_v82 m' c = (glob I).dk
      ∧ Cert.ReferenceIdeal.Value.res_main_v83 m' c = (glob I).dv ∧ Cert.ReferenceIdeal.Value.res_main_v84 m' c = (glob I).df
      ∧ Cert.ReferenceIdeal.Value.res_main_v85 m' c = (glob I).dr := by
  obtain ⟨g0, g1, g2, g3, g4⟩ := Cert.ReferenceIdeal.Hand.gradients m' c (I := I)
    (fun a b => (congrFun h0 _).trans (h.q a b)) (fun a b => (congrFun h1 _).trans (h.k a b)) (fun a b => (congrFun h2 _).trans (h.v a b))
    (fun a b => (congrFun h3 _).trans (h.f a b)) (fun a b => (congrFun h4 _).trans (h.g a b))
  refine ⟨funext fun y => ?_, funext fun y => ?_, funext fun y => ?_, funext fun y => ?_, funext fun y => ?_⟩
  · rw [eq_ix2 (n0 := 4096) (n1 := 512) y]; exact (g0 _ _).trans (Cert.KernelIdeal.Hand.dq_eq I _ _).symm
  · rw [eq_ix2 (n0 := 4096) (n1 := 512) y]; exact (g1 _ _).trans (Cert.KernelIdeal.Hand.dk_eq I _ _).symm
  · rw [eq_ix2 (n0 := 4096) (n1 := 512) y]; exact (g2 _ _).trans (Cert.KernelIdeal.Hand.dv_eq I _ _).symm
  · rw [eq_ix3 (n0 := 4) (n1 := 2) (n2 := 4096) y]; exact (g3 _ _ _).trans (Cert.KernelIdeal.Hand.df_eq I _ _ _).symm
  · rw [eq_ix2 (n0 := 4096) (n1 := 512) y]; exact (g4 _ _).trans (Cert.KernelIdeal.Hand.dr_eq I _ _).symm

theorem algebraic : Cert.algebraic_KernelIdeal_ReferenceIdeal := by
  intro m ρ m' ρ' hp ha
  refine ⟨fun c => (glob (inp m c)).dq, fun c => (glob (inp m c)).dk, fun c => (glob (inp m c)).dv, fun c => (glob (inp m c)).df, fun c => (glob (inp m c)).dr, ?_, ?_⟩
  · refine (θ_run Cert.KernelIdeal.defs _ _).mono (fun r h c => ?_) (Cert.KernelIdeal.Hand.run m ρ)
    obtain ⟨r0, r1, r2, r3, r4⟩ := Cert.KernelIdeal.Hand.results m h.1 c (glob (inp m c)) (Cert.KernelIdeal.Hand.isGlob (args m c hp))
    exact ⟨r0, r1, r2, r3, r4, Cert.KernelIdeal.Hand.args_kept m h.1 c⟩
  · refine (θ_run Cert.ReferenceIdeal.defs _ _).mono (fun r h c => ?_) (Cert.ReferenceIdeal.Value.run (F := Ideal) m' ρ')
    obtain ⟨s0, s1, s2, s3, s4⟩ := same m m' c (inp m c) (args m c hp) (ha c).1 (ha c).2.1 (ha c).2.2.1 (ha c).2.2.2.1 (ha c).2.2.2.2
    obtain ⟨r0, r1, r2, r3, r4, rest⟩ := h c
    exact ⟨r0.trans s0, r1.trans s1, r2.trans s2, r3.trans s3, r4.trans s4, rest⟩

end Cert.AttnClaims
-- ==== Proof.Mm.Up.lean ====
/- The up projection: every tile of the result is a product of a row block and a column block, contracted in one go, so the result is the whole product. -/
module

public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import proofs.«01_k».proof.Defs

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The product of the normalised rows with the weights. -/
abbrev prod (X : FVec Ideal S4096x1024 .f32) (W : FVec Ideal S1024x5632 .f32) : FVec Ideal S4096x5632 .f32 :=
  Host.dotGeneral Cert.Reference2Ideal.dot_S4096x1024_S1024x5632_S4096x5632_1_0_0_1_n_n none X W

/-- The block each grid point holds of each array. -/
theorem idx : ∀ t : Fin cfg0.N, win0_0.index t = ![t.val % 8, 0] ∧ win0_1.index t = ![0, 0, t.val / 8] ∧ win0_2.index t = ![t.val % 8, t.val / 8] :=
  (by decide +kernel : ∀ t : Fin grid0.N, _)

/-- What a grid point writes of `prod` is the reference's own entries of that block. -/
theorem point_prod (c : Dev nD) (t : Fin cfg0.N) (y) :
    k0_pay1 (iblk m c 0 t) (iblk m c 1 t) y = prod (m ((c : Thread nD τ).loc main_arg0)) (m ((c : Thread nD τ).loc main_arg1)) (((cfg0.win 2).blk t).view.emb y) := by
  pointwise [k0_pay1, prod]
  blk_point [iblk, V, idx t]

/-- The array the call leaves is the reference's. -/
theorem final_prod (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_prod m c t y

/-- The call terminates and leaves its arguments and every semaphore as they were. -/
theorem frame_p : Cert.quiescent_Kernel2 := fun m ρ _ => Cert.Kernel2.Gen.frame m ρ
theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => And.intro (fun c => (h c).2) (Idealize.ShloMosaic.sem_eq_zero_of_no_sems (by decide) r.2))
    (Cert.Reference2Ideal.Value.run (F := Ideal) m ρ)

/-- The call and the reference have equal results. -/
theorem algebraic : Cert.algebraic_Kernel2Ideal_Reference2Ideal := by
  intro m ρ m' ρ' _ ha
  refine ⟨fun c => prod (m ((c : Thread nD τ).loc main_arg0)) (m ((c : Thread nD τ).loc main_arg1)), ?_, ?_⟩
  · exact (θ_run Cert.Kernel2Ideal.defs _ _).mono (fun r h c => ⟨(h c).1.trans (final_prod m c), (h c).2⟩) (Cert.Kernel2Ideal.Value.run_blocks m ρ)
  · refine (θ_run Cert.Reference2Ideal.defs _ _).mono (fun r h c => ⟨(h c).1.trans ?_, (h c).2⟩) (Cert.Reference2Ideal.Value.run (F := Ideal) m' ρ')
    · show prod (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) = _; rw [(ha c).1, (ha c).2]

end Cert.Kernel2Ideal.Hand

end
-- ==== Proof.Mm.UpLeft.lean ====
/- The up projection's gradient with respect to its rows: a block of the incoming gradient's rows against the transpose of the whole weight. -/
module

public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import proofs.«01_k».proof.Defs

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The incoming gradient times the transposed weight. -/
abbrev grad (W : FVec Ideal S1024x5632 .f32) (G : FVec Ideal S4096x5632 .f32) : FVec Ideal S4096x1024 .f32 :=
  Host.dotGeneral Cert.Reference3Ideal.dot_S4096x5632_S1024x5632_S4096x1024_1_1_0_0_n_n none G W

/-- The block each grid point holds of each array. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- The call terminates and leaves its arguments and every semaphore as they were. -/
theorem frame_p : Cert.quiescent_Kernel3 := fun m ρ _ => Cert.Kernel3.Gen.frame m ρ
theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => And.intro (fun c => (h c).2) (Idealize.ShloMosaic.sem_eq_zero_of_no_sems (by decide) r.2))
    (Cert.Reference3Ideal.Value.run (F := Ideal) m ρ)

/-- The call and the reference have equal results. -/
theorem algebraic : Cert.algebraic_Kernel3Ideal_Reference3Ideal := by
  intro m ρ m' ρ' _ ha
  refine ⟨fun c => grad (m ((c : Thread nD τ).loc main_arg0)) (m ((c : Thread nD τ).loc main_arg1)), ?_, ?_⟩
  · exact (θ_run Cert.Kernel3Ideal.defs _ _).mono (fun r h c => ⟨(h c).1.trans (final_grad m c), (h c).2⟩) (Cert.Kernel3Ideal.Value.run_blocks m ρ)
  · refine (θ_run Cert.Reference3Ideal.defs _ _).mono (fun r h c => ⟨(h c).1.trans ?_, (h c).2⟩) (Cert.Reference3Ideal.Value.run (F := Ideal) m' ρ')
    · show grad (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) = _; rw [(ha c).1, (ha c).2]

end Cert.Kernel3Ideal.Hand

end
-- ==== Proof.Mm.UpRight.lean ====
/- The up projection's weight gradient: all rows against one column block at every grid point, with a rounded copy of the result. -/
module

public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import proofs.«01_k».proof.Defs

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The transposed rows times the incoming gradient. -/
abbrev grad (X : FVec Ideal S4096x1024 .f32) (G : FVec Ideal S4096x5632 .f32) : FVec Ideal S1024x5632 .f32 :=
  transpose S1024x5632 [1, 0] (Host.dotGeneral Cert.Reference4Ideal.dot_S4096x5632_S4096x1024_S5632x1024_0_0_1_1_n_n none G X) Cert.Reference4Ideal.Gen.transposes_S5632x1024_S1024x5632_1_0

/-- Its rounded copy, which over the reals is the same array. -/
abbrev grad16 (X : FVec Ideal S4096x1024 .f32) (G : FVec Ideal S4096x5632 .f32) : FVec Ideal S1024x5632 .bf16 :=
  truncf .bf16 (transpose S1024x5632 [1, 0] (Host.dotGeneral Cert.Reference4Ideal.dot_S4096x5632_S4096x1024_S5632x1024_0_0_1_1_n_n none G X) Cert.Reference4Ideal.Gen.transposes_S5632x1024_S1024x5632_1_0) Cert.Reference4Ideal.Gen.bitsLt_bf16_f32

/-- The block each grid point holds of each array. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  refine Finset.sum_congr rfl fun k _ => ?_
  rw [mul_comm]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- What a grid point writes of `grad16` is the reference's own entries of that block. -/
theorem point_grad16 (c : Dev nD) (t : Fin cfg0.N) (y) :
    k0_pay2 (iblk m c 0 t) (iblk m c 1 t) y = grad16 (m ((c : Thread nD τ).loc main_arg0)) (m ((c : Thread nD τ).loc main_arg1)) (((cfg0.win 3).blk t).view.emb y) := by
  pointwise [k0_pay1, k0_pay2, grad16]
  refine Finset.sum_congr rfl fun k _ => ?_
  rw [mul_comm]
  blk_point [iblk, V, idx t]

/-- The array the call leaves is the reference's. -/
theorem final_grad16 (c : Dev nD) : (dats m 0 c).arrAt 3 (cfgs 0).N = grad16 (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_grad16 m c t y

/-- The call terminates and leaves its arguments and every semaphore as they were. -/
theorem frame_p : Cert.quiescent_Kernel4 := fun m ρ _ => Cert.Kernel4.Gen.frame m ρ
theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono
    (fun r h => And.intro (fun c => (h c).2.2) (Idealize.ShloMosaic.sem_eq_zero_of_no_sems (by decide) r.2))
    (Cert.Reference4Ideal.Value.run (F := Ideal) m ρ)

/-- The call and the reference have equal results. -/
theorem algebraic : Cert.algebraic_Kernel4Ideal_Reference4Ideal := by
  intro m ρ m' ρ' _ ha
  refine ⟨fun c => grad (m ((c : Thread nD τ).loc main_arg0)) (m ((c : Thread nD τ).loc main_arg1)), fun c => grad16 (m ((c : Thread nD τ).loc main_arg0)) (m ((c : Thread nD τ).loc main_arg1)), ?_, ?_⟩
  · exact (θ_run Cert.Kernel4Ideal.defs _ _).mono (fun r h c => ⟨(h c).1.trans (final_grad m c), (h c).2.1.trans (final_grad16 m c), (h c).2.2⟩) (Cert.Kernel4Ideal.Value.run_blocks m ρ)
  · refine (θ_run Cert.Reference4Ideal.defs _ _).mono (fun r h c => ⟨(h c).1.trans ?_, (h c).2.1.trans ?_, (h c).2.2⟩) (Cert.Reference4Ideal.Value.run (F := Ideal) m' ρ')
    · show grad (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) = _; rw [(ha c).1, (ha c).2]
    · show grad16 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) = _; rw [(ha c).1, (ha c).2]

end Cert.Kernel4Ideal.Hand

end
-- ==== Proof.Mm.Down.lean ====
/- The down projection with the residual added in the same call. -/
module

public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import proofs.«01_k».proof.Defs

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The residual plus the product of the activations with the weights. -/
abbrev prod (X : FVec Ideal S4096x2816 .f32) (W : FVec Ideal S2816x1024 .f32) (R : FVec Ideal S4096x1024 .f32) : FVec Ideal S4096x1024 .f32 :=
  addf R (Host.dotGeneral Cert.Reference5Ideal.dot_S4096x2816_S2816x1024_S4096x1024_1_0_0_1_n_n none X W)

/-- The block each grid point holds of each array. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- What a grid point writes of `prod` is the reference's own entries of that block. -/
theorem point_prod (c : Dev nD) (t : Fin cfg0.N) (y) :
    k0_pay1 (iblk m c 0 t) (iblk m c 1 t) (iblk m c 2 t) y = prod (m ((c : Thread nD τ).loc main_arg0)) (m ((c : Thread nD τ).loc main_arg1)) (m ((c : Thread nD τ).loc main_arg2)) (((cfg0.win 3).blk t).view.emb y) := by
  pointwise [k0_pay1, prod]
  blk_point [iblk, V, idx t]

/-- The array the call leaves is the reference's. -/
theorem final_prod (c : Dev nD) : (dats m 0 c).arrAt 3 (cfgs 0).N = prod (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point_prod m c t y

/-- The call terminates and leaves its arguments and every semaphore as they were. -/
theorem frame_p : Cert.quiescent_Kernel5 := fun m ρ _ => Cert.Kernel5.Gen.frame m ρ
theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => And.intro (fun c => (h c).2) (Idealize.ShloMosaic.sem_eq_zero_of_no_sems (by decide) r.2))
    (Cert.Reference5Ideal.Value.run (F := Ideal) m ρ)

/-- The call and the reference have equal results. -/
theorem algebraic : Cert.algebraic_Kernel5Ideal_Reference5Ideal := by
  intro m ρ m' ρ' _ ha
  refine ⟨fun c => prod (m ((c : Thread nD τ).loc main_arg0)) (m ((c : Thread nD τ).loc main_arg1)) (m ((c : Thread nD τ).loc main_arg2)), ?_, ?_⟩
  · exact (θ_run Cert.Kernel5Ideal.defs _ _).mono (fun r h c => ⟨(h c).1.trans (final_prod m c), (h c).2⟩) (Cert.Kernel5Ideal.Value.run_blocks m ρ)
  · refine (θ_run Cert.Reference5Ideal.defs _ _).mono (fun r h c => ⟨(h c).1.trans ?_, (h c).2⟩) (Cert.Reference5Ideal.Value.run (F := Ideal) m' ρ')
    · show prod (m' ((c : Thread Cert.Reference5Ideal.nD Cert.Reference5Ideal.τ).loc Cert.Reference5Ideal.main_arg0)) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) = _; rw [(ha c).1, (ha c).2.1, (ha c).2.2]

end Cert.Kernel5Ideal.Hand

end
-- ==== Proof.Mm.DownLeft.lean ====
/- The down projection's gradient with respect to its rows, computed by column blocks: each half of the weight's rows is taken against every block of the incoming gradient. -/
module

public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import proofs.«01_k».proof.Defs

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The incoming gradient times the transposed weight. -/
abbrev grad (W : FVec Ideal S2816x1024 .f32) (G : FVec Ideal S4096x1024 .f32) : FVec Ideal S4096x2816 .f32 :=
  Host.dotGeneral Cert.Reference6Ideal.dot_S4096x1024_S2816x1024_S4096x2816_1_1_0_0_n_n none G W

/-- The block each grid point holds of each array. -/
theorem idx : ∀ t : Fin cfg0.N, win0_0.index t = ![t.val % 8, 0] ∧ win0_1.index t = ![0, t.val / 8, 0] ∧ win0_2.index t = ![t.val % 8, t.val / 8] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- The call terminates and leaves its arguments and every semaphore as they were. -/
theorem frame_p : Cert.quiescent_Kernel6 := fun m ρ _ => Cert.Kernel6.Gen.frame m ρ
theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono
    (fun r h => And.intro (fun c => (h c).2) (Idealize.ShloMosaic.sem_eq_zero_of_no_sems (by decide) r.2))
    (Cert.Reference6Ideal.Value.run (F := Ideal) m ρ)

/-- The call and the reference have equal results. -/
theorem algebraic : Cert.algebraic_Kernel6Ideal_Reference6Ideal := by
  intro m ρ m' ρ' _ ha
  refine ⟨fun c => grad (m ((c : Thread nD τ).loc main_arg0)) (m ((c : Thread nD τ).loc main_arg1)), ?_, ?_⟩
  · exact (θ_run Cert.Kernel6Ideal.defs _ _).mono (fun r h c => ⟨(h c).1.trans (final_grad m c), (h c).2⟩) (Cert.Kernel6Ideal.Value.run_blocks m ρ)
  · refine (θ_run Cert.Reference6Ideal.defs _ _).mono (fun r h c => ⟨(h c).1.trans ?_, (h c).2⟩) (Cert.Reference6Ideal.Value.run (F := Ideal) m' ρ')
    · show grad (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) = _; rw [(ha c).1, (ha c).2]

end Cert.Kernel6Ideal.Hand

end
-- ==== Proof.Mm.DownRight.lean ====
/- The down projection's weight gradient, accumulated in a scratch buffer over four blocks of rows. -/
module

public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import proofs.«01_k».proof.Defs

@[expose] public section

set_option maxRecDepth 16384

noncomputable section

namespace Cert.Kernel7Ideal.Hand

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The transposed rows times the incoming gradient. -/
abbrev grad (X : FVec Ideal S4096x2816 .f32) (G : FVec Ideal S4096x1024 .f32) : FVec Ideal S2816x1024 .f32 :=
  transpose S2816x1024 [1, 0] (Host.dotGeneral Cert.Reference7Ideal.dot_S4096x1024_S4096x2816_S1024x2816_0_0_1_1_n_n none G X) Cert.Reference7Ideal.Gen.transposes_S1024x2816_S2816x1024_1_0

/-- Its rounded copy, which over the reals is the same array. -/
abbrev grad16 (X : FVec Ideal S4096x2816 .f32) (G : FVec Ideal S4096x1024 .f32) : FVec Ideal S2816x1024 .bf16 :=
  truncf .bf16 (transpose S2816x1024 [1, 0] (Host.dotGeneral Cert.Reference7Ideal.dot_S4096x1024_S4096x2816_S1024x2816_0_0_1_1_n_n none G X) Cert.Reference7Ideal.Gen.transposes_S1024x2816_S2816x1024_1_0) Cert.Reference7Ideal.Gen.bitsLt_bf16_f32

/-- The block each grid point holds of each array. -/
theorem idx : ∀ t : Fin cfg0.N, win0_0.index t = ![t.val % 4, t.val / 4] ∧ win0_1.index t = ![t.val % 4, 0] ∧ win0_2.index t = ![t.val / 4, 0] ∧ win0_3.index t = ![t.val / 4, 0] :=
  (by decide +kernel : ∀ t : Fin grid0.N, _)

/-- The product of one block of rows. -/
abbrev part (X : Vec Ideal S1024x1408 .bf16) (G : Vec Ideal S1024x1024 .f32) (j : S1408x1024.Idx) : EReal :=
  ∑ k : Fin 1024, X (ix2 k (j 0)) * G (ix2 k (j 1))

theorem first_block (X : Vec Ideal S1024x1408 .bf16) (G : Vec Ideal S1024x1024 .f32) (j) : k0_pay2 (F := Ideal) X G j = 0 + part X G j := by
  rw [zero_add]; pointwise [k0_pay2, k0_pay1, part]

theorem next_block (X : Vec Ideal S1024x1408 .bf16) (G : Vec Ideal S1024x1024 .f32) (s : Vec Ideal S1408x1024 .f32) (j) :
    k0_pay3 (F := Ideal) X G s j = s j + part X G j := by
  pointwise [k0_pay3, k0_pay1, part]

theorem rounded (s : Vec Ideal S1408x1024 .f32) : k0_pay4 (F := Ideal) s = s := by
  funext j; pointwise [k0_pay4]

/-- The running sum after the last block of rows is the sum over the four blocks. -/
theorem running (c : Dev nD) (t : Fin cfg0.N) (h : t.val % 4 = 3) (j : S1408x1024.Idx) :
    (outsAt0 m c t.val t.isLt).2.2 j = ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2.2) 4 (fun _ => (0 : EReal)) (fun p j => part (iblk m c 0 p) (iblk m c 1 p) j)
    (fun t h j => by
      have ht := lt_of_lt_of_eq t.isLt N_0
      rw [outsAt0_A m c t h (by omega) (by omega)]; frame_out; exact first_block _ _ _)
    (fun t h j => by
      have ht := lt_of_lt_of_eq t.isLt N_0
      by_cases h3 : t.val % 4 = 3
      · rw [outsAt0_C m c t h (by omega) h3]; frame_out; erw [Memref.IsWhole.read_unread]; exact next_block _ _ _ _
      · rw [outsAt0_B m c t h (by omega) h3]; frame_out; erw [Memref.IsWhole.read_unread]; exact next_block _ _ _ _)
    t h j, zero_add]

/-- What is written back is that running sum, and its rounded copy. -/
theorem written (c : Dev nD) (t : Fin cfg0.N) (h : t.val % 4 = 3) :
    (outsAt0 m c t.val t.isLt).1 = (outsAt0 m c t.val t.isLt).2.2 ∧ (outsAt0 m c t.val t.isLt).2.1 = (outsAt0 m c t.val t.isLt).2.2 := by
  have ht := lt_of_lt_of_eq t.isLt N_0
  rw [outsAt0_C m c t (by omega) (by omega) h]
  refine ⟨?_, ?_⟩
  · frame_out
  · frame_out; exact rounded _

/-- The four blocks' products add up to the reference's contraction over all rows. -/
theorem point (c : Dev nD) (t : Fin cfg0.N) (h : t.val % 4 = 3) (y) :
    (outsAt0 m c t.val t.isLt).2.2 y = grad (m ((c : Thread nD τ).loc main_arg0)) (m ((c : Thread nD τ).loc main_arg1)) (((cfg0.win 2).blk t).view.emb y) := by
  rw [running m c t h]
  pointwise [grad, part]
  refine Fin.sum_mul_add_congr fun s k hl => ?_
  rw [mul_comm]
  blk_point [iblk, V, idx t, idx ⟨4 * (t.val / 4) + s.val, by have := t.isLt; omega⟩]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, (written m c t h).1]
  exact point m c t h y

/-- The array the call leaves is the reference's. -/
theorem final_grad16 (c : Dev nD) : (dats m 0 c).arrAt 3 (cfgs 0).N = grad16 (m ((c : Thread nD τ).loc main_arg0)) (m ((c : Thread nD τ).loc main_arg1)) := by
  refine (dats m 0 c).arrAt_eq_of_covers 3 _ (by decide +kernel) fun t hf y => ?_
  have h := (flush0_3 t).mp hf
  blk_simp
  rw [after0_3, (written m c t h).2]
  exact point m c t h y

/-- The call terminates and leaves its arguments and every semaphore as they were. -/
theorem frame_p : Cert.quiescent_Kernel7 := fun m ρ _ => Cert.Kernel7.Gen.frame m ρ
theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => And.intro (fun c => (h c).2.2) (Idealize.ShloMosaic.sem_eq_zero_of_no_sems (by decide) r.2))
    (Cert.Reference7Ideal.Value.run (F := Ideal) m ρ)

/-- The call and the reference have equal results. -/
theorem algebraic : Cert.algebraic_Kernel7Ideal_Reference7Ideal := by
  intro m ρ m' ρ' _ ha
  refine ⟨fun c => grad (m ((c : Thread nD τ).loc main_arg0)) (m ((c : Thread nD τ).loc main_arg1)), fun c => grad16 (m ((c : Thread nD τ).loc main_arg0)) (m ((c : Thread nD τ).loc main_arg1)), ?_, ?_⟩
  · exact (θ_run Cert.Kernel7Ideal.defs _ _).mono (fun r h c => ⟨(h c).1.trans (final_grad m c), (h c).2.1.trans (final_grad16 m c), (h c).2.2⟩) (Cert.Kernel7Ideal.Value.run_blocks m ρ)
  · refine (θ_run Cert.Reference7Ideal.defs _ _).mono (fun r h c => ⟨(h c).1.trans ?_, (h c).2.1.trans ?_, (h c).2.2⟩) (Cert.Reference7Ideal.Value.run (F := Ideal) m' ρ')
    · show grad (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) = _; rw [(ha c).1, (ha c).2]
    · show grad16 (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) = _; rw [(ha c).1, (ha c).2]

end Cert.Kernel7Ideal.Hand

end
-- ==== Proof.Mm.Proj.lean ====
/- The input projection: a block of rows against the whole weight at every grid point. -/
module

public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import proofs.«01_k».proof.Defs

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The product of the normalised rows with the weights. -/
abbrev prod (X : FVec Ideal S4096x1024 .f32) (W : FVec Ideal S1024x2304 .f32) : FVec Ideal S4096x2304 .f32 :=
  Host.dotGeneral Cert.Reference8Ideal.dot_S4096x1024_S1024x2304_S4096x2304_1_0_0_1_n_n none X W

/-- The block each grid point holds of each array. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point writes of `prod` is the reference's own entries of that block. -/
theorem point_prod (c : Dev nD) (t : Fin cfg0.N) (y) :
    k0_pay1 (iblk m c 0 t) (iblk m c 1 t) y = prod (m ((c : Thread nD τ).loc main_arg0)) (m ((c : Thread nD τ).loc main_arg1)) (((cfg0.win 2).blk t).view.emb y) := by
  pointwise [k0_pay1, prod]
  blk_point [iblk, V, idx t]

/-- The array the call leaves is the reference's. -/
theorem final_prod (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_prod m c t y

/-- The call terminates and leaves its arguments and every semaphore as they were. -/
theorem frame_p : Cert.quiescent_Kernel8 := fun m ρ _ => Cert.Kernel8.Gen.frame m ρ
theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => And.intro (fun c => (h c).2) (Idealize.ShloMosaic.sem_eq_zero_of_no_sems (by decide) r.2))
    (Cert.Reference8Ideal.Value.run (F := Ideal) m ρ)

/-- The call and the reference have equal results. -/
theorem algebraic : Cert.algebraic_Kernel8Ideal_Reference8Ideal := by
  intro m ρ m' ρ' _ ha
  refine ⟨fun c => prod (m ((c : Thread nD τ).loc main_arg0)) (m ((c : Thread nD τ).loc main_arg1)), ?_, ?_⟩
  · exact (θ_run Cert.Kernel8Ideal.defs _ _).mono (fun r h c => ⟨(h c).1.trans (final_prod m c), (h c).2⟩) (Cert.Kernel8Ideal.Value.run_blocks m ρ)
  · refine (θ_run Cert.Reference8Ideal.defs _ _).mono (fun r h c => ⟨(h c).1.trans ?_, (h c).2⟩) (Cert.Reference8Ideal.Value.run (F := Ideal) m' ρ')
    · show prod (m' ((c : Thread Cert.Reference8Ideal.nD Cert.Reference8Ideal.τ).loc Cert.Reference8Ideal.main_arg0)) (m' ((c : Thread Cert.Reference8Ideal.nD Cert.Reference8Ideal.τ).loc Cert.Reference8Ideal.main_arg1)) = _; rw [(ha c).1, (ha c).2]

end Cert.Kernel8Ideal.Hand

end
-- ==== Proof.Mm.ProjLeft.lean ====
/- The input projection's gradient with respect to its rows, added to the part that came through the forget gate. -/
module

public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import proofs.«01_k».proof.Defs

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The incoming gradient times the transposed weight, plus the other part. -/
abbrev grad (W : FVec Ideal S1024x2304 .f32) (G : FVec Ideal S4096x2304 .f32) (R : FVec Ideal S4096x1024 .f32) : FVec Ideal S4096x1024 .f32 :=
  addf (Host.dotGeneral Cert.Reference9Ideal.dot_S4096x2304_S1024x2304_S4096x1024_1_1_0_0_n_n none G W) R

/-- The block each grid point holds of each array. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) (iblk m c 2 t) y = grad (m ((c : Thread nD τ).loc main_arg0)) (m ((c : Thread nD τ).loc main_arg1)) (m ((c : Thread nD τ).loc main_arg2)) (((cfg0.win 3).blk t).view.emb y) := by
  pointwise [k0_pay1, grad]
  blk_point [iblk, V, idx t]

/-- The array the call leaves is the reference's. -/
theorem final_grad (c : Dev nD) : (dats m 0 c).arrAt 3 (cfgs 0).N = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point_grad m c t y

/-- The call terminates and leaves its arguments and every semaphore as they were. -/
theorem frame_p : Cert.quiescent_Kernel9 := fun m ρ _ => Cert.Kernel9.Gen.frame m ρ
theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => And.intro (fun c => (h c).2) (Idealize.ShloMosaic.sem_eq_zero_of_no_sems (by decide) r.2))
    (Cert.Reference9Ideal.Value.run (F := Ideal) m ρ)

/-- The call and the reference have equal results. -/
theorem algebraic : Cert.algebraic_Kernel9Ideal_Reference9Ideal := by
  intro m ρ m' ρ' _ ha
  refine ⟨fun c => grad (m ((c : Thread nD τ).loc main_arg0)) (m ((c : Thread nD τ).loc main_arg1)) (m ((c : Thread nD τ).loc main_arg2)), ?_, ?_⟩
  · exact (θ_run Cert.Kernel9Ideal.defs _ _).mono (fun r h c => ⟨(h c).1.trans (final_grad m c), (h c).2⟩) (Cert.Kernel9Ideal.Value.run_blocks m ρ)
  · refine (θ_run Cert.Reference9Ideal.defs _ _).mono (fun r h c => ⟨(h c).1.trans ?_, (h c).2⟩) (Cert.Reference9Ideal.Value.run (F := Ideal) m' ρ')
    · show grad (m' ((c : Thread Cert.Reference9Ideal.nD Cert.Reference9Ideal.τ).loc Cert.Reference9Ideal.main_arg0)) (m' ((c : Thread Cert.Reference9Ideal.nD Cert.Reference9Ideal.τ).loc Cert.Reference9Ideal.main_arg1)) (m' ((c : Thread Cert.Reference9Ideal.nD Cert.Reference9Ideal.τ).loc Cert.Reference9Ideal.main_arg2)) = _; rw [(ha c).1, (ha c).2.1, (ha c).2.2]

end Cert.Kernel9Ideal.Hand

end
-- ==== Proof.Mm.ProjRight.lean ====
/- The input projection's weight gradient: all rows against one column block at every grid point. -/
module

public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import proofs.«01_k».proof.Defs

@[expose] public section

set_option maxRecDepth 16384

noncomputable section

namespace Cert.Kernel10Ideal.Hand

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The transposed rows times the incoming gradient. -/
abbrev grad (X : FVec Ideal S4096x1024 .f32) (G : FVec Ideal S4096x2304 .f32) : FVec Ideal S1024x2304 .f32 :=
  transpose S1024x2304 [1, 0] (Host.dotGeneral Cert.Reference10Ideal.dot_S4096x2304_S4096x1024_S2304x1024_0_0_1_1_n_n none G X) Cert.Reference10Ideal.Gen.transposes_S2304x1024_S1024x2304_1_0

/-- The block each grid point holds of each array. -/
theorem idx : ∀ t : Fin cfg0.N, win0_0.index t = ![0, 0] ∧ win0_1.index t = ![0, t.val] ∧ win0_2.index t = ![0, t.val] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  refine Finset.sum_congr rfl fun k _ => ?_
  rw [mul_comm]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- The call terminates and leaves its arguments and every semaphore as they were. -/
theorem frame_p : Cert.quiescent_Kernel10 := fun m ρ _ => Cert.Kernel10.Gen.frame m ρ
theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono
    (fun r h => And.intro (fun c => (h c).2) (Idealize.ShloMosaic.sem_eq_zero_of_no_sems (by decide) r.2))
    (Cert.Reference10Ideal.Value.run (F := Ideal) m ρ)

/-- The call and the reference have equal results. -/
theorem algebraic : Cert.algebraic_Kernel10Ideal_Reference10Ideal := by
  intro m ρ m' ρ' _ ha
  refine ⟨fun c => grad (m ((c : Thread nD τ).loc main_arg0)) (m ((c : Thread nD τ).loc main_arg1)), ?_, ?_⟩
  · exact (θ_run Cert.Kernel10Ideal.defs _ _).mono (fun r h c => ⟨(h c).1.trans (final_grad m c), (h c).2⟩) (Cert.Kernel10Ideal.Value.run_blocks m ρ)
  · refine (θ_run Cert.Reference10Ideal.defs _ _).mono (fun r h c => ⟨(h c).1.trans ?_, (h c).2⟩) (Cert.Reference10Ideal.Value.run (F := Ideal) m' ρ')
    · show grad (m' ((c : Thread Cert.Reference10Ideal.nD Cert.Reference10Ideal.τ).loc Cert.Reference10Ideal.main_arg0)) (m' ((c : Thread Cert.Reference10Ideal.nD Cert.Reference10Ideal.τ).loc Cert.Reference10Ideal.main_arg1)) = _; rw [(ha c).1, (ha c).2]

end Cert.Kernel10Ideal.Hand

end
-- ==== Proof.Mm.Out.lean ====
/- The output projection: the residual is added to the product in the same call, and the sum is also left normalised for the next layer part, each row divided by its root mean square. -/
module

public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import proofs.«01_k».proof.Defs

@[expose] public section

set_option maxRecDepth 16384

noncomputable section

namespace Cert.Kernel11Ideal.Hand

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The residual plus the product. -/
abbrev summ (X : FVec Ideal S4096x1024 .f32) (W : FVec Ideal S1024x1024 .f32) (R : FVec Ideal S4096x1024 .f32) (N : FVec Ideal S1024 .f32) : FVec Ideal S4096x1024 .f32 :=
  addf R (Host.dotGeneral Cert.Reference11Ideal.dot_S4096x1024_S1024x1024_S4096x1024_1_0_0_1_n_n none X W)

/-- The sum with every row scaled by the reciprocal of its root mean square and by the given weights. -/
abbrev norm (X : FVec Ideal S4096x1024 .f32) (W : FVec Ideal S1024x1024 .f32) (R : FVec Ideal S4096x1024 .f32) (N : FVec Ideal S1024 .f32) : FVec Ideal S4096x1024 .bf16 :=
  truncf .bf16 (mulf (mulf (summ X W R N) (broadcastInDim S4096x1024 ![0, 1] Cert.Reference11Ideal.Gen.bcast_S4096x1_S4096x1024_0_1
    (Host.rsqrt (addf (Host.divf (broadcastInDim Cert.Reference11Ideal.S4096x1 ![0] Cert.Reference11Ideal.Gen.bcast_S4096_S4096x1_0
      (Host.reduceAdd (mulf (summ X W R N) (summ X W R N)) (constant Cert.Reference11Ideal.S_ .f32 0x00000000#32) Cert.Reference11Ideal.Gen.reducesTo_S4096x1024_S4096_d1 Cert.Reference11Ideal.Gen.h_S_))
        (broadcastInDim Cert.Reference11Ideal.S4096x1 ![] Cert.Reference11Ideal.Gen.bcast_S_S4096x1 (constant Cert.Reference11Ideal.S_ .f32 0x44800000#32)))
      (broadcastInDim Cert.Reference11Ideal.S4096x1 ![] Cert.Reference11Ideal.Gen.bcast_S_S4096x1 (constant Cert.Reference11Ideal.S_ .f32 0x358637BD#32))))))
    (broadcastInDim S4096x1024 ![0, 1] Cert.Reference11Ideal.Gen.bcast_S1x1024_S4096x1024_0_1 (broadcastInDim S1x1024 ![1] Cert.Reference11Ideal.Gen.bcast_S1024_S1x1024_1 N))) Cert.Reference11Ideal.Gen.bitsLt_bf16_f32

/-- The block each grid point holds of each array. -/
theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

/-- What a grid point writes of `summ` is the reference's own entries of that block. -/
theorem point_summ (c : Dev nD) (t : Fin cfg0.N) (y) :
    k0_pay1 (iblk m c 0 t) (iblk m c 1 t) (iblk m c 2 t) y = summ (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, summ]
  blk_point [iblk, V, idx t]

/-- The array the call leaves is the reference's. -/
theorem final_summ (c : Dev nD) : (dats m 0 c).arrAt 4 (cfgs 0).N = summ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_summ m c t y

/-- What a grid point writes of `norm` is the reference's own entries of that block. -/
theorem point_norm (c : Dev nD) (t : Fin cfg0.N) (y) :
    k0_pay2 (iblk m c 0 t) (iblk m c 1 t) (iblk m c 2 t) (iblk m c 3 t) y = norm (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, norm, summ]
  blk_point [iblk, V, idx t]

/-- The array the call leaves is the reference's. -/
theorem final_norm (c : Dev nD) : (dats m 0 c).arrAt 5 (cfgs 0).N = norm (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_norm m c t y

/-- The call terminates and leaves its arguments and every semaphore as they were. -/
theorem frame_p : Cert.quiescent_Kernel11 := fun m ρ _ => Cert.Kernel11.Gen.frame m ρ
theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono
    (fun r h => And.intro (fun c => (h c).2.2) (Idealize.ShloMosaic.sem_eq_zero_of_no_sems (by decide) r.2))
    (Cert.Reference11Ideal.Value.run (F := Ideal) m ρ)

/-- The call and the reference have equal results. -/
theorem algebraic : Cert.algebraic_Kernel11Ideal_Reference11Ideal := by
  intro m ρ m' ρ' _ ha
  refine ⟨fun c => summ (m ((c : Thread nD τ).loc main_arg0)) (m ((c : Thread nD τ).loc main_arg1)) (m ((c : Thread nD τ).loc main_arg2)) (m ((c : Thread nD τ).loc main_arg3)), fun c => norm (m ((c : Thread nD τ).loc main_arg0)) (m ((c : Thread nD τ).loc main_arg1)) (m ((c : Thread nD τ).loc main_arg2)) (m ((c : Thread nD τ).loc main_arg3)), ?_, ?_⟩
  · exact (θ_run Cert.Kernel11Ideal.defs _ _).mono (fun r h c => ⟨(h c).1.trans (final_summ m c), (h c).2.1.trans (final_norm m c), (h c).2.2⟩) (Cert.Kernel11Ideal.Value.run_blocks m ρ)
  · refine (θ_run Cert.Reference11Ideal.defs _ _).mono (fun r h c => ⟨(h c).1.trans ?_, (h c).2.1.trans ?_, (h c).2.2⟩) (Cert.Reference11Ideal.Value.run (F := Ideal) m' ρ')
    · show summ (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) = _; rw [(ha c).1, (ha c).2.1, (ha c).2.2.1, (ha c).2.2.2]
    · show norm (m' ((c : Thread Cert.Reference11Ideal.nD Cert.Reference11Ideal.τ).loc Cert.Reference11Ideal.main_arg0)) (m' ((c : Thread Cert.Reference11Ideal.nD Cert.Reference11Ideal.τ).loc Cert.Reference11Ideal.main_arg1)) (m' ((c : Thread Cert.Reference11Ideal.nD Cert.Reference11Ideal.τ).loc Cert.Reference11Ideal.main_arg2)) (m' ((c : Thread Cert.Reference11Ideal.nD Cert.Reference11Ideal.τ).loc Cert.Reference11Ideal.main_arg3)) = _; rw [(ha c).1, (ha c).2.1, (ha c).2.2.1, (ha c).2.2.2]

end Cert.Kernel11Ideal.Hand

end
-- ==== Proof.Mm.OutLeft.lean ====
/- The output projection's gradient with respect to its rows. -/
module

public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import proofs.«01_k».proof.Defs

@[expose] public section

set_option maxRecDepth 16384

noncomputable section

namespace Cert.Kernel12Ideal.Hand

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The incoming gradient times the transposed weight. -/
abbrev grad (W : FVec Ideal S1024x1024 .f32) (G : FVec Ideal S4096x1024 .f32) : FVec Ideal S4096x1024 .f32 :=
  Host.dotGeneral Cert.Reference12Ideal.dot_S4096x1024_S1024x1024_S4096x1024_1_1_0_0_n_n none G W

/-- The block each grid point holds of each array. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- The call terminates and leaves its arguments and every semaphore as they were. -/
theorem frame_p : Cert.quiescent_Kernel12 := fun m ρ _ => Cert.Kernel12.Gen.frame m ρ
theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono
    (fun r h => And.intro (fun c => (h c).2) (Idealize.ShloMosaic.sem_eq_zero_of_no_sems (by decide) r.2))
    (Cert.Reference12Ideal.Value.run (F := Ideal) m ρ)

/-- The call and the reference have equal results. -/
theorem algebraic : Cert.algebraic_Kernel12Ideal_Reference12Ideal := by
  intro m ρ m' ρ' _ ha
  refine ⟨fun c => grad (m ((c : Thread nD τ).loc main_arg0)) (m ((c : Thread nD τ).loc main_arg1)), ?_, ?_⟩
  · exact (θ_run Cert.Kernel12Ideal.defs _ _).mono (fun r h c => ⟨(h c).1.trans (final_grad m c), (h c).2⟩) (Cert.Kernel12Ideal.Value.run_blocks m ρ)
  · refine (θ_run Cert.Reference12Ideal.defs _ _).mono (fun r h c => ⟨(h c).1.trans ?_, (h c).2⟩) (Cert.Reference12Ideal.Value.run (F := Ideal) m' ρ')
    · show grad (m' ((c : Thread Cert.Reference12Ideal.nD Cert.Reference12Ideal.τ).loc Cert.Reference12Ideal.main_arg0)) (m' ((c : Thread Cert.Reference12Ideal.nD Cert.Reference12Ideal.τ).loc Cert.Reference12Ideal.main_arg1)) = _; rw [(ha c).1, (ha c).2]

end Cert.Kernel12Ideal.Hand

end
-- ==== Proof.Mm.OutRight.lean ====
/- The output projection's weight gradient, accumulated in a scratch buffer over four blocks of rows. -/
module

public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import proofs.«01_k».proof.Defs

@[expose] public section

set_option maxRecDepth 16384

noncomputable section

namespace Cert.Kernel13Ideal.Hand

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The transposed rows times the incoming gradient. -/
abbrev grad (X : FVec Ideal S4096x1024 .f32) (G : FVec Ideal S4096x1024 .f32) : FVec Ideal S1024x1024 .f32 :=
  transpose S1024x1024 [1, 0] (Host.dotGeneral Cert.Reference13Ideal.dot_S4096x1024_S4096x1024_S1024x1024_0_0_1_1_n_n none G X) Cert.Reference13Ideal.Gen.transposes_S1024x1024_S1024x1024_1_0

/-- Its rounded copy, which over the reals is the same array. -/
abbrev grad16 (X : FVec Ideal S4096x1024 .f32) (G : FVec Ideal S4096x1024 .f32) : FVec Ideal S1024x1024 .bf16 :=
  truncf .bf16 (transpose S1024x1024 [1, 0] (Host.dotGeneral Cert.Reference13Ideal.dot_S4096x1024_S4096x1024_S1024x1024_0_0_1_1_n_n none G X) Cert.Reference13Ideal.Gen.transposes_S1024x1024_S1024x1024_1_0) Cert.Reference13Ideal.Gen.bitsLt_bf16_f32

/-- The block each grid point holds of each array. -/
theorem idx : ∀ t : Fin cfg0.N, win0_0.index t = ![t.val % 4, t.val / 4] ∧ win0_1.index t = ![t.val % 4, 0] ∧ win0_2.index t = ![t.val / 4, 0] ∧ win0_3.index t = ![t.val / 4, 0] :=
  (by decide +kernel : ∀ t : Fin grid0.N, _)

/-- The product of one block of rows. -/
abbrev part (X : Vec Ideal S1024x1024 .bf16) (G : Vec Ideal S1024x1024 .f32) (j : S1024x1024.Idx) : EReal :=
  ∑ k : Fin 1024, X (ix2 k (j 0)) * G (ix2 k (j 1))

theorem first_block (X : Vec Ideal S1024x1024 .bf16) (G : Vec Ideal S1024x1024 .f32) (j) : k0_pay2 (F := Ideal) X G j = 0 + part X G j := by
  rw [zero_add]; pointwise [k0_pay2, k0_pay1, part]

theorem next_block (X : Vec Ideal S1024x1024 .bf16) (G : Vec Ideal S1024x1024 .f32) (s : Vec Ideal S1024x1024 .f32) (j) :
    k0_pay3 (F := Ideal) X G s j = s j + part X G j := by
  pointwise [k0_pay3, k0_pay1, part]

theorem rounded (s : Vec Ideal S1024x1024 .f32) : k0_pay4 (F := Ideal) s = s := by
  funext j; pointwise [k0_pay4]

/-- The running sum after the last block of rows is the sum over the four blocks. -/
theorem running (c : Dev nD) (t : Fin cfg0.N) (h : t.val % 4 = 3) (j : S1024x1024.Idx) :
    (outsAt0 m c t.val t.isLt).2.2 j = ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2.2) 4 (fun _ => (0 : EReal)) (fun p j => part (iblk m c 0 p) (iblk m c 1 p) j)
    (fun t h j => by
      have ht := lt_of_lt_of_eq t.isLt N_0
      rw [outsAt0_A m c t h (by omega) (by omega)]; frame_out; exact first_block _ _ _)
    (fun t h j => by
      have ht := lt_of_lt_of_eq t.isLt N_0
      by_cases h3 : t.val % 4 = 3
      · rw [outsAt0_C m c t h (by omega) h3]; frame_out; erw [Memref.IsWhole.read_unread]; exact next_block _ _ _ _
      · rw [outsAt0_B m c t h (by omega) h3]; frame_out; erw [Memref.IsWhole.read_unread]; exact next_block _ _ _ _)
    t h j, zero_add]

/-- What is written back is that running sum, and its rounded copy. -/
theorem written (c : Dev nD) (t : Fin cfg0.N) (h : t.val % 4 = 3) :
    (outsAt0 m c t.val t.isLt).1 = (outsAt0 m c t.val t.isLt).2.2 ∧ (outsAt0 m c t.val t.isLt).2.1 = (outsAt0 m c t.val t.isLt).2.2 := by
  have ht := lt_of_lt_of_eq t.isLt N_0
  rw [outsAt0_C m c t (by omega) (by omega) h]
  refine ⟨?_, ?_⟩
  · frame_out
  · frame_out; exact rounded _

/-- The four blocks' products add up to the reference's contraction over all rows. -/
theorem point (c : Dev nD) (t : Fin cfg0.N) (h : t.val % 4 = 3) (y) :
    (outsAt0 m c t.val t.isLt).2.2 y = grad (m ((c : Thread nD τ).loc main_arg0)) (m ((c : Thread nD τ).loc main_arg1)) (((cfg0.win 2).blk t).view.emb y) := by
  rw [running m c t h]
  pointwise [grad, part]
  refine Fin.sum_mul_add_congr fun s k hl => ?_
  rw [mul_comm]
  blk_point [iblk, V, idx t, idx ⟨4 * (t.val / 4) + s.val, by have := t.isLt; omega⟩]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, (written m c t h).1]
  exact point m c t h y

/-- The array the call leaves is the reference's. -/
theorem final_grad16 (c : Dev nD) : (dats m 0 c).arrAt 3 (cfgs 0).N = grad16 (m ((c : Thread nD τ).loc main_arg0)) (m ((c : Thread nD τ).loc main_arg1)) := by
  refine (dats m 0 c).arrAt_eq_of_covers 3 _ (by decide +kernel) fun t hf y => ?_
  have h := (flush0_3 t).mp hf
  blk_simp
  rw [after0_3, (written m c t h).2]
  exact point m c t h y

/-- The call terminates and leaves its arguments and every semaphore as they were. -/
theorem frame_p : Cert.quiescent_Kernel13 := fun m ρ _ => Cert.Kernel13.Gen.frame m ρ
theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono
    (fun r h => And.intro (fun c => (h c).2.2) (Idealize.ShloMosaic.sem_eq_zero_of_no_sems (by decide) r.2))
    (Cert.Reference13Ideal.Value.run (F := Ideal) m ρ)

/-- The call and the reference have equal results. -/
theorem algebraic : Cert.algebraic_Kernel13Ideal_Reference13Ideal := by
  intro m ρ m' ρ' _ ha
  refine ⟨fun c => grad (m ((c : Thread nD τ).loc main_arg0)) (m ((c : Thread nD τ).loc main_arg1)), fun c => grad16 (m ((c : Thread nD τ).loc main_arg0)) (m ((c : Thread nD τ).loc main_arg1)), ?_, ?_⟩
  · exact (θ_run Cert.Kernel13Ideal.defs _ _).mono (fun r h c => ⟨(h c).1.trans (final_grad m c), (h c).2.1.trans (final_grad16 m c), (h c).2.2⟩) (Cert.Kernel13Ideal.Value.run_blocks m ρ)
  · refine (θ_run Cert.Reference13Ideal.defs _ _).mono (fun r h c => ⟨(h c).1.trans ?_, (h c).2.1.trans ?_, (h c).2.2⟩) (Cert.Reference13Ideal.Value.run (F := Ideal) m' ρ')
    · show grad (m' ((c : Thread Cert.Reference13Ideal.nD Cert.Reference13Ideal.τ).loc Cert.Reference13Ideal.main_arg0)) (m' ((c : Thread Cert.Reference13Ideal.nD Cert.Reference13Ideal.τ).loc Cert.Reference13Ideal.main_arg1)) = _; rw [(ha c).1, (ha c).2]
    · show grad16 (m' ((c : Thread Cert.Reference13Ideal.nD Cert.Reference13Ideal.τ).loc Cert.Reference13Ideal.main_arg0)) (m' ((c : Thread Cert.Reference13Ideal.nD Cert.Reference13Ideal.τ).loc Cert.Reference13Ideal.main_arg1)) = _; rw [(ha c).1, (ha c).2]

end Cert.Kernel13Ideal.Hand

end
-- ==== Proof.Step.Gate.lean ====
/- The forget gates' logits: the weight's columns against every block of rows, written with the positions along the lanes. -/
module

public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import proofs.«01_k».proof.Defs

@[expose] public section

set_option maxRecDepth 16384

noncomputable section

namespace Cert.Reference14Ideal.Hand

open Cert.Reference14Ideal Cert.Reference14Ideal.Gen Idealize.ShloMosaic

/-- The transposed product of the rows with the gates' columns of the weight. -/
abbrev logits (X : FVec Ideal S4096x1024 .f32) (W : FVec Ideal S1024x128 .f32) : FVec Ideal S128x4096 .f32 :=
  transpose S128x4096 [1, 0] (Host.dotGeneral dot_S4096x1024_S1024x128_S4096x128_1_0_0_1_n_n none X W) transposes_S4096x128_S128x4096_1_0

end Cert.Reference14Ideal.Hand

namespace Cert.Kernel14Ideal.Hand

open Cert.Kernel14Ideal Cert.Kernel14Ideal.Gen Idealize.ShloMosaic Idealize.ShloMosaic.TcCoe Idealize.SL.Sem
open Idealize.ShloMosaic.Pipeline (Dat)
open Cert.Reference14Ideal.Hand (logits)

variable (m : (ℓ : Loc nD τ sig) → Buf (Elt Ideal) ℓ)

/-- The block each grid point holds of each array. -/
theorem idx : ∀ t : Fin cfg0.N, win0_0.index t = ![0, 0, 0] ∧ win0_1.index t = ![t.val, 0] ∧ win0_2.index t = ![0, t.val] :=
  (by decide +kernel : ∀ t : Fin grid0.N, _)

/-- What a grid point writes of `logits` is the reference's own entries of that block. -/
theorem point_logits (c : Dev nD) (t : Fin cfg0.N) (y) :
    k0_pay1 (iblk m c 0 t) (iblk m c 1 t) y = logits (m ((c : Thread nD τ).loc main_arg0)) (m ((c : Thread nD τ).loc main_arg1)) (((cfg0.win 2).blk t).view.emb y) := by
  pointwise [k0_pay1, logits]
  refine Finset.sum_congr rfl fun k _ => ?_
  rw [mul_comm]
  blk_point [iblk, V, idx t]

/-- The array the call leaves is the reference's. -/
theorem final_logits (c : Dev nD) : (dats m 0 c).arrAt 2 (cfgs 0).N = logits (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_logits m c t y

/-- The call terminates and leaves its arguments and every semaphore as they were. -/
theorem frame_p : Cert.quiescent_Kernel14 := fun m ρ _ => Cert.Kernel14.Gen.frame m ρ
theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono
    (fun r h => And.intro (fun c => (h c).2) (Idealize.ShloMosaic.sem_eq_zero_of_no_sems (by decide) r.2))
    (Cert.Reference14Ideal.Value.run (F := Ideal) m ρ)

/-- The call and the reference have equal results. -/
theorem algebraic : Cert.algebraic_Kernel14Ideal_Reference14Ideal := by
  intro m ρ m' ρ' _ ha
  refine ⟨fun c => logits (m ((c : Thread nD τ).loc main_arg0)) (m ((c : Thread nD τ).loc main_arg1)), ?_, ?_⟩
  · exact (θ_run Cert.Kernel14Ideal.defs _ _).mono (fun r h c => ⟨(h c).1.trans (final_logits m c), (h c).2⟩) (Cert.Kernel14Ideal.Value.run_blocks m ρ)
  · refine (θ_run Cert.Reference14Ideal.defs _ _).mono (fun r h c => ⟨(h c).1.trans ?_, (h c).2⟩) (Cert.Reference14Ideal.Value.run (F := Ideal) m' ρ')
    · show logits (m' ((c : Thread Cert.Reference14Ideal.nD Cert.Reference14Ideal.τ).loc Cert.Reference14Ideal.main_arg0)) (m' ((c : Thread Cert.Reference14Ideal.nD Cert.Reference14Ideal.τ).loc Cert.Reference14Ideal.main_arg1)) = _; rw [(ha c).1, (ha c).2]

end Cert.Kernel14Ideal.Hand

end
-- ==== Proof.Step.GateRight.lean ====
/- The forget gates' part of the weight's gradient, accumulated in a scratch buffer over four blocks of positions. -/
module

public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import proofs.«01_k».proof.Defs

@[expose] public section

set_option maxRecDepth 16384

noncomputable section

namespace Cert.Reference15Ideal.Hand

open Cert.Reference15Ideal Cert.Reference15Ideal.Gen Idealize.ShloMosaic

/-- The incoming gradient times the rows, contracted over all positions. -/
abbrev grad (X : FVec Ideal S4096x1024 .f32) (G : FVec Ideal S128x4096 .f32) : FVec Ideal S128x1024 .f32 :=
  transpose S128x1024 [1, 0] (transpose S1024x128 [1, 0] (Host.dotGeneral dot_S4096x128_S4096x1024_S128x1024_0_0_1_1_n_n none (transpose S4096x128 [1, 0] G transposes_S128x4096_S4096x128_1_0) X) transposes_S128x1024_S1024x128_1_0) transposes_S1024x128_S128x1024_1_0

end Cert.Reference15Ideal.Hand

namespace Cert.Kernel15Ideal.Hand

open Cert.Kernel15Ideal Cert.Kernel15Ideal.Gen Idealize.ShloMosaic Idealize.ShloMosaic.TcCoe Idealize.SL.Sem
open Idealize.ShloMosaic.Pipeline (Dat)
open Cert.Reference15Ideal.Hand (grad)

variable (m : (ℓ : Loc nD τ sig) → Buf (Elt Ideal) ℓ)

/-- The block each grid point holds of each array. -/
theorem idx : ∀ t : Fin cfg0.N, win0_0.index t = ![0, t.val % 4] ∧ win0_1.index t = ![t.val % 4, 0] ∧ win0_2.index t = ![0, 0] :=
  (by decide +kernel : ∀ t : Fin grid0.N, _)

/-- The product of one block of positions. -/
abbrev part (D : Vec Ideal S128x1024 .f32) (X : Vec Ideal S1024x1024 .bf16) (j : S128x1024.Idx) : EReal :=
  ∑ k : Fin 1024, D (ix2 (j 0) k) * X (ix2 k (j 1))

theorem first_block (D : Vec Ideal S128x1024 .f32) (X : Vec Ideal S1024x1024 .bf16) (j) : k0_pay2 (F := Ideal) D X j = 0 + part D X j := by
  rw [zero_add]; pointwise [k0_pay2, k0_pay1, part]

theorem next_block (D : Vec Ideal S128x1024 .f32) (X : Vec Ideal S1024x1024 .bf16) (s : Vec Ideal S128x1024 .f32) (j) :
    k0_pay3 (F := Ideal) D X s j = s j + part D X j := by
  pointwise [k0_pay3, k0_pay1, part]

/-- The running sum after the last block of positions is the sum over the four blocks. -/
theorem running (c : Dev nD) (t : Fin cfg0.N) (h : t.val % 4 = 3) (j : S128x1024.Idx) :
    (outsAt0 m c t.val t.isLt).2 j = ∑ s : Fin 4, part (iblk m c 0 ⟨4 * (t.val / 4) + s.val, by have := t.isLt; omega⟩) (iblk m c 1 ⟨4 * (t.val / 4) + s.val, by have := t.isLt; omega⟩) j := by
  rw [Pipeline.eq_sum_fin_of_reset_step_apply_of_flush (fun n h => (outsAt0 m c n h).2) 4 (fun _ => (0 : EReal)) (fun p j => part (iblk m c 0 p) (iblk m c 1 p) j)
    (fun t h j => by
      have ht := lt_of_lt_of_eq t.isLt N_0
      rw [outsAt0_A m c t h (by omega) (by omega)]; frame_out; exact first_block _ _ _)
    (fun t h j => by
      have ht := lt_of_lt_of_eq t.isLt N_0
      by_cases h3 : t.val % 4 = 3
      · rw [outsAt0_C m c t h (by omega) h3]; frame_out; erw [Memref.IsWhole.read_unread]; exact next_block _ _ _ _
      · rw [outsAt0_B m c t h (by omega) h3]; frame_out; erw [Memref.IsWhole.read_unread]; exact next_block _ _ _ _)
    t h j, zero_add]

/-- What is written back is that running sum. -/
theorem written (c : Dev nD) (t : Fin cfg0.N) (h : t.val % 4 = 3) :
    (outsAt0 m c t.val t.isLt).1 = (outsAt0 m c t.val t.isLt).2 := by
  have ht := lt_of_lt_of_eq t.isLt N_0
  rw [outsAt0_C m c t (by omega) (by omega) h]
  frame_out

/-- The four blocks' products add up to the reference's contraction over all positions. -/
theorem point (c : Dev nD) (t : Fin cfg0.N) (h : t.val % 4 = 3) (y) :
    (outsAt0 m c t.val t.isLt).2 y = grad (m ((c : Thread nD τ).loc main_arg0)) (m ((c : Thread nD τ).loc main_arg1)) (((cfg0.win 2).blk t).view.emb y) := by
  rw [running m c t h]
  pointwise [grad, part]
  refine Fin.sum_mul_add_congr fun s k hl => ?_
  blk_point [iblk, V, idx t, idx ⟨4 * (t.val / 4) + s.val, by have := t.isLt; omega⟩]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, written m c t h]
  exact point m c t h y

/-- The call terminates and leaves its arguments and every semaphore as they were. -/
theorem frame_p : Cert.quiescent_Kernel15 := fun m ρ _ => Cert.Kernel15.Gen.frame m ρ
theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono
    (fun r h => And.intro (fun c => (h c).2) (Idealize.ShloMosaic.sem_eq_zero_of_no_sems (by decide) r.2))
    (Cert.Reference15Ideal.Value.run (F := Ideal) m ρ)

/-- The call and the reference have equal results. -/
theorem algebraic : Cert.algebraic_Kernel15Ideal_Reference15Ideal := by
  intro m ρ m' ρ' _ ha
  refine ⟨fun c => grad (m ((c : Thread nD τ).loc main_arg0)) (m ((c : Thread nD τ).loc main_arg1)), ?_, ?_⟩
  · exact (θ_run Cert.Kernel15Ideal.defs _ _).mono (fun r h c => ⟨(h c).1.trans (final_grad m c), (h c).2⟩) (Cert.Kernel15Ideal.Value.run_blocks m ρ)
  · refine (θ_run Cert.Reference15Ideal.defs _ _).mono (fun r h c => ⟨(h c).1.trans ?_, (h c).2⟩) (Cert.Reference15Ideal.Value.run (F := Ideal) m' ρ')
    · show grad (m' ((c : Thread Cert.Reference15Ideal.nD Cert.Reference15Ideal.τ).loc Cert.Reference15Ideal.main_arg0)) (m' ((c : Thread Cert.Reference15Ideal.nD Cert.Reference15Ideal.τ).loc Cert.Reference15Ideal.main_arg1)) = _; rw [(ha c).1, (ha c).2]

end Cert.Kernel15Ideal.Hand

end
-- ==== Proof.Step.GateLeft.lean ====
/- The forget gates' part of the gradient with respect to the rows. -/
module

public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import proofs.«01_k».proof.Defs

@[expose] public section

set_option maxRecDepth 16384

noncomputable section

namespace Cert.Reference16Ideal.Hand

open Cert.Reference16Ideal Cert.Reference16Ideal.Gen Idealize.ShloMosaic

/-- The incoming gradient times the transposed columns of the weight. -/
abbrev grad (W : FVec Ideal S1024x128 .f32) (G : FVec Ideal S128x4096 .f32) : FVec Ideal S4096x1024 .f32 :=
  Host.dotGeneral dot_S4096x128_S1024x128_S4096x1024_1_1_0_0_n_n none (transpose S4096x128 [1, 0] G transposes_S128x4096_S4096x128_1_0) W

end Cert.Reference16Ideal.Hand

namespace Cert.Kernel16Ideal.Hand

open Cert.Kernel16Ideal Cert.Kernel16Ideal.Gen Idealize.ShloMosaic Idealize.ShloMosaic.TcCoe Idealize.SL.Sem
open Idealize.ShloMosaic.Pipeline (Dat)
open Cert.Reference16Ideal.Hand (grad)

variable (m : (ℓ : Loc nD τ sig) → Buf (Elt Ideal) ℓ)

/-- The block each grid point holds of each array. -/
theorem idx : ∀ t : Fin cfg0.N, win0_0.index t = ![0, t.val] ∧ win0_1.index t = ![0, 0, 0] ∧ win0_2.index t = ![t.val, 0] :=
  (by decide +kernel : ∀ t : Fin grid0.N, _)

/-- What a grid point writes of `grad` is the reference's own entries of that block. -/
theorem point_grad (c : Dev nD) (t : Fin cfg0.N) (y) :
    k0_pay1 (iblk m c 0 t) (iblk m c 1 t) y = grad (m ((c : Thread nD τ).loc main_arg0)) (m ((c : Thread nD τ).loc main_arg1)) (((cfg0.win 2).blk t).view.emb y) := by
  pointwise [k0_pay1, grad]
  blk_point [iblk, V, idx t]

/-- The array the call leaves is the reference's. -/
theorem final_grad (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_grad m c t y

/-- The call terminates and leaves its arguments and every semaphore as they were. -/
theorem frame_p : Cert.quiescent_Kernel16 := fun m ρ _ => Cert.Kernel16.Gen.frame m ρ
theorem frame_pi : Cert.quiescent_Kernel16Ideal := fun m ρ _ => Cert.Kernel16Ideal.Gen.frame m ρ

theorem frame_ri : Cert.quiescent_Reference16Ideal := fun m ρ _ =>
  (θ_run Cert.Reference16Ideal.defs _ _).mono
    (fun r h => And.intro (fun c => (h c).2) (Idealize.ShloMosaic.sem_eq_zero_of_no_sems (by decide) r.2))
    (Cert.Reference16Ideal.Value.run (F := Ideal) m ρ)

/-- The call and the reference have equal results. -/
theorem algebraic : Cert.algebraic_Kernel16Ideal_Reference16Ideal := by
  intro m ρ m' ρ' _ ha
  refine ⟨fun c => grad (m ((c : Thread nD τ).loc main_arg0)) (m ((c : Thread nD τ).loc main_arg1)), ?_, ?_⟩
  · exact (θ_run Cert.Kernel16Ideal.defs _ _).mono (fun r h c => ⟨(h c).1.trans (final_grad m c), (h c).2⟩) (Cert.Kernel16Ideal.Value.run_blocks m ρ)
  · refine (θ_run Cert.Reference16Ideal.defs _ _).mono (fun r h c => ⟨(h c).1.trans ?_, (h c).2⟩) (Cert.Reference16Ideal.Value.run (F := Ideal) m' ρ')
    · show grad (m' ((c : Thread Cert.Reference16Ideal.nD Cert.Reference16Ideal.τ).loc Cert.Reference16Ideal.main_arg0)) (m' ((c : Thread Cert.Reference16Ideal.nD Cert.Reference16Ideal.τ).loc Cert.Reference16Ideal.main_arg1)) = _; rw [(ha c).1, (ha c).2]

end Cert.Kernel16Ideal.Hand

end
-- ==== Proof.Step.Norm.lean ====
/- The root mean square norm of a block of rows at every grid point. -/
module

public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import proofs.«01_k».proof.Defs

@[expose] public section

set_option maxRecDepth 16384

noncomputable section

namespace Cert.Reference17Ideal.Hand

open Cert.Reference17Ideal Cert.Reference17Ideal.Gen Idealize.ShloMosaic

/-- Every row scaled by the reciprocal of its root mean square and by the given weights. -/
abbrev normed (X : FVec Ideal S4096x1024 .f32) (N : FVec Ideal S1024 .f32) : FVec Ideal S4096x1024 .bf16 :=
  truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 N))) bitsLt_bf16_f32

end Cert.Reference17Ideal.Hand

namespace Cert.Kernel17Ideal.Hand

open Cert.Kernel17Ideal Cert.Kernel17Ideal.Gen Idealize.ShloMosaic Idealize.ShloMosaic.TcCoe Idealize.SL.Sem
open Idealize.ShloMosaic.Pipeline (Dat)
open Cert.Reference17Ideal.Hand (normed)

variable (m : (ℓ : Loc nD τ sig) → Buf (Elt Ideal) ℓ)

/-- The block each grid point holds of each array. -/
theorem idx : ∀ t : Fin cfg0.N, win0_0.index t = ![t.val, 0] ∧ win0_1.index t = ![0, 0] ∧ win0_2.index t = ![t.val, 0] :=
  (by decide +kernel : ∀ t : Fin grid0.N, _)

/-- What a grid point writes of `normed` is the reference's own entries of that block. -/
theorem point_normed (c : Dev nD) (t : Fin cfg0.N) (y) :
    k0_pay1 (iblk m c 0 t) (iblk m c 1 t) y = normed (m ((c : Thread nD τ).loc main_arg0)) (m ((c : Thread nD τ).loc main_arg1)) (((cfg0.win 2).blk t).view.emb y) := by
  pointwise [k0_pay1, normed]
  blk_point [iblk, V, idx t]

/-- The array the call leaves is the reference's. -/
theorem final_normed (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact point_normed m c t y

/-- The call terminates and leaves its arguments and every semaphore as they were. -/
theorem frame_p : Cert.quiescent_Kernel17 := fun m ρ _ => Cert.Kernel17.Gen.frame m ρ
theorem frame_pi : Cert.quiescent_Kernel17Ideal := fun m ρ _ => Cert.Kernel17Ideal.Gen.frame m ρ

theorem frame_ri : Cert.quiescent_Reference17Ideal := fun m ρ _ =>
  (θ_run Cert.Reference17Ideal.defs _ _).mono
    (fun r h => And.intro (fun c => (h c).2) (Idealize.ShloMosaic.sem_eq_zero_of_no_sems (by decide) r.2))
    (Cert.Reference17Ideal.Value.run (F := Ideal) m ρ)

/-- The call and the reference have equal results. -/
theorem algebraic : Cert.algebraic_Kernel17Ideal_Reference17Ideal := by
  intro m ρ m' ρ' _ ha
  refine ⟨fun c => normed (m ((c : Thread nD τ).loc main_arg0)) (m ((c : Thread nD τ).loc main_arg1)), ?_, ?_⟩
  · exact (θ_run Cert.Kernel17Ideal.defs _ _).mono (fun r h c => ⟨(h c).1.trans (final_normed m c), (h c).2⟩) (Cert.Kernel17Ideal.Value.run_blocks m ρ)
  · refine (θ_run Cert.Reference17Ideal.defs _ _).mono (fun r h c => ⟨(h c).1.trans ?_, (h c).2⟩) (Cert.Reference17Ideal.Value.run (F := Ideal) m' ρ')
    · show normed (m' ((c : Thread Cert.Reference17Ideal.nD Cert.Reference17Ideal.τ).loc Cert.Reference17Ideal.main_arg0)) (m' ((c : Thread Cert.Reference17Ideal.nD Cert.Reference17Ideal.τ).loc Cert.Reference17Ideal.main_arg1)) = _; rw [(ha c).1, (ha c).2]

end Cert.Kernel17Ideal.Hand

end
-- ==== Proof.Step.NormMath.lean ====
/- The gradient of a row divided by its root mean square, written in two ways, over the extended reals. -/
module

public import Idealize.ShloMosaic.Lib.Pipeline.ValueKit

@[expose] public section

noncomputable section

namespace Cert.RowNorm

open Idealize.ShloMosaic

/-- The constants. -/
theorem c1024 : Ideal.ofBits .f32 0x44800000#32 = ((1024 : ℝ) : EReal) := by simp [Ideal.ofBits, Ideal.ieee]; norm_num [← EReal.coe_mul]
theorem cNegHalf : Ideal.ofBits .f32 0xBF000000#32 = ((-1 / 2 : ℝ) : EReal) := by simp [Ideal.ofBits, Ideal.ieee]; norm_num [← EReal.coe_mul]
theorem cEps : ∃ e : ℝ, 0 < e ∧ Ideal.ofBits .f32 0x358637BD#32 = (e : EReal) := by
  refine ⟨8796093 / 8796093022208, by norm_num, ?_⟩
  simp [Ideal.ofBits, Ideal.ieee]; norm_num [← EReal.coe_mul]

/-- A non-negative real factor goes into a sum of any numbers, infinities among them. -/
theorem mul_sum_of_real {ι : Type} (s : Finset ι) (a : ℝ) (ha : 0 ≤ a) (f : ι → EReal) : (a : EReal) * ∑ x ∈ s, f x = ∑ x ∈ s, (a : EReal) * f x := by
  classical
  induction s using Finset.induction_on with
  | empty => simp
  | insert i s hi ih =>
    rw [Finset.sum_insert hi, Finset.sum_insert hi, EReal.left_distrib_of_nonneg_of_ne_top (EReal.coe_nonneg.mpr ha) (EReal.coe_ne_top a), ih]

theorem mul_self_nonneg' (z : EReal) : 0 ≤ z * z := by
  induction z with
  | bot => simp
  | top => simp
  | coe r => rw [← EReal.coe_mul]; exact EReal.coe_nonneg.mpr (mul_self_nonneg r)

/-- A row with an infinity has an infinite sum of squares. -/
theorem sum_sq_top {n : Nat} (x : Fin n → EReal) (i : Fin n) (hi : x i = ⊤ ∨ x i = ⊥) : ∑ k, x k * x k = ⊤ := by
  have h : x i * x i = ⊤ := by rcases hi with h | h <;> simp [h]
  refine top_le_iff.mp (h ▸ Finset.single_le_sum (f := fun k => x k * x k) (fun k _ => mul_self_nonneg' (x k)) (Finset.mem_univ i))

theorem sum_sq_real {n : Nat} (X : Fin n → ℝ) : ∑ k, ((X k : ℝ) : EReal) * (X k : EReal) = ((∑ k, X k * X k : ℝ) : EReal) := by
  induction (Finset.univ : Finset (Fin n)) using Finset.induction_on with
  | empty => simp
  | insert i s hi ih => rw [Finset.sum_insert hi, Finset.sum_insert hi, ih, ← EReal.coe_mul, ← EReal.coe_add]

/-- The mean of the squares and the small constant. -/
abbrev meanSq {n : Nat} (x : Fin n → EReal) : EReal :=
  Ideal.div (∑ k, x k * x k) (Ideal.ofBits .f32 0x44800000#32) + Ideal.ofBits .f32 0x358637BD#32

/-- The gradient through the normalised row is the gradient by the product rule. -/
theorem row {n : Nat} (x y : Fin n → EReal) (j : Fin n) :
    Ideal.rsqrt (meanSq x) * (y j - (x j * Ideal.rsqrt (meanSq x)) * Ideal.div (∑ k, y k * (x k * Ideal.rsqrt (meanSq x))) (Ideal.ofBits .f32 0x44800000#32))
      = y j * Ideal.rsqrt (meanSq x)
        + (x j * Ideal.div ((∑ k, x k * y k) * (Ideal.ofBits .f32 0xBF000000#32 * Ideal.div (Ideal.rsqrt (meanSq x)) (meanSq x))) (Ideal.ofBits .f32 0x44800000#32)
          + Ideal.div ((∑ k, x k * y k) * (Ideal.ofBits .f32 0xBF000000#32 * Ideal.div (Ideal.rsqrt (meanSq x)) (meanSq x))) (Ideal.ofBits .f32 0x44800000#32) * x j) := by
  obtain ⟨e, he, hE⟩ := cEps
  by_cases hx : ∃ i, x i = ⊤ ∨ x i = ⊥
  · obtain ⟨i, hi⟩ := hx
    have hu : meanSq x = ⊤ := by
      rw [meanSq, sum_sq_top x i hi, c1024, Ideal.div_coe (by norm_num), hE, EReal.top_mul_coe_of_pos (by norm_num), EReal.top_add_coe]
    have hz : Ideal.div 0 (⊤ : EReal) = 0 := by simp [Ideal.div]
    rw [hu, Ideal.rsqrt_top, hz, c1024]
    simp only [mul_zero, zero_mul, zero_add, Ideal.div_coe (show (1024 : ℝ) ≠ 0 by norm_num)]
  · have hr : ∀ i, x i = ((x i).toReal : EReal) := fun i =>
      (EReal.coe_toReal (fun h => hx ⟨i, Or.inl h⟩) (fun h => hx ⟨i, Or.inr h⟩)).symm
    generalize hX : (fun i => (x i).toReal) = X
    have hxX : x = fun i => ((X i : ℝ) : EReal) := by funext i; rw [hr i, ← hX]
    subst hxX
    have hs : 0 ≤ ∑ k, X k * X k := Finset.sum_nonneg fun k _ => mul_self_nonneg _
    obtain ⟨u, hu0, hu⟩ : ∃ u : ℝ, 0 < u ∧ meanSq (fun i => ((X i : ℝ) : EReal)) = (u : EReal) := by
      refine ⟨(∑ k, X k * X k) * (1 / 1024) + e, by positivity, ?_⟩
      rw [meanSq, sum_sq_real, c1024, Ideal.div_coe (by norm_num), hE, ← EReal.coe_mul, ← EReal.coe_add]
    have hq : Ideal.rsqrt (u : EReal) = (((Real.sqrt u)⁻¹ : ℝ) : EReal) := by
      rw [Ideal.rsqrt_coe, if_neg (not_lt.mpr hu0.le), if_neg hu0.ne']
    have hqq : (Real.sqrt u)⁻¹ * (Real.sqrt u)⁻¹ = 1 / u := by rw [← mul_inv, Real.mul_self_sqrt hu0.le, one_div]
    have hq0 : 0 ≤ (Real.sqrt u)⁻¹ := by positivity
    rw [hu, hq]
    generalize (Real.sqrt u)⁻¹ = q at *
    have hS : ∑ k, y k * (((X k : ℝ) : EReal) * (q : EReal)) = (q : EReal) * ∑ k, ((X k : ℝ) : EReal) * y k := by
      rw [mul_sum_of_real _ _ hq0]
      refine Finset.sum_congr rfl fun k _ => ?_
      rw [mul_comm (q : EReal), mul_comm (y k), mul_assoc, mul_comm (q : EReal), ← mul_assoc]
    rw [hS, c1024, cNegHalf]
    simp only [Ideal.div_coe (show (1024 : ℝ) ≠ 0 by norm_num), Ideal.div_coe hu0.ne']
    generalize (∑ k, ((X k : ℝ) : EReal) * y k) = S
    rw [sub_eq_add_neg, EReal.left_distrib_of_nonneg_of_ne_top (EReal.coe_nonneg.mpr hq0) (EReal.coe_ne_top q), mul_comm (y j)]
    congr 1
    have hd : ∀ z : EReal, z + z = ((2 : ℝ) : EReal) * z := fun z => by
      have := EReal.right_distrib_of_nonneg (a := 1) (b := 1) (c := z) zero_le_one zero_le_one
      rw [one_mul] at this
      rw [← this]; congr 1; rw [← EReal.coe_one, ← EReal.coe_add]; norm_num
    rw [mul_comm _ ((X j : ℝ) : EReal), hd]
    have hab : (2 : ℝ) * (-1 / 2) = -1 := by norm_num
    generalize (-1 / 2 : ℝ) = b at *
    generalize (2 : ℝ) = a at *
    generalize (1 / u : ℝ) = d at *
    generalize (1 / 1024 : ℝ) = w at *
    generalize X j = r at *
    have hl : (q : EReal) * -(((r : ℝ) : EReal) * (q : EReal) * ((q : EReal) * S * (w : EReal))) = ((-(q * r * q * q * w) : ℝ) : EReal) * S := by
      simp only [EReal.coe_mul, EReal.coe_neg, neg_mul, mul_neg]
      congr 1; ac_rfl
    have hr' : (a : EReal) * ((r : EReal) * (S * ((b : EReal) * ((q : EReal) * (d : EReal))) * (w : EReal))) = ((a * r * b * q * d * w : ℝ) : EReal) * S := by
      simp only [EReal.coe_mul]
      ac_rfl
    rw [hl, hr']
    congr 2
    rw [← hqq]
    linear_combination (-(q * r * q * q * w)) * hab

/-- The same with the incoming gradient times the weights, added to what arrives past the norm. -/
theorem row_added {n : Nat} (x d g : Fin n → EReal) (r : EReal) (j : Fin n) :
    r + Ideal.rsqrt (meanSq x) * (d j * g j - (x j * Ideal.rsqrt (meanSq x)) * Ideal.div (∑ k, d k * g k * (x k * Ideal.rsqrt (meanSq x))) (Ideal.ofBits .f32 0x44800000#32))
      = r + (d j * g j * Ideal.rsqrt (meanSq x)
        + x j * Ideal.div ((∑ k, x k * (d k * g k)) * (Ideal.ofBits .f32 0xBF000000#32 * Ideal.div (Ideal.rsqrt (meanSq x)) (meanSq x))) (Ideal.ofBits .f32 0x44800000#32)
          + Ideal.div ((∑ k, x k * (d k * g k)) * (Ideal.ofBits .f32 0xBF000000#32 * Ideal.div (Ideal.rsqrt (meanSq x)) (meanSq x))) (Ideal.ofBits .f32 0x44800000#32) * x j) := by
  rw [row x (fun k => d k * g k) j, add_assoc]

end Cert.RowNorm

end
-- ==== Proof.Step.NormBack.lean ====
/- The gradient of the root mean square norm: rows of the argument's gradient at every grid point, and the weights' gradient added up over the grid. -/
module

public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import proofs.«01_k».proof.Defs
public import proofs.«01_k».proof.Proof.Step.NormMath

@[expose] public section

set_option maxRecDepth 16384

noncomputable section

namespace Cert.Reference18Ideal.Hand

open Cert.Reference18Ideal Cert.Reference18Ideal.Gen Idealize.ShloMosaic

/-- The gradient with respect to the rows, added to what arrives past the norm. -/
abbrev rows (X : FVec Ideal S4096x1024 .f32) (N : FVec Ideal S1024 .f32) (D : FVec Ideal S4096x1024 .f32) (R : FVec Ideal S4096x1024 .f32) : FVec Ideal S4096x1024 .f32 :=
  addf R (addf (addf (mulf (mulf D (broadcastInDim S4096x1024 ![0, 1] bcast_S1x1024_S4096x1024_0_1 (broadcastInDim S1x1024 ![1] bcast_S1024_S1x1024_1 N))) (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (mulf X (broadcastInDim S4096x1024 ![0] bcast_S4096_S4096x1024_0 (Host.reduceAdd (Host.divf (mulf (shapeCast _ (Host.reduceAdd (mulf X (mulf D (broadcastInDim S4096x1024 ![0, 1] bcast_S1x1024_S4096x1024_0_1 (broadcastInDim S1x1024 ![1] bcast_S1024_S1x1024_1 N)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf X (mulf D (broadcastInDim S4096x1024 ![0, 1] bcast_S1x1024_S4096x1024_0_1 (broadcastInDim S1x1024 ![1] bcast_S1024_S1x1024_1 N)))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))) (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) X))

/-- The gradient with respect to the norm's weights. -/
abbrev weights (X : FVec Ideal S4096x1024 .f32) (N : FVec Ideal S1024 .f32) (D : FVec Ideal S4096x1024 .f32) (R : FVec Ideal S4096x1024 .f32) : FVec Ideal S1x1024 .f32 :=
  broadcastInDim S1x1024 ![1] bcast_S1024_S1x1024_1 (Host.reduceAdd (shapeCast _ (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) D) (constant S_ .f32 0x00000000#32) reducesTo_S4096x1024_S1024_d0 h_S_) shapeCasts_S1024_S1x1024) (constant S_ .f32 0x00000000#32) reducesTo_S1x1024_S1024_d0 h_S_)

end Cert.Reference18Ideal.Hand

namespace Cert.Kernel18Ideal.Hand

open Cert.Kernel18Ideal Cert.Kernel18Ideal.Gen Idealize.ShloMosaic Idealize.ShloMosaic.TcCoe Idealize.SL.Sem
open Idealize.ShloMosaic.Pipeline (Dat)
open Cert.Reference18Ideal.Hand (rows weights)

variable (m : (ℓ : Loc nD τ sig) → Buf (Elt Ideal) ℓ)

/-- The block each grid point holds of each array. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-- The block of weight gradients that one block of rows adds. -/
abbrev part (X D : Vec Ideal S512x1024 .f32) (j : S1x1024.Idx) : EReal := k0_pay5 (F := Ideal) X D j

/-- The weight gradient so far, after the last block, is the sum over the eight blocks. -/
theorem running (c : Dev nD) (t : Fin cfg0.N) (h : t.val % 8 = 7) (j : S1x1024.Idx) :
    (outsAt0 m c t.val t.isLt).2 j = ∑ s : Fin 8, part (iblk m c 0 ⟨8 * (t.val / 8) + s.val, by have := t.isLt; omega⟩) (iblk m c 2 ⟨8 * (t.val / 8) + s.val, by have := t.isLt; omega⟩) j := by
  rw [Pipeline.eq_sum_fin_of_reset_step_apply_of_flush (fun n h => (outsAt0 m c n h).2) 8 (fun _ => (0 : EReal)) (fun p j => part (iblk m c 0 p) (iblk m c 2 p) j)
    (fun t h j => by
      have ht := lt_of_lt_of_eq t.isLt N_0
      rw [outsAt0_A m c t h (by omega)]; frame_out; rw [zero_add])
    (fun t h j => by
      have ht := lt_of_lt_of_eq t.isLt N_0
      rw [outsAt0_B m c t h (by omega)]; frame_out; pointwise [k0_pay1, part])
    t h j, zero_add]

/-- The eight blocks' parts add up to the reference's sum over all rows. -/
theorem point (c : Dev nD) (t : Fin cfg0.N) (h : t.val % 8 = 7) (y) :
    (outsAt0 m c t.val t.isLt).2 y = weights (m ((c : Thread nD τ).loc main_arg0)) (m ((c : Thread nD τ).loc main_arg1)) (m ((c : Thread nD τ).loc main_arg2)) (m ((c : Thread nD τ).loc main_arg3)) (((cfg0.win 5).blk t).view.emb y) := by
  rw [running m c t h]
  pointwise [weights, part, k0_pay5, k0_pay3, k0_pay2]
  rw [Fin.sum_univ_one]
  refine Fin.sum_mul_add_congr fun s k hl => ?_
  rw [mul_comm]
  blk_point [iblk, V, idx t, idx ⟨8 * (t.val / 8) + s.val, by have := t.isLt; omega⟩]

/-- The array the call leaves is the reference's. -/
theorem final_weights (c : Dev nD) : (dats m 0 c).arrAt 5 (cfgs 0).N = weights (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have h := (flush0_5 t).mp hf
  blk_simp
  rw [after0_5]
  exact point m c t h y

/-- Every point writes its own rows of the gradient, whatever was added up so far. -/
theorem written (c : Dev nD) (t : Fin cfg0.N) : (outsAt0 m c t.val t.isLt).1 = k0_pay4 (iblk m c 0 t) (iblk m c 2 t) (iblk m c 1 t) (iblk m c 3 t) := by
  have ht := lt_of_lt_of_eq t.isLt N_0
  by_cases h : t.val % 8 = 0
  · rw [outsAt0_A m c t h (by omega)]; frame_out
  · rw [outsAt0_B m c t h (by omega)]; frame_out

theorem point_dx (c : Dev nD) (t : Fin cfg0.N) (y) :
    k0_pay4 (iblk m c 0 t) (iblk m c 2 t) (iblk m c 1 t) (iblk m c 3 t) y = rows (m ((c : Thread nD τ).loc main_arg0)) (m ((c : Thread nD τ).loc main_arg1)) (m ((c : Thread nD τ).loc main_arg2)) (m ((c : Thread nD τ).loc main_arg3)) (((cfg0.win 4).blk t).view.emb y) := by
  obtain ⟨p, q, rfl⟩ : ∃ (p : Fin 512) (q : Fin 1024), y = ix2 p q := ⟨y 0, y 1, by funext i; fin_cases i <;> rfl⟩
  pointwise [k0_pay4, k0_pay3, k0_pay2, rows]
  refine (RowNorm.row_added (fun k => iblk m c 0 t (ix2 p k)) (fun k => iblk m c 2 t (ix2 p k)) (fun k => iblk m c 1 t (ix2 0 k)) (iblk m c 3 t (ix2 p q)) q).trans ?_
  dsimp only [RowNorm.meanSq]
  simp only [Fin.sum_univ_one]
  blk_point [iblk, V, idx t]

/-- The array the call leaves is the reference's. -/
theorem final_rows (c : Dev nD) : (dats m 0 c).arrAt 4 (cfgs 0).N = rows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, written m c t]
  exact point_dx m c t y

/-- The call terminates and leaves its arguments and every semaphore as they were. -/
theorem frame_p : Cert.quiescent_Kernel18 := fun m ρ _ => Cert.Kernel18.Gen.frame m ρ
theorem frame_pi : Cert.quiescent_Kernel18Ideal := fun m ρ _ => Cert.Kernel18Ideal.Gen.frame m ρ

theorem frame_ri : Cert.quiescent_Reference18Ideal := fun m ρ _ =>
  (θ_run Cert.Reference18Ideal.defs _ _).mono
    (fun r h => And.intro (fun c => (h c).2.2) (Idealize.ShloMosaic.sem_eq_zero_of_no_sems (by decide) r.2))
    (Cert.Reference18Ideal.Value.run (F := Ideal) m ρ)

/-- The call and the reference have equal results. -/
theorem algebraic : Cert.algebraic_Kernel18Ideal_Reference18Ideal := by
  intro m ρ m' ρ' _ ha
  refine ⟨fun c => rows (m ((c : Thread nD τ).loc main_arg0)) (m ((c : Thread nD τ).loc main_arg1)) (m ((c : Thread nD τ).loc main_arg2)) (m ((c : Thread nD τ).loc main_arg3)), fun c => weights (m ((c : Thread nD τ).loc main_arg0)) (m ((c : Thread nD τ).loc main_arg1)) (m ((c : Thread nD τ).loc main_arg2)) (m ((c : Thread nD τ).loc main_arg3)), ?_, ?_⟩
  · exact (θ_run Cert.Kernel18Ideal.defs _ _).mono (fun r h c => ⟨(h c).1.trans (final_rows m c), (h c).2.1.trans (final_weights m c), (h c).2.2⟩) (Cert.Kernel18Ideal.Value.run_blocks m ρ)
  · refine (θ_run Cert.Reference18Ideal.defs _ _).mono (fun r h c => ⟨(h c).1.trans ?_, (h c).2.1.trans ?_, (h c).2.2⟩) (Cert.Reference18Ideal.Value.run (F := Ideal) m' ρ')
    · show rows (m' ((c : Thread Cert.Reference18Ideal.nD Cert.Reference18Ideal.τ).loc Cert.Reference18Ideal.main_arg0)) (m' ((c : Thread Cert.Reference18Ideal.nD Cert.Reference18Ideal.τ).loc Cert.Reference18Ideal.main_arg1)) (m' ((c : Thread Cert.Reference18Ideal.nD Cert.Reference18Ideal.τ).loc Cert.Reference18Ideal.main_arg2)) (m' ((c : Thread Cert.Reference18Ideal.nD Cert.Reference18Ideal.τ).loc Cert.Reference18Ideal.main_arg3)) = _; rw [(ha c).1, (ha c).2.1, (ha c).2.2.1, (ha c).2.2.2]
    · show weights (m' ((c : Thread Cert.Reference18Ideal.nD Cert.Reference18Ideal.τ).loc Cert.Reference18Ideal.main_arg0)) (m' ((c : Thread Cert.Reference18Ideal.nD Cert.Reference18Ideal.τ).loc Cert.Reference18Ideal.main_arg1)) (m' ((c : Thread Cert.Reference18Ideal.nD Cert.Reference18Ideal.τ).loc Cert.Reference18Ideal.main_arg2)) (m' ((c : Thread Cert.Reference18Ideal.nD Cert.Reference18Ideal.τ).loc Cert.Reference18Ideal.main_arg3)) = _; rw [(ha c).1, (ha c).2.1, (ha c).2.2.1, (ha c).2.2.2]

end Cert.Kernel18Ideal.Hand

end
-- ==== Proof.Step.Loss.lean ====
/- The loss head: every block of rows adds its part to the loss and writes its rows of the loss's gradient. -/
module

public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import proofs.«01_k».proof.Defs
public import proofs.«01_k».proof.Proof.Step.NormMath

@[expose] public section

set_option maxRecDepth 16384

noncomputable section

namespace Cert.Reference19Ideal.Hand

open Cert.Reference19Ideal Cert.Reference19Ideal.Gen Idealize.ShloMosaic

/-- Half the sum over the rows of the mean squared error. -/
abbrev loss (Y : FVec Ideal S4096x1024 .f32) (T : FVec Ideal S4096x1024 .f32) : FVec Ideal S1x1 .f32 :=
  shapeCast _ (mulf (constant S_ .f32 0x3F000000#32) (Host.reduceAdd (Host.divf (Host.reduceAdd (mulf (subf Y T) (subf Y T)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

/-- The gradient of that loss with respect to the first argument. -/
abbrev grad (Y : FVec Ideal S4096x1024 .f32) (T : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf Y T))

end Cert.Reference19Ideal.Hand

namespace Cert.Kernel19Ideal.Hand

open Cert.Kernel19Ideal Cert.Kernel19Ideal.Gen Idealize.ShloMosaic Idealize.ShloMosaic.TcCoe Idealize.SL.Sem
open Idealize.ShloMosaic.Pipeline (Dat)
open Cert.Reference19Ideal.Hand (loss grad)

variable (m : (ℓ : Loc nD τ sig) → Buf (Elt Ideal) ℓ)

/-- The block each grid point holds of each array. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The constants of the loss. -/
theorem cHalf : Ideal.ofBits .f32 0x3F000000#32 = ((1 / 2 : ℝ) : EReal) := by simp [Ideal.ofBits, Ideal.ieee]; norm_num [← EReal.coe_mul]
theorem cTwo : Ideal.ofBits .f32 0x40000000#32 = ((2 : ℝ) : EReal) := by simp [Ideal.ofBits, Ideal.ieee]; norm_num [← EReal.coe_mul]
theorem cMean : Ideal.ofBits .f32 0x3A800000#32 = ((1 / 1024 : ℝ) : EReal) := by simp [Ideal.ofBits, Ideal.ieee]; norm_num [← EReal.coe_mul]
theorem cHalfMean : Ideal.ofBits .f32 0x3A000000#32 = ((1 / 2048 : ℝ) : EReal) := by simp [Ideal.ofBits, Ideal.ieee]; norm_num [← EReal.coe_mul]

/-- The part of the loss that one block of rows gives. -/
abbrev part (Y T : Vec Ideal S512x1024 .f32) (j : S1x1.Idx) : EReal :=
  k0_pay3 (F := Ideal) Y T j

/-- The loss so far, after the last block, is the sum over the eight blocks. -/
theorem running (c : Dev nD) (t : Fin cfg0.N) (h : t.val % 8 = 7) (j : S1x1.Idx) :
    (outsAt0 m c t.val t.isLt).1 j = ∑ s : Fin 8, part (iblk m c 0 ⟨8 * (t.val / 8) + s.val, by have := t.isLt; omega⟩) (iblk m c 1 ⟨8 * (t.val / 8) + s.val, by have := t.isLt; omega⟩) j := by
  rw [Pipeline.eq_sum_fin_of_reset_step_apply_of_flush (fun n h => (outsAt0 m c n h).1) 8 (fun _ => (0 : EReal)) (fun p j => part (iblk m c 0 p) (iblk m c 1 p) j)
    (fun t h j => by
      have ht := lt_of_lt_of_eq t.isLt N_0
      rw [outsAt0_A m c t h (by omega)]; frame_out; rw [zero_add])
    (fun t h j => by
      have ht := lt_of_lt_of_eq t.isLt N_0
      rw [outsAt0_B m c t h (by omega)]; frame_out; pointwise [k0_pay4, part])
    t h j, zero_add]

/-- The eight blocks' parts add up to the reference's loss. -/
theorem point (c : Dev nD) (t : Fin cfg0.N) (h : t.val % 8 = 7) (y) :
    (outsAt0 m c t.val t.isLt).1 y = loss (m ((c : Thread nD τ).loc main_arg0)) (m ((c : Thread nD τ).loc main_arg1)) (((cfg0.win 2).blk t).view.emb y) := by
  rw [running m c t h]
  pointwise [loss, part, k0_pay3, k0_pay1]
  rw [cHalf, RowNorm.c1024, cHalfMean, RowNorm.mul_sum_of_real _ _ (by norm_num)]
  simp only [Ideal.div_coe (show (1024 : ℝ) ≠ 0 by norm_num), mul_comm _ ((1 / 2048 : ℝ) : EReal), RowNorm.mul_sum_of_real _ _ (show (0 : ℝ) ≤ 1 / 2048 by norm_num)]
  refine Fin.sum_mul_add_congr fun s k hl => ?_
  rw [mul_comm _ ((1 / 1024 : ℝ) : EReal), ← mul_assoc, ← EReal.coe_mul, show (1 / 2 * (1 / 1024) : ℝ) = 1 / 2048 by norm_num, RowNorm.mul_sum_of_real _ _ (by norm_num)]
  refine Finset.sum_congr rfl fun l _ => ?_
  blk_point [iblk, V, idx t, idx ⟨8 * (t.val / 8) + s.val, by have := t.isLt; omega⟩]

/-- The array the call leaves is the reference's. -/
theorem final_loss (c : Dev nD) : (dats m 0 c).arrAt 2 (cfgs 0).N = loss (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2]
  exact point m c t h y

/-- Every point writes its own rows of the gradient, whatever the loss so far. -/
theorem written (c : Dev nD) (t : Fin cfg0.N) : (outsAt0 m c t.val t.isLt).2 = k0_pay2 (iblk m c 0 t) (iblk m c 1 t) := by
  have ht := lt_of_lt_of_eq t.isLt N_0
  by_cases h : t.val % 8 = 0
  · rw [outsAt0_A m c t h (by omega)]; frame_out
  · rw [outsAt0_B m c t h (by omega)]; frame_out

theorem point_dy (c : Dev nD) (t : Fin cfg0.N) (y) :
    k0_pay2 (iblk m c 0 t) (iblk m c 1 t) y = grad (m ((c : Thread nD τ).loc main_arg0)) (m ((c : Thread nD τ).loc main_arg1)) (((cfg0.win 3).blk t).view.emb y) := by
  pointwise [k0_pay2, k0_pay1, grad]
  rw [cHalf, RowNorm.c1024, cTwo, cMean, Ideal.div_coe (by norm_num), ← mul_assoc, ← EReal.coe_mul, ← EReal.coe_mul, show (1 / 2 * (1 / 1024) * 2 : ℝ) = 1 / 1024 by norm_num, mul_comm]
  blk_point [iblk, V, idx t]

/-- The array the call leaves is the reference's. -/
theorem final_grad (c : Dev nD) : (dats m 0 c).arrAt 3 (cfgs 0).N = grad (m ((c : Thread nD τ).loc main_arg0)) (m ((c : Thread nD τ).loc main_arg1)) := by
  refine (dats m 0 c).arrAt_eq_of_covers 3 _ (by decide +kernel) fun t _ y => ?_
  blk_simp
  rw [after0_3, written m c t]
  exact point_dy m c t y

/-- The call terminates and leaves its arguments and every semaphore as they were. -/
theorem frame_p : Cert.quiescent_Kernel19 := fun m ρ _ => Cert.Kernel19.Gen.frame m ρ
theorem frame_pi : Cert.quiescent_Kernel19Ideal := fun m ρ _ => Cert.Kernel19Ideal.Gen.frame m ρ

theorem frame_ri : Cert.quiescent_Reference19Ideal := fun m ρ _ =>
  (θ_run Cert.Reference19Ideal.defs _ _).mono
    (fun r h => And.intro (fun c => (h c).2.2) (Idealize.ShloMosaic.sem_eq_zero_of_no_sems (by decide) r.2))
    (Cert.Reference19Ideal.Value.run (F := Ideal) m ρ)

/-- The call and the reference have equal results. -/
theorem algebraic : Cert.algebraic_Kernel19Ideal_Reference19Ideal := by
  intro m ρ m' ρ' _ ha
  refine ⟨fun c => loss (m ((c : Thread nD τ).loc main_arg0)) (m ((c : Thread nD τ).loc main_arg1)), fun c => grad (m ((c : Thread nD τ).loc main_arg0)) (m ((c : Thread nD τ).loc main_arg1)), ?_, ?_⟩
  · exact (θ_run Cert.Kernel19Ideal.defs _ _).mono (fun r h c => ⟨(h c).1.trans (final_loss m c), (h c).2.1.trans (final_grad m c), (h c).2.2⟩) (Cert.Kernel19Ideal.Value.run_blocks m ρ)
  · refine (θ_run Cert.Reference19Ideal.defs _ _).mono (fun r h c => ⟨(h c).1.trans ?_, (h c).2.1.trans ?_, (h c).2.2⟩) (Cert.Reference19Ideal.Value.run (F := Ideal) m' ρ')
    · show loss (m' ((c : Thread Cert.Reference19Ideal.nD Cert.Reference19Ideal.τ).loc Cert.Reference19Ideal.main_arg0)) (m' ((c : Thread Cert.Reference19Ideal.nD Cert.Reference19Ideal.τ).loc Cert.Reference19Ideal.main_arg1)) = _; rw [(ha c).1, (ha c).2]
    · show grad (m' ((c : Thread Cert.Reference19Ideal.nD Cert.Reference19Ideal.τ).loc Cert.Reference19Ideal.main_arg0)) (m' ((c : Thread Cert.Reference19Ideal.nD Cert.Reference19Ideal.τ).loc Cert.Reference19Ideal.main_arg1)) = _; rw [(ha c).1, (ha c).2]

end Cert.Kernel19Ideal.Hand

end
-- ==== Proof.Step.AdamSmall.lean ====
/- One AdamW step on the packed small weights: an elementwise computation, a block of rows at every grid point. -/
module

public import proofs.«01_k».proof.Proof.Gen.Kernel20.Frame
public import proofs.«01_k».proof.Proof.Gen.Kernel20Ideal.Value
public import proofs.«01_k».proof.Proof.Gen.Reference20Ideal.Run
public import Idealize.ShloMosaic.Lib.Pipeline.ValueKit
public import proofs.«01_k».proof.Defs

@[expose] public section

set_option maxRecDepth 16384

noncomputable section

namespace Cert.Reference20Ideal.Hand

open Cert.Reference20Ideal Cert.Reference20Ideal.Gen Idealize.ShloMosaic

/-- The type of the arrays. -/
abbrev Arr := FVec Ideal S768x128 .f32

/-- A number at every entry. -/
abbrev num (w : BitVec 32) : Arr := broadcastInDim S768x128 ![] bcast_S_S768x128 (constant S_ .f32 w)

/-- The gradient. -/
abbrev total (W G M Q : Arr) : Arr :=
  G

/-- The change of the weights. -/
abbrev delta (W G M Q : Arr) : Arr :=
  mulf (num 0xBA83126F#32) (addf (Host.divf (Host.divf (addf (mulf (num 0x3F666666#32) M) (mulf (num 0x3DCCCCCD#32) G)) (num 0x3F26BD02#32)) (addf (Host.sqrt (Host.divf (addf (mulf (num 0x3F7FBE77#32) Q) (mulf (num 0x3A83126F#32) (mulf G G))) (num 0x3C231ACC#32))) (num 0x322BCC77#32))) (mulf (num 0x3C23D70A#32) W))

/-- The new first moment. -/
abbrev first (W G M Q : Arr) : Arr :=
  addf (mulf (num 0x3F666666#32) M) (mulf (num 0x3DCCCCCD#32) G)

/-- The new second moment. -/
abbrev second (W G M Q : Arr) : Arr :=
  addf (mulf (num 0x3F7FBE77#32) Q) (mulf (num 0x3A83126F#32) (mulf G G))

end Cert.Reference20Ideal.Hand

namespace Cert.Kernel20Ideal.Hand

open Cert.Kernel20Ideal Cert.Kernel20Ideal.Gen Idealize.ShloMosaic Idealize.ShloMosaic.TcCoe Idealize.SL.Sem
open Idealize.ShloMosaic.Pipeline (Dat)
open Cert.Reference20Ideal.Hand (Arr num total delta first second)

variable (m : (ℓ : Loc nD τ sig) → Buf (Elt Ideal) ℓ)

/-- A function of the call's arguments, at their values. -/
abbrev at_args (c : Dev nD) (f : Arr → Arr → Arr → Arr → Arr) : Arr := f (m ((c : Thread nD τ).loc main_arg0)) (m ((c : Thread nD τ).loc main_arg1)) (m ((c : Thread nD τ).loc main_arg2)) (m ((c : Thread nD τ).loc main_arg3))

/-- The block each grid point holds of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The array the call leaves is the reference's. -/
theorem final_total (c : Dev nD) : (dats m 0 c).arrAt 4 (cfgs 0).N = at_args m c total := by
  refine (dats m 0 c).arrAt_eq_of_covers 4 _ (by decide +kernel) fun t _ y => ?_
  blk_simp
  rw [after0_4]; frame_out
  pointwise [k0_pay1, k0_pay2, k0_pay3, total]
  blk_point [iblk, V, idx t]

/-- The array the call leaves is the reference's. -/
theorem final_delta (c : Dev nD) : (dats m 0 c).arrAt 5 (cfgs 0).N = at_args m c delta := by
  refine (dats m 0 c).arrAt_eq_of_covers 5 _ (by decide +kernel) fun t _ y => ?_
  blk_simp
  rw [after0_5]; frame_out
  pointwise [k0_pay1, k0_pay2, k0_pay3, delta, num]
  blk_point [iblk, V, idx t]

/-- The array the call leaves is the reference's. -/
theorem final_first (c : Dev nD) : (dats m 0 c).arrAt 6 (cfgs 0).N = at_args m c first := by
  refine (dats m 0 c).arrAt_eq_of_covers 6 _ (by decide +kernel) fun t _ y => ?_
  blk_simp
  rw [after0_6]; frame_out
  pointwise [k0_pay1, k0_pay2, k0_pay3, first, num]
  blk_point [iblk, V, idx t]

/-- The array the call leaves is the reference's. -/
theorem final_second (c : Dev nD) : (dats m 0 c).arrAt 7 (cfgs 0).N = at_args m c second := by
  refine (dats m 0 c).arrAt_eq_of_covers 7 _ (by decide +kernel) fun t _ y => ?_
  blk_simp
  rw [after0_7]; frame_out
  pointwise [k0_pay1, k0_pay2, k0_pay3, second, num]
  blk_point [iblk, V, idx t]

/-- The call terminates and leaves its arguments and every semaphore as they were. -/
theorem frame_p : Cert.quiescent_Kernel20 := fun m ρ _ => Cert.Kernel20.Gen.frame m ρ
theorem frame_pi : Cert.quiescent_Kernel20Ideal := fun m ρ _ => Cert.Kernel20Ideal.Gen.frame m ρ

theorem frame_ri : Cert.quiescent_Reference20Ideal := fun m ρ _ =>
  (θ_run Cert.Reference20Ideal.defs _ _).mono
    (fun r h => And.intro (fun c => (h c).2.2.2.2) (Idealize.ShloMosaic.sem_eq_zero_of_no_sems (by decide) r.2))
    (Cert.Reference20Ideal.Value.run (F := Ideal) m ρ)

/-- The call and the reference have equal results. -/
theorem algebraic : Cert.algebraic_Kernel20Ideal_Reference20Ideal := by
  intro m ρ m' ρ' _ ha
  have e (f : Arr → Arr → Arr → Arr → Arr) (c : Dev nD) : f (m' ((c : Thread Cert.Reference20Ideal.nD Cert.Reference20Ideal.τ).loc Cert.Reference20Ideal.main_arg0)) (m' ((c : Thread Cert.Reference20Ideal.nD Cert.Reference20Ideal.τ).loc Cert.Reference20Ideal.main_arg1)) (m' ((c : Thread Cert.Reference20Ideal.nD Cert.Reference20Ideal.τ).loc Cert.Reference20Ideal.main_arg2)) (m' ((c : Thread Cert.Reference20Ideal.nD Cert.Reference20Ideal.τ).loc Cert.Reference20Ideal.main_arg3)) = at_args m c f := by rw [(ha c).1, (ha c).2.1, (ha c).2.2.1, (ha c).2.2.2]
  refine ⟨fun c => at_args m c total, fun c => at_args m c delta, fun c => at_args m c first, fun c => at_args m c second, ?_, ?_⟩
  · exact (θ_run Cert.Kernel20Ideal.defs _ _).mono (fun r h c => ⟨(h c).1.trans (final_total m c), (h c).2.1.trans (final_delta m c), (h c).2.2.1.trans (final_first m c), (h c).2.2.2.1.trans (final_second m c), (h c).2.2.2.2⟩) (Cert.Kernel20Ideal.Value.run_blocks m ρ)
  · refine (θ_run Cert.Reference20Ideal.defs _ _).mono (fun r h c => ⟨(h c).1.trans ?_, (h c).2.1.trans ?_, (h c).2.2.1.trans ?_, (h c).2.2.2.1.trans ?_, (h c).2.2.2.2⟩) (Cert.Reference20Ideal.Value.run (F := Ideal) m' ρ')
    · exact e total c
    · exact e delta c
    · exact e first c
    · exact e second c

end Cert.Kernel20Ideal.Hand

end
-- ==== Proof.Step.AdamUp.lean ====
/- One AdamW step on a device's part of the up projections: an elementwise computation, a block of rows at every grid point. -/
module

public import proofs.«01_k».proof.Proof.Gen.Kernel21.Frame
public import proofs.«01_k».proof.Proof.Gen.Kernel21Ideal.Value
public import proofs.«01_k».proof.Proof.Gen.Reference21Ideal.Run
public import Idealize.ShloMosaic.Lib.Pipeline.ValueKit
public import proofs.«01_k».proof.Defs

@[expose] public section

set_option maxRecDepth 16384

noncomputable section

namespace Cert.Reference21Ideal.Hand

open Cert.Reference21Ideal Cert.Reference21Ideal.Gen Idealize.ShloMosaic

/-- The type of the arrays. -/
abbrev Arr := FVec Ideal S2048x1408 .f32

/-- A number at every entry. -/
abbrev num (w : BitVec 32) : Arr := broadcastInDim S2048x1408 ![] bcast_S_S2048x1408 (constant S_ .f32 w)

/-- The gradient, the sum of its two halves. -/
abbrev total (W G H M Q : Arr) : Arr :=
  addf G H

/-- The change of the weights. -/
abbrev delta (W G H M Q : Arr) : Arr :=
  mulf (num 0xBA83126F#32) (addf (Host.divf (Host.divf (addf (mulf (num 0x3F666666#32) M) (mulf (num 0x3DCCCCCD#32) (addf G H))) (num 0x3F26BD02#32)) (addf (Host.sqrt (Host.divf (addf (mulf (num 0x3F7FBE77#32) Q) (mulf (num 0x3A83126F#32) (mulf (addf G H) (addf G H)))) (num 0x3C231ACC#32))) (num 0x322BCC77#32))) (mulf (num 0x3C23D70A#32) W))

/-- The new first moment. -/
abbrev first (W G H M Q : Arr) : Arr :=
  addf (mulf (num 0x3F666666#32) M) (mulf (num 0x3DCCCCCD#32) (addf G H))

/-- The new second moment. -/
abbrev second (W G H M Q : Arr) : Arr :=
  addf (mulf (num 0x3F7FBE77#32) Q) (mulf (num 0x3A83126F#32) (mulf (addf G H) (addf G H)))

end Cert.Reference21Ideal.Hand

namespace Cert.Kernel21Ideal.Hand

open Cert.Kernel21Ideal Cert.Kernel21Ideal.Gen Idealize.ShloMosaic Idealize.ShloMosaic.TcCoe Idealize.SL.Sem
open Idealize.ShloMosaic.Pipeline (Dat)
open Cert.Reference21Ideal.Hand (Arr num total delta first second)

variable (m : (ℓ : Loc nD τ sig) → Buf (Elt Ideal) ℓ)

/-- A function of the call's arguments, at their values. -/
abbrev at_args (c : Dev nD) (f : Arr → Arr → Arr → Arr → Arr → Arr) : Arr := f (m ((c : Thread nD τ).loc main_arg0)) (m ((c : Thread nD τ).loc main_arg1)) (m ((c : Thread nD τ).loc main_arg2)) (m ((c : Thread nD τ).loc main_arg3)) (m ((c : Thread nD τ).loc main_arg4))

/-- The block each grid point holds of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The array the call leaves is the reference's. -/
theorem final_total (c : Dev nD) : (dats m 0 c).arrAt 5 (cfgs 0).N = at_args m c total := by
  refine (dats m 0 c).arrAt_eq_of_covers 5 _ (by decide +kernel) fun t _ y => ?_
  blk_simp
  rw [after0_5]; frame_out
  pointwise [k0_pay1, k0_pay2, k0_pay3, k0_pay4, total]
  blk_point [iblk, V, idx t]

/-- The array the call leaves is the reference's. -/
theorem final_delta (c : Dev nD) : (dats m 0 c).arrAt 6 (cfgs 0).N = at_args m c delta := by
  refine (dats m 0 c).arrAt_eq_of_covers 6 _ (by decide +kernel) fun t _ y => ?_
  blk_simp
  rw [after0_6]; frame_out
  pointwise [k0_pay1, k0_pay2, k0_pay3, k0_pay4, delta, num]
  blk_point [iblk, V, idx t]

/-- The array the call leaves is the reference's. -/
theorem final_first (c : Dev nD) : (dats m 0 c).arrAt 7 (cfgs 0).N = at_args m c first := by
  refine (dats m 0 c).arrAt_eq_of_covers 7 _ (by decide +kernel) fun t _ y => ?_
  blk_simp
  rw [after0_7]; frame_out
  pointwise [k0_pay1, k0_pay2, k0_pay3, k0_pay4, first, num]
  blk_point [iblk, V, idx t]

/-- The array the call leaves is the reference's. -/
theorem final_second (c : Dev nD) : (dats m 0 c).arrAt 8 (cfgs 0).N = at_args m c second := by
  refine (dats m 0 c).arrAt_eq_of_covers 8 _ (by decide +kernel) fun t _ y => ?_
  blk_simp
  rw [after0_8]; frame_out
  pointwise [k0_pay1, k0_pay2, k0_pay3, k0_pay4, second, num]
  blk_point [iblk, V, idx t]

/-- The call terminates and leaves its arguments and every semaphore as they were. -/
theorem frame_p : Cert.quiescent_Kernel21 := fun m ρ _ => Cert.Kernel21.Gen.frame m ρ
theorem frame_pi : Cert.quiescent_Kernel21Ideal := fun m ρ _ => Cert.Kernel21Ideal.Gen.frame m ρ

theorem frame_ri : Cert.quiescent_Reference21Ideal := fun m ρ _ =>
  (θ_run Cert.Reference21Ideal.defs _ _).mono
    (fun r h => And.intro (fun c => (h c).2.2.2.2) (Idealize.ShloMosaic.sem_eq_zero_of_no_sems (by decide) r.2))
    (Cert.Reference21Ideal.Value.run (F := Ideal) m ρ)

/-- The call and the reference have equal results. -/
theorem algebraic : Cert.algebraic_Kernel21Ideal_Reference21Ideal := by
  intro m ρ m' ρ' _ ha
  have e (f : Arr → Arr → Arr → Arr → Arr → Arr) (c : Dev nD) : f (m' ((c : Thread Cert.Reference21Ideal.nD Cert.Reference21Ideal.τ).loc Cert.Reference21Ideal.main_arg0)) (m' ((c : Thread Cert.Reference21Ideal.nD Cert.Reference21Ideal.τ).loc Cert.Reference21Ideal.main_arg1)) (m' ((c : Thread Cert.Reference21Ideal.nD Cert.Reference21Ideal.τ).loc Cert.Reference21Ideal.main_arg2)) (m' ((c : Thread Cert.Reference21Ideal.nD Cert.Reference21Ideal.τ).loc Cert.Reference21Ideal.main_arg3)) (m' ((c : Thread Cert.Reference21Ideal.nD Cert.Reference21Ideal.τ).loc Cert.Reference21Ideal.main_arg4)) = at_args m c f := by rw [(ha c).1, (ha c).2.1, (ha c).2.2.1, (ha c).2.2.2.1, (ha c).2.2.2.2]
  refine ⟨fun c => at_args m c total, fun c => at_args m c delta, fun c => at_args m c first, fun c => at_args m c second, ?_, ?_⟩
  · exact (θ_run Cert.Kernel21Ideal.defs _ _).mono (fun r h c => ⟨(h c).1.trans (final_total m c), (h c).2.1.trans (final_delta m c), (h c).2.2.1.trans (final_first m c), (h c).2.2.2.1.trans (final_second m c), (h c).2.2.2.2⟩) (Cert.Kernel21Ideal.Value.run_blocks m ρ)
  · refine (θ_run Cert.Reference21Ideal.defs _ _).mono (fun r h c => ⟨(h c).1.trans ?_, (h c).2.1.trans ?_, (h c).2.2.1.trans ?_, (h c).2.2.2.1.trans ?_, (h c).2.2.2.2⟩) (Cert.Reference21Ideal.Value.run (F := Ideal) m' ρ')
    · exact e total c
    · exact e delta c
    · exact e first c
    · exact e second c

end Cert.Kernel21Ideal.Hand

end
-- ==== Proof.Step.AdamDown.lean ====
/- One AdamW step on a device's part of the down projections: an elementwise computation, a block of rows at every grid point. -/
module

public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit
public import proofs.«01_k».proof.Defs

@[expose] public section

set_option maxRecDepth 16384

noncomputable section

namespace Cert.Reference22Ideal.Hand

open Cert.Reference22Ideal Cert.Reference22Ideal.Gen Idealize.ShloMosaic

/-- The type of the arrays. -/
abbrev Arr := FVec Ideal S1408x1024 .f32

/-- A number at every entry. -/
abbrev num (w : BitVec 32) : Arr := broadcastInDim S1408x1024 ![] bcast_S_S1408x1024 (constant S_ .f32 w)

/-- The gradient, the sum of its two halves. -/
abbrev total (W G H M Q : Arr) : Arr :=
  addf G H

/-- The change of the weights. -/
abbrev delta (W G H M Q : Arr) : Arr :=
  mulf (num 0xBA83126F#32) (addf (Host.divf (Host.divf (addf (mulf (num 0x3F666666#32) M) (mulf (num 0x3DCCCCCD#32) (addf G H))) (num 0x3F26BD02#32)) (addf (Host.sqrt (Host.divf (addf (mulf (num 0x3F7FBE77#32) Q) (mulf (num 0x3A83126F#32) (mulf (addf G H) (addf G H)))) (num 0x3C231ACC#32))) (num 0x322BCC77#32))) (mulf (num 0x3C23D70A#32) W))

/-- The new first moment. -/
abbrev first (W G H M Q : Arr) : Arr :=
  addf (mulf (num 0x3F666666#32) M) (mulf (num 0x3DCCCCCD#32) (addf G H))

/-- The new second moment. -/
abbrev second (W G H M Q : Arr) : Arr :=
  addf (mulf (num 0x3F7FBE77#32) Q) (mulf (num 0x3A83126F#32) (mulf (addf G H) (addf G H)))

end Cert.Reference22Ideal.Hand

namespace Cert.Kernel22Ideal.Hand

open Cert.Kernel22Ideal Cert.Kernel22Ideal.Gen Idealize.ShloMosaic Idealize.ShloMosaic.TcCoe Idealize.SL.Sem
open Idealize.ShloMosaic.Pipeline (Dat)
open Cert.Reference22Ideal.Hand (Arr num total delta first second)

variable (m : (ℓ : Loc nD τ sig) → Buf (Elt Ideal) ℓ)

/-- A function of the call's arguments, at their values. -/
abbrev at_args (c : Dev nD) (f : Arr → Arr → Arr → Arr → Arr → Arr) : Arr := f (m ((c : Thread nD τ).loc main_arg0)) (m ((c : Thread nD τ).loc main_arg1)) (m ((c : Thread nD τ).loc main_arg2)) (m ((c : Thread nD τ).loc main_arg3)) (m ((c : Thread nD τ).loc main_arg4))

/-- The block each grid point holds of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The array the call leaves is the reference's. -/
theorem final_total (c : Dev nD) : (dats m 0 c).arrAt 5 (cfgs 0).N = at_args m c total := by
  refine (dats m 0 c).arrAt_eq_of_covers 5 _ (by decide +kernel) fun t _ y => ?_
  blk_simp
  rw [after0_5]; frame_out
  pointwise [k0_pay1, k0_pay2, k0_pay3, k0_pay4, total]
  blk_point [iblk, V, idx t]

/-- The array the call leaves is the reference's. -/
theorem final_delta (c : Dev nD) : (dats m 0 c).arrAt 6 (cfgs 0).N = at_args m c delta := by
  refine (dats m 0 c).arrAt_eq_of_covers 6 _ (by decide +kernel) fun t _ y => ?_
  blk_simp
  rw [after0_6]; frame_out
  pointwise [k0_pay1, k0_pay2, k0_pay3, k0_pay4, delta, num]
  blk_point [iblk, V, idx t]

/-- The array the call leaves is the reference's. -/
theorem final_first (c : Dev nD) : (dats m 0 c).arrAt 7 (cfgs 0).N = at_args m c first := by
  refine (dats m 0 c).arrAt_eq_of_covers 7 _ (by decide +kernel) fun t _ y => ?_
  blk_simp
  rw [after0_7]; frame_out
  pointwise [k0_pay1, k0_pay2, k0_pay3, k0_pay4, first, num]
  blk_point [iblk, V, idx t]

/-- The array the call leaves is the reference's. -/
theorem final_second (c : Dev nD) : (dats m 0 c).arrAt 8 (cfgs 0).N = at_args m c second := by
  refine (dats m 0 c).arrAt_eq_of_covers 8 _ (by decide +kernel) fun t _ y => ?_
  blk_simp
  rw [after0_8]; frame_out
  pointwise [k0_pay1, k0_pay2, k0_pay3, k0_pay4, second, num]
  blk_point [iblk, V, idx t]

/-- The call terminates and leaves its arguments and every semaphore as they were. -/
theorem frame_p : Cert.quiescent_Kernel22 := fun m ρ _ => Cert.Kernel22.Gen.frame m ρ
theorem frame_pi : Cert.quiescent_Kernel22Ideal := fun m ρ _ => Cert.Kernel22Ideal.Gen.frame m ρ

theorem frame_ri : Cert.quiescent_Reference22Ideal := fun m ρ _ =>
  (θ_run Cert.Reference22Ideal.defs _ _).mono
    (fun r h => And.intro (fun c => (h c).2.2.2.2) (Idealize.ShloMosaic.sem_eq_zero_of_no_sems (by decide) r.2))
    (Cert.Reference22Ideal.Value.run (F := Ideal) m ρ)

/-- The call and the reference have equal results. -/
theorem algebraic : Cert.algebraic_Kernel22Ideal_Reference22Ideal := by
  intro m ρ m' ρ' _ ha
  have e (f : Arr → Arr → Arr → Arr → Arr → Arr) (c : Dev nD) : f (m' ((c : Thread Cert.Reference22Ideal.nD Cert.Reference22Ideal.τ).loc Cert.Reference22Ideal.main_arg0)) (m' ((c : Thread Cert.Reference22Ideal.nD Cert.Reference22Ideal.τ).loc Cert.Reference22Ideal.main_arg1)) (m' ((c : Thread Cert.Reference22Ideal.nD Cert.Reference22Ideal.τ).loc Cert.Reference22Ideal.main_arg2)) (m' ((c : Thread Cert.Reference22Ideal.nD Cert.Reference22Ideal.τ).loc Cert.Reference22Ideal.main_arg3)) (m' ((c : Thread Cert.Reference22Ideal.nD Cert.Reference22Ideal.τ).loc Cert.Reference22Ideal.main_arg4)) = at_args m c f := by rw [(ha c).1, (ha c).2.1, (ha c).2.2.1, (ha c).2.2.2.1, (ha c).2.2.2.2]
  refine ⟨fun c => at_args m c total, fun c => at_args m c delta, fun c => at_args m c first, fun c => at_args m c second, ?_, ?_⟩
  · exact (θ_run Cert.Kernel22Ideal.defs _ _).mono (fun r h c => ⟨(h c).1.trans (final_total m c), (h c).2.1.trans (final_delta m c), (h c).2.2.1.trans (final_first m c), (h c).2.2.2.1.trans (final_second m c), (h c).2.2.2.2⟩) (Cert.Kernel22Ideal.Value.run_blocks m ρ)
  · refine (θ_run Cert.Reference22Ideal.defs _ _).mono (fun r h c => ⟨(h c).1.trans ?_, (h c).2.1.trans ?_, (h c).2.2.1.trans ?_, (h c).2.2.2.1.trans ?_, (h c).2.2.2.2⟩) (Cert.Reference22Ideal.Value.run (F := Ideal) m' ρ')
    · exact e total c
    · exact e delta c
    · exact e first c
    · exact e second c

end Cert.Kernel22Ideal.Hand

end
-- ==== Proof.Step.AdamOut.lean ====
/- One AdamW step on a device's part of the output projections: an elementwise computation, a block of rows at every grid point. -/
module

public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import proofs.«01_k».proof.Defs

@[expose] public section

set_option maxRecDepth 16384

noncomputable section

namespace Cert.Reference23Ideal.Hand

open Cert.Reference23Ideal Cert.Reference23Ideal.Gen Idealize.ShloMosaic

/-- The type of the arrays. -/
abbrev Arr := FVec Ideal S512x1024 .f32

/-- A number at every entry. -/
abbrev num (w : BitVec 32) : Arr := broadcastInDim S512x1024 ![] bcast_S_S512x1024 (constant S_ .f32 w)

/-- The gradient, the sum of its two halves. -/
abbrev total (W G H M Q : Arr) : Arr :=
  addf G H

/-- The change of the weights. -/
abbrev delta (W G H M Q : Arr) : Arr :=
  mulf (num 0xBA83126F#32) (addf (Host.divf (Host.divf (addf (mulf (num 0x3F666666#32) M) (mulf (num 0x3DCCCCCD#32) (addf G H))) (num 0x3F26BD02#32)) (addf (Host.sqrt (Host.divf (addf (mulf (num 0x3F7FBE77#32) Q) (mulf (num 0x3A83126F#32) (mulf (addf G H) (addf G H)))) (num 0x3C231ACC#32))) (num 0x322BCC77#32))) (mulf (num 0x3C23D70A#32) W))

/-- The new first moment. -/
abbrev first (W G H M Q : Arr) : Arr :=
  addf (mulf (num 0x3F666666#32) M) (mulf (num 0x3DCCCCCD#32) (addf G H))

/-- The new second moment. -/
abbrev second (W G H M Q : Arr) : Arr :=
  addf (mulf (num 0x3F7FBE77#32) Q) (mulf (num 0x3A83126F#32) (mulf (addf G H) (addf G H)))

end Cert.Reference23Ideal.Hand

namespace Cert.Kernel23Ideal.Hand

open Cert.Kernel23Ideal Cert.Kernel23Ideal.Gen Idealize.ShloMosaic Idealize.ShloMosaic.TcCoe Idealize.SL.Sem
open Idealize.ShloMosaic.Pipeline (Dat)
open Cert.Reference23Ideal.Hand (Arr num total delta first second)

variable (m : (ℓ : Loc nD τ sig) → Buf (Elt Ideal) ℓ)

/-- A function of the call's arguments, at their values. -/
abbrev at_args (c : Dev nD) (f : Arr → Arr → Arr → Arr → Arr → Arr) : Arr := f (m ((c : Thread nD τ).loc main_arg0)) (m ((c : Thread nD τ).loc main_arg1)) (m ((c : Thread nD τ).loc main_arg2)) (m ((c : Thread nD τ).loc main_arg3)) (m ((c : Thread nD τ).loc main_arg4))

/-- The block each grid point holds of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The array the call leaves is the reference's. -/
theorem final_total (c : Dev nD) : (dats m 0 c).arrAt 5 (cfgs 0).N = at_args m c total := by
  refine (dats m 0 c).arrAt_eq_of_covers 5 _ (by decide +kernel) fun t _ y => ?_
  blk_simp
  rw [after0_5]; frame_out
  pointwise [k0_pay1, k0_pay2, k0_pay3, k0_pay4, total]
  blk_point [iblk, V, idx t]

/-- The array the call leaves is the reference's. -/
theorem final_delta (c : Dev nD) : (dats m 0 c).arrAt 6 (cfgs 0).N = at_args m c delta := by
  refine (dats m 0 c).arrAt_eq_of_covers 6 _ (by decide +kernel) fun t _ y => ?_
  blk_simp
  rw [after0_6]; frame_out
  pointwise [k0_pay1, k0_pay2, k0_pay3, k0_pay4, delta, num]
  blk_point [iblk, V, idx t]

/-- The array the call leaves is the reference's. -/
theorem final_first (c : Dev nD) : (dats m 0 c).arrAt 7 (cfgs 0).N = at_args m c first := by
  refine (dats m 0 c).arrAt_eq_of_covers 7 _ (by decide +kernel) fun t _ y => ?_
  blk_simp
  rw [after0_7]; frame_out
  pointwise [k0_pay1, k0_pay2, k0_pay3, k0_pay4, first, num]
  blk_point [iblk, V, idx t]

/-- The array the call leaves is the reference's. -/
theorem final_second (c : Dev nD) : (dats m 0 c).arrAt 8 (cfgs 0).N = at_args m c second := by
  refine (dats m 0 c).arrAt_eq_of_covers 8 _ (by decide +kernel) fun t _ y => ?_
  blk_simp
  rw [after0_8]; frame_out
  pointwise [k0_pay1, k0_pay2, k0_pay3, k0_pay4, second, num]
  blk_point [iblk, V, idx t]

/-- The call terminates and leaves its arguments and every semaphore as they were. -/
theorem frame_p : Cert.quiescent_Kernel23 := fun m ρ _ => Cert.Kernel23.Gen.frame m ρ
theorem frame_pi : Cert.quiescent_Kernel23Ideal := fun m ρ _ => Cert.Kernel23Ideal.Gen.frame m ρ

theorem frame_ri : Cert.quiescent_Reference23Ideal := fun m ρ _ =>
  (θ_run Cert.Reference23Ideal.defs _ _).mono
    (fun r h => And.intro (fun c => (h c).2.2.2.2) (Idealize.ShloMosaic.sem_eq_zero_of_no_sems (by decide) r.2))
    (Cert.Reference23Ideal.Value.run (F := Ideal) m ρ)

/-- The call and the reference have equal results. -/
theorem algebraic : Cert.algebraic_Kernel23Ideal_Reference23Ideal := by
  intro m ρ m' ρ' _ ha
  have e (f : Arr → Arr → Arr → Arr → Arr → Arr) (c : Dev nD) : f (m' ((c : Thread Cert.Reference23Ideal.nD Cert.Reference23Ideal.τ).loc Cert.Reference23Ideal.main_arg0)) (m' ((c : Thread Cert.Reference23Ideal.nD Cert.Reference23Ideal.τ).loc Cert.Reference23Ideal.main_arg1)) (m' ((c : Thread Cert.Reference23Ideal.nD Cert.Reference23Ideal.τ).loc Cert.Reference23Ideal.main_arg2)) (m' ((c : Thread Cert.Reference23Ideal.nD Cert.Reference23Ideal.τ).loc Cert.Reference23Ideal.main_arg3)) (m' ((c : Thread Cert.Reference23Ideal.nD Cert.Reference23Ideal.τ).loc Cert.Reference23Ideal.main_arg4)) = at_args m c f := by rw [(ha c).1, (ha c).2.1, (ha c).2.2.1, (ha c).2.2.2.1, (ha c).2.2.2.2]
  refine ⟨fun c => at_args m c total, fun c => at_args m c delta, fun c => at_args m c first, fun c => at_args m c second, ?_, ?_⟩
  · exact (θ_run Cert.Kernel23Ideal.defs _ _).mono (fun r h c => ⟨(h c).1.trans (final_total m c), (h c).2.1.trans (final_delta m c), (h c).2.2.1.trans (final_first m c), (h c).2.2.2.1.trans (final_second m c), (h c).2.2.2.2⟩) (Cert.Kernel23Ideal.Value.run_blocks m ρ)
  · refine (θ_run Cert.Reference23Ideal.defs _ _).mono (fun r h c => ⟨(h c).1.trans ?_, (h c).2.1.trans ?_, (h c).2.2.1.trans ?_, (h c).2.2.2.1.trans ?_, (h c).2.2.2.2⟩) (Cert.Reference23Ideal.Value.run (F := Ideal) m' ρ')
    · exact e total c
    · exact e delta c
    · exact e first c
    · exact e second c

end Cert.Kernel23Ideal.Hand

end
-- ==== Proof.Step.AdamIn.lean ====
/- One AdamW step on a device's part of the input projections, whose gradient arrives in rows padded to 640 columns: an elementwise computation, a block of rows at every grid point. -/
module

public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import proofs.«01_k».proof.Defs
public import Idealize.ShloMosaic.Lib.KernelVsHost

@[expose] public section

set_option maxRecDepth 16384

noncomputable section

namespace Cert.Reference24Ideal.Hand

open Cert.Reference24Ideal Cert.Reference24Ideal.Gen Idealize.ShloMosaic

/-- The type of the arrays. -/
abbrev Arr := FVec Ideal S2048x578 .f32

/-- A number at every entry. -/
abbrev num (w : BitVec 32) : Arr := broadcastInDim S2048x578 ![] bcast_S_S2048x578 (constant S_ .f32 w)

/-- The gradient, the sum of its two halves. -/
abbrev total (W G H M Q : Arr) : Arr :=
  addf G H

/-- The change of the weights. -/
abbrev delta (W G H M Q : Arr) : Arr :=
  mulf (num 0xBA83126F#32) (addf (Host.divf (Host.divf (addf (mulf (num 0x3F666666#32) M) (mulf (num 0x3DCCCCCD#32) (addf G H))) (num 0x3F26BD02#32)) (addf (Host.sqrt (Host.divf (addf (mulf (num 0x3F7FBE77#32) Q) (mulf (num 0x3A83126F#32) (mulf (addf G H) (addf G H)))) (num 0x3C231ACC#32))) (num 0x322BCC77#32))) (mulf (num 0x3C23D70A#32) W))

/-- The new first moment. -/
abbrev first (W G H M Q : Arr) : Arr :=
  addf (mulf (num 0x3F666666#32) M) (mulf (num 0x3DCCCCCD#32) (addf G H))

/-- The new second moment. -/
abbrev second (W G H M Q : Arr) : Arr :=
  addf (mulf (num 0x3F7FBE77#32) Q) (mulf (num 0x3A83126F#32) (mulf (addf G H) (addf G H)))

end Cert.Reference24Ideal.Hand

namespace Cert.Kernel24Ideal.Hand

open Cert.Kernel24Ideal Cert.Kernel24Ideal.Gen Idealize.ShloMosaic Idealize.ShloMosaic.TcCoe Idealize.SL.Sem
open Idealize.ShloMosaic.Pipeline (Dat)
open Cert.Reference24Ideal.Hand (Arr num total delta first second)

variable (m : (ℓ : Loc nD τ sig) → Buf (Elt Ideal) ℓ)

/-- A function of the call's arguments, at their values. -/
abbrev at_args (c : Dev nD) (f : Arr → Arr → Arr → Arr → Arr → Arr) : Arr := f (m ((c : Thread nD τ).loc main_arg0)) (m ((c : Thread nD τ).loc main_arg1)) (m ((c : Thread nD τ).loc main_arg2)) (m ((c : Thread nD τ).loc main_arg3)) (m ((c : Thread nD τ).loc main_arg4))

/-- The block each grid point holds of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- The padded gradient at an index inside the original array. -/
theorem read_pad (c : Dev nD) (i : S2048x640.Idx) (k : S2048x578.Idx) (h0 : (i 0).val = (k 0).val) (h1 : (i 1).val = (k 1).val) :
    V m c main_v0 i = m ((c : Thread nD τ).loc main_arg1) k := by
  refine Eq.trans (b := pad S2048x640 ![0, 0] ![0, 62] ![0, 0] (m ((c : Thread nD τ).loc main_arg1) : FVec Ideal S2048x578 .f32) (sitofp (F := Ideal) .f32 (constantI S_ 32 0#32) : FVec Ideal S_ .f32) pads_S2048x578_S2048x640_000_0620 h_S_ i) rfl ?_
  exact pad_apply_of_inside _ _ _ _ _ _ _ i k fun a => by fin_cases a <;> simp_all

/-- The padded gradient at an index inside the original array. -/
theorem read_pad' (c : Dev nD) (i : S2048x640.Idx) (k : S2048x578.Idx) (h0 : (i 0).val = (k 0).val) (h1 : (i 1).val = (k 1).val) :
    V m c main_v1 i = m ((c : Thread nD τ).loc main_arg2) k := by
  refine Eq.trans (b := pad S2048x640 ![0, 0] ![0, 62] ![0, 0] (m ((c : Thread nD τ).loc main_arg2) : FVec Ideal S2048x578 .f32) (sitofp (F := Ideal) .f32 (constantI S_ 32 0#32) : FVec Ideal S_ .f32) pads_S2048x578_S2048x640_000_0620 h_S_ i) rfl ?_
  exact pad_apply_of_inside _ _ _ _ _ _ _ i k fun a => by fin_cases a <;> simp_all

/-- The array the call leaves is the reference's. -/
theorem final_total (c : Dev nD) : (dats m 0 c).arrAt 5 (cfgs 0).N = at_args m c total := by
  refine (dats m 0 c).arrAt_eq_of_covers 5 _ (by decide +kernel) fun t _ y => ?_
  blk_simp
  rw [after0_5]; frame_out
  pointwise [k0_pay1, k0_pay2, k0_pay3, k0_pay4, total]
  blk_point [iblk, V, idx t]
  all_goals first
    | exact read_pad m c _ _ rfl rfl
    | exact read_pad' m c _ _ rfl rfl

/-- The array the call leaves is the reference's. -/
theorem final_delta (c : Dev nD) : (dats m 0 c).arrAt 6 (cfgs 0).N = at_args m c delta := by
  refine (dats m 0 c).arrAt_eq_of_covers 6 _ (by decide +kernel) fun t _ y => ?_
  blk_simp
  rw [after0_6]; frame_out
  pointwise [k0_pay1, k0_pay2, k0_pay3, k0_pay4, delta, num]
  blk_point [iblk, V, idx t]
  all_goals first
    | exact read_pad m c _ _ rfl rfl
    | exact read_pad' m c _ _ rfl rfl

/-- The array the call leaves is the reference's. -/
theorem final_first (c : Dev nD) : (dats m 0 c).arrAt 7 (cfgs 0).N = at_args m c first := by
  refine (dats m 0 c).arrAt_eq_of_covers 7 _ (by decide +kernel) fun t _ y => ?_
  blk_simp
  rw [after0_7]; frame_out
  pointwise [k0_pay1, k0_pay2, k0_pay3, k0_pay4, first, num]
  blk_point [iblk, V, idx t]
  all_goals first
    | exact read_pad m c _ _ rfl rfl
    | exact read_pad' m c _ _ rfl rfl

/-- The array the call leaves is the reference's. -/
theorem final_second (c : Dev nD) : (dats m 0 c).arrAt 8 (cfgs 0).N = at_args m c second := by
  refine (dats m 0 c).arrAt_eq_of_covers 8 _ (by decide +kernel) fun t _ y => ?_
  blk_simp
  rw [after0_8]; frame_out
  pointwise [k0_pay1, k0_pay2, k0_pay3, k0_pay4, second, num]
  blk_point [iblk, V, idx t]
  all_goals first
    | exact read_pad m c _ _ rfl rfl
    | exact read_pad' m c _ _ rfl rfl

/-- The call terminates and leaves its arguments and every semaphore as they were. -/
theorem frame_p : Cert.quiescent_Kernel24 := fun m ρ _ => Cert.Kernel24.Gen.frame m ρ
theorem frame_pi : Cert.quiescent_Kernel24Ideal := fun m ρ _ => Cert.Kernel24Ideal.Gen.frame m ρ

theorem frame_ri : Cert.quiescent_Reference24Ideal := fun m ρ _ =>
  (θ_run Cert.Reference24Ideal.defs _ _).mono
    (fun r h => And.intro (fun c => (h c).2.2.2.2) (Idealize.ShloMosaic.sem_eq_zero_of_no_sems (by decide) r.2))
    (Cert.Reference24Ideal.Value.run (F := Ideal) m ρ)

/-- The call and the reference have equal results. -/
theorem algebraic : Cert.algebraic_Kernel24Ideal_Reference24Ideal := by
  intro m ρ m' ρ' _ ha
  have e (f : Arr → Arr → Arr → Arr → Arr → Arr) (c : Dev nD) : f (m' ((c : Thread Cert.Reference24Ideal.nD Cert.Reference24Ideal.τ).loc Cert.Reference24Ideal.main_arg0)) (m' ((c : Thread Cert.Reference24Ideal.nD Cert.Reference24Ideal.τ).loc Cert.Reference24Ideal.main_arg1)) (m' ((c : Thread Cert.Reference24Ideal.nD Cert.Reference24Ideal.τ).loc Cert.Reference24Ideal.main_arg2)) (m' ((c : Thread Cert.Reference24Ideal.nD Cert.Reference24Ideal.τ).loc Cert.Reference24Ideal.main_arg3)) (m' ((c : Thread Cert.Reference24Ideal.nD Cert.Reference24Ideal.τ).loc Cert.Reference24Ideal.main_arg4)) = at_args m c f := by rw [(ha c).1, (ha c).2.1, (ha c).2.2.1, (ha c).2.2.2.1, (ha c).2.2.2.2]
  refine ⟨fun c => at_args m c total, fun c => at_args m c delta, fun c => at_args m c first, fun c => at_args m c second, ?_, ?_⟩
  · exact (θ_run Cert.Kernel24Ideal.defs _ _).mono (fun r h c => ⟨(h c).1.trans (final_total m c), (h c).2.1.trans (final_delta m c), (h c).2.2.1.trans (final_first m c), (h c).2.2.2.1.trans (final_second m c), (h c).2.2.2.2⟩) (Cert.Kernel24Ideal.Value.run_blocks m ρ)
  · refine (θ_run Cert.Reference24Ideal.defs _ _).mono (fun r h c => ⟨(h c).1.trans ?_, (h c).2.1.trans ?_, (h c).2.2.1.trans ?_, (h c).2.2.2.1.trans ?_, (h c).2.2.2.2⟩) (Cert.Reference24Ideal.Value.run (F := Ideal) m' ρ')
    · exact e total c
    · exact e delta c
    · exact e first c
    · exact e second c

end Cert.Kernel24Ideal.Hand

end
-- ==== Proof.Heads.Point.lean ====
/- What the per-head norm's body computes of a block of q or k: the sums over a head's features by products with a matrix of ones. -/
module

public import proofs.«01_k».proof.Proof.Gen.Kernel25Ideal.Value
public import proofs.«01_k».proof.Proof.Spec
public import Idealize.ShloMosaic.Lib.Pipeline.ValueKit

@[expose] public section

set_option maxRecDepth 16384

noncomputable section

namespace Cert.Kernel25Ideal.Hand

open Cert.Kernel25Ideal Cert.Kernel25Ideal.Gen Idealize.ShloMosaic Idealize.ShloMosaic.TcCoe
open Cert.Attn

/-- The sum of the squares of the features of b's head, in row a. -/
def squares (X : ℕ → ℕ → ℝ) (a b : ℕ) : ℝ := ∑ d : Fin 64, X a (64 * (b / 64) + d.val) * X a (64 * (b / 64) + d.val)

/-- The matrix of ones between lanes of one head. -/
def Ones (e : Vec Ideal S128x128 .bf16) : Prop := ∀ a b : Fin 128, e (ix2 a b) = (((if a.val / 64 = b.val / 64 then 1 else 0 : ℝ)) : EReal)

/-- The squares of a tile of 128 lanes times that matrix are the heads' sums. -/
theorem tile_sum (X : ℕ → ℕ → ℝ) (a o l : ℕ) (ho : o % 128 = 0) (hl : l < 128) :
    ∑ d : Fin 128, X a (o + d.val) * X a (o + d.val) * (if d.val / 64 = l / 64 then 1 else 0 : ℝ) = squares X a (o + l) := by
  simp only [mul_ite, mul_one, mul_zero]
  rw [← Finset.sum_filter]
  symm
  refine Finset.sum_bij (fun (e : Fin 64) _ => (⟨64 * (l / 64) + e.val, by omega⟩ : Fin 128)) ?_ ?_ ?_ ?_
  · intro e _
    simp only [Finset.mem_filter, Finset.mem_univ, true_and]
    omega
  · intro p _ q _ h
    have := congrArg Fin.val h
    exact Fin.ext (by simpa using this)
  · intro d hd
    simp only [Finset.mem_filter, Finset.mem_univ, true_and] at hd
    exact ⟨⟨d.val % 64, by omega⟩, Finset.mem_univ _, Fin.ext (by show 64 * (l / 64) + d.val % 64 = d.val; omega)⟩
  · intro e _
    rw [show 64 * ((o + l) / 64) + e.val = o + (64 * (l / 64) + e.val) by omega]

/-- An entry divided by its head's root mean square and scaled by the gain. -/
def nrm (X : ℕ → ℕ → ℝ) (g : EReal) (a b : ℕ) : EReal :=
  ((X a b : ℝ) : EReal) * Ideal.rsqrt (((squares X a b : ℝ) : EReal) * Ideal.ofBits .f32 0x3C800000#32 + Ideal.ofBits .f32 0x358637BD#32) * g

section
variable {x : Vec Ideal S512x512 .f32} {e : Vec Ideal S128x128 .bf16} {X : ℕ → ℕ → ℝ}
  (hx : ∀ (a : Fin 512) (b : Fin 512), x (ix2 a b) = ((X a.val b.val : ℝ) : EReal)) (he : Ones e)
include hx he

theorem tile (o : ℕ) (ho : o % 128 = 0) (hb : o + 128 ≤ 512) (a : Fin 512) (l : Fin 128) :
    (∑ d : Fin 128, k0_pay4 x (ix2 a ⟨o + d.val, by omega⟩) * k0_pay2 e (ix2 d l)
      + ∑ d : Fin 128, (k0_pay4 x (ix2 a ⟨o + d.val, by omega⟩) - k0_pay4 x (ix2 a ⟨o + d.val, by omega⟩)) * k0_pay2 e (ix2 d l)
      + ∑ d : Fin 128, (k0_pay4 x (ix2 a ⟨o + d.val, by omega⟩) - k0_pay4 x (ix2 a ⟨o + d.val, by omega⟩)
          - (k0_pay4 x (ix2 a ⟨o + d.val, by omega⟩) - k0_pay4 x (ix2 a ⟨o + d.val, by omega⟩))) * k0_pay2 e (ix2 d l) : EReal)
      = ((squares X a.val (o + l.val) : ℝ) : EReal) := by
  rw [← tile_sum X a.val o l.val ho l.isLt]
  pointwise [k0_pay4, k0_pay2]
  simp only [hx, show ∀ d, e (ix2 d l) = _ from fun d => he d l, ← EReal.coe_mul, ← EReal.coe_sub, sub_self, EReal.coe_zero, zero_mul, sum_coe, Finset.sum_const_zero, add_zero, sub_zero]

theorem val13 (g : Vec Ideal S1x512 .f32) (a b : Fin 512) :
    k0_pay13 (F := Ideal) (k0_pay2 e) x (k0_pay3 g) (k0_pay4 x) (k0_pay5 e x) (k0_pay6 e x) (k0_pay11 e x) (k0_pay12 e x) (ix2 a b)
      = nrm X (g (ix2 0 b)) a.val b.val * Ideal.ofBits .f32 0x3E000000#32 := by
  have h0 := tile hx he 0 rfl (by omega) a
  have h1 := tile hx he 128 rfl (by omega) a
  have h2 := tile hx he 256 rfl (by omega) a
  have h3 := tile hx he 384 rfl (by omega) a
  simp only [Nat.zero_add] at h0
  pointwise [k0_pay13, k0_pay3]
  rw [nrm, hx]
  congr 6
  split
  · pointwise [k0_pay5]
    exact h0 ⟨b.val, _⟩
  split
  · pointwise [k0_pay6]
    exact (h1 ⟨b.val - 128, _⟩).trans (by congr 2; show 128 + (b.val - 128) = _; omega)
  split
  · pointwise [k0_pay11, k0_pay12, k0_pay10, k0_pay9, k0_pay8, k0_pay7]
    exact (h2 ⟨b.val - 128 - 128, _⟩).trans (by congr 2; show 256 + (b.val - 128 - 128) = _; omega)
  · exact (h3 ⟨b.val - 128 - 128 - 128, _⟩).trans (by congr 2; show 384 + (b.val - 128 - 128 - 128) = _; omega)

theorem val17 (g : Vec Ideal S1x512 .f32) (a b : Fin 512) :
    k0_pay17 (F := Ideal) (k0_pay2 e) x (k0_pay14 g) (k0_pay15 x) (k0_pay16 (k0_pay2 e) x) (ix2 a b) = nrm X (g (ix2 0 b)) a.val b.val := by
  have h0 := tile hx he 0 rfl (by omega) a
  have h1 := tile hx he 128 rfl (by omega) a
  have h2 := tile hx he 256 rfl (by omega) a
  have h3 := tile hx he 384 rfl (by omega) a
  simp only [Nat.zero_add] at h0
  pointwise [k0_pay17, k0_pay14]
  rw [nrm, hx]
  congr 5
  split
  · pointwise [k0_pay16]
    exact h0 ⟨b.val, _⟩
  split
  · exact (h1 ⟨b.val - 128, _⟩).trans (by congr 2; show 128 + (b.val - 128) = _; omega)
  split
  · exact (h2 ⟨b.val - 128 - 128, _⟩).trans (by congr 2; show 256 + (b.val - 128 - 128) = _; omega)
  · exact (h3 ⟨b.val - 128 - 128 - 128, _⟩).trans (by congr 2; show 384 + (b.val - 128 - 128 - 128) = _; omega)
end

end Cert.Kernel25Ideal.Hand

end
-- ==== Proof.Heads.Host.lean ====
/- What the host's lines leave in the per-head norm's operands. -/
module

public import proofs.«01_k».proof.Proof.Heads.Point
public import Idealize.ShloMosaic.Lib.StableHlo.ReadAt

@[expose] public section

set_option maxRecDepth 16384

noncomputable section

namespace Cert.Kernel25Ideal.Hand

open Cert.Kernel25Ideal Cert.Kernel25Ideal.Gen Idealize.ShloMosaic Idealize.ShloMosaic.TcCoe

variable (m : (ℓ : Loc nD τ sig) → Buf (Elt Ideal) ℓ) (c : Dev nD)

/-- The gains repeated over the heads. -/
abbrev tiled (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)

theorem read_gq : (V m c main_v3 : FVec Ideal S1x512 .f32) = tiled (m ((c.tc : Thread nD τ).loc main_arg1)) := by
  unfold V
  simp only [hostOps0, hostOps0_1, hostOps0_2, hostOps0_3, hostOps0_4, List.flatten_cons, List.flatten_nil, List.cons_append, List.nil_append, List.append_nil]
  after_reads_simp
  rfl

theorem read_gk : (V m c main_v7 : FVec Ideal S1x512 .f32) = tiled (m ((c.tc : Thread nD τ).loc main_arg2)) := by
  unfold V
  simp only [hostOps0, hostOps0_1, hostOps0_2, hostOps0_3, hostOps0_4, List.flatten_cons, List.flatten_nil, List.cons_append, List.nil_append, List.append_nil]
  after_reads_simp
  rfl

theorem tiled_at (g : FVec Ideal S64 .f32) (b : Fin 512) : tiled g (ix2 0 b) = g (ix1 ⟨b.val % 64, by omega⟩) := by
  pointwise [tiled]

/-- A word in every place. -/
abbrev word (w : BitVec 32) : IVec S128x128 32 := broadcastInDim S128x128 ![] bcast_S_S128x128 (constantI S_ 32 w)

/-- The quotient by 64 rounded down. -/
def down (x : IVec S128x128 32) : IVec S128x128 32 :=
  select (andi (cmpi .ne (signi x) (broadcastInDim S128x128 ![] bcast_S_S128x128 (signi (constantI S_ 32 64#32)))) (cmpi .ne (Host.remsi x (word 64#32)) (word 0#32)))
    (subi (Host.divsi x (word 64#32)) (word 1#32)) (Host.divsi x (word 64#32))

theorem read_ones : (V m c main_v13 : FVec Ideal S128x128 .bf16) = (uitofp .bf16 (cmpi .eq (down (iotaInDim S128x128 32 0)) (down (iotaInDim S128x128 32 1))) : FVec Ideal S128x128 .bf16) := by
  unfold V
  simp only [hostOps0, hostOps0_1, hostOps0_2, hostOps0_3, hostOps0_4, List.flatten_cons, List.flatten_nil, List.cons_append, List.nil_append, List.append_nil]
  after_reads_simp
  rfl

/-- That quotient of one word. -/
theorem floor64 : ∀ a : Fin 128,
    Scalar.select (IntOp.andi (IntOp.cmpi CmpIPredicate.ne (if BitVec.ofNat 32 a.val = 0 then (0 : BitVec 32) else if (BitVec.ofNat 32 a.val).msb = true then -1 else 1)
          (if 64#32 = 0 then (0 : BitVec 32) else if (64#32).msb = true then -1 else 1)) (IntOp.cmpi CmpIPredicate.ne (IntOp.remsi ArithUnit.host (BitVec.ofNat 32 a.val) 64#32) 0#32))
        (IntOp.subi (IntOp.divsi ArithUnit.host (BitVec.ofNat 32 a.val) 64#32) 1#32) (IntOp.divsi ArithUnit.host (BitVec.ofNat 32 a.val) 64#32)
      = BitVec.ofNat 32 (a.val / 64) := by decide +kernel

theorem down_rows (a b : Fin 128) : down (iotaInDim S128x128 32 0) (ix2 a b) = BitVec.ofNat 32 (a.val / 64) := by
  pointwise [down]
  exact floor64 a

theorem down_cols (a b : Fin 128) : down (iotaInDim S128x128 32 1) (ix2 a b) = BitVec.ofNat 32 (b.val / 64) := by
  pointwise [down]
  exact floor64 b

theorem same_head : ∀ a b : Fin 128, IntOp.cmpi CmpIPredicate.eq (BitVec.ofNat 32 (a.val / 64)) (BitVec.ofNat 32 (b.val / 64)) = if a.val / 64 = b.val / 64 then 1#1 else 0#1 := by
  decide +kernel

theorem read_e : Ones (V m c main_v13) := by
  intro a b
  rw [read_ones m c]
  pointwise
  rw [down_rows, down_cols, same_head]
  by_cases h : a.val / 64 = b.val / 64 <;> simp [h, FloatOps.uitofp]

end Cert.Kernel25Ideal.Hand

end
-- ==== Proof.Heads.Ref.lean ====
/- The reference's per-head norm read at one entry. -/
module

public import proofs.«01_k».proof.Proof.Gen.Reference25Ideal.Run
public import proofs.«01_k».proof.Proof.Heads.Point

@[expose] public section

set_option maxRecDepth 16384

noncomputable section

namespace Cert.Reference25Ideal.Hand

open Cert.Reference25Ideal Cert.Reference25Ideal.Gen Idealize.ShloMosaic
open Cert.Attn Cert.Kernel25Ideal.Hand

/-- A projection split into heads. -/
abbrev split (x : FVec Ideal S4096x512 .f32) : FVec Ideal S4096x8x64 .f32 := shapeCast S4096x8x64 x shapeCasts_S4096x512_S4096x8x64

/-- Every head of a row scaled by the reciprocal of its root mean square and by the gains. -/
abbrev normed (x : FVec Ideal S4096x512 .f32) (g : FVec Ideal S64 .f32) : FVec Ideal S4096x512 .f32 :=
  shapeCast S4096x512 (mulf (mulf (split x) (broadcastInDim S4096x8x64 ![0, 1, 2] bcast_S4096x8x1_S4096x8x64_0_1_2 (Host.rsqrt (addf (Host.divf (broadcastInDim S4096x8x1 ![0, 1] bcast_S4096x8_S4096x8x1_0_1 (Host.reduceAdd (mulf (split x) (split x)) (constant S_ .f32 0x00000000#32) reducesTo_S4096x8x64_S4096x8_d2 h_S_)) (broadcastInDim S4096x8x1 ![] bcast_S_S4096x8x1 (constant S_ .f32 0x42800000#32))) (broadcastInDim S4096x8x1 ![] bcast_S_S4096x8x1 (constant S_ .f32 0x358637BD#32)))))) (broadcastInDim S4096x8x64 ![0, 1, 2] bcast_S1x1x64_S4096x8x64_0_1_2 (broadcastInDim S1x1x64 ![2] bcast_S64_S1x1x64_2 g))) shapeCasts_S4096x8x64_S4096x512

/-- The normed q with the attention's scale, the normed k, and v. -/
def joined (p : FVec Ideal S4096x2304 .f32) (gq gk : FVec Ideal S64 .f32) : FVec Ideal S4096x1536 .bf16 :=
  truncf .bf16 (concatenate S4096x1536 1 [⟨S4096x512, mulf (normed (extractStridedSlice S4096x512 ![0, 0] p slices_S4096x2304_S4096x512_0_0) gq) (broadcastInDim S4096x512 ![] bcast_S_S4096x512 (constant S_ .f32 0x3E000000#32))⟩,
    ⟨S4096x512, normed (extractStridedSlice S4096x512 ![0, 512] p slices_S4096x2304_S4096x512_0_512) gk⟩,
    ⟨S4096x512, extractStridedSlice S4096x512 ![0, 1024] p slices_S4096x2304_S4096x512_0_1024⟩] concatenates_S4096x512_S4096x512_S4096x512_S4096x1536_d1) bitsLt_bf16_f32

theorem c64 : Ideal.ofBits .f32 0x42800000#32 = ((64 : ℝ) : EReal) := by simp [Ideal.ofBits, Ideal.ieee]; norm_num [← EReal.coe_mul]
theorem c64th : Ideal.ofBits .f32 0x3C800000#32 = ((1 / 64 : ℝ) : EReal) := by simp [Ideal.ofBits, Ideal.ieee]; norm_num [← EReal.coe_mul]

/-- The quotient by the number of features is the product with its reciprocal. -/
theorem row (X : ℕ → ℕ → ℝ) (a b : ℕ) (f : Fin 64 → EReal) (g : EReal) (hf : ∀ d : Fin 64, f d = ((X a (64 * (b / 64) + d.val) : ℝ) : EReal)) :
    ((X a b : ℝ) : EReal) * Ideal.rsqrt (Ideal.div (∑ d, f d * f d) (Ideal.ofBits .f32 0x42800000#32) + Ideal.ofBits .f32 0x358637BD#32) * g = nrm X g a b := by
  simp only [hf, ← EReal.coe_mul, sum_coe]
  rw [nrm, c64, c64th, Ideal.div_coe (by norm_num)]
  rfl

set_option maxHeartbeats 2000000 in
/-- The reference at one entry, where q and k are real numbers. -/
theorem joined_at (p : FVec Ideal S4096x2304 .f32) (gq gk : FVec Ideal S64 .f32) (X : ℕ → ℕ → ℝ)
    (hp : ∀ (a : Fin 4096) (b : Fin 2304), b.val < 1024 → p (ix2 a b) = ((X a.val b.val : ℝ) : EReal)) (a : Fin 4096) (b : Fin 1536) :
    joined p gq gk (ix2 a b) = if b.val < 512 then nrm X (gq (ix1 ⟨b.val % 64, by omega⟩)) a.val b.val * Ideal.ofBits .f32 0x3E000000#32
      else if b.val < 1024 then nrm X (gk (ix1 ⟨b.val % 64, by omega⟩)) a.val b.val else p (ix2 a ⟨b.val, by omega⟩) := by
  have P : ∀ (n k : ℕ) (hn : n < 2304), n = k → k < 1024 → p (ix2 a ⟨n, hn⟩) = ((X a.val k : ℝ) : EReal) := fun n k hn e hk => by
    subst e; exact hp a ⟨n, hn⟩ hk
  pointwise [joined]
  by_cases h : b.val < 512
  · have e := row X a.val b.val (fun d => p (ix2 a ⟨b.val / 64 * 64 + d.val, by omega⟩)) (gq (ix1 ⟨b.val % 64, by omega⟩))
      fun d => P (b.val / 64 * 64 + d.val) (64 * (b.val / 64) + d.val) _ (by omega) (by omega)
    rw [dif_pos h, if_pos h, P (b.val / 64 * 64 + b.val % 64) b.val _ (by omega) (by omega), ← e]
  rw [dif_neg h, if_neg h]
  by_cases h' : b.val < 1024
  · have e := row X a.val b.val (fun d => p (ix2 a ⟨512 + ((b.val - 512) / 64 * 64 + d.val), by omega⟩)) (gk (ix1 ⟨(b.val - 512) % 64, by omega⟩))
      fun d => P (512 + ((b.val - 512) / 64 * 64 + d.val)) (64 * (b.val / 64) + d.val) _ (by omega) (by omega)
    rw [dif_pos (by omega), if_pos h', P (512 + ((b.val - 512) / 64 * 64 + (b.val - 512) % 64)) b.val _ (by omega) (by omega)]
    refine e.trans ?_
    congr 3
    exact Fin.ext (by show (b.val - 512) % 64 = b.val % 64; omega)
  · rw [dif_neg (by omega), if_neg h']
    congr 2
    exact Fin.ext (by show 1024 + (b.val - 512 - 512) = b.val; omega)

end Cert.Reference25Ideal.Hand

end
-- ==== Proof.Heads.Qk.lean ====
/- The norm of q and k by heads, at every grid point a block of rows. -/
module

public import proofs.«01_k».proof.Proof.Gen.Kernel25.Frame
public import proofs.«01_k».proof.Proof.Gen.Pre_finite_heads
public import proofs.«01_k».proof.Proof.Heads.Host
public import proofs.«01_k».proof.Proof.Heads.Ref
public import proofs.«01_k».proof.Proof.Finite
public import proofs.«01_k».proof.Defs

@[expose] public section

set_option maxRecDepth 16384

noncomputable section

namespace Cert.Kernel25Ideal.Hand

open Cert.Kernel25Ideal Cert.Kernel25Ideal.Gen Idealize.ShloMosaic Idealize.ShloMosaic.TcCoe Idealize.SL.Sem
open Idealize.ShloMosaic.Pipeline (Dat)
open Cert.Reference25Ideal.Hand (joined joined_at)

variable (m : (ℓ : Loc nD τ sig) → Buf (Elt Ideal) ℓ) (c : Dev nD)

/-- The rows of q, k and v, and the gains. -/
abbrev rows : FVec Ideal S4096x2304 .f32 := m ((c : Thread nD τ).loc main_arg0)
abbrev gainQ : FVec Ideal S64 .f32 := m ((c : Thread nD τ).loc main_arg1)
abbrev gainK : FVec Ideal S64 .f32 := m ((c : Thread nD τ).loc main_arg2)

/-- The block each grid point holds of each array. -/
theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0] ∧ win0_6.index t = ![t.val, 0] :=
  (by decide +kernel : ∀ t : Fin grid0.N, _)

/-- What a grid point reads of q, of k and of v. -/
theorem in_q (t : Fin cfg0.N) (a b : Fin 512) : X0_0 m c t (ix2 a b) = rows m c (ix2 ⟨512 * t.val + a.val, by have := lt_of_lt_of_eq t.isLt N_0; omega⟩ ⟨b.val, by omega⟩) := by
  unfold X0_0 Pipeline.Window.fill
  rw [dif_pos (moved0_0 t _)]
  blk_point [iblk, V, idx t]
theorem in_k (t : Fin cfg0.N) (a b : Fin 512) : X0_1 m c t (ix2 a b) = rows m c (ix2 ⟨512 * t.val + a.val, by have := lt_of_lt_of_eq t.isLt N_0; omega⟩ ⟨512 + b.val, by omega⟩) := by
  unfold X0_1 Pipeline.Window.fill
  rw [dif_pos (moved0_1 t _)]
  blk_point [iblk, V, idx t]
theorem in_v (t : Fin cfg0.N) (a b : Fin 512) : X0_2 m c t (ix2 a b) = rows m c (ix2 ⟨512 * t.val + a.val, by have := lt_of_lt_of_eq t.isLt N_0; omega⟩ ⟨1024 + b.val, by omega⟩) := by
  unfold X0_2 Pipeline.Window.fill
  rw [dif_pos (moved0_2 t _)]
  blk_point [iblk, V, idx t]

theorem in_gq (t : Fin cfg0.N) (b : Fin 512) : (iblk m c 3 t : Vec Ideal S1x512 .f32) (ix2 0 b) = gainQ m c (ix1 ⟨b.val % 64, by omega⟩) := by
  refine Eq.trans ?_ ((congrFun (read_gq m c) (ix2 0 b)).trans (tiled_at _ b))
  blk_point [iblk, idx t]
theorem in_gk (t : Fin cfg0.N) (b : Fin 512) : (iblk m c 4 t : Vec Ideal S1x512 .f32) (ix2 0 b) = gainK m c (ix1 ⟨b.val % 64, by omega⟩) := by
  refine Eq.trans ?_ ((congrFun (read_gk m c) (ix2 0 b)).trans (tiled_at _ b))
  blk_point [iblk, idx t]

theorem in_e (t : Fin cfg0.N) : Ones (iblk m c 5 t) := by
  intro a b
  refine Eq.trans ?_ (read_e m c a b)
  blk_point [iblk, idx t]

/-- Where the block of a grid point lies in the result. -/
theorem place (t : Fin cfg0.N) (y : S512x1536.Idx) : (((cfg0.win 6).blk t).view.emb y : S4096x1536.Idx)
    = ix2 (⟨512 * t.val + (y 0).val, by have := lt_of_lt_of_eq t.isLt N_0; have : (y 0).val < 512 := (y 0).isLt; omega⟩ : Fin 4096) (⟨(y 1).val, (y 1).isLt⟩ : Fin 1536) := by
  refine funext fun a => Fin.ext ?_
  fin_cases a <;> blk_simp [idx t]
  · show t.val * 512 + (y 0).val = 512 * t.val + (y 0).val
    omega
  · rfl

/-- The precondition says that the entries of q and k are real numbers. -/
theorem below (p : FVec Ideal S4096x2304 .f32) (gq gk : FVec Ideal S64 .f32) (h : Cert.Pre_finite_heads.fn (F := Ideal) p gq gk = fun _ => 1#1) (i : Cert.Pre_finite_heads.S4096x1024.Idx) :
    extractStridedSlice Cert.Pre_finite_heads.S4096x1024 ![0, 0] p Cert.Pre_finite_heads.Facts.slices_S4096x2304_S4096x1024_0_0 i
      = ((extractStridedSlice Cert.Pre_finite_heads.S4096x1024 ![0, 0] p Cert.Pre_finite_heads.Facts.slices_S4096x2304_S4096x1024_0_0 i).toReal : EReal) := by
  have e := congrFun h ix0
  unfold Cert.Pre_finite_heads.fn at e
  exact Cert.Pre_finite.Hand.real_of_all _ _ _ _ ix0 e i

/-- q and k as real functions. -/
def real (a b : ℕ) : ℝ := if h : a < 4096 ∧ b < 2304 then (rows m c (ix2 ⟨a, h.1⟩ ⟨b, h.2⟩)).toReal else 0

theorem rows_real (h : Pre_Kernel25Ideal m) (a : Fin 4096) (b : Fin 2304) (hb : b.val < 1024) : rows m c (ix2 a b) = ((real m c a.val b.val : ℝ) : EReal) := by
  have e := below (rows m c) (gainQ m c) (gainK m c) (h c) (ix2 a ⟨b.val, hb⟩)
  pointwise at e
  rw [real, dif_pos ⟨a.isLt, b.isLt⟩]
  exact e

/-- A block of q starts at its first row, one of k also at column 512. -/
theorem nrm_q (X : ℕ → ℕ → ℝ) (g : EReal) (r a b : ℕ) : nrm (fun a b => X (r + a) b) g a b = nrm X g (r + a) b := rfl
theorem nrm_k (X : ℕ → ℕ → ℝ) (g : EReal) (r a b : ℕ) : nrm (fun a b => X (r + a) (512 + b)) g a b = nrm X g (r + a) (512 + b) := by
  have e : squares (fun a b => X (r + a) (512 + b)) a b = squares X (r + a) (512 + b) := by
    refine Finset.sum_congr rfl fun d _ => ?_
    rw [show 64 * ((512 + b) / 64) + d.val = 512 + (64 * (b / 64) + d.val) by omega]
  unfold nrm
  rw [e]

/-- What a grid point writes of q and of k. -/
theorem out_q (hpre : Pre_Kernel25Ideal m) (t : Fin cfg0.N) (p q : Fin 512) :
    k0_pay13 (k0_pay2 (iblk m c 5 t)) (X0_0 m c t) (k0_pay3 (iblk m c 3 t)) (k0_pay4 (X0_0 m c t)) (k0_pay5 (iblk m c 5 t) (X0_0 m c t)) (k0_pay6 (iblk m c 5 t) (X0_0 m c t)) (k0_pay11 (iblk m c 5 t) (X0_0 m c t)) (k0_pay12 (iblk m c 5 t) (X0_0 m c t)) (ix2 p q)
      = nrm (real m c) (gainQ m c (ix1 ⟨q.val % 64, by omega⟩)) (512 * t.val + p.val) q.val * Ideal.ofBits .f32 0x3E000000#32 := by
  have ht := lt_of_lt_of_eq t.isLt N_0
  refine (val13 (X := fun a b => real m c (512 * t.val + a) b) (fun a b => (in_q m c t a b).trans (rows_real m c hpre _ _ (by show b.val < 1024; omega))) (in_e m c t) (iblk m c 3 t) p q).trans ?_
  rw [in_gq, nrm_q]
theorem out_k (hpre : Pre_Kernel25Ideal m) (t : Fin cfg0.N) (p q : Fin 512) :
    k0_pay17 (k0_pay2 (iblk m c 5 t)) (X0_1 m c t) (k0_pay14 (iblk m c 4 t)) (k0_pay15 (X0_1 m c t)) (k0_pay16 (k0_pay2 (iblk m c 5 t)) (X0_1 m c t)) (ix2 p q)
      = nrm (real m c) (gainK m c (ix1 ⟨q.val % 64, by omega⟩)) (512 * t.val + p.val) (512 + q.val) := by
  have ht := lt_of_lt_of_eq t.isLt N_0
  refine (val17 (X := fun a b => real m c (512 * t.val + a) (512 + b)) (fun a b => (in_k m c t a b).trans (rows_real m c hpre _ _ (by show 512 + b.val < 1024; omega))) (in_e m c t) (iblk m c 4 t) p q).trans ?_
  rw [in_gk, nrm_k]

theorem pair (x : S512x512.Idx) : x = ix2 (x 0) (x 1) := funext fun a => by fin_cases a <;> rfl

/-- What a grid point writes is the reference's own block. -/
theorem point (hpre : Pre_Kernel25Ideal m) (t : Fin cfg0.N) (y) : outsAt0 m c t y = joined (rows m c) (gainQ m c) (gainK m c) (((cfg0.win 6).blk t).view.emb y) := by
  have ht := lt_of_lt_of_eq t.isLt N_0
  refine Eq.trans ?_ ((congrArg (joined (rows m c) (gainQ m c) (gainK m c)) (place t y)).trans (joined_at _ _ _ _ (rows_real m c hpre) _ _)).symm
  unfold outsAt0
  frame_out
  canon_tiles x h
  case piece0 =>
    rw [if_neg (by show ¬(y 1).val < 512; omega), if_neg (by show ¬(y 1).val < 1024; omega)]
    refine Eq.trans (congrArg (k0_pay1 (F := Ideal) (X0_2 m c t)) (pair x)) ((in_v m c t (x 0) (x 1)).trans (congrArg (rows m c) ?_))
    refine congrArg₂ ix2 (Fin.ext ?_) (Fin.ext ?_)
    · show 512 * t.val + (x 0).val = 512 * t.val + (y 0).val; omega
    · show 1024 + (x 1).val = (y 1).val; omega
  case piece1 =>
    rw [if_neg (by show ¬(y 1).val < 512; omega), if_pos (by show (y 1).val < 1024; omega)]
    refine (congrArg _ (pair x)).trans ((out_k m c hpre t (x 0) (x 1)).trans ?_)
    have e : (⟨(x 1).val % 64, by omega⟩ : Fin 64) = ⟨(y 1).val % 64, by omega⟩ := Fin.ext (by show (x 1).val % 64 = (y 1).val % 64; omega)
    show nrm _ (gainK m c (ix1 ⟨(x 1).val % 64, _⟩)) (512 * t.val + (x 0).val) (512 + (x 1).val) = nrm _ (gainK m c (ix1 ⟨(y 1).val % 64, _⟩)) (512 * t.val + (y 0).val) (y 1).val
    exact congr (congrArg₂ (nrm _) (congrArg (fun i => gainK m c (ix1 i)) e) (by rw [h0])) h1.symm
  case piece2 =>
    rw [if_pos (by show (y 1).val < 512; omega)]
    refine (congrArg _ (pair x)).trans ((out_q m c hpre t (x 0) (x 1)).trans ?_)
    have e : (⟨(x 1).val % 64, by omega⟩ : Fin 64) = ⟨(y 1).val % 64, by omega⟩ := Fin.ext (by show (x 1).val % 64 = (y 1).val % 64; omega)
    show nrm _ (gainQ m c (ix1 ⟨(x 1).val % 64, _⟩)) (512 * t.val + (x 0).val) (x 1).val * _ = nrm _ (gainQ m c (ix1 ⟨(y 1).val % 64, _⟩)) (512 * t.val + (y 0).val) (y 1).val * _
    exact congrArg (· * _) (congr (congrArg₂ (nrm _) (congrArg (fun i => gainQ m c (ix1 i)) e) (by rw [h0])) h1.symm)

/-- The array the call leaves is the reference's. -/
theorem final (hpre : Pre_Kernel25Ideal m) : (dats m 0 c).arrAt 6 (cfgs 0).N = joined (rows m c) (gainQ m c) (gainK m c) := by
  refine (dats m 0 c).arrAt_eq_of_covers 6 _ (by decide +kernel) fun t _ y => ?_
  blk_simp
  rw [after0_6]
  exact point m c hpre t y

/-- The call terminates and leaves its arguments and every semaphore as they were. -/
theorem frame_p : Cert.quiescent_Kernel25 := fun m ρ _ => Cert.Kernel25.Gen.frame m ρ
theorem frame_pi_any : Cert.quiescent_Kernel25Ideal_pre_none := fun m ρ _ => Cert.Kernel25Ideal.Gen.frame m ρ
theorem frame_pi : Cert.quiescent_Kernel25Ideal := fun m ρ _ => Cert.Kernel25Ideal.Gen.frame m ρ
theorem frame_ri : Cert.quiescent_Reference25Ideal := fun m ρ _ =>
  (θ_run Cert.Reference25Ideal.defs _ _).mono
    (fun r h => And.intro (fun c => (h c).2) (Idealize.ShloMosaic.sem_eq_zero_of_no_sems (by decide) r.2))
    (Cert.Reference25Ideal.Value.run (F := Ideal) m ρ)
theorem frame_ri_finite : Cert.quiescent_Reference25Ideal_pre_finite_heads := fun m ρ _ => frame_ri m ρ trivial

/-- Where q and k hold no infinity, the call and the reference have equal results. -/
theorem algebraic : Cert.algebraic_Kernel25Ideal_Reference25Ideal := by
  intro m ρ m' ρ' hpre ha
  refine ⟨fun c => joined (rows m c) (gainQ m c) (gainK m c), ?_, ?_⟩
  · exact (θ_run Cert.Kernel25Ideal.defs _ _).mono (fun r h c => ⟨(h c).1.trans (final m c hpre), (h c).2⟩) (Cert.Kernel25Ideal.Value.run_blocks m ρ)
  · refine (θ_run Cert.Reference25Ideal.defs _ _).mono (fun r h c => ⟨(h c).1.trans ?_, (h c).2⟩) (Cert.Reference25Ideal.Value.run (F := Ideal) m' ρ')
    show joined (m' ((c : Thread Cert.Reference25Ideal.nD Cert.Reference25Ideal.τ).loc Cert.Reference25Ideal.main_arg0)) (m' ((c : Thread Cert.Reference25Ideal.nD Cert.Reference25Ideal.τ).loc Cert.Reference25Ideal.main_arg1)) (m' ((c : Thread Cert.Reference25Ideal.nD Cert.Reference25Ideal.τ).loc Cert.Reference25Ideal.main_arg2)) = _
    rw [(ha c).1, (ha c).2.1, (ha c).2.2]

end Cert.Kernel25Ideal.Hand

end
-- ==== Proof.Step.ForgetMath.lean ====
/- Cumulative sums of the logarithms of the forget gates over the extended reals. -/
module

public import Idealize.ShloMosaic.Lib.Pipeline.ValueKit

@[expose] public section

noncomputable section

namespace Cert.Forget

open Idealize.ShloMosaic

/-- The logarithm of the sigmoid, as the call writes it. -/
def lg (z : EReal) : EReal := min z 0 - Ideal.log (1 + Ideal.exp (0 - max z (-z)))

theorem one : Ideal.log (1 + Ideal.exp ⊥) = ((Real.log 1 : ℝ) : EReal) := by
  show Ideal.log (1 + 0) = _
  rw [add_zero]
  show (if (1 : ℝ) ≤ 0 then (⊥ : EReal) else ((Real.log 1 : ℝ) : EReal)) = _
  rw [if_neg (by norm_num)]

/-- Its second term is a real number, whatever z is. -/
theorem soft (z : EReal) : ∃ r : ℝ, Ideal.log (1 + Ideal.exp (0 - max z (-z))) = (r : EReal) := by
  induction z using EReal.rec with
  | bot => exact ⟨Real.log 1, by rw [show 0 - max (⊥ : EReal) (-⊥) = ⊥ by simp]; exact one⟩
  | top => exact ⟨Real.log 1, by rw [show 0 - max (⊤ : EReal) (-⊤) = ⊥ by simp]; exact one⟩
  | coe r =>
    refine ⟨Real.log (1 + Real.exp (0 - max r (-r))), ?_⟩
    have e : (0 - max (r : EReal) (-r)) = ((0 - max r (-r) : ℝ) : EReal) := by
      rw [← EReal.coe_neg, EReal.coe_sub, EReal.coe_zero, EReal.coe_strictMono.monotone.map_max]
    rw [e]
    show Ideal.log (((1 : ℝ) : EReal) + ((Real.exp (0 - max r (-r)) : ℝ) : EReal)) = _
    rw [← EReal.coe_add]
    show (if _ ≤ (0 : ℝ) then (⊥ : EReal) else _) = _
    rw [if_neg (not_le.2 (by positivity))]

/-- The reference writes it with the signs turned around. -/
theorem turned (z : EReal) : -(max (-z) 0 + Ideal.log1p (Ideal.exp (-max (-z) (- -z)))) = lg z := by
  obtain ⟨r, hr⟩ := soft z
  have e : Ideal.log1p (Ideal.exp (-max (-z) (- -z))) = (r : EReal) := by
    rw [neg_neg, max_comm, ← zero_sub]; exact hr
  rw [e, lg, hr, EReal.neg_add (Or.inr (EReal.coe_ne_top r)) (Or.inr (EReal.coe_ne_bot r))]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

/-- The three terms of the split add up to the value, times a zero or a one. -/
theorem split (z : EReal) (p : Prop) [Decidable p] (e : EReal) (he : e = if p then 1 else 0) :
    lg z * e + (lg z - lg z) * e + (lg z - lg z - (lg z - lg z)) * e = if p then lg z else 0 := by
  subst he
  obtain ⟨r, hr⟩ := soft z
  have h : lg z = ⊥ ∨ ∃ s : ℝ, lg z = (s : EReal) := by
    rw [lg, hr]
    induction z using EReal.rec with
    | bot => left; simp
    | top => right; exact ⟨0 - r, by simp⟩
    | coe s => right; exact ⟨min s 0 - r, by rw [EReal.coe_sub, EReal.coe_strictMono.monotone.map_min, EReal.coe_zero]⟩
  by_cases hp : p
  · simp only [if_pos hp, mul_one]
    rcases h with h | ⟨s, h⟩
    · rw [h]; simp
    · rw [h]; norm_cast; simp
  · simp [if_neg hp]

/-- The entries of a row up to l, of a slab of 128. -/
theorem upto (f : ℕ → EReal) (l : ℕ) (hl : l < 128) : ∑ d : Fin 128, (if d.val ≤ l then f d.val else 0) = ∑ i ∈ Finset.range (l + 1), f i := by
  rw [Fin.sum_univ_eq_sum_range (fun d => if d ≤ l then f d else 0) 128, show 128 = (l + 1) + (127 - l) by omega, Finset.sum_range_add]
  rw [Finset.sum_congr rfl fun i hi => if_pos (by have := Finset.mem_range.1 hi; omega), Finset.sum_eq_zero (s := Finset.range (127 - l)) fun i _ => if_neg (by omega), add_zero]

/-- A window of 4096 places that ends at b, the places before the first being zeros. -/
theorem window (f : ℕ → EReal) (b : ℕ) (hb : b < 4096) : ∑ k : Fin 4096, (if 4095 ≤ b + k.val then f (b + k.val - 4095) else 0) = ∑ i ∈ Finset.range (b + 1), f i := by
  rw [Fin.sum_univ_eq_sum_range (fun k => if 4095 ≤ b + k then f (b + k - 4095) else 0) 4096, show 4096 = (4095 - b) + (b + 1) by omega, Finset.sum_range_add]
  rw [Finset.sum_eq_zero (s := Finset.range (4095 - b)) fun i hi => if_neg (by have := Finset.mem_range.1 hi; omega), zero_add]
  exact Finset.sum_congr rfl fun i _ => by rw [if_pos (by omega), show b + (4095 - b + i) - 4095 = i by omega]

theorem folded {α : Type} (G : α → EReal) (l : List α) (r : EReal) : l.foldl (fun r n => r + G n) r = r + (l.map G).sum := by
  induction l generalizing r with
  | nil => simp
  | cons a l ih => rw [List.foldl_cons, ih, List.map_cons, List.sum_cons, add_assoc]

/-- One minus the sigmoid, as the call writes it. -/
def off (z : EReal) : EReal := Ideal.div 1 (1 + Ideal.exp (0 - (0 - z)))

/-- The three terms of the split of a value that is not plus infinity. -/
theorem parts (x : EReal) (hx : x ≠ ⊤) (p : Prop) [Decidable p] (e : EReal) (he : e = if p then 1 else 0) :
    x * e + (x - x) * e + (x - x - (x - x)) * e = if p then x else 0 := by
  subst he
  by_cases hp : p
  · simp only [if_pos hp, mul_one]
    induction x using EReal.rec with
    | bot => simp
    | top => exact absurd rfl hx
    | coe r => norm_cast; simp
  · simp [if_neg hp]

/-- The entries of a row from l on, of a slab of 128. -/
theorem onward (f : ℕ → EReal) (l : ℕ) (hl : l < 128) : ∑ d : Fin 128, (if l ≤ d.val then f d.val else 0) = ∑ i ∈ Finset.range (128 - l), f (l + i) := by
  rw [Fin.sum_univ_eq_sum_range (fun d => if l ≤ d then f d else 0) 128, show 128 = l + (128 - l) by omega, Finset.sum_range_add]
  rw [Finset.sum_eq_zero fun i hi => if_neg (by have := Finset.mem_range.1 hi; omega), zero_add, show l + (128 - l) - l = 128 - l by omega]
  exact Finset.sum_congr rfl fun i _ => if_pos (by omega)

/-- A window of 4096 places that begins at b. -/
theorem ahead (f : ℕ → EReal) (b : ℕ) (hb : b < 4096) : ∑ k : Fin 4096, (if b + k.val < 4096 then f (b + k.val) else 0) = ∑ i ∈ Finset.range (4096 - b), f (b + i) := by
  rw [Fin.sum_univ_eq_sum_range (fun k => if b + k < 4096 then f (b + k) else 0) 4096, show Finset.range 4096 = Finset.range (4096 - b + b) by rw [show 4096 - b + b = 4096 by omega], Finset.sum_range_add]
  rw [Finset.sum_eq_zero (s := Finset.range b) fun i _ => if_neg (by omega), add_zero]
  exact Finset.sum_congr rfl fun i hi => if_pos (by have := Finset.mem_range.1 hi; omega)

/-- The derivative of the logarithm of the sigmoid, as the reference writes it. -/
theorem slope (z t : EReal) (ht : t = ⊤) : Ideal.exp ((if -z = t then 0 else -z) - (if max (-z) 0 + Ideal.log1p (Ideal.exp (-max (-z) (- -z))) = t then 0 else max (-z) 0 + Ideal.log1p (Ideal.exp (-max (-z) (- -z))))) = off z := by
  have e : max (-z) 0 + Ideal.log1p (Ideal.exp (-max (-z) (- -z))) = -lg z := (neg_neg _).symm.trans (congrArg Neg.neg (turned z))
  rw [e, ht]
  obtain ⟨s, hs⟩ := soft z
  induction z using EReal.rec with
  | bot =>
    have h : lg ⊥ = ⊥ := by rw [lg, hs]; simp
    rw [h, off, show 0 - (0 - (⊥ : EReal)) = ⊥ by simp, show Ideal.exp ⊥ = 0 from rfl, add_zero]
    simp only [EReal.neg_bot, if_true, sub_zero]
    show ((Real.exp 0 : ℝ) : EReal) = Ideal.div 1 ((1 : ℝ) : EReal)
    rw [Ideal.div_coe one_ne_zero]
    simp
  | top =>
    have h : lg ⊤ = ((0 : ℝ) : EReal) := by rw [lg, show 0 - max (⊤ : EReal) (-⊤) = ⊥ by simp, one]; simp
    rw [h, off, show 0 - (0 - (⊤ : EReal)) = ⊤ by simp, show Ideal.exp ⊤ = ⊤ from rfl, show (1 : EReal) + ⊤ = ⊤ from EReal.coe_add_top 1]
    simp [Ideal.div]
  | coe r =>
    have e0 : (0 - max (r : EReal) (-r)) = ((0 - max r (-r) : ℝ) : EReal) := by
      rw [← EReal.coe_neg, EReal.coe_sub, EReal.coe_zero, EReal.coe_strictMono.monotone.map_max]
    have e1 : Ideal.log (1 + Ideal.exp (0 - max (r : EReal) (-r))) = ((Real.log (1 + Real.exp (0 - max r (-r))) : ℝ) : EReal) := by
      rw [e0]
      show Ideal.log (((1 : ℝ) : EReal) + ((Real.exp (0 - max r (-r)) : ℝ) : EReal)) = _
      rw [← EReal.coe_add]
      show (if _ ≤ (0 : ℝ) then (⊥ : EReal) else _) = _
      rw [if_neg (not_le.2 (by positivity))]
    have h : lg r = ((min r 0 - Real.log (1 + Real.exp (0 - max r (-r))) : ℝ) : EReal) := by
      rw [lg, e1, EReal.coe_sub, EReal.coe_strictMono.monotone.map_min, EReal.coe_zero]
    rw [h, off, ← EReal.coe_neg, ← EReal.coe_neg, if_neg (EReal.coe_ne_top _), if_neg (EReal.coe_ne_top _), ← EReal.coe_sub, show 0 - (0 - (r : EReal)) = (r : EReal) by simp]
    show ((Real.exp _ : ℝ) : EReal) = Ideal.div 1 (((1 : ℝ) : EReal) + ((Real.exp r : ℝ) : EReal))
    rw [← EReal.coe_add, Ideal.div_coe (by positivity), one_mul, EReal.coe_eq_coe_iff]
    rcases le_total r 0 with hr | hr
    · rw [min_eq_left hr, max_eq_right (by linarith), show -r - -(r - Real.log (1 + Real.exp (0 - -r))) = -Real.log (1 + Real.exp r) by rw [show 0 - -r = r by ring]; ring, Real.exp_neg, Real.exp_log (by positivity), one_div]
    · rw [min_eq_right hr, max_eq_left (by linarith), show -r - -(0 - Real.log (1 + Real.exp (0 - r))) = -(r + Real.log (1 + Real.exp (-r))) by rw [show 0 - r = -r by ring]; ring, Real.exp_neg, Real.exp_add, Real.exp_log (by positivity), mul_add, ← Real.exp_add, add_neg_cancel, Real.exp_zero, mul_one, one_div, add_comm]

end Cert.Forget

end
-- ==== Proof.Step.Forget.lean ====
/- The forget gates: the logarithms of their sigmoids and their cumulative sums over the positions. -/
module

public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit
public import Idealize.ShloMosaic.Lib.StableHlo.ReadAt
public import proofs.«01_k».proof.Proof.Step.ForgetMath
public import proofs.«01_k».proof.Defs

@[expose] public section

set_option maxRecDepth 16384

noncomputable section

namespace Cert.Kernel26Ideal.Hand

open Cert.Kernel26Ideal Cert.Kernel26Ideal.Gen Idealize.ShloMosaic Idealize.ShloMosaic.TcCoe Idealize.SL.Sem
open Idealize.ShloMosaic.Pipeline (Dat)

variable (x0 : Vec Ideal S128x4096 .f32) (x1 : Vec Ideal S128x1 .f32) (x2 : Vec Ideal S128x128 .bf16)

/-- The slabs of 128 columns. -/
theorem inside (j : ℕ) : ∀ a : Fin 2, (![0, 128 * (j % 32)] : Fin 2 → ℕ) a + S128x128.size a ≤ S128x4096.size a := by
  intro a
  fin_cases a
  · show 0 + 128 ≤ 128; omega
  · show 128 * (j % 32) + 128 ≤ 4096; omega
abbrev slab (j : ℕ) : Rect S128x4096 := Rect.unit (s := S128x4096) ![0, 128 * (j % 32)] S128x128.size (inside j)

/-- The sums of the slabs before slab j. -/
def carry : ℕ → FVec Ideal S128x1 .f32
  | 0 => k0_pay3
  | j + 1 => k0_pay10 (carry j) (View.ld x0 (slab j)) (k0_pay7 (View.ld x1 r0_2))

/-- What slab j becomes. -/
def sums (j : ℕ) : FVec Ideal S128x128 .f32 := k0_pay9 (k0_pay2 (View.ld x2 r0_0)) (carry x0 x1 j) (View.ld x0 (slab j)) (k0_pay7 (View.ld x1 r0_2))

theorem piece (c : ℕ) (x : S128x128.Idx) (y : S128x4096.Idx) (h0 : (y 0).val = (x 0).val) (h1 : (y 1).val = c + (x 1).val) (hc : c % 128 = 0) :
    sums x0 x1 x2 (c / 128) x = sums x0 x1 x2 ((y 1).val / 128) (ix2 (y 0) ⟨(y 1).val % 128, Nat.mod_lt _ (by decide)⟩) := by
  have : (x 1).val < 128 := (x 1).isLt
  rw [show (y 1).val / 128 = c / 128 by omega]
  refine congrArg _ (funext fun a => Fin.ext ?_)
  fin_cases a
  · exact h0.symm
  · show (x 1).val = (y 1).val % 128; omega

/-- Every entry of the result, by its slab. -/
theorem out (y : S128x4096.Idx) : out0_3 x0 x1 x2 y = sums x0 x1 x2 ((y 1).val / 128) (ix2 (y 0) ⟨(y 1).val % 128, Nat.mod_lt _ (by decide)⟩) := by
  unfold out0_3
  canon_tiles x h
  all_goals
    first
      | have e := piece x0 x1 x2 _ x y h0 h1 rfl
        exact e
      | exact piece x0 x1 x2 0 x y h0 (h1.trans (Nat.zero_add _).symm) rfl

/-- The logarithm at place i of row a. -/
def f (a : Fin 128) (i : ℕ) : EReal := Forget.lg (x0 (ix2 a ⟨i % 4096, by omega⟩) + x1 (ix2 a 0))

theorem same (j : ℕ) (d : Fin 128) (h : 128 * (j % 32) + d.val < 4096) : (⟨128 * (j % 32) + d.val, h⟩ : Fin 4096) = ⟨(128 * j + d.val) % 4096, by omega⟩ :=
  Fin.ext (by show 128 * (j % 32) + d.val = (128 * j + d.val) % 4096; omega)

theorem carry_at (j : ℕ) (a : Fin 128) : carry x0 x1 j (ix2 a 0) = ∑ i ∈ Finset.range (128 * j), f x0 x1 a i := by
  induction j with
  | zero => rw [carry]; pointwise [k0_pay3]; rfl
  | succ j ih =>
    rw [carry, show 128 * (j + 1) = 128 * j + 128 by omega, Finset.sum_range_add, ← Fin.sum_univ_eq_sum_range (fun i => f x0 x1 a (128 * j + i)), ← ih]
    pointwise [k0_pay10, k0_pay8, k0_pay7]
    refine congrArg _ (Finset.sum_congr rfl fun d _ => ?_)
    rw [same j d]
    rfl

theorem sums_at (he : ∀ d l : Fin 128, x2 (ix2 d l) = if d.val ≤ l.val then 1 else 0) (j : ℕ) (a l : Fin 128) : sums x0 x1 x2 j (ix2 a l) = ∑ i ∈ Finset.range (128 * j + l.val + 1), f x0 x1 a i := by
  rw [add_assoc, Finset.sum_range_add, ← carry_at, add_comm, ← Forget.upto (fun i => f x0 x1 a (128 * j + i)) l.val l.isLt]
  unfold sums
  pointwise [k0_pay9, k0_pay8, k0_pay7, k0_pay2]
  rw [← Finset.sum_add_distrib, ← Finset.sum_add_distrib]
  refine congrArg (· + _) (Finset.sum_congr rfl fun d _ => ?_)
  rw [same j d]
  exact Forget.split _ (d.val ≤ l.val) _ (he d l)

/-- The result at any place. -/
theorem out_at (he : ∀ d l : Fin 128, x2 (ix2 d l) = if d.val ≤ l.val then 1 else 0) (y : S128x4096.Idx) : out0_3 x0 x1 x2 y = ∑ i ∈ Finset.range ((y 1).val + 1), f x0 x1 (y 0) i := by
  rw [out]
  refine (sums_at x0 x1 x2 he _ _ _).trans ?_
  congr 2
  show 128 * ((y 1).val / 128) + (y 1).val % 128 + 1 = (y 1).val + 1; omega

end Cert.Kernel26Ideal.Hand

namespace Cert.Reference26Ideal.Hand

open Cert.Reference26Ideal Cert.Reference26Ideal.Gen Idealize.ShloMosaic

/-- The logarithms of the gates. -/
abbrev logs (Z : FVec Ideal S128x4096 .f32) (B : FVec Ideal S128 .f32) : FVec Ideal S128x4096 .f32 :=
  let z := Host.negf (addf Z (broadcastInDim S128x4096 ![0, 1] bcast_S128x1_S128x4096_0_1 (broadcastInDim S128x1 ![0] bcast_S128_S128x1_0 B)))
  let o : FVec Ideal S128x4096 .f32 := broadcastInDim S128x4096 ![] bcast_S_S128x4096 (constant S_ .f32 0x00000000#32)
  Host.negf (select (cmpf .une (subf z o) (subf z o)) (addf z o) (addf (maximumf z o) (Host.log1p (Host.exp (Host.negf (Host.absf (subf z o)))))))

theorem logs_at (Z : FVec Ideal S128x4096 .f32) (B : FVec Ideal S128 .f32) (a : Fin 128) (b : Fin 4096) : logs Z B (ix2 a b) = Forget.lg (Z (ix2 a b) + B (ix1 a)) := by
  pointwise [logs]
  rw [if_neg (by simp)]
  exact Forget.turned _

/-- Their cumulative sums. -/
abbrev cum (X : FVec Ideal S128x4096 .f32) : FVec Ideal S128x4096 .f32 :=
  Host.reduceWindowAdd ![1, 4096] ![1, 1] ![0, 4095] ![0, 0] X (broadcastInDim S_ ![] bcast_S_S_ (constant S_ .f32 0x00000000#32)) reduceWindows_S128x4096_S128x4096_w1s1p0_0_w4096s1p4095_0 h_S_

/-- One place of a window, the zeros before the first entry included. -/
theorem place (X : FVec Ideal S128x4096 .f32) (y : S128x4096.Idx) (i : (⟨2, ![1, 4096]⟩ : Shape).Idx) {D : Decidable (∀ a : Fin 2, (![0, 4095] : Fin 2 → ℕ) a ≤ (y a).val * (![1, 1] : Fin 2 → ℕ) a + (i a).val ∧ (y a).val * (![1, 1] : Fin 2 → ℕ) a + (i a).val - (![0, 4095] : Fin 2 → ℕ) a < S128x4096.size a)} :
    (if hin : ∀ a : Fin 2, (![0, 4095] : Fin 2 → ℕ) a ≤ (y a).val * (![1, 1] : Fin 2 → ℕ) a + (i a).val ∧ (y a).val * (![1, 1] : Fin 2 → ℕ) a + (i a).val - (![0, 4095] : Fin 2 → ℕ) a < S128x4096.size a then X (fun a => ⟨(y a).val * (![1, 1] : Fin 2 → ℕ) a + (i a).val - (![0, 4095] : Fin 2 → ℕ) a, (hin a).2⟩) else 0) =
    if 4095 ≤ (y 1).val + (i 1).val then X (ix2 (y 0) ⟨((y 1).val + (i 1).val - 4095) % 4096, by omega⟩) else 0 := by
  have h0 : (y 0).val < 128 := (y 0).isLt
  have h1 : (y 1).val < 4096 := (y 1).isLt
  have k0 : (i 0).val < 1 := (i 0).isLt
  have k1 : (i 1).val < 4096 := (i 1).isLt
  by_cases h : 4095 ≤ (y 1).val + (i 1).val
  · rw [if_pos h, dif_pos (Fin.forall_fin_two.2 ⟨by show 0 ≤ _ ∧ (y 0).val * 1 + (i 0).val - 0 < 128; omega, by show 4095 ≤ (y 1).val * 1 + (i 1).val ∧ (y 1).val * 1 + (i 1).val - 4095 < 4096; omega⟩)]
    refine congrArg X (funext (Fin.forall_fin_two.2 ⟨Fin.ext ?_, Fin.ext ?_⟩))
    · show (y 0).val * 1 + (i 0).val - 0 = (y 0).val; omega
    · show (y 1).val * 1 + (i 1).val - 4095 = ((y 1).val + (i 1).val - 4095) % 4096; omega
  · rw [if_neg h, dif_neg fun hin => h (by have := (hin (1 : Fin 2)).1; change 4095 ≤ (y 1).val * 1 + (i 1).val at this; omega)]

theorem cum_at (X : FVec Ideal S128x4096 .f32) (y : S128x4096.Idx) : cum X y = ∑ i ∈ Finset.range ((y 1).val + 1), X (ix2 (y 0) ⟨i % 4096, by omega⟩) := by
  rw [← Forget.window _ _ (y 1).isLt]
  unfold cum Host.reduceWindowAdd
  rw [Ideal.hostReduceWindowAdd_def]
  unfold Ideal.hostReduceWindowAdd Host.reduceWindow
  have z : broadcastInDim S_ ![] bcast_S_S_ (constant (F := Ideal) S_ .f32 0x00000000#32) (Shape.Idx.first h_S_) = (0 : EReal) := by pointwise
  rw [z]
  refine (Forget.folded _ _ _).trans ?_
  rw [zero_add, ← Fin.sum_univ_def]
  refine (Finset.sum_congr rfl fun n _ => ?_).trans ((Equiv.sum_comp (Shape.rowMajor ⟨2, ![1, 4096]⟩).symm (fun i => if 4095 ≤ (y 1).val + (i 1).val then X (ix2 (y 0) ⟨((y 1).val + (i 1).val - 4095) % 4096, by omega⟩) else 0)).trans ((sum_idx2 (n0 := 1) (n1 := 4096) _).trans (Fin.sum_univ_one _)))
  exact place X y _

end Cert.Reference26Ideal.Hand

namespace Cert.Kernel26Ideal.Hand

open Cert.Kernel26Ideal Cert.Kernel26Ideal.Gen Idealize.ShloMosaic Idealize.ShloMosaic.TcCoe Idealize.SL.Sem
open Idealize.ShloMosaic.Pipeline (Dat)
open Cert.Reference26Ideal.Hand (logs logs_at cum cum_at)

variable (m : (ℓ : Loc nD τ sig) → Buf (Elt Ideal) ℓ) (c : Dev nD)

/-- The one grid point holds all of each array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The bias as a column. -/
theorem read_b (a : Fin 128) : V m c main_v0 (ix2 a 0) = m ((c : Thread nD τ).loc main_arg1) (ix1 a) := by
  have e : V m c main_v0 = broadcastInDim S128x1 ![0] bcast_S128_S128x1_0 (m ((c : Thread nD τ).loc main_arg1)) := by
    unfold V
    simp only [hostOps0]
    after_reads_simp
  rw [e]
  pointwise

theorem ordered : ∀ d l : Fin 128, IntOp.cmpi CmpIPredicate.sle (BitVec.ofNat 32 d.val) (BitVec.ofNat 32 l.val) = if d.val ≤ l.val then 1#1 else 0#1 := by
  decide +kernel

/-- The ones on and above the diagonal. -/
theorem read_e (d l : Fin 128) : V m c main_v4 (ix2 d l) = if d.val ≤ l.val then (1 : EReal) else 0 := by
  have e : V m c main_v4 = uitofp (F := Ideal) .bf16 (cmpi .sle (iotaInDim S128x128 32 0) (iotaInDim S128x128 32 1)) := by
    unfold V
    simp only [hostOps0]
    after_reads_simp
  rw [e]
  pointwise
  rw [ordered]
  by_cases h : d.val ≤ l.val <;> simp [h, FloatOps.uitofp]

/-- What the call writes is the reference's. -/
theorem point (t : Fin cfg0.N) (y) : out0_3 (iblk m c 0 t) (iblk m c 1 t) (iblk m c 2 t) y = cum (logs (m ((c : Thread nD τ).loc main_arg0)) (m ((c : Thread nD τ).loc main_arg1))) (((cfg0.win 3).blk t).view.emb y) := by
  have e0 : ∀ a b, iblk m c 0 t (ix2 a b) = m ((c : Thread nD τ).loc main_arg0) (ix2 a b) := fun a b => by blk_point [iblk, V, idx t]
  have e1 : ∀ a, iblk m c 1 t (ix2 a 0) = m ((c : Thread nD τ).loc main_arg1) (ix1 a) := fun a => by
    rw [← read_b m c a]; blk_point [iblk, idx t]
  have e2 : ∀ d l : Fin 128, iblk m c 2 t (ix2 d l) = if d.val ≤ l.val then (1 : EReal) else 0 := fun d l => by
    rw [← read_e m c d l]; blk_point [iblk, idx t]
  have e3 : ((cfg0.win 3).blk t).view.emb y = y := by blk_point [idx t]
  rw [e3]
  refine (out_at _ _ _ e2 y).trans ((cum_at _ y).trans (Finset.sum_congr rfl fun i _ => ?_)).symm
  exact (logs_at _ _ _ _).trans (congrArg Forget.lg (congrArg₂ (fun u v : EReal => u + v) (e0 _ _) (e1 _)).symm)

theorem final : (dats m 0 c).arrAt 3 (cfgs 0).N = cum (logs (m ((c : Thread nD τ).loc main_arg0)) (m ((c : Thread nD τ).loc main_arg1))) := by
  refine (dats m 0 c).arrAt_eq_of_covers 3 _ (by decide +kernel) fun t _ y => ?_
  blk_simp
  rw [after0_3]
  exact point m c t y

/-- The call terminates and leaves its arguments and every semaphore as they were. -/
theorem frame_p : Cert.quiescent_Kernel26 := fun m ρ _ => Cert.Kernel26.Gen.frame m ρ
theorem frame_pi : Cert.quiescent_Kernel26Ideal := fun m ρ _ => Cert.Kernel26Ideal.Gen.frame m ρ

theorem frame_ri : Cert.quiescent_Reference26Ideal := fun m ρ _ =>
  (θ_run Cert.Reference26Ideal.defs _ _).mono
    (fun r h => And.intro (fun c => (h c).2) (Idealize.ShloMosaic.sem_eq_zero_of_no_sems (by decide) r.2))
    (Cert.Reference26Ideal.Value.run (F := Ideal) m ρ)

/-- The call and the reference have equal results. -/
theorem algebraic : Cert.algebraic_Kernel26Ideal_Reference26Ideal := by
  intro m ρ m' ρ' _ ha
  refine ⟨fun c => cum (logs (m ((c : Thread nD τ).loc main_arg0)) (m ((c : Thread nD τ).loc main_arg1))), ?_, ?_⟩
  · exact (θ_run Cert.Kernel26Ideal.defs _ _).mono (fun r h c => ⟨(h c).1.trans (final m c), (h c).2⟩) (Cert.Kernel26Ideal.Value.run_blocks m ρ)
  · refine (θ_run Cert.Reference26Ideal.defs _ _).mono (fun r h c => ⟨(h c).1.trans ?_, (h c).2⟩) (Cert.Reference26Ideal.Value.run (F := Ideal) m' ρ')
    · show cum (logs (m' ((c : Thread Cert.Reference26Ideal.nD Cert.Reference26Ideal.τ).loc Cert.Reference26Ideal.main_arg0)) (m' ((c : Thread Cert.Reference26Ideal.nD Cert.Reference26Ideal.τ).loc Cert.Reference26Ideal.main_arg1))) = _; rw [(ha c).1, (ha c).2]

end Cert.Kernel26Ideal.Hand

end
-- ==== Proof.Step.ForgetBack.lean ====
/- The gradient of the forget gates: the sums of the cotangents from a position on, times the gate's complement. -/
module

public import proofs.«01_k».proof.Proof.Gen.Kernel27.Frame
public import proofs.«01_k».proof.Proof.Gen.Kernel27Ideal.Value
public import proofs.«01_k».proof.Proof.Gen.Reference27Ideal.Run
public import proofs.«01_k».proof.Proof.Gen.Pre_finite_gates
public import proofs.«01_k».proof.Proof.Finite
public import Idealize.ShloMosaic.Lib.StableHlo.ReadAt
public import proofs.«01_k».proof.Proof.Step.ForgetMath
public import proofs.«01_k».proof.Defs

@[expose] public section

set_option maxRecDepth 16384

noncomputable section

namespace Cert.Kernel27Ideal.Hand

open Cert.Kernel27Ideal Cert.Kernel27Ideal.Gen Idealize.ShloMosaic Idealize.ShloMosaic.TcCoe Idealize.SL.Sem
open Idealize.ShloMosaic.Pipeline (Dat)

/-- The sums of the rows of slabs, taken from the last slab on. -/
def acc (X : ℕ → FVec Ideal S128x128 .f32) : ℕ → FVec Ideal S128x1 .f32
  | 0 => k0_pay4
  | j + 1 => k0_pay8 (acc X j) (X (31 - j))

theorem acc_at (X : ℕ → FVec Ideal S128x128 .f32) (a : Fin 128) (g : ℕ → EReal) (h : ∀ s < 32, ∀ d : Fin 128, X s (ix2 a d) = g (128 * s + d.val)) (j : ℕ) (hj : j ≤ 32) :
    acc X j (ix2 a 0) = ∑ i ∈ Finset.range (128 * j), g (4096 - 128 * j + i) := by
  induction j with
  | zero => rw [acc]; pointwise [k0_pay4]; rfl
  | succ j ih =>
    rw [acc, show 128 * (j + 1) = 128 + 128 * j by omega, Finset.sum_range_add, ← Fin.sum_univ_eq_sum_range (fun i => g (4096 - (128 + 128 * j) + i)), add_comm (∑ i : Fin 128, _)]
    pointwise [k0_pay8]
    refine congrArg₂ _ ((ih (by omega)).trans (Finset.sum_congr rfl fun i _ => congrArg g (by omega))) (Finset.sum_congr rfl fun d _ => (h _ (by omega) d).trans (congrArg g (by omega)))

variable (x0 : Vec Ideal S128x4096 .f32) (x1 : Vec Ideal S128x1 .f32) (x2 : Vec Ideal S128x4096 .f32) (x3 : Vec Ideal S128x128 .bf16)

/-- The slabs of 128 columns. -/
theorem inside (j : ℕ) : ∀ a : Fin 2, (![0, 128 * (j % 32)] : Fin 2 → ℕ) a + S128x128.size a ≤ S128x4096.size a := by
  intro a
  fin_cases a
  · show 0 + 128 ≤ 128; omega
  · show 128 * (j % 32) + 128 ≤ 4096; omega
abbrev slab (j : ℕ) : Rect S128x4096 := Rect.unit (s := S128x4096) ![0, 128 * (j % 32)] S128x128.size (inside j)

/-- The sums of the cotangents behind a slab. -/
abbrev carry (j : ℕ) : FVec Ideal S128x1 .f32 := acc (fun s => View.ld x2 (slab s)) j

/-- What slab j becomes. -/
def grad (j : ℕ) : FVec Ideal S128x128 .f32 := k0_pay9 (k0_pay3 (View.ld x3 r0_0)) (carry x2 (31 - j)) (View.ld x2 (slab j)) (View.ld x0 (slab j)) (View.ld x1 r0_2)

theorem piece (c : ℕ) (x : S128x128.Idx) (y : S128x4096.Idx) (h0 : (y 0).val = (x 0).val) (h1 : (y 1).val = c + (x 1).val) (hc : c % 128 = 0) :
    grad x0 x1 x2 x3 (c / 128) x = grad x0 x1 x2 x3 ((y 1).val / 128) (ix2 (y 0) ⟨(y 1).val % 128, Nat.mod_lt _ (by decide)⟩) := by
  have : (x 1).val < 128 := (x 1).isLt
  rw [show (y 1).val / 128 = c / 128 by omega]
  refine congrArg _ (funext fun a => Fin.ext ?_)
  fin_cases a
  · exact h0.symm
  · show (x 1).val = (y 1).val % 128; omega

/-- Every entry of the gradient, by its slab. -/
theorem out (y : S128x4096.Idx) : out0_4 x0 x1 x2 x3 y = grad x0 x1 x2 x3 ((y 1).val / 128) (ix2 (y 0) ⟨(y 1).val % 128, Nat.mod_lt _ (by decide)⟩) := by
  unfold out0_4
  canon_tiles x h
  all_goals
    first
      | have e := piece x0 x1 x2 x3 _ x y h0 h1 rfl
        exact e
      | exact piece x0 x1 x2 x3 0 x y h0 (h1.trans (Nat.zero_add _).symm) rfl

/-- The bias's gradient. -/
theorem out_b (y : S128x1.Idx) : out0_5 x0 x1 x2 x3 y = acc (grad x0 x1 x2 x3) 32 y := by
  unfold out0_5
  canon_tiles x h
  have e : x = y := funext (Fin.forall_fin_two.2 ⟨Fin.ext h0.symm, Subsingleton.elim (α := Fin 1) _ _⟩)
  subst e
  rfl

/-- The cotangent at place i of row a, and the gradient there. -/
def D (a : Fin 128) (i : ℕ) : EReal := x2 (ix2 a ⟨i % 4096, by omega⟩)
def G (a : Fin 128) (b : ℕ) : EReal := (∑ i ∈ Finset.range (4096 - b), D x2 a (b + i)) * Forget.off (x0 (ix2 a ⟨b % 4096, by omega⟩) + x1 (ix2 a 0))

theorem same (j : ℕ) (d : Fin 128) (h : 128 * (j % 32) + d.val < 4096) : (⟨128 * (j % 32) + d.val, h⟩ : Fin 4096) = ⟨(128 * j + d.val) % 4096, by omega⟩ :=
  Fin.ext (by show 128 * (j % 32) + d.val = (128 * j + d.val) % 4096; omega)

theorem carry_at (a : Fin 128) (j : ℕ) (hj : j ≤ 32) : carry x2 j (ix2 a 0) = ∑ i ∈ Finset.range (128 * j), D x2 a (4096 - 128 * j + i) :=
  acc_at _ a (D x2 a) (fun s _ d => by pointwise; rw [same s d]; rfl) j hj

theorem grad_at (hr : ∀ y, x2 y ≠ (⊤ : EReal)) (he : ∀ d l : Fin 128, x3 (ix2 d l) = if l.val ≤ d.val then 1 else 0) (a : Fin 128) (s : ℕ) (hs : s < 32) (l : Fin 128) :
    grad x0 x1 x2 x3 s (ix2 a l) = G x0 x1 x2 a (128 * s + l.val) := by
  have e : ∑ i ∈ Finset.range (4096 - (128 * s + l.val)), D x2 a (128 * s + l.val + i) = (∑ d : Fin 128, if l.val ≤ d.val then D x2 a (128 * s + d.val) else 0) + carry x2 (31 - s) (ix2 a 0) := by
    rw [Forget.onward (fun i => D x2 a (128 * s + i)) l.val l.isLt, carry_at _ _ _ (by omega), show 4096 - (128 * s + l.val) = (128 - l.val) + 128 * (31 - s) by omega, Finset.sum_range_add]
    exact congrArg₂ _ (Finset.sum_congr rfl fun i _ => congrArg _ (by omega)) (Finset.sum_congr rfl fun i _ => congrArg _ (by omega))
  rw [G, e]
  unfold grad
  pointwise [k0_pay9, k0_pay3]
  rw [← Finset.sum_add_distrib, ← Finset.sum_add_distrib, same s l]
  refine congrArg (fun u => (u + _) * _) (Finset.sum_congr rfl fun d _ => ?_)
  rw [same s d]
  exact Forget.parts _ (hr _) (l.val ≤ d.val) _ (he d l)

theorem out_at (hr : ∀ y, x2 y ≠ (⊤ : EReal)) (he : ∀ d l : Fin 128, x3 (ix2 d l) = if l.val ≤ d.val then 1 else 0) (y : S128x4096.Idx) : out0_4 x0 x1 x2 x3 y = G x0 x1 x2 (y 0) (y 1).val := by
  have := (y 1).isLt
  change (y 1).val < 4096 at this
  rw [out]
  refine (grad_at x0 x1 x2 x3 hr he _ _ (by omega) _).trans (congrArg _ ?_)
  show 128 * ((y 1).val / 128) + (y 1).val % 128 = (y 1).val; omega

theorem bias_at (hr : ∀ y, x2 y ≠ (⊤ : EReal)) (he : ∀ d l : Fin 128, x3 (ix2 d l) = if l.val ≤ d.val then 1 else 0) (a : Fin 128) : out0_5 x0 x1 x2 x3 (ix2 a 0) = ∑ i : Fin 4096, G x0 x1 x2 a i.val := by
  rw [out_b, acc_at _ a (G x0 x1 x2 a) (fun s hs d => grad_at x0 x1 x2 x3 hr he a s hs d) 32 le_rfl, Fin.sum_univ_eq_sum_range (G x0 x1 x2 a)]
  exact Finset.sum_congr rfl fun i _ => congrArg _ (by omega)

end Cert.Kernel27Ideal.Hand

namespace Cert.Reference27Ideal.Hand

open Cert.Reference27Ideal Cert.Reference27Ideal.Gen Idealize.ShloMosaic

/-- Zeros. -/
abbrev o : FVec Ideal S128x4096 .f32 := broadcastInDim S128x4096 ![] bcast_S_S128x4096 (constant S_ .f32 0x00000000#32)

/-- x, or zero where x is infinity. -/
abbrev cut (x : FVec Ideal S128x4096 .f32) : FVec Ideal S128x4096 .f32 :=
  select (cmpf .oeq x (broadcastInDim S128x4096 ![] bcast_S_S128x4096 (constant S_ .f32 0x7F800000#32))) o x

/-- The derivative of the logarithm of the sigmoid. -/
abbrev slope (Z : FVec Ideal S128x4096 .f32) (B : FVec Ideal S128 .f32) : FVec Ideal S128x4096 .f32 :=
  let z := Host.negf (addf Z (broadcastInDim S128x4096 ![0, 1] bcast_S128x1_S128x4096_0_1 (broadcastInDim S128x1 ![0] bcast_S128_S128x1_0 B)))
  Host.exp (subf (cut z) (cut (select (cmpf .une (subf z o) (subf z o)) (addf z o) (addf (maximumf z o) (Host.log1p (Host.exp (Host.negf (Host.absf (subf z o)))))))))

theorem slope_at (Z : FVec Ideal S128x4096 .f32) (B : FVec Ideal S128 .f32) (a : Fin 128) (b : Fin 4096) : slope Z B (ix2 a b) = Forget.off (Z (ix2 a b) + B (ix1 a)) := by
  pointwise [slope]
  simp only [ne_eq, not_true_eq_false, if_false]
  exact Forget.slope _ _ Cert.Pre_finite.Hand.posInf

/-- The sums from a position on. -/
abbrev rest (X : FVec Ideal S128x4096 .f32) : FVec Ideal S128x4096 .f32 :=
  Host.reduceWindowAdd ![1, 4096] ![1, 1] ![0, 0] ![0, 4095] X (broadcastInDim S_ ![] bcast_S_S_ (constant S_ .f32 0x00000000#32)) reduceWindows_S128x4096_S128x4096_w1s1p0_0_w4096s1p0_4095 h_S_

/-- One place of a window, the zeros behind the last entry included. -/
theorem place (X : FVec Ideal S128x4096 .f32) (y : S128x4096.Idx) (i : (⟨2, ![1, 4096]⟩ : Shape).Idx) {D : Decidable (∀ a : Fin 2, (![0, 0] : Fin 2 → ℕ) a ≤ (y a).val * (![1, 1] : Fin 2 → ℕ) a + (i a).val ∧ (y a).val * (![1, 1] : Fin 2 → ℕ) a + (i a).val - (![0, 0] : Fin 2 → ℕ) a < S128x4096.size a)} :
    (if hin : ∀ a : Fin 2, (![0, 0] : Fin 2 → ℕ) a ≤ (y a).val * (![1, 1] : Fin 2 → ℕ) a + (i a).val ∧ (y a).val * (![1, 1] : Fin 2 → ℕ) a + (i a).val - (![0, 0] : Fin 2 → ℕ) a < S128x4096.size a then X (fun a => ⟨(y a).val * (![1, 1] : Fin 2 → ℕ) a + (i a).val - (![0, 0] : Fin 2 → ℕ) a, (hin a).2⟩) else 0) =
    if (y 1).val + (i 1).val < 4096 then X (ix2 (y 0) ⟨((y 1).val + (i 1).val) % 4096, by omega⟩) else 0 := by
  have h0 : (y 0).val < 128 := (y 0).isLt
  have k0 : (i 0).val < 1 := (i 0).isLt
  by_cases h : (y 1).val + (i 1).val < 4096
  · rw [if_pos h, dif_pos (Fin.forall_fin_two.2 ⟨by show 0 ≤ _ ∧ (y 0).val * 1 + (i 0).val - 0 < 128; omega, by show 0 ≤ (y 1).val * 1 + (i 1).val ∧ (y 1).val * 1 + (i 1).val - 0 < 4096; omega⟩)]
    refine congrArg X (funext (Fin.forall_fin_two.2 ⟨Fin.ext ?_, Fin.ext ?_⟩))
    · show (y 0).val * 1 + (i 0).val - 0 = (y 0).val; omega
    · show (y 1).val * 1 + (i 1).val - 0 = ((y 1).val + (i 1).val) % 4096; omega
  · rw [if_neg h, dif_neg fun hin => h (by have := (hin (1 : Fin 2)).2; change (y 1).val * 1 + (i 1).val - 0 < 4096 at this; omega)]

theorem rest_at (X : FVec Ideal S128x4096 .f32) (y : S128x4096.Idx) : rest X y = ∑ i ∈ Finset.range (4096 - (y 1).val), X (ix2 (y 0) ⟨((y 1).val + i) % 4096, by omega⟩) := by
  rw [← Forget.ahead (fun i => X (ix2 (y 0) ⟨i % 4096, by omega⟩)) _ (y 1).isLt]
  unfold rest Host.reduceWindowAdd
  rw [Ideal.hostReduceWindowAdd_def]
  unfold Ideal.hostReduceWindowAdd Host.reduceWindow
  have z : broadcastInDim S_ ![] bcast_S_S_ (constant (F := Ideal) S_ .f32 0x00000000#32) (Shape.Idx.first h_S_) = (0 : EReal) := by pointwise
  rw [z]
  refine (Forget.folded _ _ _).trans ?_
  rw [zero_add, ← Fin.sum_univ_def]
  refine (Finset.sum_congr rfl fun n _ => ?_).trans ((Equiv.sum_comp (Shape.rowMajor ⟨2, ![1, 4096]⟩).symm (fun i => if (y 1).val + (i 1).val < 4096 then X (ix2 (y 0) ⟨((y 1).val + (i 1).val) % 4096, by omega⟩) else 0)).trans ((sum_idx2 (n0 := 1) (n1 := 4096) _).trans (Fin.sum_univ_one _)))
  exact place X y _

/-- The gradients of the gates and of the bias. -/
abbrev dz (Z : FVec Ideal S128x4096 .f32) (B : FVec Ideal S128 .f32) (X : FVec Ideal S128x4096 .f32) : FVec Ideal S128x4096 .f32 :=
  Host.negf (mulf (Host.negf (rest X)) (slope Z B))
abbrev db (Z : FVec Ideal S128x4096 .f32) (B : FVec Ideal S128 .f32) (X : FVec Ideal S128x4096 .f32) : FVec Ideal S128x1 .f32 :=
  broadcastInDim S128x1 ![0] bcast_S128_S128x1_0 (Host.reduceAdd (shapeCast _ (Host.reduceAdd (dz Z B X) (constant S_ .f32 0x00000000#32) reducesTo_S128x4096_S128_d1 h_S_) shapeCasts_S128_S128x1) (constant S_ .f32 0x00000000#32) reducesTo_S128x1_S128_d1 h_S_)

theorem dz_at (Z : FVec Ideal S128x4096 .f32) (B : FVec Ideal S128 .f32) (X : FVec Ideal S128x4096 .f32) (a : Fin 128) (b : Fin 4096) :
    dz Z B X (ix2 a b) = (∑ i ∈ Finset.range (4096 - b.val), X (ix2 a ⟨(b.val + i) % 4096, by omega⟩)) * Forget.off (Z (ix2 a b) + B (ix1 a)) := by
  show -(-(rest X (ix2 a b)) * slope Z B (ix2 a b)) = _
  rw [EReal.neg_mul, neg_neg, slope_at, rest_at]
  rfl

theorem db_at (Z : FVec Ideal S128x4096 .f32) (B : FVec Ideal S128 .f32) (X : FVec Ideal S128x4096 .f32) (a : Fin 128) : db Z B X (ix2 a 0) = ∑ i : Fin 4096, dz Z B X (ix2 a i) := by
  unfold db
  generalize dz Z B X = W
  pointwise
  exact Fin.sum_univ_one _

end Cert.Reference27Ideal.Hand

namespace Cert.Kernel27Ideal.Hand

open Cert.Kernel27Ideal Cert.Kernel27Ideal.Gen Idealize.ShloMosaic Idealize.ShloMosaic.TcCoe Idealize.SL.Sem
open Idealize.ShloMosaic.Pipeline (Dat)
open Cert.Reference27Ideal.Hand (dz dz_at db db_at)

variable (m : (ℓ : Loc nD τ sig) → Buf (Elt Ideal) ℓ) (c : Dev nD)

/-- The one grid point holds all of each array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The bias as a column. -/
theorem read_b (a : Fin 128) : V m c main_v0 (ix2 a 0) = m ((c : Thread nD τ).loc main_arg1) (ix1 a) := by
  have e : V m c main_v0 = broadcastInDim S128x1 ![0] bcast_S128_S128x1_0 (m ((c : Thread nD τ).loc main_arg1)) := by
    unfold V
    simp only [hostOps0]
    after_reads_simp
  rw [e]
  pointwise

theorem ordered : ∀ d l : Fin 128, IntOp.cmpi CmpIPredicate.sge (BitVec.ofNat 32 d.val) (BitVec.ofNat 32 l.val) = if l.val ≤ d.val then 1#1 else 0#1 := by
  decide +kernel

/-- The ones on and below the diagonal. -/
theorem read_e (d l : Fin 128) : V m c main_v4 (ix2 d l) = if l.val ≤ d.val then (1 : EReal) else 0 := by
  have e : V m c main_v4 = uitofp (F := Ideal) .bf16 (cmpi .sge (iotaInDim S128x128 32 0) (iotaInDim S128x128 32 1)) := by
    unfold V
    simp only [hostOps0]
    after_reads_simp
  rw [e]
  pointwise
  rw [ordered]
  by_cases h : l.val ≤ d.val <;> simp [h, FloatOps.uitofp]

abbrev Z : FVec Ideal S128x4096 .f32 := m ((c : Thread nD τ).loc main_arg0)
abbrev B : FVec Ideal S128 .f32 := m ((c : Thread nD τ).loc main_arg1)
abbrev X : FVec Ideal S128x4096 .f32 := m ((c : Thread nD τ).loc main_arg2)

/-- The precondition says that the cotangents are nowhere plus infinity. -/
theorem below (h : Pre_Kernel27Ideal m) (y) : X m c y ≠ (⊤ : EReal) := by
  have e := congrFun (h c) ix0
  unfold Cert.Pre_finite_gates.fn at e
  have l := Host.reduce_andi_all _ _ _ _ ix0 e y
  change Ideal.cmp .olt (X m c y) (Ideal.ofBits .f32 0x7F800000#32) = 1#1 at l
  rw [Cert.Pre_finite.Hand.posInf] at l
  intro k
  rw [k] at l
  simp [Ideal.cmp] at l

theorem block (t : Fin cfg0.N) (a : Fin 128) (b : Fin 4096) : G (iblk m c 0 t) (iblk m c 1 t) (iblk m c 2 t) a b.val = dz (Z m c) (B m c) (X m c) (ix2 a b) := by
  have e0 : ∀ a b, iblk m c 0 t (ix2 a b) = Z m c (ix2 a b) := fun a b => by blk_point [iblk, V, idx t]
  have e1 : ∀ a, iblk m c 1 t (ix2 a 0) = B m c (ix1 a) := fun a => by
    refine Eq.trans ?_ (read_b m c a); blk_point [iblk, idx t]
  have e2 : ∀ a b, iblk m c 2 t (ix2 a b) = X m c (ix2 a b) := fun a b => by blk_point [iblk, V, idx t]
  rw [dz_at, G]
  refine congrArg₂ (· * ·) (Finset.sum_congr rfl fun i _ => e2 _ _) (congrArg Forget.off (congrArg₂ (· + ·) ((congrArg (iblk m c 0 t) ?_).trans (e0 a b)) (e1 a)))
  exact congrArg (ix2 a) (Fin.ext (Nat.mod_eq_of_lt b.isLt))

theorem exact_e (t : Fin cfg0.N) (d l : Fin 128) : iblk m c 3 t (ix2 d l) = if l.val ≤ d.val then (1 : EReal) else 0 := by
  rw [← read_e m c d l]; blk_point [iblk, idx t]

theorem below_x (h : Pre_Kernel27Ideal m) (t : Fin cfg0.N) (y) : iblk m c 2 t y ≠ (⊤ : EReal) := by
  have e : iblk m c 2 t y = X m c y := by blk_point [iblk, V, idx t]
  rw [e]
  exact below m c h y

theorem final (h : Pre_Kernel27Ideal m) : (dats m 0 c).arrAt 4 (cfgs 0).N = dz (Z m c) (B m c) (X m c) := by
  refine (dats m 0 c).arrAt_eq_of_covers 4 _ (by decide +kernel) fun t _ y => ?_
  blk_simp
  rw [after0_4]
  have e : ((cfg0.win 4).blk t).view.emb y = y := by blk_point [idx t]
  refine (out_at _ _ _ _ (below_x m c h t) (exact_e m c t) y).trans ((block m c t (y 0) (y 1)).trans ?_)
  refine congrArg (dz (Z m c) (B m c) (X m c)) (Eq.trans ?_ e.symm)
  exact ix2_eta y

theorem final_b (h : Pre_Kernel27Ideal m) : (dats m 0 c).arrAt 5 (cfgs 0).N = db (Z m c) (B m c) (X m c) := by
  refine (dats m 0 c).arrAt_eq_of_covers 5 _ (by decide +kernel) fun t _ y => ?_
  blk_simp
  rw [after0_5]
  have e : ((cfg0.win 5).blk t).view.emb y = y := by blk_point [idx t]
  have k : y = ix2 (y 0) 0 := funext (Fin.forall_fin_two.2 ⟨rfl, Subsingleton.elim (α := Fin 1) _ _⟩)
  refine Eq.trans ?_ (congrArg (db (Z m c) (B m c) (X m c)) (k.symm.trans e.symm))
  refine (congrArg _ k).trans ((bias_at _ _ _ _ (below_x m c h t) (exact_e m c t) (y 0)).trans ((Finset.sum_congr rfl fun i _ => block m c t (y 0) i).trans (db_at _ _ _ _).symm))

/-- The call terminates and leaves its arguments and every semaphore as they were. -/
theorem frame_p : Cert.quiescent_Kernel27 := fun m ρ _ => Cert.Kernel27.Gen.frame m ρ
theorem frame_pi_any : Cert.quiescent_Kernel27Ideal_pre_none := fun m ρ _ => Cert.Kernel27Ideal.Gen.frame m ρ
theorem frame_pi : Cert.quiescent_Kernel27Ideal := fun m ρ _ => Cert.Kernel27Ideal.Gen.frame m ρ
theorem frame_ri : Cert.quiescent_Reference27Ideal := fun m ρ _ =>
  (θ_run Cert.Reference27Ideal.defs _ _).mono
    (fun r h => And.intro (fun c => (h c).2.2) (Idealize.ShloMosaic.sem_eq_zero_of_no_sems (by decide) r.2))
    (Cert.Reference27Ideal.Value.run (F := Ideal) m ρ)
theorem frame_ri_finite : Cert.quiescent_Reference27Ideal_pre_finite_gates := fun m ρ _ => frame_ri m ρ trivial

/-- Where the cotangents are nowhere plus infinity, the call and the reference have equal results. -/
theorem algebraic : Cert.algebraic_Kernel27Ideal_Reference27Ideal := by
  intro m ρ m' ρ' hpre ha
  refine ⟨fun c => dz (Z m c) (B m c) (X m c), fun c => db (Z m c) (B m c) (X m c), ?_, ?_⟩
  · exact (θ_run Cert.Kernel27Ideal.defs _ _).mono (fun r h c => ⟨(h c).1.trans (final m c hpre), (h c).2.1.trans (final_b m c hpre), (h c).2.2⟩) (Cert.Kernel27Ideal.Value.run_blocks m ρ)
  · refine (θ_run Cert.Reference27Ideal.defs _ _).mono (fun r h c => ⟨(h c).1.trans ?_, (h c).2.1.trans ?_, (h c).2.2⟩) (Cert.Reference27Ideal.Value.run (F := Ideal) m' ρ')
    · show dz (m' ((c : Thread Cert.Reference27Ideal.nD Cert.Reference27Ideal.τ).loc Cert.Reference27Ideal.main_arg0)) (m' ((c : Thread Cert.Reference27Ideal.nD Cert.Reference27Ideal.τ).loc Cert.Reference27Ideal.main_arg1)) (m' ((c : Thread Cert.Reference27Ideal.nD Cert.Reference27Ideal.τ).loc Cert.Reference27Ideal.main_arg2)) = _
      rw [(ha c).1, (ha c).2.1, (ha c).2.2]
    · show db (m' ((c : Thread Cert.Reference27Ideal.nD Cert.Reference27Ideal.τ).loc Cert.Reference27Ideal.main_arg0)) (m' ((c : Thread Cert.Reference27Ideal.nD Cert.Reference27Ideal.τ).loc Cert.Reference27Ideal.main_arg1)) (m' ((c : Thread Cert.Reference27Ideal.nD Cert.Reference27Ideal.τ).loc Cert.Reference27Ideal.main_arg2)) = _
      rw [(ha c).1, (ha c).2.1, (ha c).2.2]

end Cert.Kernel27Ideal.Hand

end
-- ==== Proof.lean ====
/- The certificate: the claims about the forgetting attention's gradient (Proof/Close.lean), about the matrix products of the step, forward and backward (Proof/Mm), and about the norms, the forget gates' products, the loss head and the optimiser (Proof/Step), and about the norm of q and k by heads (Proof/Heads). -/
module

public import proofs.«01_k».proof.Proof.Close
public import proofs.«01_k».proof.Proof.Mm.Up
public import proofs.«01_k».proof.Proof.Mm.UpLeft
public import proofs.«01_k».proof.Proof.Mm.UpRight
public import proofs.«01_k».proof.Proof.Mm.Down
public import proofs.«01_k».proof.Proof.Mm.DownLeft
public import proofs.«01_k».proof.Proof.Mm.DownRight
public import proofs.«01_k».proof.Proof.Mm.Proj
public import proofs.«01_k».proof.Proof.Mm.ProjLeft
public import proofs.«01_k».proof.Proof.Mm.ProjRight
public import proofs.«01_k».proof.Proof.Mm.Out
public import proofs.«01_k».proof.Proof.Mm.OutLeft
public import proofs.«01_k».proof.Proof.Mm.OutRight
public import proofs.«01_k».proof.Proof.Step.Gate
public import proofs.«01_k».proof.Proof.Step.GateRight
public import proofs.«01_k».proof.Proof.Step.GateLeft
public import proofs.«01_k».proof.Proof.Step.Norm
public import proofs.«01_k».proof.Proof.Step.NormBack
public import proofs.«01_k».proof.Proof.Step.Loss
public import proofs.«01_k».proof.Proof.Step.AdamSmall
public import proofs.«01_k».proof.Proof.Step.AdamUp
public import proofs.«01_k».proof.Proof.Step.AdamDown
public import proofs.«01_k».proof.Proof.Step.AdamOut
public import proofs.«01_k».proof.Proof.Step.AdamIn
public import proofs.«01_k».proof.Proof.Heads.Qk
public import proofs.«01_k».proof.Proof.Step.Forget
public import proofs.«01_k».proof.Proof.Step.ForgetBack

@[expose] public section

namespace Cert.Proof

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Pre_finite.Gen.facts, Cert.Pre_finite_heads.Gen.facts, Cert.Pre_finite_gates.Gen.facts,
  AttnClaims.frame_p, AttnClaims.frame_pi, AttnClaims.frame_pi_any, AttnClaims.frame_ri, AttnClaims.frame_ri_finite,
  Kernel2Ideal.Hand.frame_p, Kernel2Ideal.Hand.frame_pi, Kernel2Ideal.Hand.frame_ri,
  Kernel3Ideal.Hand.frame_p, Kernel3Ideal.Hand.frame_pi, Kernel3Ideal.Hand.frame_ri,
  Kernel4Ideal.Hand.frame_p, Kernel4Ideal.Hand.frame_pi, Kernel4Ideal.Hand.frame_ri,
  Kernel5Ideal.Hand.frame_p, Kernel5Ideal.Hand.frame_pi, Kernel5Ideal.Hand.frame_ri,
  Kernel6Ideal.Hand.frame_p, Kernel6Ideal.Hand.frame_pi, Kernel6Ideal.Hand.frame_ri,
  Kernel7Ideal.Hand.frame_p, Kernel7Ideal.Hand.frame_pi, Kernel7Ideal.Hand.frame_ri,
  Kernel8Ideal.Hand.frame_p, Kernel8Ideal.Hand.frame_pi, Kernel8Ideal.Hand.frame_ri,
  Kernel9Ideal.Hand.frame_p, Kernel9Ideal.Hand.frame_pi, Kernel9Ideal.Hand.frame_ri,
  Kernel10Ideal.Hand.frame_p, Kernel10Ideal.Hand.frame_pi, Kernel10Ideal.Hand.frame_ri,
  Kernel11Ideal.Hand.frame_p, Kernel11Ideal.Hand.frame_pi, Kernel11Ideal.Hand.frame_ri,
  Kernel12Ideal.Hand.frame_p, Kernel12Ideal.Hand.frame_pi, Kernel12Ideal.Hand.frame_ri,
  Kernel13Ideal.Hand.frame_p, Kernel13Ideal.Hand.frame_pi, Kernel13Ideal.Hand.frame_ri,
  Kernel14Ideal.Hand.frame_p, Kernel14Ideal.Hand.frame_pi, Kernel14Ideal.Hand.frame_ri,
  Kernel15Ideal.Hand.frame_p, Kernel15Ideal.Hand.frame_pi, Kernel15Ideal.Hand.frame_ri,
  Kernel16Ideal.Hand.frame_p, Kernel16Ideal.Hand.frame_pi, Kernel16Ideal.Hand.frame_ri,
  Kernel17Ideal.Hand.frame_p, Kernel17Ideal.Hand.frame_pi, Kernel17Ideal.Hand.frame_ri,
  Kernel18Ideal.Hand.frame_p, Kernel18Ideal.Hand.frame_pi, Kernel18Ideal.Hand.frame_ri,
  Kernel19Ideal.Hand.frame_p, Kernel19Ideal.Hand.frame_pi, Kernel19Ideal.Hand.frame_ri,
  Kernel20Ideal.Hand.frame_p, Kernel20Ideal.Hand.frame_pi, Kernel20Ideal.Hand.frame_ri,
  Kernel21Ideal.Hand.frame_p, Kernel21Ideal.Hand.frame_pi, Kernel21Ideal.Hand.frame_ri,
  Kernel22Ideal.Hand.frame_p, Kernel22Ideal.Hand.frame_pi, Kernel22Ideal.Hand.frame_ri,
  Kernel23Ideal.Hand.frame_p, Kernel23Ideal.Hand.frame_pi, Kernel23Ideal.Hand.frame_ri,
  Kernel24Ideal.Hand.frame_p, Kernel24Ideal.Hand.frame_pi, Kernel24Ideal.Hand.frame_ri,
  Kernel25Ideal.Hand.frame_p, Kernel25Ideal.Hand.frame_pi, Kernel25Ideal.Hand.frame_pi_any, Kernel25Ideal.Hand.frame_ri, Kernel25Ideal.Hand.frame_ri_finite,
  Kernel26Ideal.Hand.frame_p, Kernel26Ideal.Hand.frame_pi, Kernel26Ideal.Hand.frame_ri,
  Kernel27Ideal.Hand.frame_p, Kernel27Ideal.Hand.frame_pi, Kernel27Ideal.Hand.frame_pi_any, Kernel27Ideal.Hand.frame_ri, Kernel27Ideal.Hand.frame_ri_finite,
  AttnClaims.preserves, AttnClaims.algebraic,
  trivial, Kernel2Ideal.Hand.algebraic,
  trivial, Kernel3Ideal.Hand.algebraic,
  trivial, Kernel4Ideal.Hand.algebraic,
  trivial, Kernel5Ideal.Hand.algebraic,
  trivial, Kernel6Ideal.Hand.algebraic,
  trivial, Kernel7Ideal.Hand.algebraic,
  trivial, Kernel8Ideal.Hand.algebraic,
  trivial, Kernel9Ideal.Hand.algebraic,
  trivial, Kernel10Ideal.Hand.algebraic,
  trivial, Kernel11Ideal.Hand.algebraic,
  trivial, Kernel12Ideal.Hand.algebraic,
  trivial, Kernel13Ideal.Hand.algebraic,
  trivial, Kernel14Ideal.Hand.algebraic,
  trivial, Kernel15Ideal.Hand.algebraic,
  trivial, Kernel16Ideal.Hand.algebraic,
  trivial, Kernel17Ideal.Hand.algebraic,
  trivial, Kernel18Ideal.Hand.algebraic,
  trivial, Kernel19Ideal.Hand.algebraic,
  trivial, Kernel20Ideal.Hand.algebraic,
  trivial, Kernel21Ideal.Hand.algebraic,
  trivial, Kernel22Ideal.Hand.algebraic,
  trivial, Kernel23Ideal.Hand.algebraic,
  trivial, Kernel24Ideal.Hand.algebraic,
  trivial, Kernel25Ideal.Hand.algebraic,
  trivial, Kernel26Ideal.Hand.algebraic,
  trivial, Kernel27Ideal.Hand.algebraic⟩

end Cert.Proof

end
